-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "q_scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v65_0)) (v1 : (c : Dev Cert.Kernel3Ideal.nD) → Buf (Elt Ideal) ((c.tc : Thread Cert.Kernel3Ideal.nD Cert.Kernel3Ideal.τ).loc Cert.Kernel3Ideal.main_v65_1)) (v2 : (c : Dev Cert.Kernel3Ideal.nD) → Buf (Elt Ideal) ((c.tc : Thread Cert.Kernel3Ideal.nD Cert.Kernel3Ideal.τ).loc Cert.Kernel3Ideal.main_v65_2)) (v3 : (c : Dev Cert.Kernel3Ideal.nD) → Buf (Elt Ideal) ((c.tc : Thread Cert.Kernel3Ideal.nD Cert.Kernel3Ideal.τ).loc Cert.Kernel3Ideal.main_v65_3)) (v4 : (c : Dev Cert.Kernel3Ideal.nD) → Buf (Elt Ideal) ((c.tc : Thread Cert.Kernel3Ideal.nD Cert.Kernel3Ideal.τ).loc Cert.Kernel3Ideal.main_v65_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v65_0) = v0 c
          ∧ r.2.mem ((c.tc : Thread Cert.Kernel3Ideal.nD Cert.Kernel3Ideal.τ).loc Cert.Kernel3Ideal.main_v65_1) = v1 c
          ∧ r.2.mem ((c.tc : Thread Cert.Kernel3Ideal.nD Cert.Kernel3Ideal.τ).loc Cert.Kernel3Ideal.main_v65_2) = v2 c
          ∧ r.2.mem ((c.tc : Thread Cert.Kernel3Ideal.nD Cert.Kernel3Ideal.τ).loc Cert.Kernel3Ideal.main_v65_3) = v3 c
          ∧ r.2.mem ((c.tc : Thread Cert.Kernel3Ideal.nD Cert.Kernel3Ideal.τ).loc Cert.Kernel3Ideal.main_v65_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_v85) = v2 c
          ∧ r.2.mem ((c.tc : Thread Cert.Reference3Ideal.nD Cert.Reference3Ideal.τ).loc Cert.Reference3Ideal.main_v86) = v3 c
          ∧ r.2.mem ((c.tc : Thread Cert.Reference3Ideal.nD Cert.Reference3Ideal.τ).loc Cert.Reference3Ideal.main_v87) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_on_rows_only [hKernel4Ideal : Cert.Kernel4Ideal.Facts] [hReference4Ideal : Cert.Reference4Ideal.Facts] [hOn_rows_only : Cert.On_rows_only.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)) (v3 : (c : Dev Cert.Kernel4Ideal.nD) → Buf (Elt Ideal) ((c.tc : Thread Cert.Kernel4Ideal.nD Cert.Kernel4Ideal.τ).loc Cert.Kernel4Ideal.main_v21_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![32768, 1024]⟩ : Shape).Idx, (Cert.On_rows_only.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 i = 1#1 → r.2.mem ((c.tc : Thread Cert.Kernel4Ideal.nD Cert.Kernel4Ideal.τ).loc Cert.Kernel4Ideal.main_v21_0) i = v0 c i)
          ∧ (∀ i : (⟨2, ![262144, 128]⟩ : Shape).Idx, (Cert.On_rows_only.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 i = 1#1 → r.2.mem ((c.tc : Thread Cert.Kernel4Ideal.nD Cert.Kernel4Ideal.τ).loc Cert.Kernel4Ideal.main_v21_1) i = v1 c i)
          ∧ (∀ i : (⟨2, ![8, 32768]⟩ : Shape).Idx, (Cert.On_rows_only.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 i = 1#1 → r.2.mem ((c.tc : Thread Cert.Kernel4Ideal.nD Cert.Kernel4Ideal.τ).loc Cert.Kernel4Ideal.main_v21_2) i = v2 c i)
          ∧ (∀ i : (⟨2, ![32, 128]⟩ : Shape).Idx, (Cert.On_rows_only.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2 i = 1#1 → r.2.mem ((c.tc : Thread Cert.Kernel4Ideal.nD Cert.Kernel4Ideal.τ).loc Cert.Kernel4Ideal.main_v21_3) i = v3 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![32768, 1024]⟩ : Shape).Idx, (Cert.On_rows_only.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 i = 1#1 → r.2.mem ((c.tc : Thread Cert.Reference4Ideal.nD Cert.Reference4Ideal.τ).loc Cert.Reference4Ideal.main_v69) i = v0 c i)
          ∧ (∀ i : (⟨2, ![262144, 128]⟩ : Shape).Idx, (Cert.On_rows_only.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 i = 1#1 → r.2.mem ((c.tc : Thread Cert.Reference4Ideal.nD Cert.Reference4Ideal.τ).loc Cert.Reference4Ideal.main_v70) i = v1 c i)
          ∧ (∀ i : (⟨2, ![8, 32768]⟩ : Shape).Idx, (Cert.On_rows_only.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 i = 1#1 → r.2.mem ((c.tc : Thread Cert.Reference4Ideal.nD Cert.Reference4Ideal.τ).loc Cert.Reference4Ideal.main_v71) i = v2 c i)
          ∧ (∀ i : (⟨2, ![32, 128]⟩ : Shape).Idx, (Cert.On_rows_only.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2 i = 1#1 → r.2.mem ((c.tc : Thread Cert.Reference4Ideal.nD Cert.Reference4Ideal.τ).loc Cert.Reference4Ideal.main_v73) i = v3 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)) (v3 : (c : Dev Cert.Kernel4Ideal.nD) → Buf (Elt Ideal) ((c.tc : Thread Cert.Kernel4Ideal.nD Cert.Kernel4Ideal.τ).loc Cert.Kernel4Ideal.main_v21_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_v21_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v69) = v0 c
          ∧ r.2.mem ((c.tc : Thread Cert.Reference4Ideal.nD Cert.Reference4Ideal.τ).loc Cert.Reference4Ideal.main_v70) = v1 c
          ∧ r.2.mem ((c.tc : Thread Cert.Reference4Ideal.nD Cert.Reference4Ideal.τ).loc Cert.Reference4Ideal.main_v71) = v2 c
          ∧ r.2.mem ((c.tc : Thread Cert.Reference4Ideal.nD Cert.Reference4Ideal.τ).loc Cert.Reference4Ideal.main_v73) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts_in_range : Cert.Pre_experts_in_range.Facts) (hPre_finite4 : Cert.Pre_finite4.Facts) (hOn_rows_only : Cert.On_rows_only.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_rows_only (hKernel4Ideal := hKernel4Ideal) (hReference4Ideal := hReference4Ideal) (hOn_rows_only := hOn_rows_only)
    ∧ algebraic_Kernel4Ideal_Reference4Ideal_pre_finite4 (hKernel4Ideal := hKernel4Ideal) (hReference4Ideal := hReference4Ideal) (hPre_finite4 := hPre_finite4)
-- ==== On_rows_only.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S_ : Shape := ⟨0, ![]⟩
abbrev S32768x1024 : Shape := ⟨2, ![32768, 1024]⟩
abbrev S262144x128 : Shape := ⟨2, ![262144, 128]⟩
abbrev S8x32768 : Shape := ⟨2, ![8, 32768]⟩
abbrev S32x128 : Shape := ⟨2, ![32, 128]⟩

class Facts : Prop where
  bcast_S_S32768x1024 : S_.BroadcastsInDim S32768x1024 (![] : Fin 0 → Fin S32768x1024.rank)
  bcast_S_S262144x128 : S_.BroadcastsInDim S262144x128 (![] : Fin 0 → Fin S262144x128.rank)
  bcast_S_S8x32768 : S_.BroadcastsInDim S8x32768 (![] : Fin 0 → Fin S8x32768.rank)
  bcast_S_S32x128 : S_.BroadcastsInDim S32x128 (![] : Fin 0 → Fin S32x128.rank)

variable [Facts]

def fn {F : FTy → Type} [FloatOps F] (main_arg0 : FVec F S8x4096x512 .bf16) (main_arg1 : FVec F S8x4096x512 .bf16) (main_arg2 : FVec F S8x4096x1024 .f32) (main_arg3 : FVec F S1x1024x1024 .f32) (main_arg4 : FVec F S1x1024 .f32) (main_arg5 : FVec F S1x1024x4 .f32) (main_arg6 : FVec F S1x1024x32 .f32) : IVec S32768x1024 1 × IVec S262144x128 1 × IVec S8x32768 1 × IVec S32x128 1 :=
  let main_c : IVec S_ 1 := constantI S_ 1 1#1
  let main_v0 : IVec S32768x1024 1 := broadcastInDim S32768x1024 ![] bcast_S_S32768x1024 main_c
  let main_c_0 : IVec S_ 1 := constantI S_ 1 1#1
  let main_v1 : IVec S262144x128 1 := broadcastInDim S262144x128 ![] bcast_S_S262144x128 main_c_0
  let main_c_1 : IVec S_ 1 := constantI S_ 1 0#1
  let main_v2 : IVec S8x32768 1 := broadcastInDim S8x32768 ![] bcast_S_S8x32768 main_c_1
  let main_c_2 : IVec S_ 1 := constantI S_ 1 0#1
  let main_v3 : IVec S32x128 1 := broadcastInDim S32x128 ![] bcast_S_S32x128 main_c_2
  (main_v0, main_v1, main_v2, main_v3)
-- ==== Pre_experts_in_range.lean ====
abbrev S81920x1024 : Shape := ⟨2, ![81920, 1024]⟩
abbrev S160 : Shape := ⟨1, ![160]⟩
abbrev S1 : Shape := ⟨1, ![1]⟩
abbrev S1x32x1024x256 : Shape := ⟨4, ![1, 32, 1024, 256]⟩
abbrev S1x32x256x1024 : Shape := ⟨4, ![1, 32, 256, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : FVec F S81920x1024 .f32) (main_arg1 : IVec S160 32) (main_arg2 : IVec S1 32) (main_arg3 : FVec F S1x32x1024x256 .f32) (main_arg4 : FVec F S1x32x1024x256 .f32) (main_arg5 : FVec F S1x32x256x1024 .f32) : IVec S160 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 32#32
  let main_v2 : IVec S160 32 := broadcastInDim S160 ![] bcast_S_S160 main_c_0
  let main_v3 : IVec S160 1 := cmpi .slt main_arg1 main_v2
  let main_v4 : IVec S160 1 := andi main_v1 main_v3
  main_v4
-- ==== Pre_finite.lean ====
abbrev S8x4096x512 : Shape := ⟨3, ![8, 4096, 512]⟩
abbrev S1x64 : Shape := ⟨2, ![1, 64]⟩
abbrev S1x128 : Shape := ⟨2, ![1, 128]⟩
abbrev S_ : Shape := ⟨0, ![]⟩

class Facts : Prop where
  bcast_S_S8x4096x512 : S_.BroadcastsInDim S8x4096x512 (![] : Fin 0 → Fin S8x4096x512.rank)
  bcast_S_S1x64 : S_.BroadcastsInDim S1x64 (![] : Fin 0 → Fin S1x64.rank)

variable [Facts]

def fn_part1 {F : FTy → Type} [FloatOps F] (main_arg6 : FVec F S1x64 .f32) (main_v2 : IVec S8x4096x512 1) (main_v5 : IVec S8x4096x512 1) (main_v8 : IVec S8x4096x512 1) (main_v11 : IVec S1x64 1) (main_v14 : IVec S1x64 1) (main_v17 : IVec S1x64 1) : IVec S8x4096x512 1 × IVec S8x4096x512 1 × IVec S8x4096x512 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  (main_v2, main_v5, main_v8, main_v11, main_v14, main_v17, main_v20)

def fn {F : FTy → Type} [FloatOps F] (main_arg0 : FVec F S8x4096x512 .f32) (main_arg1 : FVec F S8x4096x512 .f32) (main_arg2 : FVec F S8x4096x512 .f32) (main_arg3 : FVec F S1x64 .f32) (main_arg4 : FVec F S1x64 .f32) (main_arg5 : FVec F S1x64 .f32) (main_arg6 : FVec F S1x64 .f32) (main_arg7 : FVec F S1x128 .f32) : IVec S8x4096x512 1 × IVec S8x4096x512 1 × IVec S8x4096x512 1 × IVec S1x64 1 × IVec S1x64 1 × IVec S1x64 1 × IVec S1x64 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_v3 : FVec F S8x4096x512 .f32 := Host.absf main_arg1
  let main_cst_0 : FVec F S_ .f32 := constant S_ .f32 0x7F800000#32
  let main_v4 : FVec F S8x4096x512 .f32 := broadcastInDim S8x4096x512 ![] bcast_S_S8x4096x512 main_cst_0
  let main_v5 : IVec S8x4096x512 1 := cmpf .olt main_v3 main_v4
  let main_v6 : FVec F S8x4096x512 .f32 := Host.absf main_arg2
  let main_cst_1 : FVec F S_ .f32 := constant S_ .f32 0x7F800000#32
  let main_v7 : FVec F S8x4096x512 .f32 := broadcastInDim S8x4096x512 ![] bcast_S_S8x4096x512 main_cst_1
  let main_v8 : IVec S8x4096x512 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_v2 main_v5 main_v8 main_v11 main_v14 main_v17
-- ==== Pre_finite4.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S_ : Shape := ⟨0, ![]⟩

class Facts : Prop where
  bcast_S_S8x4096x512 : S_.BroadcastsInDim S8x4096x512 (![] : Fin 0 → Fin S8x4096x512.rank)
  bcast_S_S8x4096x1024 : S_.BroadcastsInDim S8x4096x1024 (![] : Fin 0 → Fin S8x4096x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x4 : S_.BroadcastsInDim S1x1024x4 (![] : Fin 0 → Fin S1x1024x4.rank)
  bcast_S_S1x1024x32 : S_.BroadcastsInDim S1x1024x32 (![] : Fin 0 → Fin S1x1024x32.rank)

variable [Facts]

def fn_part1 {F : FTy → Type} [FloatOps F] (main_arg6 : FVec F S1x1024x32 .f32) (main_v2 : IVec S8x4096x512 1) (main_v5 : IVec S8x4096x512 1) (main_v8 : IVec S8x4096x1024 1) (main_v11 : IVec S1x1024x1024 1) (main_v14 : IVec S1x1024 1) (main_v17 : IVec S1x1024x4 1) : IVec S8x4096x512 1 × IVec S8x4096x512 1 × IVec S8x4096x1024 1 × IVec S1x1024x1024 1 × IVec S1x1024 1 × IVec S1x1024x4 1 × IVec S1x1024x32 1 :=
  let main_v18 : FVec F S1x1024x32 .f32 := Host.absf main_arg6
  let main_cst_5 : FVec F S_ .f32 := constant S_ .f32 0x7F800000#32
  let main_v19 : FVec F S1x1024x32 .f32 := broadcastInDim S1x1024x32 ![] bcast_S_S1x1024x32 main_cst_5
  let main_v20 : IVec S1x1024x32 1 := cmpf .olt main_v18 main_v19
  (main_v2, main_v5, main_v8, main_v11, main_v14, main_v17, main_v20)

def fn {F : FTy → Type} [FloatOps F] (main_arg0 : FVec F S8x4096x512 .bf16) (main_arg1 : FVec F S8x4096x512 .bf16) (main_arg2 : FVec F S8x4096x1024 .f32) (main_arg3 : FVec F S1x1024x1024 .f32) (main_arg4 : FVec F S1x1024 .f32) (main_arg5 : FVec F S1x1024x4 .f32) (main_arg6 : FVec F S1x1024x32 .f32) : IVec S8x4096x512 1 × IVec S8x4096x512 1 × IVec S8x4096x1024 1 × IVec S1x1024x1024 1 × IVec S1x1024 1 × IVec S1x1024x4 1 × IVec S1x1024x32 1 :=
  let main_v0 : FVec F S8x4096x512 .bf16 := Host.absf main_arg0
  let main_cst : FVec F S_ .bf16 := constant S_ .bf16 0x7F80#16
  let main_v1 : FVec F S8x4096x512 .bf16 := broadcastInDim S8x4096x512 ![] bcast_S_S8x4096x512 main_cst
  let main_v2 : IVec S8x4096x512 1 := cmpf .olt main_v0 main_v1
  let main_v3 : FVec F S8x4096x512 .bf16 := Host.absf main_arg1
  let main_cst_0 : FVec F S_ .bf16 := constant S_ .bf16 0x7F80#16
  let main_v4 : FVec F S8x4096x512 .bf16 := broadcastInDim S8x4096x512 ![] bcast_S_S8x4096x512 main_cst_0
  let main_v5 : IVec S8x4096x512 1 := cmpf .olt main_v3 main_v4
  let main_v6 : FVec F S8x4096x1024 .f32 := Host.absf main_arg2
  let main_cst_1 : FVec F S_ .f32 := constant S_ .f32 0x7F800000#32
  let main_v7 : FVec F S8x4096x1024 .f32 := broadcastInDim S8x4096x1024 ![] bcast_S_S8x4096x1024 main_cst_1
  let main_v8 : IVec S8x4096x1024 1 := cmpf .olt main_v6 main_v7
  let main_v9 : FVec F S1x1024x1024 .f32 := Host.absf main_arg3
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024x4 .f32 := Host.absf main_arg5
  let main_cst_4 : FVec F S_ .f32 := constant S_ .f32 0x7F800000#32
  let main_v16 : FVec F S1x1024x4 .f32 := broadcastInDim S1x1024x4 ![] bcast_S_S1x1024x4 main_cst_4
  let main_v17 : IVec S1x1024x4 1 := cmpf .olt main_v15 main_v16
  fn_part1 (F := F) main_arg6 main_v2 main_v5 main_v8 main_v11 main_v14 main_v17
-- ==== Kernel.lean ====
abbrev S8x4096x512 : Shape := ⟨3, ![8, 4096, 512]⟩
abbrev S1x64 : Shape := ⟨2, ![1, 64]⟩
abbrev S1x128 : Shape := ⟨2, ![1, 128]⟩
abbrev S8x4096x4x128 : Shape := ⟨4, ![8, 4096, 4, 128]⟩
abbrev S8x4x128x4096 : Shape := ⟨4, ![8, 4, 128, 4096]⟩
abbrev S_ : Shape := ⟨0, ![]⟩
abbrev S8x4x16x4096 : Shape := ⟨4, ![8, 4, 16, 4096]⟩
abbrev S8x4x144x4096 : Shape := ⟨4, ![8, 4, 144, 4096]⟩
abbrev S8x576x4096 : Shape := ⟨3, ![8, 576, 4096]⟩
abbrev S8x128 : Shape := ⟨2, ![8, 128]⟩
abbrev S64 : Shape := ⟨1, ![64]⟩
abbrev S4x64 : Shape := ⟨2, ![4, 64]⟩
abbrev S1 : Shape := ⟨1, ![1]⟩
abbrev S2 : Shape := ⟨1, ![2]⟩
abbrev S128 : Shape := ⟨1, ![128]⟩
abbrev S1x1024x128 : Shape := ⟨3, ![1, 1024, 128]⟩
abbrev S1x4096x128 : Shape := ⟨3, ![1, 4096, 128]⟩
abbrev S1x144x4096 : Shape := ⟨3, ![1, 144, 4096]⟩
abbrev S1x1 : Shape := ⟨2, ![1, 1]⟩
abbrev S1024x128 : Shape := ⟨2, ![1024, 128]⟩
abbrev S1x1024 : Shape := ⟨2, ![1, 1024]⟩
abbrev S144x1024 : Shape := ⟨2, ![144, 1024]⟩
abbrev S1x256x128 : Shape := ⟨3, ![1, 256, 128]⟩
abbrev S256x128 : Shape := ⟨2, ![256, 128]⟩
abbrev S256x1024 : Shape := ⟨2, ![256, 1024]⟩
abbrev S1x144x256 : Shape := ⟨3, ![1, 144, 256]⟩
abbrev S144x256 : Shape := ⟨2, ![144, 256]⟩
abbrev S1024 : Shape := ⟨1, ![1024]⟩
abbrev S128x1024 : Shape := ⟨2, ![128, 1024]⟩

abbrev nBuf : Space → Nat
  | .hbm => 36
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8x4096x512, .bf16⟩
  | .hbm, ⟨9, _⟩ => ⟨S8x4096x4x128, .f32⟩
  | .hbm, ⟨10, _⟩ => ⟨S8x4x128x4096, .f32⟩
  | .hbm, ⟨11, _⟩ => ⟨S_, .f32⟩
  | .hbm, ⟨12, _⟩ => ⟨S8x4x16x4096, .f32⟩
  | .hbm, ⟨13, _⟩ => ⟨S8x4x144x4096, .f32⟩
  | .hbm, ⟨14, _⟩ => ⟨S8x576x4096, .f32⟩
  | .hbm, ⟨15, _⟩ => ⟨S8x576x4096, .bf16⟩
  | .hbm, ⟨16, _⟩ => ⟨S_, .f32⟩
  | .hbm, ⟨17, _⟩ => ⟨S8x128, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S4x64, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S8x128, .f32⟩
  | .hbm, ⟨33, _⟩ => ⟨S128, .f32⟩
  | .hbm, ⟨34, _⟩ => ⟨S1x128, .f32⟩
  | .hbm, ⟨35, _⟩ => ⟨S8x4096x512, .bf16⟩
  | .local _ .vmem, ⟨0, _⟩ => ⟨S8x128, .f32⟩
  | .local _ .vmem, ⟨1, _⟩ => ⟨S1x1024x128, .f32⟩
  | .local _ .vmem, ⟨2, _⟩ => ⟨S1x1024x128, .f32⟩
  | .local _ .vmem, ⟨3, _⟩ => ⟨S1x4096x128, .bf16⟩
  | .local _ .vmem, ⟨4, _⟩ => ⟨S1x4096x128, .bf16⟩
  | .local _ .vmem, ⟨5, _⟩ => ⟨S1x144x4096, .bf16⟩
  | .local _ .vmem, ⟨6, _⟩ => ⟨S1x144x4096, .bf16⟩
  | .local _ .vmem, ⟨7, _⟩ => ⟨S1x128, .f32⟩
  | .local _ .vmem, ⟨8, _⟩ => ⟨S1x1024x128, .bf16⟩
  | .local _ .vmem, ⟨9, _⟩ => ⟨S1x1024x128, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x144x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S8x4096x512 : Shape := ⟨3, ![8, 4096, 512]⟩
abbrev S1x64 : Shape := ⟨2, ![1, 64]⟩
abbrev S1x128 : Shape := ⟨2, ![1, 128]⟩
abbrev S64 : Shape := ⟨1, ![64]⟩
abbrev S_ : Shape := ⟨0, ![]⟩
abbrev S8x4096x4x2x64 : Shape := ⟨5, ![8, 4096, 4, 2, 64]⟩
abbrev S8x4096x4x128 : Shape := ⟨4, ![8, 4096, 4, 128]⟩
abbrev S8x4x2x4096x4096 : Shape := ⟨5, ![8, 4, 2, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S128 : Shape := ⟨1, ![128]⟩
abbrev S1x1x1x128 : Shape := ⟨4, ![1, 1, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x4096x4x2x64, .f32⟩
  | .hbm, ⟨24, _⟩ => ⟨S_, .f32⟩
  | .hbm, ⟨25, _⟩ => ⟨S8x4096x4x2x64, .f32⟩
  | .hbm, ⟨26, _⟩ => ⟨S8x4096x4x2x64, .f32⟩
  | .hbm, ⟨27, _⟩ => ⟨S8x4096x4x2x64, .f32⟩
  | .hbm, ⟨28, _⟩ => ⟨S8x4096x4x128, .f32⟩
  | .hbm, ⟨29, _⟩ => ⟨S8x4x2x4096x4096, .f32⟩
  | .hbm, ⟨30, _⟩ => ⟨S_, .f32⟩
  | .hbm, ⟨31, _⟩ => ⟨S8x4x2x4096, .f32⟩
  | .hbm, ⟨32, _⟩ => ⟨S_, .f32⟩
  | .hbm, ⟨33, _⟩ => ⟨S8x4x2x4096, .f32⟩
  | .hbm, ⟨34, _⟩ => ⟨S8x4x2x4096, .f32⟩
  | .hbm, ⟨35, _⟩ => ⟨S8x4x2x4096x1, .f32⟩
  | .hbm, ⟨36, _⟩ => ⟨S8x4x2x4096x4096, .f32⟩
  | .hbm, ⟨37, _⟩ => ⟨S8x4x2x4096x4096, .f32⟩
  | .hbm, ⟨38, _⟩ => ⟨S8x4x2x4096x4096, .f32⟩
  | .hbm, ⟨39, _⟩ => ⟨S_, .f32⟩
  | .hbm, ⟨40, _⟩ => ⟨S8x4x2x4096, .f32⟩
  | .hbm, ⟨41, _⟩ => ⟨S8x4x2x4096x1, .f32⟩
  | .hbm, ⟨42, _⟩ => ⟨S8x4x2x4096x4096, .f32⟩
  | .hbm, ⟨43, _⟩ => ⟨S8x4x2x4096x4096, .f32⟩
  | .hbm, ⟨44, _⟩ => ⟨S8x4x1x4096x4096, .f32⟩
  | .hbm, ⟨45, _⟩ => ⟨S8x4x4096x4096, .f32⟩
  | .hbm, ⟨46, _⟩ => ⟨S8x4x1x4096x4096, .f32⟩
  | .hbm, ⟨47, _⟩ => ⟨S8x4x4096x4096, .f32⟩
  | .hbm, ⟨48, _⟩ => ⟨S8x4x4096x4096, .f32⟩
  | .hbm, ⟨49, _⟩ => ⟨S8x4x4096x4096, .f32⟩
  | .hbm, ⟨50, _⟩ => ⟨S8x4x4096x4096, .f32⟩
  | .hbm, ⟨51, _⟩ => ⟨S8x4x128x4096, .f32⟩
  | .hbm, ⟨52, _⟩ => ⟨S8x4096x4x128, .f32⟩
  | .hbm, ⟨53, _⟩ => ⟨S8x4096x4x128, .f32⟩
  | .hbm, ⟨54, _⟩ => ⟨S_, .f32⟩
  | .hbm, ⟨55, _⟩ => ⟨S8x4096x4, .f32⟩
  | .hbm, ⟨56, _⟩ => ⟨S8x4096x4x1, .f32⟩
  | .hbm, ⟨57, _⟩ => ⟨S_, .f32⟩
  | .hbm, ⟨58, _⟩ => ⟨S8x4096x4x1, .f32⟩
  | .hbm, ⟨59, _⟩ => ⟨S8x4096x4x1, .f32⟩
  | .hbm, ⟨60, _⟩ => ⟨S_, .f32⟩
  | .hbm, ⟨61, _⟩ => ⟨S8x4096x4x1, .f32⟩
  | .hbm, ⟨62, _⟩ => ⟨S8x4096x4x1, .f32⟩
  | .hbm, ⟨63, _⟩ => ⟨S8x4096x4x1, .f32⟩
  | .hbm, ⟨64, _⟩ => ⟨S8x4096x4x128, .f32⟩
  | .hbm, ⟨65, _⟩ => ⟨S8x4096x4x128, .f32⟩
  | .hbm, ⟨66, _⟩ => ⟨S128, .f32⟩
  | .hbm, ⟨67, _⟩ => ⟨S1x1x1x128, .f32⟩
  | .hbm, ⟨68, _⟩ => ⟨S8x4096x4x128, .f32⟩
  | .hbm, ⟨69, _⟩ => ⟨S8x4096x4x128, .f32⟩
  | .hbm, ⟨70, _⟩ => ⟨S_, .f32⟩
  | .hbm, ⟨71, _⟩ => ⟨S8x4096x4x128, .f32⟩
  | .hbm, ⟨72, _⟩ => ⟨S8x4096x4x128, .f32⟩
  | .hbm, ⟨73, _⟩ => ⟨S8x4096x512, .f32⟩
  | .hbm, ⟨74, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel2.lean ====
abbrev S81920x1024 : Shape := ⟨2, ![81920, 1024]⟩
abbrev S160 : Shape := ⟨1, ![160]⟩
abbrev S1 : Shape := ⟨1, ![1]⟩
abbrev S1x32x1024x256 : Shape := ⟨4, ![1, 32, 1024, 256]⟩
abbrev S1x32x256x1024 : Shape := ⟨4, ![1, 32, 256, 1024]⟩
abbrev S655360x128 : Shape := ⟨2, ![655360, 128]⟩
abbrev S32x1024x256 : Shape := ⟨3, ![32, 1024, 256]⟩
abbrev S32x256x1024 : Shape := ⟨3, ![32, 256, 1024]⟩
abbrev S4096x128 : Shape := ⟨2, ![4096, 128]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S512x128 : Shape := ⟨2, ![512, 128]⟩
abbrev S512x1024 : Shape := ⟨2, ![512, 1024]⟩
abbrev S512x256 : Shape := ⟨2, ![512, 256]⟩

abbrev nBuf : Space → Nat
  | .hbm => 9
  | .vmem => 13
  | .smem => 2
  | _ => 0

abbrev bufTy : (tb : Table) → Fin (tcTables nBuf tb) → BufTy
  | .hbm, ⟨0, _⟩ => ⟨S81920x1024, .f32⟩
  | .hbm, ⟨1, _⟩ => ⟨S1x32x1024x256, .f32⟩
  | .hbm, ⟨2, _⟩ => ⟨S1x32x1024x256, .f32⟩
  | .hbm, ⟨3, _⟩ => ⟨S1x32x256x1024, .f32⟩
  | .hbm, ⟨4, _⟩ => ⟨S655360x128, .f32⟩
  | .hbm, ⟨5, _⟩ => ⟨S32x1024x256, .f32⟩
  | .hbm, ⟨6, _⟩ => ⟨S32x1024x256, .f32⟩
  | .hbm, ⟨7, _⟩ => ⟨S32x256x1024, .f32⟩
  | .hbm, ⟨8, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S4096x128, .f32⟩
  | .local _ .vmem, ⟨9, _⟩ => ⟨S4096x128, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S160, .i32⟩
  | .local _ .smem, ⟨1, _⟩ => ⟨S1, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S81920x1024 : Shape := ⟨2, ![81920, 1024]⟩
abbrev S160 : Shape := ⟨1, ![160]⟩
abbrev S1 : Shape := ⟨1, ![1]⟩
abbrev S1x32x1024x256 : Shape := ⟨4, ![1, 32, 1024, 256]⟩
abbrev S1x32x256x1024 : Shape := ⟨4, ![1, 32, 256, 1024]⟩
abbrev S160x512x1024 : Shape := ⟨3, ![160, 512, 1024]⟩
abbrev S32x1024x256 : Shape := ⟨3, ![32, 1024, 256]⟩
abbrev S_ : Shape := ⟨0, ![]⟩
abbrev S160x1 : Shape := ⟨2, ![160, 1]⟩
abbrev S160x1024x256 : Shape := ⟨3, ![160, 1024, 256]⟩
abbrev S160x512x256 : Shape := ⟨3, ![160, 512, 256]⟩
abbrev S32x256x1024 : Shape := ⟨3, ![32, 256, 1024]⟩
abbrev S160x256x1024 : Shape := ⟨3, ![160, 256, 1024]⟩
abbrev S160x1x1 : Shape := ⟨3, ![160, 1, 1]⟩
abbrev S1x1x1 : Shape := ⟨3, ![1, 1, 1]⟩
abbrev S655360x128 : Shape := ⟨2, ![655360, 128]⟩

abbrev nBuf : Space → Nat
  | .hbm => 61
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S160, .i32⟩
  | .hbm, ⟨2, _⟩ => ⟨S1, .i32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S160x512x1024, .f32⟩
  | .hbm, ⟨7, _⟩ => ⟨S32x1024x256, .f32⟩
  | .hbm, ⟨8, _⟩ => ⟨S_, .i32⟩
  | .hbm, ⟨9, _⟩ => ⟨S160, .i32⟩
  | .hbm, ⟨10, _⟩ => ⟨S160, .i1⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S160, .i32⟩
  | .hbm, ⟨15, _⟩ => ⟨S160x1, .i32⟩
  | .hbm, ⟨16, _⟩ => ⟨S160x1024x256, .f32⟩
  | .hbm, ⟨17, _⟩ => ⟨S160x512x256, .f32⟩
  | .hbm, ⟨18, _⟩ => ⟨S32x1024x256, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x1024x256, .f32⟩
  | .hbm, ⟨28, _⟩ => ⟨S160x512x256, .f32⟩
  | .hbm, ⟨29, _⟩ => ⟨S160x512x256, .f32⟩
  | .hbm, ⟨30, _⟩ => ⟨S160x512x256, .f32⟩
  | .hbm, ⟨31, _⟩ => ⟨S_, .f32⟩
  | .hbm, ⟨32, _⟩ => ⟨S160x512x256, .f32⟩
  | .hbm, ⟨33, _⟩ => ⟨S160x512x256, .f32⟩
  | .hbm, ⟨34, _⟩ => ⟨S_, .f32⟩
  | .hbm, ⟨35, _⟩ => ⟨S160x512x256, .f32⟩
  | .hbm, ⟨36, _⟩ => ⟨S160x512x256, .f32⟩
  | .hbm, ⟨37, _⟩ => ⟨S160x512x256, .f32⟩
  | .hbm, ⟨38, _⟩ => ⟨S160x512x256, .f32⟩
  | .hbm, ⟨39, _⟩ => ⟨S32x256x1024, .f32⟩
  | .hbm, ⟨40, _⟩ => ⟨S_, .i32⟩
  | .hbm, ⟨41, _⟩ => ⟨S160, .i32⟩
  | .hbm, ⟨42, _⟩ => ⟨S160, .i1⟩
  | .hbm, ⟨43, _⟩ => ⟨S_, .i32⟩
  | .hbm, ⟨44, _⟩ => ⟨S160, .i32⟩
  | .hbm, ⟨45, _⟩ => ⟨S160, .i32⟩
  | .hbm, ⟨46, _⟩ => ⟨S160, .i32⟩
  | .hbm, ⟨47, _⟩ => ⟨S160x1, .i32⟩
  | .hbm, ⟨48, _⟩ => ⟨S160x256x1024, .f32⟩
  | .hbm, ⟨49, _⟩ => ⟨S160x512x1024, .f32⟩
  | .hbm, ⟨50, _⟩ => ⟨S160, .i32⟩
  | .hbm, ⟨51, _⟩ => ⟨S160x1x1, .i32⟩
  | .hbm, ⟨52, _⟩ => ⟨S1x1x1, .i32⟩
  | .hbm, ⟨53, _⟩ => ⟨S160x1x1, .i32⟩
  | .hbm, ⟨54, _⟩ => ⟨S160x1x1, .i1⟩
  | .hbm, ⟨55, _⟩ => ⟨S_, .f32⟩
  | .hbm, ⟨56, _⟩ => ⟨S_, .f32⟩
  | .hbm, ⟨57, _⟩ => ⟨S160x512x1024, .i1⟩
  | .hbm, ⟨58, _⟩ => ⟨S160x512x1024, .f32⟩
  | .hbm, ⟨59, _⟩ => ⟨S160x512x1024, .f32⟩
  | .hbm, ⟨60, _⟩ => ⟨S655360x128, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S1x1024x2560 : Shape := ⟨3, ![1, 1024, 2560]⟩
abbrev S1024 : Shape := ⟨1, ![1024]⟩
abbrev S1024x2560 : Shape := ⟨2, ![1024, 2560]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S128 : Shape := ⟨1, ![128]⟩
abbrev S1x128 : Shape := ⟨2, ![1, 128]⟩
abbrev S128x1 : Shape := ⟨2, ![128, 1]⟩
abbrev S4096x128 : Shape := ⟨2, ![4096, 128]⟩
abbrev S1024x512 : Shape := ⟨2, ![1024, 512]⟩
abbrev S512x1024 : Shape := ⟨2, ![512, 1024]⟩
abbrev S8x4096x512 : Shape := ⟨3, ![8, 4096, 512]⟩
abbrev S8x576x4096 : Shape := ⟨3, ![8, 576, 4096]⟩
abbrev S1x512x1024 : Shape := ⟨3, ![1, 512, 1024]⟩
abbrev S512x128 : Shape := ⟨2, ![512, 128]⟩
abbrev S1x512x512 : Shape := ⟨3, ![1, 512, 512]⟩
abbrev S1x576x512 : Shape := ⟨3, ![1, 576, 512]⟩
abbrev S512 : Shape := ⟨1, ![512]⟩
abbrev S512x1 : Shape := ⟨2, ![512, 1]⟩
abbrev S512x512 : Shape := ⟨2, ![512, 512]⟩
abbrev S1x512x128 : Shape := ⟨3, ![1, 512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩

abbrev nBuf : Space → Nat
  | .hbm => 141
  | .vmem => 21
  | .smem => 0
  | _ => 0

abbrev hbmTy0_0 (i : Nat) : BufTy := match i % 128 with
  | 0 => ⟨S8x4096x1024, .f32⟩
  | 1 => ⟨S1x1024, .f32⟩
  | 2 => ⟨S1x1024x2560, .f32⟩
  | 3 => ⟨S1024, .f32⟩
  | 4 => ⟨S1024x2560, .f32⟩
  | 5 => ⟨S4096, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4096x1, .f32⟩
  | 21 => ⟨S1x8, .f32⟩
  | 22 => ⟨S4096x8, .f32⟩
  | 23 => ⟨S4096x8, .f32⟩
  | 24 => ⟨S4096x8, .f32⟩
  | 25 => ⟨S4096x8, .f32⟩
  | 26 => ⟨S4096x8, .f32⟩
  | 27 => ⟨S128, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S128, .i32⟩
  | 35 => ⟨S128, .i32⟩
  | 36 => ⟨S_, .i32⟩
  | 37 => ⟨S128, .i32⟩
  | 38 => ⟨S128, .i1⟩
  | 39 => ⟨S_, .i32⟩
  | 40 => ⟨S128, .i32⟩
  | 41 => ⟨S128, .i1⟩
  | 42 => ⟨S_, .i32⟩
  | 43 => ⟨S_, .i1⟩
  | 44 => ⟨S128, .i1⟩
  | 45 => ⟨S128, .i1⟩
  | 46 => ⟨S128, .i1⟩
  | 47 => ⟨S128, .i32⟩
  | 48 => ⟨S128, .i32⟩
  | 49 => ⟨S128, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S128, .i32⟩
  | 57 => ⟨S128, .i32⟩
  | 58 => ⟨S_, .i32⟩
  | 59 => ⟨S128, .i32⟩
  | 60 => ⟨S128, .i1⟩
  | 61 => ⟨S_, .i32⟩
  | 62 => ⟨S128, .i32⟩
  | 63 => ⟨S128, .i1⟩
  | 64 => ⟨S_, .i32⟩
  | 65 => ⟨S_, .i1⟩
  | 66 => ⟨S128, .i1⟩
  | 67 => ⟨S128, .i1⟩
  | 68 => ⟨S128, .i1⟩
  | 69 => ⟨S128, .i32⟩
  | 70 => ⟨S128, .i32⟩
  | 71 => ⟨S128, .i32⟩
  | 72 => ⟨S1x128, .i32⟩
  | 73 => ⟨S_, .i32⟩
  | 74 => ⟨S1x128, .i32⟩
  | 75 => ⟨S1x128, .i1⟩
  | 76 => ⟨S_, .i32⟩
  | 77 => ⟨S128, .i32⟩
  | 78 => ⟨S128, .i1⟩
  | 79 => ⟨S_, .i32⟩
  | 80 => ⟨S128, .i32⟩
  | 81 => ⟨S128, .i32⟩
  | 82 => ⟨S128, .i32⟩
  | 83 => ⟨S128x1, .i32⟩
  | 84 => ⟨S4096x128, .f32⟩
  | 85 => ⟨S_, .f32⟩
  | 86 => ⟨S_, .f32⟩
  | 87 => ⟨S4096x128, .i1⟩
  | 88 => ⟨S4096x128, .f32⟩
  | 89 => ⟨S4096x128, .f32⟩
  | 90 => ⟨S1x128, .i32⟩
  | 91 => ⟨S_, .i32⟩
  | 92 => ⟨S1x128, .i32⟩
  | 93 => ⟨S1x128, .i1⟩
  | 94 => ⟨S_, .i32⟩
  | 95 => ⟨S128, .i32⟩
  | 96 => ⟨S128, .i1⟩
  | 97 => ⟨S_, .i32⟩
  | 98 => ⟨S128, .i32⟩
  | 99 => ⟨S128, .i32⟩
  | 100 => ⟨S128, .i32⟩
  | 101 => ⟨S128x1, .i32⟩
  | 102 => ⟨S4096x128, .f32⟩
  | 103 => ⟨S4096x128, .f32⟩
  | 104 => ⟨S_, .f32⟩
  | 105 => ⟨S_, .f32⟩
  | 106 => ⟨S4096x128, .i1⟩
  | 107 => ⟨S4096x128, .f32⟩
  | 108 => ⟨S4096x128, .f32⟩
  | 109 => ⟨S1x128, .i32⟩
  | 110 => ⟨S_, .i32⟩
  | 111 => ⟨S1x128, .i32⟩
  | 112 => ⟨S1x128, .i1⟩
  | 113 => ⟨S1x128, .i32⟩
  | 114 => ⟨S_, .i32⟩
  | 115 => ⟨S1x128, .i32⟩
  | 116 => ⟨S1x128, .i1⟩
  | 117 => ⟨S1x128, .i1⟩
  | 118 => ⟨S_, .i32⟩
  | 119 => ⟨S128, .i32⟩
  | 120 => ⟨S128, .i1⟩
  | 121 => ⟨S_, .i32⟩
  | 122 => ⟨S128, .i32⟩
  | 123 => ⟨S128, .i32⟩
  | 124 => ⟨S128, .i32⟩
  | 125 => ⟨S128x1, .i32⟩
  | 126 => ⟨S4096x128, .f32⟩
  | 127 => ⟨S_, .f32⟩
  | _ => ⟨S8x4096x1024, .f32⟩

abbrev hbmTy0_1 (i : Nat) : BufTy := match i % 128 with
  | 0 => ⟨S_, .f32⟩
  | 1 => ⟨S4096x128, .i1⟩
  | 2 => ⟨S4096x128, .f32⟩
  | 3 => ⟨S4096x128, .f32⟩
  | 4 => ⟨S1024x2560, .bf16⟩
  | 5 => ⟨S1024x512, .bf16⟩
  | 6 => ⟨S512x1024, .bf16⟩
  | 7 => ⟨S1x1024, .f32⟩
  | 8 => ⟨S8x4096x512, .bf16⟩
  | 9 => ⟨S8x4096x512, .bf16⟩
  | 10 => ⟨S8x576x4096, .bf16⟩
  | 11 => ⟨S8x4096x512, .bf16⟩
  | 12 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2560, .bf16⟩
  | .local _ .vmem, ⟨4, _⟩ => ⟨S512x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x576x512, .bf16⟩
  | .local _ .vmem, ⟨16, _⟩ => ⟨S1x576x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v21 : Ref sig .tc := ⟨.hbm, 49, rfl⟩
abbrev main_c_3 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_v5 : Ref sig .tc := ⟨.hbm, 59, rfl⟩
abbrev main_call1_v6 : Ref sig .tc := ⟨.hbm, 60, rfl⟩
abbrev main_call1_c_2 : Ref sig .tc := ⟨.hbm, 61, rfl⟩
abbrev main_call1_v7 : Ref sig .tc := ⟨.hbm, 62, rfl⟩
abbrev main_call1_v8 : Ref sig .tc := ⟨.hbm, 63, rfl⟩
abbrev main_call1_c_3 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_v22 : Ref sig .tc := ⟨.hbm, 71, rfl⟩
abbrev main_v23 : Ref sig .tc := ⟨.hbm, 72, rfl⟩
abbrev main_c_4 : Ref sig .tc := ⟨.hbm, 73, rfl⟩
abbrev main_v24 : Ref sig .tc := ⟨.hbm, 74, rfl⟩
abbrev main_v25 : Ref sig .tc := ⟨.hbm, 75, rfl⟩
abbrev main_c_5 : Ref sig .tc := ⟨.hbm, 76, rfl⟩
abbrev main_v26 : Ref sig .tc := ⟨.hbm, 77, rfl⟩
abbrev main_v27 : Ref sig .tc := ⟨.hbm, 78, rfl⟩
abbrev main_c_6 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_7 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v33 : Ref sig .tc := ⟨.hbm, 89, rfl⟩
abbrev main_v34 : Ref sig .tc := ⟨.hbm, 90, rfl⟩
abbrev main_c_8 : Ref sig .tc := ⟨.hbm, 91, rfl⟩
abbrev main_v35 : Ref sig .tc := ⟨.hbm, 92, rfl⟩
abbrev main_v36 : Ref sig .tc := ⟨.hbm, 93, rfl⟩
abbrev main_c_9 : Ref sig .tc := ⟨.hbm, 94, rfl⟩
abbrev main_v37 : Ref sig .tc := ⟨.hbm, 95, rfl⟩
abbrev main_v38 : Ref sig .tc := ⟨.hbm, 96, rfl⟩
abbrev main_c_10 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_11 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v45 : Ref sig .tc := ⟨.hbm, 108, rfl⟩
abbrev main_v46 : Ref sig .tc := ⟨.hbm, 109, rfl⟩
abbrev main_c_12 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_c_13 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_c_14 : Ref sig .tc := ⟨.hbm, 118, rfl⟩
abbrev main_v53 : Ref sig .tc := ⟨.hbm, 119, rfl⟩
abbrev main_v54 : Ref sig .tc := ⟨.hbm, 120, rfl⟩
abbrev main_c_15 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_cst_16 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65_0 : Ref sig .tc := ⟨.hbm, 136, rfl⟩
abbrev main_v65_1 : Ref sig .tc := ⟨.hbm, 137, rfl⟩
abbrev main_v65_2 : Ref sig .tc := ⟨.hbm, 138, rfl⟩
abbrev main_v65_3 : Ref sig .tc := ⟨.hbm, 139, rfl⟩
abbrev main_v65_4 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x576x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3Ideal.lean ====
variable {F : FTy → Type} [FloatOps F] [Named F]
def κ : String → Option EReal := fun
  | "q_scale" => some (((1 / 8) * (Real.log 2)⁻¹ : ℝ) : EReal)
  | _ => none
-- ==== Reference3Ideal.lean ====
abbrev S8x4096x1024 : Shape := ⟨3, ![8, 4096, 1024]⟩
abbrev S1x1024 : Shape := ⟨2, ![1, 1024]⟩
abbrev S1x1024x2560 : Shape := ⟨3, ![1, 1024, 2560]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x2560 : Shape := ⟨2, ![1024, 2560]⟩
abbrev S8x4096x2560 : Shape := ⟨3, ![8, 4096, 2560]⟩
abbrev S8x4096x512 : Shape := ⟨3, ![8, 4096, 512]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x1x8 : Shape := ⟨5, ![1, 4096, 1, 1, 8]⟩
abbrev S8x4096x4x2x64 : Shape := ⟨5, ![8, 4096, 4, 2, 64]⟩
abbrev S8x4096x4x2x8 : Shape := ⟨5, ![8, 4096, 4, 2, 8]⟩
abbrev S8x4096x4x2x48 : Shape := ⟨5, ![8, 4096, 4, 2, 48]⟩
abbrev S8x4096x4x128 : Shape := ⟨4, ![8, 4096, 4, 128]⟩
abbrev S8x4x128x4096 : Shape := ⟨4, ![8, 4, 128, 4096]⟩
abbrev S8x4x16x4096 : Shape := ⟨4, ![8, 4, 16, 4096]⟩
abbrev S8x4x144x4096 : Shape := ⟨4, ![8, 4, 144, 4096]⟩
abbrev S8x576x4096 : Shape := ⟨3, ![8, 576, 4096]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2560, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1024x2560, .f32⟩
  | .hbm, ⟨21, _⟩ => ⟨S8x4096x2560, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S4096, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S4096x1, .f32⟩
  | .hbm, ⟨43, _⟩ => ⟨S1x8, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S1x4096x1x1x8, .f32⟩
  | .hbm, ⟨49, _⟩ => ⟨S4096x8, .f32⟩
  | .hbm, ⟨50, _⟩ => ⟨S1x4096x1x1x8, .f32⟩
  | .hbm, ⟨51, _⟩ => ⟨S8x4096x4x2x64, .f32⟩
  | .hbm, ⟨52, _⟩ => ⟨S8x4096x4x2x8, .f32⟩
  | .hbm, ⟨53, _⟩ => ⟨S8x4096x4x2x8, .f32⟩
  | .hbm, ⟨54, _⟩ => ⟨S8x4096x4x2x48, .f32⟩
  | .hbm, ⟨55, _⟩ => ⟨S8x4096x4x2x8, .f32⟩
  | .hbm, ⟨56, _⟩ => ⟨S8x4096x4x2x8, .f32⟩
  | .hbm, ⟨57, _⟩ => ⟨S8x4096x4x2x8, .f32⟩
  | .hbm, ⟨58, _⟩ => ⟨S8x4096x4x2x8, .f32⟩
  | .hbm, ⟨59, _⟩ => ⟨S8x4096x4x2x8, .f32⟩
  | .hbm, ⟨60, _⟩ => ⟨S8x4096x4x2x8, .f32⟩
  | .hbm, ⟨61, _⟩ => ⟨S8x4096x4x2x8, .f32⟩
  | .hbm, ⟨62, _⟩ => ⟨S8x4096x4x2x8, .f32⟩
  | .hbm, ⟨63, _⟩ => ⟨S8x4096x4x2x8, .f32⟩
  | .hbm, ⟨64, _⟩ => ⟨S8x4096x4x2x8, .f32⟩
  | .hbm, ⟨65, _⟩ => ⟨S8x4096x4x2x64, .f32⟩
  | .hbm, ⟨66, _⟩ => ⟨S8x4096x512, .f32⟩
  | .hbm, ⟨67, _⟩ => ⟨S_, .f32⟩
  | .hbm, ⟨68, _⟩ => ⟨S8x4096x512, .f32⟩
  | .hbm, ⟨69, _⟩ => ⟨S8x4096x512, .f32⟩
  | .hbm, ⟨70, _⟩ => ⟨S_, .f32⟩
  | .hbm, ⟨71, _⟩ => ⟨S_, .f32⟩
  | .hbm, ⟨72, _⟩ => ⟨S8x4096x512, .f32⟩
  | .hbm, ⟨73, _⟩ => ⟨S8x4096x512, .f32⟩
  | .hbm, ⟨74, _⟩ => ⟨S8x4096x4x128, .f32⟩
  | .hbm, ⟨75, _⟩ => ⟨S8x4x128x4096, .f32⟩
  | .hbm, ⟨76, _⟩ => ⟨S_, .f32⟩
  | .hbm, ⟨77, _⟩ => ⟨S8x4x16x4096, .f32⟩
  | .hbm, ⟨78, _⟩ => ⟨S8x4x144x4096, .f32⟩
  | .hbm, ⟨79, _⟩ => ⟨S8x4096x512, .bf16⟩
  | .hbm, ⟨80, _⟩ => ⟨S8x4096x4x2x64, .f32⟩
  | .hbm, ⟨81, _⟩ => ⟨S8x4096x4x2x8, .f32⟩
  | .hbm, ⟨82, _⟩ => ⟨S8x4096x4x2x8, .f32⟩
  | .hbm, ⟨83, _⟩ => ⟨S8x4096x4x2x48, .f32⟩
  | .hbm, ⟨84, _⟩ => ⟨S8x4096x4x2x8, .f32⟩
  | .hbm, ⟨85, _⟩ => ⟨S8x4096x4x2x8, .f32⟩
  | .hbm, ⟨86, _⟩ => ⟨S8x4096x4x2x8, .f32⟩
  | .hbm, ⟨87, _⟩ => ⟨S8x4096x4x2x8, .f32⟩
  | .hbm, ⟨88, _⟩ => ⟨S8x4096x4x2x8, .f32⟩
  | .hbm, ⟨89, _⟩ => ⟨S8x4096x4x2x8, .f32⟩
  | .hbm, ⟨90, _⟩ => ⟨S8x4096x4x2x8, .f32⟩
  | .hbm, ⟨91, _⟩ => ⟨S8x4096x4x2x8, .f32⟩
  | .hbm, ⟨92, _⟩ => ⟨S8x4096x4x2x8, .f32⟩
  | .hbm, ⟨93, _⟩ => ⟨S8x4096x4x2x8, .f32⟩
  | .hbm, ⟨94, _⟩ => ⟨S8x4096x4x2x64, .f32⟩
  | .hbm, ⟨95, _⟩ => ⟨S8x4096x512, .f32⟩
  | .hbm, ⟨96, _⟩ => ⟨S8x4096x512, .bf16⟩
  | .hbm, ⟨97, _⟩ => ⟨S8x576x4096, .f32⟩
  | .hbm, ⟨98, _⟩ => ⟨S8x576x4096, .bf16⟩
  | .hbm, ⟨99, _⟩ => ⟨S8x4096x512, .bf16⟩
  | .hbm, ⟨100, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_8 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩

abbrev nD : Nat := 1
abbrev τ : Topo := Topo.v7x

variable {F : FTy → Type} [FloatOps F]
-- ==== Kernel4.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩
abbrev S40x1024 : Shape := ⟨2, ![40, 1024]⟩
abbrev S32x1024 : Shape := ⟨2, ![32, 1024]⟩
abbrev S1 : Shape := ⟨1, ![1]⟩
abbrev S4x1024 : Shape := ⟨2, ![4, 1024]⟩
abbrev S512x512 : Shape := ⟨2, ![512, 512]⟩
abbrev S512x1024 : Shape := ⟨2, ![512, 1024]⟩
abbrev S262144x128 : Shape := ⟨2, ![262144, 128]⟩
abbrev S8x32768 : Shape := ⟨2, ![8, 32768]⟩
abbrev S32x128 : Shape := ⟨2, ![32, 128]⟩
abbrev S4096x128 : Shape := ⟨2, ![4096, 128]⟩
abbrev S8x512 : Shape := ⟨2, ![8, 512]⟩
abbrev S512 : Shape := ⟨1, ![512]⟩
abbrev S512x1 : Shape := ⟨2, ![512, 1]⟩
abbrev S512x128 : Shape := ⟨2, ![512, 128]⟩
abbrev S40x512 : Shape := ⟨2, ![40, 512]⟩
abbrev S32x512 : Shape := ⟨2, ![32, 512]⟩
abbrev S1x512 : Shape := ⟨2, ![1, 512]⟩
abbrev S32x1 : Shape := ⟨2, ![32, 1]⟩
abbrev S32 : Shape := ⟨1, ![32]⟩

abbrev nBuf : Space → Nat
  | .hbm => 44
  | .vmem => 19
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x1024x32, .f32⟩
  | .hbm, ⟨7, _⟩ => ⟨S32768x512, .bf16⟩
  | .hbm, ⟨8, _⟩ => ⟨S32768x512, .bf16⟩
  | .hbm, ⟨9, _⟩ => ⟨S32768x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S1024x32, .f32⟩
  | .hbm, ⟨14, _⟩ => ⟨S1024x1024, .bf16⟩
  | .hbm, ⟨15, _⟩ => ⟨S_, .f32⟩
  | .hbm, ⟨16, _⟩ => ⟨S40x1024, .f32⟩
  | .hbm, ⟨17, _⟩ => ⟨S32x1024, .f32⟩
  | .hbm, ⟨18, _⟩ => ⟨S_, .i32⟩
  | .hbm, ⟨19, _⟩ => ⟨S1, .i32⟩
  | .hbm, ⟨20, _⟩ => ⟨S40x1024, .f32⟩
  | .hbm, ⟨21, _⟩ => ⟨S4x1024, .f32⟩
  | .hbm, ⟨22, _⟩ => ⟨S_, .i32⟩
  | .hbm, ⟨23, _⟩ => ⟨S1, .i32⟩
  | .hbm, ⟨24, _⟩ => ⟨S40x1024, .f32⟩
  | .hbm, ⟨25, _⟩ => ⟨S40x1024, .bf16⟩
  | .hbm, ⟨26, _⟩ => ⟨S_, .bf16⟩
  | .hbm, ⟨27, _⟩ => ⟨S512x512, .bf16⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S_, .bf16⟩
  | .hbm, ⟨35, _⟩ => ⟨S512x512, .bf16⟩
  | .hbm, ⟨36, _⟩ => ⟨S512x512, .bf16⟩
  | .hbm, ⟨37, _⟩ => ⟨S512x1024, .bf16⟩
  | .hbm, ⟨38, _⟩ => ⟨S512x1024, .bf16⟩
  | .hbm, ⟨39, _⟩ => ⟨S1x1024, .f32⟩
  | .hbm, ⟨40, _⟩ => ⟨S32768x1024, .f32⟩
  | .hbm, ⟨41, _⟩ => ⟨S262144x128, .f32⟩
  | .hbm, ⟨42, _⟩ => ⟨S8x32768, .f32⟩
  | .hbm, ⟨43, _⟩ => ⟨S32x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S40x1024, .bf16⟩
  | .local _ .vmem, ⟨10, _⟩ => ⟨S512x512, .bf16⟩
  | .local _ .vmem, ⟨11, _⟩ => ⟨S512x1024, .f32⟩
  | .local _ .vmem, ⟨12, _⟩ => ⟨S512x1024, .f32⟩
  | .local _ .vmem, ⟨13, _⟩ => ⟨S4096x128, .f32⟩
  | .local _ .vmem, ⟨14, _⟩ => ⟨S4096x128, .f32⟩
  | .local _ .vmem, ⟨15, _⟩ => ⟨S8x512, .f32⟩
  | .local _ .vmem, ⟨16, _⟩ => ⟨S8x512, .f32⟩
  | .local _ .vmem, ⟨17, _⟩ => ⟨S32x128, .f32⟩
  | .local _ .vmem, ⟨18, _⟩ => ⟨S32x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_cst : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v21_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S32768x1024 : Shape := ⟨2, ![32768, 1024]⟩
abbrev S1024x4 : Shape := ⟨2, ![1024, 4]⟩
abbrev S32768x4 : Shape := ⟨2, ![32768, 4]⟩
abbrev S32768 : Shape := ⟨1, ![32768]⟩
abbrev S32768x1 : Shape := ⟨2, ![32768, 1]⟩
abbrev S1024x32 : Shape := ⟨2, ![1024, 32]⟩
abbrev S32768x32 : Shape := ⟨2, ![32768, 32]⟩
abbrev S32768x4x8 : Shape := ⟨3, ![32768, 4, 8]⟩
abbrev S32768x1x1 : Shape := ⟨3, ![32768, 1, 1]⟩
abbrev S1 : Shape := ⟨1, ![1]⟩
abbrev S1x1x1 : Shape := ⟨3, ![1, 1, 1]⟩
abbrev S32768x1x8 : Shape := ⟨3, ![32768, 1, 8]⟩
abbrev S32768x8 : Shape := ⟨2, ![32768, 8]⟩
abbrev S32768x2 : Shape := ⟨2, ![32768, 2]⟩
abbrev S32768x2x1 : Shape := ⟨3, ![32768, 2, 1]⟩
abbrev S1x1x32 : Shape := ⟨3, ![1, 1, 32]⟩
abbrev S32768x2x32 : Shape := ⟨3, ![32768, 2, 32]⟩
abbrev S32768x1x32 : Shape := ⟨3, ![32768, 1, 32]⟩
abbrev S32 : Shape := ⟨1, ![32]⟩
abbrev S262144x128 : Shape := ⟨2, ![262144, 128]⟩
abbrev S8x32768 : Shape := ⟨2, ![8, 32768]⟩
abbrev S32x1 : Shape := ⟨2, ![32, 1]⟩
abbrev S32x128 : Shape := ⟨2, ![32, 128]⟩

abbrev nBuf : Space → Nat
  | .hbm => 127
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x1024x32, .f32⟩
  | .hbm, ⟨7, _⟩ => ⟨S8x4096x512, .f32⟩
  | .hbm, ⟨8, _⟩ => ⟨S8x4096x512, .f32⟩
  | .hbm, ⟨9, _⟩ => ⟨S8x4096x1024, .f32⟩
  | .hbm, ⟨10, _⟩ => ⟨S1024x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S32768x1024, .f32⟩
  | .hbm, ⟨31, _⟩ => ⟨S1024x4, .f32⟩
  | .hbm, ⟨32, _⟩ => ⟨S32768x4, .f32⟩
  | .hbm, ⟨33, _⟩ => ⟨S_, .f32⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S32768x1, .f32⟩
  | .hbm, ⟨39, _⟩ => ⟨S32768x4, .f32⟩
  | .hbm, ⟨40, _⟩ => ⟨S32768x4, .f32⟩
  | .hbm, ⟨41, _⟩ => ⟨S32768x4, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S32768x4, .f32⟩
  | .hbm, ⟨46, _⟩ => ⟨S32768x4, .f32⟩
  | .hbm, ⟨47, _⟩ => ⟨S32768x1, .f32⟩
  | .hbm, ⟨48, _⟩ => ⟨S32768x1, .i32⟩
  | .hbm, ⟨49, _⟩ => ⟨S1024x32, .f32⟩
  | .hbm, ⟨50, _⟩ => ⟨S32768x32, .f32⟩
  | .hbm, ⟨51, _⟩ => ⟨S32768x4x8, .f32⟩
  | .hbm, ⟨52, _⟩ => ⟨S32768x1x1, .i32⟩
  | .hbm, ⟨53, _⟩ => ⟨S_, .i32⟩
  | .hbm, ⟨54, _⟩ => ⟨S32768x1x1, .i32⟩
  | .hbm, ⟨55, _⟩ => ⟨S32768x1x1, .i1⟩
  | .hbm, ⟨56, _⟩ => ⟨S_, .i32⟩
  | .hbm, ⟨57, _⟩ => ⟨S32768x1x1, .i32⟩
  | .hbm, ⟨58, _⟩ => ⟨S32768x1x1, .i32⟩
  | .hbm, ⟨59, _⟩ => ⟨S32768x1x1, .i32⟩
  | .hbm, ⟨60, _⟩ => ⟨S1, .i32⟩
  | .hbm, ⟨61, _⟩ => ⟨S_, .i32⟩
  | .hbm, ⟨62, _⟩ => ⟨S32768x1x1, .i32⟩
  | .hbm, ⟨63, _⟩ => ⟨S32768x1x1, .i1⟩
  | .hbm, ⟨64, _⟩ => ⟨S1x1x1, .i32⟩
  | .hbm, ⟨65, _⟩ => ⟨S32768x1x1, .i32⟩
  | .hbm, ⟨66, _⟩ => ⟨S32768x1x1, .i1⟩
  | .hbm, ⟨67, _⟩ => ⟨S32768x1x1, .i1⟩
  | .hbm, ⟨68, _⟩ => ⟨S_, .i1⟩
  | .hbm, ⟨69, _⟩ => ⟨S32768x1, .i1⟩
  | .hbm, ⟨70, _⟩ => ⟨S32768x1x8, .f32⟩
  | .hbm, ⟨71, _⟩ => ⟨S32768x1x8, .i1⟩
  | .hbm, ⟨72, _⟩ => ⟨S_, .f32⟩
  | .hbm, ⟨73, _⟩ => ⟨S32768x1x8, .f32⟩
  | .hbm, ⟨74, _⟩ => ⟨S32768x1x8, .f32⟩
  | .hbm, ⟨75, _⟩ => ⟨S32768x8, .f32⟩
  | .hbm, ⟨76, _⟩ => ⟨S32768x2, .f32⟩
  | .hbm, ⟨77, _⟩ => ⟨S32768x2, .i32⟩
  | .hbm, ⟨78, _⟩ => ⟨S_, .f32⟩
  | .hbm, ⟨79, _⟩ => ⟨S32768, .f32⟩
  | .hbm, ⟨80, _⟩ => ⟨S_, .f32⟩
  | .hbm, ⟨81, _⟩ => ⟨S32768, .f32⟩
  | .hbm, ⟨82, _⟩ => ⟨S32768, .f32⟩
  | .hbm, ⟨83, _⟩ => ⟨S32768x1, .f32⟩
  | .hbm, ⟨84, _⟩ => ⟨S32768x2, .f32⟩
  | .hbm, ⟨85, _⟩ => ⟨S32768x2, .f32⟩
  | .hbm, ⟨86, _⟩ => ⟨S32768x2, .f32⟩
  | .hbm, ⟨87, _⟩ => ⟨S_, .f32⟩
  | .hbm, ⟨88, _⟩ => ⟨S32768, .f32⟩
  | .hbm, ⟨89, _⟩ => ⟨S32768x1, .f32⟩
  | .hbm, ⟨90, _⟩ => ⟨S32768x2, .f32⟩
  | .hbm, ⟨91, _⟩ => ⟨S32768x2, .f32⟩
  | .hbm, ⟨92, _⟩ => ⟨S32768x2, .f32⟩
  | .hbm, ⟨93, _⟩ => ⟨S32768x2, .f32⟩
  | .hbm, ⟨94, _⟩ => ⟨S_, .i32⟩
  | .hbm, ⟨95, _⟩ => ⟨S32768x1, .i32⟩
  | .hbm, ⟨96, _⟩ => ⟨S32768x1, .i32⟩
  | .hbm, ⟨97, _⟩ => ⟨S32768x2, .i32⟩
  | .hbm, ⟨98, _⟩ => ⟨S32768x2, .i32⟩
  | .hbm, ⟨99, _⟩ => ⟨S32768x2x1, .i32⟩
  | .hbm, ⟨100, _⟩ => ⟨S1x1x32, .i32⟩
  | .hbm, ⟨101, _⟩ => ⟨S32768x2x32, .i32⟩
  | .hbm, ⟨102, _⟩ => ⟨S32768x2x32, .i32⟩
  | .hbm, ⟨103, _⟩ => ⟨S32768x2x32, .i1⟩
  | .hbm, ⟨104, _⟩ => ⟨S32768x2x32, .f32⟩
  | .hbm, ⟨105, _⟩ => ⟨S_, .f32⟩
  | .hbm, ⟨106, _⟩ => ⟨S32768x32, .f32⟩
  | .hbm, ⟨107, _⟩ => ⟨S_, .f32⟩
  | .hbm, ⟨108, _⟩ => ⟨S_, .f32⟩
  | .hbm, ⟨109, _⟩ => ⟨S32768x32, .f32⟩
  | .hbm, ⟨110, _⟩ => ⟨S32768x32, .f32⟩
  | .hbm, ⟨111, _⟩ => ⟨S32768x1x32, .f32⟩
  | .hbm, ⟨112, _⟩ => ⟨S32768x2x32, .f32⟩
  | .hbm, ⟨113, _⟩ => ⟨S32768x2x32, .f32⟩
  | .hbm, ⟨114, _⟩ => ⟨S_, .f32⟩
  | .hbm, ⟨115, _⟩ => ⟨S32768x2, .f32⟩
  | .hbm, ⟨116, _⟩ => ⟨S32768x2, .f32⟩
  | .hbm, ⟨117, _⟩ => ⟨S_, .f32⟩
  | .hbm, ⟨118, _⟩ => ⟨S32768x2, .f32⟩
  | .hbm, ⟨119, _⟩ => ⟨S32768x8, .f32⟩
  | .hbm, ⟨120, _⟩ => ⟨S_, .f32⟩
  | .hbm, ⟨121, _⟩ => ⟨S32, .f32⟩
  | .hbm, ⟨122, _⟩ => ⟨S32768x1024, .f32⟩
  | .hbm, ⟨123, _⟩ => ⟨S262144x128, .f32⟩
  | .hbm, ⟨124, _⟩ => ⟨S8x32768, .f32⟩
  | .hbm, ⟨125, _⟩ => ⟨S32x1, .f32⟩
  | .hbm, ⟨126, _⟩ => ⟨S32x128, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_values : Ref sig .tc := ⟨.hbm, 47, rfl⟩
abbrev main_indices : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_1 : Ref sig .tc := ⟨.hbm, 60, rfl⟩
abbrev main_call0_c_2 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_c_3 : Ref sig .tc := ⟨.hbm, 68, rfl⟩
abbrev main_call0_v11 : Ref sig .tc := ⟨.hbm, 69, rfl⟩
abbrev main_call0_v12 : Ref sig .tc := ⟨.hbm, 70, rfl⟩
abbrev main_call0_v13 : Ref sig .tc := ⟨.hbm, 71, rfl⟩
abbrev main_call0_cst : Ref sig .tc := ⟨.hbm, 72, rfl⟩
abbrev main_call0_v14 : Ref sig .tc := ⟨.hbm, 73, rfl⟩
abbrev main_v38 : Ref sig .tc := ⟨.hbm, 74, rfl⟩
abbrev main_v39 : Ref sig .tc := ⟨.hbm, 75, rfl⟩
abbrev main_values_5 : Ref sig .tc := ⟨.hbm, 76, rfl⟩
abbrev main_indices_6 : Ref sig .tc := ⟨.hbm, 77, rfl⟩
abbrev main_cst_7 : Ref sig .tc := ⟨.hbm, 78, rfl⟩
abbrev main_v40 : Ref sig .tc := ⟨.hbm, 79, rfl⟩
abbrev main_cst_8 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_9 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_c : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_v57 : Ref sig .tc := ⟨.hbm, 104, rfl⟩
abbrev main_cst_10 : Ref sig .tc := ⟨.hbm, 105, rfl⟩
abbrev main_v58 : Ref sig .tc := ⟨.hbm, 106, rfl⟩
abbrev main_call2_call0_cst : Ref sig .tc := ⟨.hbm, 107, rfl⟩
abbrev main_call2_call0_v0 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_11 : Ref sig .tc := ⟨.hbm, 114, rfl⟩
abbrev main_v64 : Ref sig .tc := ⟨.hbm, 115, rfl⟩
abbrev main_v65 : Ref sig .tc := ⟨.hbm, 116, rfl⟩
abbrev main_cst_12 : Ref sig .tc := ⟨.hbm, 117, rfl⟩
abbrev main_v66 : Ref sig .tc := ⟨.hbm, 118, rfl⟩
abbrev main_v67 : Ref sig .tc := ⟨.hbm, 119, rfl⟩
abbrev main_cst_13 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩

abbrev nD : Nat := 1
abbrev τ : Topo := Topo.v7x

variable {F : FTy → Type} [FloatOps F]
-- ==== Proof.Attn.Fold.lean ====
/-
  The kernel's body as a recursion over the sixteen chunks of keys.

  The printed body runs the chunks one after another, the scores of two later chunks computed ahead of their use. As
  values that order does not matter: each of the two maps keeps a running row maximum and an accumulator, and chunk
  `n` takes both from chunk `n - 1`. This file states that recursion and reads the block the body stores as it.
-/
module

public import proofs.«01_k».proof.Proof.Gen.KernelIdeal.Frame

@[expose] public section

set_option maxRecDepth 16384

noncomputable section

namespace Cert.KernelIdeal.Attn

open Idealize.ShloMosaic Idealize.SL.Sem Cert.KernelIdeal Cert.KernelIdeal.Gen

variable {F : FTy → Type} [FloatOps F] [Named F]

/-- Chunk `n` of the keys: 256 of its rows. -/
def kRect (n : ℕ) (h : n < 16) : Rect S1x4096x128 :=
  Rect.unit (s := S1x4096x128) ![0, 256 * n, 0] S1x256x128.size (by
    intro a; fin_cases a <;> simp [S1x256x128, S1x4096x128] <;> omega)

/-- Chunk `n` of the transposed values: 256 of its columns. -/
def vRect (n : ℕ) (h : n < 16) : Rect S1x144x4096 :=
  Rect.unit (s := S1x144x4096) ![0, 0, 256 * n] S1x144x256.size (by
    intro a; fin_cases a <;> simp [S1x144x256, S1x144x4096] <;> omega)

/-- The scores of chunk `n` under the masked queries `qm`. -/
def score (qm : FVec F S1024x128 .bf16) (x2 : Vec F S1x4096x128 .bf16) (n : ℕ) (h : n < 16) : FVec F S256x1024 .f32 :=
  k0_pay15 qm (View.ld x2 (kRect n h))

/-- The running maximum after `n` chunks. -/
def mAt (qm : FVec F S1024x128 .bf16) (x2 : Vec F S1x4096x128 .bf16) : (n : ℕ) → n ≤ 16 → FVec F S1x1024 .f32
  | 0, _ => k0_pay7
  | n + 1, h => k0_pay21 (mAt qm x2 n (Nat.le_of_succ_le h)) (score qm x2 n h)

/-- The accumulator after `n` chunks. -/
def accAt (qm : FVec F S1024x128 .bf16) (x2 : Vec F S1x4096x128 .bf16) (x3 : Vec F S1x144x4096 .bf16) :
    (n : ℕ) → n ≤ 16 → FVec F S144x1024 .f32
  | 0, _ => k0_pay9
  | n + 1, h => k0_pay22 (mAt qm x2 n (Nat.le_of_succ_le h)) (accAt qm x2 x3 n (Nat.le_of_succ_le h)) (score qm x2 n h)
      (View.ld x3 (vRect n h))

/-- An accumulator's first 128 rows over its row 128: the weighted values over the sum of the weights. -/
def quot (a : FVec F S144x1024 .f32) : FVec F S128x1024 .f32 :=
  divf (extractStridedSlice S128x1024 ![0, 0] a slices_S144x1024_o0_0_S128x1024)
    (broadcastTo S128x1024 (extractStridedSlice S1x1024 ![128, 0] a slices_S144x1024_o128_0_S1x1024)
      broadcasts_S1x1024_S128x1024)

/-- The first map's quotient less `lam` times the second's. -/
def diff (lam : FVec F S1x1 .f32) (a b : FVec F S144x1024 .f32) : FVec F S128x1024 .f32 :=
  subf (quot a) (mulf (broadcastTo S128x1024 lam broadcasts_S1x1_S128x1024) (quot b))

/-- The reciprocal root of a column's mean square. -/
def nrm (o : FVec F S128x1024 .f32) : FVec F S128x1024 .f32 :=
  broadcastTo S128x1024 (rsqrt (addf (divf
    (shapeCast S1x1024 (multiReduction .add [0] S1024 (mulf o o) 0x00000000#32 reduces_S128x1024_S1024 (.inl rfl) rfl)
      shapeCasts_S1024_S1x1024)
    (broadcast S1x1024 (Scalar.ofBits .f32 0x43000000#32)))
    (broadcast S1x1024 (Scalar.ofBits .f32 0x358637BD#32)))) broadcasts_S1x1024_S128x1024

/-- The block before its norm. -/
def outO (x0 : Vec F S8x128 .f32) (x1 : Vec F S1x1024x128 .f32) (x2 : Vec F S1x4096x128 .bf16)
    (x3 : Vec F S1x144x4096 .bf16) : FVec F S128x1024 .f32 :=
  diff (k0_pay2 (View.ld x0 r0_0)) (accAt (k0_pay5 (View.ld x1 r0_1)) x2 x3 16 (Nat.le_refl 16))
    (accAt (k0_pay6 (View.ld x1 r0_1)) x2 x3 16 (Nat.le_refl 16))

set_option maxHeartbeats 4000000 in
/-- The stored block is the recursion's end, divided, subtracted and normed. -/
theorem out_eq (x0 : Vec F S8x128 .f32) (x1 : Vec F S1x1024x128 .f32) (x2 : Vec F S1x4096x128 .bf16)
    (x3 : Vec F S1x144x4096 .bf16) (x4 : Vec F S1x128 .f32) :
    out0_5 x0 x1 x2 x3 x4
      = View.canon [⟨r0_1, k0_pay1 (outO x0 x1 x2 x3) (nrm (outO x0 x1 x2 x3)) (View.ld x4 r0_34)⟩] := rfl

end Cert.KernelIdeal.Attn

end
-- ==== Proof.Attn.Soft.lean ====
/-
  The softmax average, over the reals and as extended reals: the average computed with a running maximum, rescaled
  chunk by chunk in powers of two, and the one computed by dividing every exponential by their sum.
-/
module

public import Idealize.ShloMosaic.Lib.Pointwise
public import Idealize.ShloMosaic.Lib.IdealHost

@[expose] public section

set_option maxRecDepth 16384

noncomputable section

namespace Cert.Attn

open Idealize.ShloMosaic

/-- A finite sum of reals, taken in the extended reals, is the sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of a real and finitely many reals, from `⊥`, is a real. -/
theorem max_fold {ι : Type*} (M : ℝ) (s : Finset ι) (f : ι → ℝ) :
    ∃ M' : ℝ, max (M : EReal) (Finset.fold max ⊥ (fun i => (f i : EReal)) s) = (M' : EReal) := by
  classical
  induction s using Finset.induction_on with
  | empty => exact ⟨M, by simp⟩
  | insert a s ha ih =>
    obtain ⟨M', h⟩ := ih
    refine ⟨max (f a) M', ?_⟩
    rw [Finset.fold_insert ha, max_left_comm, h]
    exact (EReal.coe_strictMono.monotone.map_max).symm

/-- The same over a nonempty set with nothing to start from. -/
theorem fold_max {ι : Type*} [Fintype ι] [Nonempty ι] (f : ι → ℝ) :
    ∃ M' : ℝ, Finset.fold max ⊥ (fun i => (f i : EReal)) Finset.univ = (M' : EReal) := by
  classical
  have a : ι := Classical.arbitrary ι
  rw [← Finset.insert_erase (Finset.mem_univ a), Finset.fold_insert (Finset.notMem_erase a _)]
  exact max_fold (f a) _ f

/-- The pattern the maximum starts from. -/
theorem ofBits_ninf : Ideal.ofBits .f32 0xFF800000#32 = ⊥ := by simp [Ideal.ofBits, Ideal.ieee]

/-- The finite number the running maximum starts from is a real. -/
theorem ofBits_start : ∃ M : ℝ, Ideal.ofBits .f32 0xF149F2CA#32 = (M : EReal) :=
  ⟨-(13234890 * 2 ^ 76), by simp [Ideal.ofBits, Ideal.ieee, -EReal.coe_mul, -EReal.coe_neg]⟩

/-- The offset of the second map's weight is a real. -/
theorem ofBits_lam : ∃ M : ℝ, Ideal.ofBits .f32 0x3E4CCCCD#32 = (M : EReal) :=
  ⟨13421773 * (2 ^ 26)⁻¹, by simp [Ideal.ofBits, Ideal.ieee, -EReal.coe_mul]⟩

/-- One eighth. -/
theorem ofBits_eighth : Ideal.ofBits .f32 0x3E000000#32 = ((1 / 8 : ℝ) : EReal) := by
  simp [Ideal.ofBits, Ideal.ieee, -EReal.coe_mul]; norm_num

/-- The average of `v` under the softmax weights of `s`. -/
def avg {n : ℕ} (s v : Fin n → ℝ) : ℝ := (∑ k, v k * Real.exp (s k)) / ∑ k, Real.exp (s k)

theorem sum_exp_pos {n : ℕ} (hn : 0 < n) (s : Fin n → ℝ) : 0 < ∑ k, Real.exp (s k) :=
  Finset.sum_pos (fun k _ => Real.exp_pos _) ⟨⟨0, hn⟩, Finset.mem_univ _⟩

/-- A power of two as an exponential. -/
theorem rpow_two (x : ℝ) : Real.rpow 2 x = Real.exp (Real.log 2 * x) := Real.rpow_def_of_pos (by norm_num) x

/-- The weighted sum over the sum of weights, in powers of two and relative to any `M`. -/
theorem div_avg {n : ℕ} (hn : 0 < n) (s t v : Fin n → ℝ) (M : ℝ) (h : ∀ k, Real.log 2 * t k = s k) :
    Ideal.div ((∑ k, v k * Real.rpow 2 (t k - M) : ℝ) : EReal) ((∑ k, 1 * Real.rpow 2 (t k - M) : ℝ) : EReal)
      = (avg s v : EReal) := by
  have e : ∀ k, Real.rpow 2 (t k - M) = Real.exp (s k) * Real.exp (-(Real.log 2 * M)) := fun k => by
    rw [rpow_two, ← Real.exp_add, ← h k]; ring_nf
  have hp := sum_exp_pos hn s
  have hM := Real.exp_pos (-(Real.log 2 * M))
  simp only [e, one_mul, ← mul_assoc, ← Finset.sum_mul]
  rw [Ideal.div_coe (mul_pos hp hM).ne', ← EReal.coe_mul]
  refine congrArg _ ?_
  unfold avg
  field_simp

/-- One softmax weight: the exponential relative to any `M` over the sum of them. -/
theorem weight {n : ℕ} (hn : 0 < n) (s : Fin n → ℝ) (M : ℝ) (k : Fin n) :
    Ideal.div (Ideal.exp ((s k : EReal) - (M : EReal))) (0 + ∑ x, Ideal.exp ((s x : EReal) - (M : EReal)))
      = ((Real.exp (s k) / ∑ x, Real.exp (s x) : ℝ) : EReal) := by
  have e : ∀ x, Real.exp (s x - M) = Real.exp (s x) * Real.exp (-M) := fun x => by
    rw [← Real.exp_add]; ring_nf
  have hp := sum_exp_pos hn s
  have hM := Real.exp_pos (-M)
  simp only [← EReal.coe_sub, Ideal.exp_coe, coe_sum, zero_add, e, ← Finset.sum_mul]
  rw [Ideal.div_coe (mul_pos hp hM).ne', ← EReal.coe_mul]
  refine congrArg _ ?_
  field_simp

/-- The values weighted by the first softmax less `l` times the second: the averages' difference. -/
theorem sum_weights {n : ℕ} (s₀ s₁ v : Fin n → ℝ) (l : ℝ) :
    (∑ k, (v k : EReal) * (((Real.exp (s₀ k) / ∑ x, Real.exp (s₀ x) : ℝ) : EReal)
        - (l : EReal) * ((Real.exp (s₁ k) / ∑ x, Real.exp (s₁ x) : ℝ) : EReal)))
      = ((avg s₀ v - l * avg s₁ v : ℝ) : EReal) := by
  simp only [← EReal.coe_mul, ← EReal.coe_sub, coe_sum]
  refine congrArg _ ?_
  unfold avg
  simp only [mul_sub, Finset.sum_sub_distrib, Finset.sum_div, Finset.mul_sum]
  congr 1 <;> exact Finset.sum_congr rfl fun k _ => by ring

/-- One chunk of 256 keys taken into the accumulator: what was there rescaled to the new maximum, and the chunk's
    weighted values. -/
theorem step (t v : ℕ → ℝ) (n : ℕ) (M M' : ℝ) :
    Ideal.exp2 ((M : EReal) - (M' : EReal)) * ((∑ k ∈ Finset.range (256 * n), v k * Real.rpow 2 (t k - M) : ℝ) : EReal)
        + ∑ x : Fin 256, (v (256 * n + x) : EReal) * Ideal.exp2 ((t (256 * n + x) : EReal) - (M' : EReal))
      = ((∑ k ∈ Finset.range (256 * (n + 1)), v k * Real.rpow 2 (t k - M') : ℝ) : EReal) := by
  simp only [← EReal.coe_sub, Ideal.exp2_coe, ← EReal.coe_mul, coe_sum, ← EReal.coe_add]
  refine congrArg _ ?_
  rw [show 256 * (n + 1) = 256 * n + 256 by ring, Finset.sum_range_add, Finset.mul_sum]
  congr 1
  · refine Finset.sum_congr rfl fun k _ => ?_
    rw [mul_left_comm, rpow_two, rpow_two, rpow_two, ← Real.exp_add]; ring_nf

end Cert.Attn

end
-- ==== Proof.Attn.Block.lean ====
/-
  The block the body stores, at an index and on the extended reals: from finite queries, keys and values, the two
  softmax averages' difference, normed, gained and scaled.
-/
module

public import proofs.«01_k».proof.Proof.Attn.Fold
public import proofs.«01_k».proof.Proof.Attn.Soft

@[expose] public section

set_option maxRecDepth 16384

noncomputable section

namespace Cert.Attn

open Idealize.ShloMosaic

/-- An element of a head's row `o`, over the root of the row's mean square, times its gain `g` and the fixed factor. -/
def normed (o : Fin 128 → EReal) (g : EReal) (e : Fin 128) : EReal :=
  o e * Ideal.rsqrt (Ideal.div (∑ x, o x * o x) (Ideal.ofBits .f32 0x43000000#32) + Ideal.ofBits .f32 0x358637BD#32) * g
    * Ideal.ofBits .f32 0x3F4CCCCD#32

end Cert.Attn

namespace Cert.KernelIdeal.Attn

open Idealize.ShloMosaic Idealize.SL.Sem Cert.KernelIdeal Cert.KernelIdeal.Gen Cert.Attn

theorem score_apply (qm : FVec Ideal S1024x128 .bf16) (x2 : Vec Ideal S1x4096x128 .bf16) (n : ℕ) (h : n < 16)
    (i : Fin 256) (r : Fin 1024) :
    score qm x2 n h (ix2 i r)
      = ∑ d : Fin 128, (x2 (ix3 (0 : Fin 1) (⟨256 * n + i, by omega⟩ : Fin 4096) d) : EReal) * qm (ix2 r d) := by
  unfold score kRect
  pointwise [k0_pay14, k0_pay15]

theorem pay21_apply (m : FVec Ideal S1x1024 .f32) (s : FVec Ideal S256x1024 .f32) (r : Fin 1024) :
    k0_pay21 m s (ix2 (0 : Fin 1) r)
      = max (m (ix2 (0 : Fin 1) r)) (Finset.fold max ⊥ (fun x : Fin 256 => (s (ix2 x r) : EReal)) Finset.univ) := by
  rw [← ofBits_ninf]
  pointwise [k0_pay21]

theorem pay22_apply (m : FVec Ideal S1x1024 .f32) (a : FVec Ideal S144x1024 .f32) (s : FVec Ideal S256x1024 .f32)
    (v : Vec Ideal S1x144x256 .bf16) (e : Fin 144) (r : Fin 1024) :
    k0_pay22 m a s v (ix2 e r)
      = Ideal.exp2 (m (ix2 (0 : Fin 1) r) - k0_pay21 m s (ix2 (0 : Fin 1) r)) * a (ix2 e r)
        + ∑ x : Fin 256, (v (ix3 (0 : Fin 1) e x) : EReal) * Ideal.exp2 (s (ix2 x r) - k0_pay21 m s (ix2 (0 : Fin 1) r)) := by
  unfold k0_pay22
  pointwise [k0_pay20]
  rfl

theorem ldv_apply (x3 : Vec Ideal S1x144x4096 .bf16) (n : ℕ) (h : n < 16) (e : Fin 144) (x : Fin 256) :
    View.ld x3 (vRect n h) (ix3 (0 : Fin 1) e x) = x3 (ix3 (0 : Fin 1) e (⟨256 * n + x, by omega⟩ : Fin 4096)) := by
  unfold vRect
  pointwise

/-- A column's numbers as a function of every natural, `0` past the end. -/
def ext (t : Fin 4096 → ℝ) (k : ℕ) : ℝ := if h : k < 4096 then t ⟨k, h⟩ else 0

theorem ext_chunk (t : Fin 4096 → ℝ) (n : ℕ) (h : n < 16) (i : Fin 256) :
    ext t (256 * n + i) = t ⟨256 * n + i, by omega⟩ := dif_pos _

/-- After `n` chunks: the maximum is a real, and the accumulator the weighted sum over the keys taken. -/
theorem chunks (qm : FVec Ideal S1024x128 .bf16) (x2 : Vec Ideal S1x4096x128 .bf16) (x3 : Vec Ideal S1x144x4096 .bf16)
    (r : Fin 1024) (t : Fin 4096 → ℝ) (v : Fin 144 → Fin 4096 → ℝ)
    (hs : ∀ k : Fin 4096, (∑ d : Fin 128, (x2 (ix3 (0 : Fin 1) k d) : EReal) * qm (ix2 r d)) = (t k : EReal))
    (hv : ∀ e k, (x3 (ix3 (0 : Fin 1) e k) : EReal) = (v e k : EReal)) (n : ℕ) (h : n ≤ 16) :
    ∃ M : ℝ, mAt qm x2 n h (ix2 (0 : Fin 1) r) = (M : EReal) ∧ ∀ e : Fin 144, accAt qm x2 x3 n h (ix2 e r)
      = ((∑ k ∈ Finset.range (256 * n), ext (v e) k * Real.rpow 2 (ext t k - M) : ℝ) : EReal) := by
  induction n with
  | zero =>
    obtain ⟨M, hM⟩ := ofBits_start
    refine ⟨M, ?_, fun e => ?_⟩
    · rw [← hM]; unfold mAt; pointwise [k0_pay7]
    · unfold accAt; pointwise [k0_pay9]; simp
  | succ n ih =>
    obtain ⟨M, hM, hA⟩ := ih (Nat.le_of_succ_le h)
    have hsc : ∀ i : Fin 256, (score qm x2 n h (ix2 i r) : EReal) = (ext t (256 * n + i) : EReal) := fun i => by
      rw [score_apply, hs, ext_chunk t n h i]
    obtain ⟨M', hM'⟩ := max_fold M Finset.univ fun i : Fin 256 => ext t (256 * n + i)
    have hm : mAt qm x2 (n + 1) h (ix2 (0 : Fin 1) r) = (M' : EReal) := by
      rw [← hM', ← hM]
      refine (pay21_apply _ _ r).trans ?_
      simp only [hsc]
    refine ⟨M', hm, fun e => ?_⟩
    rw [← step (ext t) (ext (v e)) n M M', ← hA e, ← hM, ← hm]
    refine (pay22_apply _ _ _ _ e r).trans ?_
    refine congrArg₂ (· + ·) rfl (Finset.sum_congr rfl fun x _ => ?_)
    rw [hsc, ldv_apply, hv, ext_chunk (v e) n h x]
    rfl

/-- After all sixteen, the accumulator's first rows over its row of ones: the softmax average. -/
theorem quot_apply (qm : FVec Ideal S1024x128 .bf16) (x2 : Vec Ideal S1x4096x128 .bf16) (x3 : Vec Ideal S1x144x4096 .bf16)
    (r : Fin 1024) (s t : Fin 4096 → ℝ) (v : Fin 144 → Fin 4096 → ℝ)
    (hs : ∀ k : Fin 4096, (∑ d : Fin 128, (x2 (ix3 (0 : Fin 1) k d) : EReal) * qm (ix2 r d)) = (t k : EReal))
    (hst : ∀ k, Real.log 2 * t k = s k)
    (hv : ∀ e k, (x3 (ix3 (0 : Fin 1) e k) : EReal) = (v e k : EReal)) (h1 : ∀ k, v 128 k = 1) (e : Fin 128) :
    quot (accAt qm x2 x3 16 (Nat.le_refl 16)) (ix2 e r) = (avg s (v ⟨e, by omega⟩) : EReal) := by
  obtain ⟨M, -, hA⟩ := chunks qm x2 x3 r t v hs hv 16 (Nat.le_refl 16)
  have hf : ∀ f : Fin 144, accAt qm x2 x3 16 (Nat.le_refl 16) (ix2 f r)
      = ((∑ k, v f k * Real.rpow 2 (t k - M) : ℝ) : EReal) := fun f => by
    rw [hA f, Finset.sum_range]
    refine congrArg _ (Finset.sum_congr rfl fun k _ => ?_)
    rw [ext, ext, dif_pos k.isLt, dif_pos k.isLt]
  generalize accAt qm x2 x3 16 (Nat.le_refl 16) = a at hf
  have hq : quot a (ix2 e r) = Ideal.div (a (ix2 (⟨e, by omega⟩ : Fin 144) r)) (a (ix2 (128 : Fin 144) r)) := by
    pointwise [quot]
  rw [hq, hf, hf, ← div_avg (by norm_num) s t _ M hst]
  simp only [h1]

theorem diff_apply (l : FVec Ideal S1x1 .f32) (a b : FVec Ideal S144x1024 .f32) (e : Fin 128) (r : Fin 1024) :
    diff l a b (ix2 e r) = (quot a (ix2 e r) : EReal) - l (ix2 (0 : Fin 1) (0 : Fin 1)) * quot b (ix2 e r) := by
  pointwise [diff]

theorem pay1_apply (a : FVec Ideal S128x1024 .f32) (g : Vec Ideal S1x128 .f32) (r : Fin 1024) (e : Fin 128) :
    k0_pay1 a (nrm a) g (ix3 (0 : Fin 1) r e) = normed (fun x => a (ix2 x r)) (g (ix2 (0 : Fin 1) e)) e := by
  pointwise [k0_pay1, nrm, normed]

theorem pay2_apply (a : Vec Ideal S8x128 .f32) :
    k0_pay2 a (ix2 (0 : Fin 1) (0 : Fin 1))
      = Ideal.exp (∑ d : Fin 128, (a (ix2 (0 : Fin 8) d) : EReal) * a (ix2 (1 : Fin 8) d))
        - Ideal.exp (∑ d : Fin 128, (a (ix2 (2 : Fin 8) d) : EReal) * a (ix2 (3 : Fin 8) d)) + Ideal.ofBits .f32 0x3E4CCCCD#32 := by
  pointwise [k0_pay2]

theorem h2 : (![0, 0] : Fin 2 → Nat) = fun _ => 0 := funext fun a => by fin_cases a <;> rfl
theorem h3 : (![0, 0, 0] : Fin 3 → Nat) = fun _ => 0 := funext fun a => by fin_cases a <;> rfl

/-- The stored block at row `r` and lane `e`. -/
theorem block_apply (x0 : Vec Ideal S8x128 .f32) (x1 : Vec Ideal S1x1024x128 .f32) (x2 : Vec Ideal S1x4096x128 .bf16)
    (x3 : Vec Ideal S1x144x4096 .bf16) (x4 : Vec Ideal S1x128 .f32) (r : Fin 1024) (e : Fin 128)
    (l : ℝ) (s₀ t₀ s₁ t₁ : Fin 4096 → ℝ) (v : Fin 144 → Fin 4096 → ℝ)
    (hl : k0_pay2 x0 (ix2 (0 : Fin 1) (0 : Fin 1)) = (l : EReal))
    (hs₀ : ∀ k : Fin 4096, (∑ d : Fin 128, (x2 (ix3 (0 : Fin 1) k d) : EReal) * k0_pay5 x1 (ix2 r d)) = (t₀ k : EReal))
    (hs₁ : ∀ k : Fin 4096, (∑ d : Fin 128, (x2 (ix3 (0 : Fin 1) k d) : EReal) * k0_pay6 x1 (ix2 r d)) = (t₁ k : EReal))
    (hst₀ : ∀ k, Real.log 2 * t₀ k = s₀ k) (hst₁ : ∀ k, Real.log 2 * t₁ k = s₁ k)
    (hv : ∀ e k, (x3 (ix3 (0 : Fin 1) e k) : EReal) = (v e k : EReal)) (h1 : ∀ k, v 128 k = 1) :
    out0_5 x0 x1 x2 x3 x4 (ix3 (0 : Fin 1) r e)
      = normed (fun f => ((avg s₀ (v ⟨f, by omega⟩) - l * avg s₁ (v ⟨f, by omega⟩) : ℝ) : EReal))
          (x4 (ix2 (0 : Fin 1) e)) e := by
  rw [out_eq, View.canon_unit_zero h3]
  refine (pay1_apply _ _ r e).trans ?_
  rw [View.ld_unit_zero h2]
  refine congrArg (fun o => normed o _ e) (funext fun f => ?_)
  unfold outO
  rw [View.ld_unit_zero h2, View.ld_unit_zero h3]
  rw [diff_apply, quot_apply _ x2 x3 r s₀ t₀ v hs₀ hst₀ hv h1 f, quot_apply _ x2 x3 r s₁ t₁ v hs₁ hst₁ hv h1 f, hl,
    ← EReal.coe_mul, ← EReal.coe_sub]

end Cert.KernelIdeal.Attn

end
-- ==== Proof.Attn.Host.lean ====
/-
  The arrays the attention call finds, at an index, as terms over the arguments: the keys, the values with their rows of
  ones, the table of the four coefficient vectors, the gain.
-/
module

public import proofs.«01_k».proof.Proof.Attn.Block
public import Idealize.ShloMosaic.Lib.StableHlo.ReadAt
public import Idealize.ShloMosaic.Lib.Pipeline.ValueKit.Point
public import Idealize.ShloMosaic.Lib.Routing.OpsPair
public import Idealize.ShloMosaic.Lib.Routing.OpsSet

@[expose] public section

set_option maxRecDepth 16384

noncomputable section

namespace Cert.KernelIdeal.Attn

open Idealize.ShloMosaic Idealize.ShloMosaic.TcCoe Idealize.SL.Sem Cert.KernelIdeal Cert.KernelIdeal.Gen Cert.Attn
open Idealize.ShloMosaic.Pipeline (Dat)

variable (m : (ℓ : Loc nD τ sig) → Buf (Elt Ideal) ℓ)

theorem V_k (c : Dev nD) (b : Fin 8) (k : Fin 4096) (d : Fin 512) :
    (V m c main_v0 (ix3 b k d) : EReal) = m ((c : Thread nD τ).loc main_arg1) (ix3 b k d) := by
  unfold V
  after_reads_at

theorem V_v (c : Dev nD) (b : Fin 8) (h : Fin 4) (e : Fin 144) (k : Fin 4096) :
    (V m c main_v6 (ix3 b (⟨144 * h + e, by omega⟩ : Fin 576) k) : EReal)
      = if he : (e : ℕ) < 128 then m ((c : Thread nD τ).loc main_arg2) (ix3 b k (⟨128 * h + e, by omega⟩ : Fin 512)) else (1 : EReal) := by
  unfold V
  after_reads_at
  have e1 : (144 * (h : ℕ) + e) / 144 = h := by omega
  have e2 : (144 * (h : ℕ) + e) % 144 = e := by omega
  split
  · rw [dif_pos (by omega)]
    after_reads_at
    congr 3
    omega
  · rw [dif_neg (by omega)]
    after_reads_at

theorem V_g (c : Dev nD) (e : Fin 128) :
    (V m c main_v22 (ix2 (0 : Fin 1) e) : EReal) = m ((c : Thread nD τ).loc main_arg7) (ix2 (0 : Fin 1) e) := by
  unfold V
  after_reads_at

theorem idx : ∀ t : Fin cfg0.N, win0_0.index t = ![0, 0] ∧ win0_1.index t = ![t.val / 16, t.val % 4, t.val / 4 % 4]
    ∧ win0_2.index t = ![t.val / 16, 0, t.val / 4 % 4] ∧ win0_3.index t = ![t.val / 16, t.val / 4 % 4, 0]
    ∧ win0_4.index t = ![0, 0] ∧ win0_5.index t = ![t.val / 16, t.val % 4, t.val / 4 % 4] :=
  (by decide +kernel : ∀ t : Fin grid0.N, _)

/-- The three staged windows' blocks of any array, at an index. -/
theorem read_q (t : Fin cfg0.N) (A : Vec Ideal S8x4096x512 .f32) (b : Fin 8) (h i : Fin 4) (ht : t.val = 16 * b + 4 * h + i) (r : Fin 1024) (d : Fin 128) :
    (((cfg0.win 1).blk t).view.read (Elt Ideal) A (ix3 (0 : Fin 1) r d) : EReal)
      = A (ix3 b (⟨1024 * i + r, by omega⟩ : Fin 4096) (⟨128 * h + d, by omega⟩ : Fin 512)) := by
  blk_ext [idx t]

theorem read_k (t : Fin cfg0.N) (A : Vec Ideal S8x4096x512 .bf16) (b : Fin 8) (h i : Fin 4) (ht : t.val = 16 * b + 4 * h + i) (k : Fin 4096) (d : Fin 128) :
    (((cfg0.win 2).blk t).view.read (Elt Ideal) A (ix3 (0 : Fin 1) k d) : EReal)
      = A (ix3 b k (⟨128 * h + d, by omega⟩ : Fin 512)) := by
  blk_ext [idx t]

theorem read_v (t : Fin cfg0.N) (A : Vec Ideal S8x576x4096 .bf16) (b : Fin 8) (h i : Fin 4) (ht : t.val = 16 * b + 4 * h + i) (e : Fin 144) (k : Fin 4096) :
    (((cfg0.win 3).blk t).view.read (Elt Ideal) A (ix3 (0 : Fin 1) e k) : EReal)
      = A (ix3 b (⟨144 * h + e, by omega⟩ : Fin 576) k) := by
  blk_ext [idx t]

theorem read_tab (t : Fin cfg0.N) (A : Vec Ideal S8x128 .f32) (r : Fin 8) (d : Fin 128) :
    (((cfg0.win 0).blk t).view.read (Elt Ideal) A (ix2 r d) : EReal) = A (ix2 r d) := by
  blk_ext [idx t]

theorem read_g (t : Fin cfg0.N) (A : Vec Ideal S1x128 .f32) (e : Fin 128) :
    (((cfg0.win 4).blk t).view.read (Elt Ideal) A (ix2 (0 : Fin 1) e) : EReal) = A (ix2 (0 : Fin 1) e) := by
  blk_ext [idx t]

end Cert.KernelIdeal.Attn

end
-- ==== Proof.Attn.Table.lean ====
/-
  The table of the four coefficient vectors, as the attention call finds it: each vector in a row's first 64 lanes, zeros beyond.
-/
module

public import proofs.«01_k».proof.Proof.Attn.Block
public import Idealize.ShloMosaic.Lib.StableHlo.ReadAt
public import Idealize.ShloMosaic.Lib.Routing.OpsPair
public import Idealize.ShloMosaic.Lib.Routing.OpsSet

@[expose] public section

set_option maxRecDepth 16384

noncomputable section

namespace Cert.KernelIdeal.Attn

open Idealize.ShloMosaic Idealize.ShloMosaic.TcCoe Idealize.ShloMosaic.Routing Idealize.SL.Sem Cert.KernelIdeal Cert.KernelIdeal.Gen Cert.Attn

variable (m : (ℓ : Loc nD τ sig) → Buf (Elt Ideal) ℓ)

/-- An update's element lands where it stands when the start indices are zeros. -/
theorem lands (ind : IVec S2 32) (hi : ∀ a, ind a = 0#32) (p : Fin 4) (q : Fin 64) (r : Fin 8) (d : Fin 128) :
    scatter_S8x128_S2_S4x64_01_n_01_0.resultIdx? (ix2 p q) ind = some (ix2 r d) ↔ (p : ℕ) = r ∧ (q : ℕ) = d := by
  have hi' : ind = fun _ => 0#32 := funext hi
  have h0 : scatter_S8x128_S2_S4x64_01_n_01_0.start (ix2 p q) ind 0 = 0 := by
    unfold ScatterDims.start; subst hi'; split <;> rfl
  have h1 : scatter_S8x128_S2_S4x64_01_n_01_0.start (ix2 p q) ind 1 = 0 := by
    unfold ScatterDims.start; subst hi'; split <;> rfl
  have w0 : scatter_S8x128_S2_S4x64_01_n_01_0.window (ix2 p q) 0 = p := rfl
  have w1 : scatter_S8x128_S2_S4x64_01_n_01_0.window (ix2 p q) 1 = q := rfl
  refine (resultIdx?_ix2 _ _ _ r d).trans ?_
  rw [h0, h1, w0, w1]
  omega

theorem scatter_apply (x : FVec Ideal S8x128 .f32) (ind : IVec S2 32) (hi : ∀ a, ind a = 0#32) (u : FVec Ideal S4x64 .f32) (r : Fin 8) (d : Fin 128) :
    Host.scatter scatter_S8x128_S2_S4x64_01_n_01_0 (fun _ b => b) x ind u (ix2 r d)
      = if h : (r : ℕ) < 4 ∧ (d : ℕ) < 64 then u (ix2 (⟨r, h.1⟩ : Fin 4) (⟨d, h.2⟩ : Fin 64)) else x (ix2 r d) := by
  split
  · rename_i h
    refine scatter_set_hit _ _ _ _ _ _ (fun k hk => ?_) (ix2 (⟨r, h.1⟩ : Fin 4) (⟨d, h.2⟩ : Fin 64)) ((lands ind hi _ _ r d).2 ⟨rfl, rfl⟩)
    idx_vars k
    obtain ⟨e1, e2⟩ := (lands ind hi k0 k1 r d).1 hk
    obtain rfl : k0 = (⟨r, h.1⟩ : Fin 4) := Fin.ext e1
    obtain rfl : k1 = (⟨d, h.2⟩ : Fin 64) := Fin.ext e2
    rfl
  · rename_i h
    refine scatter_set_miss _ _ _ _ _ fun k hk => ?_
    idx_vars k
    obtain ⟨e1, e2⟩ := (lands ind hi k0 k1 r d).1 hk
    omega

theorem V_tab (c : Dev nD) (r : Fin 8) (d : Fin 128) :
    (V m c main_v20 (ix2 r d) : EReal)
      = if h : (r : ℕ) < 4 ∧ (d : ℕ) < 64 then
          (![m ((c : Thread nD τ).loc main_arg3), m ((c : Thread nD τ).loc main_arg4), m ((c : Thread nD τ).loc main_arg5),
            m ((c : Thread nD τ).loc main_arg6)] : Fin 4 → Vec Ideal S1x64 .f32) ⟨r, h.1⟩ (ix2 (0 : Fin 1) (⟨d, h.2⟩ : Fin 64))
        else 0 := by
  unfold V
  after_reads_simp
  refine (scatter_apply _ _ (fun a => ?_) _ _ _).trans ?_
  · idx_vars a
    after_reads_at
    exact ite_self _
  · split
    · rename_i h
      obtain ⟨h1, h2⟩ := h
      obtain ⟨r, hr⟩ := r
      simp only at h1
      interval_cases r
      all_goals after_reads_at
      all_goals after_reads_at
    · pointwise
end Cert.KernelIdeal.Attn

end
-- ==== Proof.Attn.Spec.lean ====
/-
  Differential attention of one layer as one function of real arrays: what both programs are shown to compute.
-/
module

public import proofs.«01_k».proof.Proof.Attn.Block

@[expose] public section

set_option maxRecDepth 16384

noncomputable section

namespace Cert.Attn

open Idealize.ShloMosaic

/-- The offset of the second map's weight. -/
def lam0 : ℝ := ofBits_lam.choose

theorem lam0_eq : Ideal.ofBits .f32 0x3E4CCCCD#32 = (lam0 : EReal) := ofBits_lam.choose_spec

/-- The second map's weight, from the four coefficient vectors. -/
def lam (u₁ w₁ u₂ w₂ : Fin 64 → ℝ) : ℝ :=
  Real.exp (∑ d, u₁ d * w₁ d) - Real.exp (∑ d, u₂ d * w₂ d) + lam0

/-- The score of key `k` for query `s` in half `p` of head `h`. -/
def score (Q K : Fin 8 → Fin 4096 → Fin 512 → ℝ) (b : Fin 8) (h : Fin 4) (p : Fin 2) (s k : Fin 4096) : ℝ :=
  ∑ d : Fin 64, (Q b s ⟨128 * h + 64 * p + d, by omega⟩ * (1 / 8)) * K b k ⟨128 * h + 64 * p + d, by omega⟩

/-- Head `h`'s row for query `s`: the first map's average of the values less `l` times the second's. -/
def row (Q K V : Fin 8 → Fin 4096 → Fin 512 → ℝ) (l : ℝ) (b : Fin 8) (h : Fin 4) (s : Fin 4096) (e : Fin 128) : ℝ :=
  avg (score Q K b h 0 s) (fun k => V b k ⟨128 * h + e, by omega⟩)
    - l * avg (score Q K b h 1 s) (fun k => V b k ⟨128 * h + e, by omega⟩)

/-- The result at head `h`'s lane `e`: the row normed, gained, scaled. -/
def attn (Q K V : Fin 8 → Fin 4096 → Fin 512 → ℝ) (l : ℝ) (g : Fin 128 → EReal) (b : Fin 8) (h : Fin 4) (s : Fin 4096) (e : Fin 128) : EReal :=
  normed (fun f => (row Q K V l b h s f : EReal)) (g e) e

/-- A sum over 128 lanes of which only the first 64 count. -/
theorem sum_low (f : Fin 128 → EReal) (g : Fin 64 → ℝ) (h1 : ∀ d : Fin 64, f ⟨d, by omega⟩ = (g d : EReal))
    (h2 : ∀ d : Fin 64, f ⟨64 + d, by omega⟩ = 0) : (∑ d, f d) = ((∑ d, g d : ℝ) : EReal) := by
  rw [show (∑ d, f d) = (∑ d : Fin 64, f ⟨d, by omega⟩) + ∑ d : Fin 64, f ⟨64 + d, by omega⟩ from Fin.sum_univ_add (a := 64) (b := 64) f]
  simp only [h1, h2, Finset.sum_const_zero, add_zero, coe_sum]

/-- The same where only the last 64 count. -/
theorem sum_high (f : Fin 128 → EReal) (g : Fin 64 → ℝ) (h1 : ∀ d : Fin 64, f ⟨d, by omega⟩ = 0)
    (h2 : ∀ d : Fin 64, f ⟨64 + d, by omega⟩ = (g d : EReal)) : (∑ d, f d) = ((∑ d, g d : ℝ) : EReal) := by
  rw [show (∑ d, f d) = (∑ d : Fin 64, f ⟨d, by omega⟩) + ∑ d : Fin 64, f ⟨64 + d, by omega⟩ from Fin.sum_univ_add (a := 64) (b := 64) f]
  simp only [h1, h2, Finset.sum_const_zero, zero_add, coe_sum]

end Cert.Attn

end
-- ==== Proof.Attn.Kernel.lean ====
/-
  The attention call's result array: at every index the function of Spec.lean, where queries, keys, values and
  coefficients are real.
-/
module

public import proofs.«01_k».proof.Proof.Attn.Host
public import proofs.«01_k».proof.Proof.Attn.Table
public import proofs.«01_k».proof.Proof.Attn.Spec
public import Idealize.ShloMosaic.Lib.Pipeline.Value

@[expose] public section

set_option maxRecDepth 16384

noncomputable section

namespace Cert.KernelIdeal.Attn

open Idealize.ShloMosaic Idealize.ShloMosaic.TcCoe Idealize.SL.Sem Cert.KernelIdeal Cert.KernelIdeal.Gen
open Idealize.ShloMosaic.Pipeline (Dat)
open Cert.Attn (lam lam0_eq row attn normed avg sum_low sum_high coe_sum)

/-- The scale of the queries. -/
theorem scale_eq : Named.named (F := Ideal) κ "q_scale" (φ := .f32) 0x3E38AA3B#32 = (((1 / 8) * (Real.log 2)⁻¹ : ℝ) : EReal) :=
  IdealRules.named_const.ideal_named_scalar _ _ _ _ rfl

theorem lane_lt (d : Fin 64) : IntOp.cmpi .slt (BitVec.ofNat 32 (d : ℕ)) 64#32 = 1#1 := by
  revert d; decide
theorem lane_not_lt (d : Fin 64) : IntOp.cmpi .slt (BitVec.ofNat 32 (64 + d : ℕ)) 64#32 = 0#1 := by
  revert d; decide
theorem lane_ge (d : Fin 64) : IntOp.cmpi .sge (BitVec.ofNat 32 (64 + d : ℕ)) 64#32 = 1#1 := by
  revert d; decide
theorem lane_not_ge (d : Fin 64) : IntOp.cmpi .sge (BitVec.ofNat 32 (d : ℕ)) 64#32 = 0#1 := by
  revert d; decide

theorem pay5_low (x1 : Vec Ideal S1x1024x128 .f32) (r : Fin 1024) (d : Fin 64) :
    k0_pay5 x1 (ix2 r (⟨d, by omega⟩ : Fin 128)) = (x1 (ix3 (0 : Fin 1) r (⟨d, by omega⟩ : Fin 128)) : EReal) * (((1 / 8) * (Real.log 2)⁻¹ : ℝ) : EReal) := by
  pointwise [k0_pay5, k0_pay3, k0_pay4]
  rw [lane_lt, scale_eq]; rfl

theorem pay5_high (x1 : Vec Ideal S1x1024x128 .f32) (r : Fin 1024) (d : Fin 64) :
    k0_pay5 x1 (ix2 r (⟨64 + d, by omega⟩ : Fin 128)) = (0 : EReal) := by
  pointwise [k0_pay5, k0_pay3, k0_pay4]
  rw [lane_not_lt]; rfl

theorem pay6_low (x1 : Vec Ideal S1x1024x128 .f32) (r : Fin 1024) (d : Fin 64) :
    k0_pay6 x1 (ix2 r (⟨d, by omega⟩ : Fin 128)) = (0 : EReal) := by
  pointwise [k0_pay6, k0_pay3, k0_pay4]
  rw [lane_not_ge]; rfl

theorem pay6_high (x1 : Vec Ideal S1x1024x128 .f32) (r : Fin 1024) (d : Fin 64) :
    k0_pay6 x1 (ix2 r (⟨64 + d, by omega⟩ : Fin 128)) = (x1 (ix3 (0 : Fin 1) r (⟨64 + d, by omega⟩ : Fin 128)) : EReal) * (((1 / 8) * (Real.log 2)⁻¹ : ℝ) : EReal) := by
  pointwise [k0_pay6, k0_pay3, k0_pay4]
  rw [lane_ge, scale_eq]; rfl

/-- A score in powers of two, times `log 2`, is the score. -/
theorem log_two (f g : Fin 64 → ℝ) :
    Real.log 2 * ∑ d, g d * (f d * ((1 / 8) * (Real.log 2)⁻¹)) = ∑ d, (f d * (1 / 8)) * g d := by
  have h : Real.log 2 ≠ 0 := (Real.log_pos (by norm_num)).ne'
  rw [Finset.mul_sum]
  exact Finset.sum_congr rfl fun d _ => by field_simp

variable (m : (ℓ : Loc nD τ sig) → Buf (Elt Ideal) ℓ)

/-- Device `c`'s arguments are the given reals. -/
structure Reals (c : Dev nD) (Q K V : Fin 8 → Fin 4096 → Fin 512 → ℝ) (u₁ w₁ u₂ w₂ : Fin 64 → ℝ) : Prop where
  q : ∀ b s d, (m ((c : Thread nD τ).loc main_arg0) (ix3 b s d) : EReal) = (Q b s d : EReal)
  k : ∀ b s d, (m ((c : Thread nD τ).loc main_arg1) (ix3 b s d) : EReal) = (K b s d : EReal)
  v : ∀ b s d, (m ((c : Thread nD τ).loc main_arg2) (ix3 b s d) : EReal) = (V b s d : EReal)
  u₁ : ∀ d, (m ((c : Thread nD τ).loc main_arg3) (ix2 (0 : Fin 1) d) : EReal) = (u₁ d : EReal)
  w₁ : ∀ d, (m ((c : Thread nD τ).loc main_arg4) (ix2 (0 : Fin 1) d) : EReal) = (w₁ d : EReal)
  u₂ : ∀ d, (m ((c : Thread nD τ).loc main_arg5) (ix2 (0 : Fin 1) d) : EReal) = (u₂ d : EReal)
  w₂ : ∀ d, (m ((c : Thread nD τ).loc main_arg6) (ix2 (0 : Fin 1) d) : EReal) = (w₂ d : EReal)

variable {m} {c : Dev nD} {Q K V : Fin 8 → Fin 4096 → Fin 512 → ℝ} {u₁ w₁ u₂ w₂ : Fin 64 → ℝ}

theorem tab_low (t : Fin cfg0.N) (r : Fin 4) (d : Fin 64) :
    (iblk m c 0 t (ix2 (⟨r, by omega⟩ : Fin 8) (⟨d, by omega⟩ : Fin 128)) : EReal)
      = (![m ((c : Thread nD τ).loc main_arg3), m ((c : Thread nD τ).loc main_arg4), m ((c : Thread nD τ).loc main_arg5),
            m ((c : Thread nD τ).loc main_arg6)] : Fin 4 → Vec Ideal S1x64 .f32) r (ix2 (0 : Fin 1) d) := by
  refine (read_tab t _ _ _).trans ((V_tab m c _ _).trans ?_)
  rw [dif_pos ⟨r.isLt, d.isLt⟩]

theorem tab_high (t : Fin cfg0.N) (r : Fin 4) (d : Fin 64) :
    (iblk m c 0 t (ix2 (⟨r, by omega⟩ : Fin 8) (⟨64 + d, by omega⟩ : Fin 128)) : EReal) = (0 : EReal) := by
  refine (read_tab t _ _ _).trans ((V_tab m c _ _).trans ?_)
  rw [dif_neg (by simp)]

/-- The table's lanes of two rows, multiplied and summed, over a row pair `p`, `q` whose 64 lanes are reals. -/
theorem tab_sum (t : Fin cfg0.N) (p q : Fin 4) (u w : Fin 64 → ℝ)
    (hu : ∀ d, (![m ((c : Thread nD τ).loc main_arg3), m ((c : Thread nD τ).loc main_arg4), m ((c : Thread nD τ).loc main_arg5),
            m ((c : Thread nD τ).loc main_arg6)] : Fin 4 → Vec Ideal S1x64 .f32) p (ix2 (0 : Fin 1) d) = (u d : EReal))
    (hw : ∀ d, (![m ((c : Thread nD τ).loc main_arg3), m ((c : Thread nD τ).loc main_arg4), m ((c : Thread nD τ).loc main_arg5),
            m ((c : Thread nD τ).loc main_arg6)] : Fin 4 → Vec Ideal S1x64 .f32) q (ix2 (0 : Fin 1) d) = (w d : EReal))
    (x : Vec Ideal S8x128 .f32) (hx : x = iblk m c 0 t) (p' q' : Fin 8) (hp : p' = ⟨p, by omega⟩) (hq : q' = ⟨q, by omega⟩) :
    (∑ d : Fin 128, (x (ix2 p' d) : EReal) * x (ix2 q' d)) = ((∑ d, u d * w d : ℝ) : EReal) := by
  subst hp hq
  refine sum_low _ _ (fun d => ?_) (fun d => ?_)
  · rw [EReal.coe_mul, ← hu, ← hw, ← tab_low t p d, ← tab_low t q d, hx]
  · have h : x (ix2 (⟨p, by omega⟩ : Fin 8) (⟨64 + d, by omega⟩ : Fin 128)) = (0 : EReal) := by rw [hx]; exact tab_high t p d
    rw [h, zero_mul]

theorem coef_of (x : Vec Ideal S8x128 .f32) (A B : ℝ)
    (h1 : (∑ d : Fin 128, (x (ix2 (0 : Fin 8) d) : EReal) * x (ix2 (1 : Fin 8) d)) = (A : EReal))
    (h2 : (∑ d : Fin 128, (x (ix2 (2 : Fin 8) d) : EReal) * x (ix2 (3 : Fin 8) d)) = (B : EReal)) :
    k0_pay2 x (ix2 (0 : Fin 1) (0 : Fin 1)) = ((Real.exp A - Real.exp B + Cert.Attn.lam0 : ℝ) : EReal) := by
  rw [pay2_apply, h1, h2, lam0_eq, Ideal.exp_coe, Ideal.exp_coe, ← EReal.coe_sub, ← EReal.coe_add]

theorem coef (H : Reals m c Q K V u₁ w₁ u₂ w₂) (t : Fin cfg0.N) :
    k0_pay2 (iblk m c 0 t) (ix2 (0 : Fin 1) (0 : Fin 1)) = (lam u₁ w₁ u₂ w₂ : EReal) :=
  coef_of _ _ _ (tab_sum (c := c) t 0 1 u₁ w₁ H.u₁ H.w₁ _ rfl 0 1 rfl rfl) (tab_sum (c := c) t 2 3 u₂ w₂ H.u₂ H.w₂ _ rfl 2 3 rfl rfl)

/-- The block point `t` leaves, at row `r` and lane `e`. -/
theorem out_apply (H : Reals m c Q K V u₁ w₁ u₂ w₂) (t : Fin cfg0.N) (b : Fin 8) (h i : Fin 4) (ht : t.val = 16 * b + 4 * h + i)
    (r : Fin 1024) (e : Fin 128) :
    out0_5 (iblk m c 0 t) (iblk m c 1 t) (iblk m c 2 t) (iblk m c 3 t) (iblk m c 4 t) (ix3 (0 : Fin 1) r e)
      = attn Q K V (lam u₁ w₁ u₂ w₂) (fun e => m ((c : Thread nD τ).loc main_arg7) (ix2 (0 : Fin 1) e)) b h (⟨1024 * i + r, by omega⟩ : Fin 4096) e := by
  have hk : ∀ k d, (iblk m c 2 t (ix3 (0 : Fin 1) k d) : EReal) = (K b k (⟨128 * h + d, by omega⟩ : Fin 512) : EReal) := fun k d =>
    (read_k t _ b h i ht k d).trans ((V_k m c _ _ _).trans (H.k _ _ _))
  have hq : ∀ d, (iblk m c 1 t (ix3 (0 : Fin 1) r d) : EReal) = (Q b (⟨1024 * i + r, by omega⟩ : Fin 4096) (⟨128 * h + d, by omega⟩ : Fin 512) : EReal) := fun d =>
    (read_q t _ b h i ht r d).trans ((congrFun (V_main_arg0 m c) _).trans (H.q _ _ _))
  have hv : ∀ e k, (iblk m c 3 t (ix3 (0 : Fin 1) e k) : EReal) = ((if he : (e : ℕ) < 128 then V b k (⟨128 * h + e, by omega⟩ : Fin 512) else 1 : ℝ) : EReal) := fun e k => by
    refine (read_v t _ b h i ht e k).trans ((V_v m c b h e k).trans ?_)
    split
    · exact H.v _ _ _
    · rfl
  refine (block_apply _ _ _ _ _ r e (lam u₁ w₁ u₂ w₂)
    (Cert.Attn.score Q K b h 0 (⟨1024 * i + r, by omega⟩ : Fin 4096))
    (fun k => ∑ d : Fin 64, K b k (⟨128 * h + 64 * 0 + d, by omega⟩ : Fin 512) * (Q b (⟨1024 * i + r, by omega⟩ : Fin 4096) (⟨128 * h + 64 * 0 + d, by omega⟩ : Fin 512) * ((1 / 8) * (Real.log 2)⁻¹)))
    (Cert.Attn.score Q K b h 1 (⟨1024 * i + r, by omega⟩ : Fin 4096))
    (fun k => ∑ d : Fin 64, K b k (⟨128 * h + 64 * 1 + d, by omega⟩ : Fin 512) * (Q b (⟨1024 * i + r, by omega⟩ : Fin 4096) (⟨128 * h + 64 * 1 + d, by omega⟩ : Fin 512) * ((1 / 8) * (Real.log 2)⁻¹)))
    (fun e k => if he : (e : ℕ) < 128 then V b k (⟨128 * h + e, by omega⟩ : Fin 512) else 1)
    (coef H t) (fun k => ?_) (fun k => ?_) (fun k => log_two _ _) (fun k => log_two _ _) hv (fun k => dif_neg (by simp))).trans ?_
  · refine sum_low _ _ (fun d => ?_) (fun d => ?_)
    · rw [pay5_low, hk, hq, ← EReal.coe_mul, ← EReal.coe_mul]; rfl
    · rw [pay5_high, mul_zero]
  · refine sum_high _ _ (fun d => ?_) (fun d => ?_)
    · rw [pay6_low, mul_zero]
    · rw [pay6_high, hk, hq, ← EReal.coe_mul, ← EReal.coe_mul]
      have e : (⟨128 * h + (64 + d), by omega⟩ : Fin 512) = ⟨128 * h + 64 * 1 + d, by omega⟩ := Fin.ext (by simp only; omega)
      simp only [e]
  · unfold attn
    have e1 : (iblk m c 4 t (ix2 (0 : Fin 1) e) : EReal) = m ((c : Thread nD τ).loc main_arg7) (ix2 (0 : Fin 1) e) :=
      (read_g t _ e).trans (V_g m c e)
    rw [e1]
    refine congrArg (fun o => normed o _ e) (funext fun f => congrArg _ ?_)
    unfold row
    congr 2 <;> (try congr 1) <;> (funext k; exact dif_pos f.isLt)

/-- The whole result array. -/
def result (Q K V : Fin 8 → Fin 4096 → Fin 512 → ℝ) (l : ℝ) (g : Fin 128 → EReal) : Vec Ideal S8x4096x512 .bf16 := fun i =>
  attn Q K V l g ⟨i 0, (i 0).isLt⟩ ⟨(i 2 : ℕ) / 128, by have : (i 2 : ℕ) < 512 := (i 2).isLt; omega⟩ ⟨i 1, (i 1).isLt⟩ ⟨(i 2 : ℕ) % 128, by omega⟩

/-- The written block of any array, at an index. -/
theorem read_o (t : Fin cfg0.N) (A : Vec Ideal S8x4096x512 .bf16) (b : Fin 8) (h i : Fin 4) (ht : t.val = 16 * b + 4 * h + i) (r : Fin 1024) (d : Fin 128) :
    (((cfg0.win 5).blk t).view.read (Elt Ideal) A (ix3 (0 : Fin 1) r d) : EReal)
      = A (ix3 b (⟨1024 * i + r, by omega⟩ : Fin 4096) (⟨128 * h + d, by omega⟩ : Fin 512)) := by
  blk_ext [idx t]

theorem flushed_eq (H : Reals m c Q K V u₁ w₁ u₂ w₂) (t : Fin cfg0.N) :
    (dats m 0 c).flushed 5 t = ((cfg0.win 5).blk t).view.read (Elt Ideal)
      (result Q K V (lam u₁ w₁ u₂ w₂) (fun e => m ((c : Thread nD τ).loc main_arg7) (ix2 (0 : Fin 1) e))) := by
  show (cfg0.win 5).cut (grid0.coords t) ((dats m 0 c).after 5 t) = _
  rw [after0_5]
  have hN : t.val < 128 := lt_of_lt_of_eq t.isLt N_0
  funext j
  obtain ⟨r, e, rfl⟩ : ∃ (r : Fin 1024) (e : Fin 128), j = ix3 (0 : Fin 1) r e := ⟨j 1, j 2, by
    funext a
    match a with
    | ⟨0, _⟩ => exact Subsingleton.elim (α := Fin 1) _ _
    | ⟨1, _⟩ => rfl
    | ⟨2, _⟩ => rfl⟩
  refine (out_apply H t ⟨t.val / 16, by omega⟩ ⟨t.val / 4 % 4, by omega⟩ ⟨t.val % 4, by omega⟩ (by simp only; omega) r e).trans ?_
  rw [read_o t _ ⟨t.val / 16, by omega⟩ ⟨t.val / 4 % 4, by omega⟩ ⟨t.val % 4, by omega⟩ (by simp only; omega) r e]
  unfold result
  have h1 : (128 * (t.val / 4 % 4) + (e : ℕ)) / 128 = t.val / 4 % 4 := by omega
  have h2 : (128 * (t.val / 4 % 4) + (e : ℕ)) % 128 = e := by omega
  congr 1
  · exact Fin.ext h1.symm
  · exact Fin.ext h2.symm

theorem mem_blk (t : Fin cfg0.N) (i : S8x4096x512.Idx) :
    i ∈ ((cfg0.win 5).blk t).view.set ↔ t.val / 16 = (i 0 : ℕ) ∧ (t.val % 4 * 1024 ≤ (i 1 : ℕ) ∧ (i 1 : ℕ) < t.val % 4 * 1024 + 1024)
      ∧ (t.val / 4 % 4 * 128 ≤ (i 2 : ℕ) ∧ (i 2 : ℕ) < t.val / 4 % 4 * 128 + 128) := by
  show i ∈ ((View.whole main_v23).slice (win0_5.rect t)).set ↔ _
  rw [View.set_slice_whole, Rect.mem_set_unit]
  have e := (idx t).2.2.2.2.2
  have e0 : win0_5.index t 0 * win0_5.size 0 = t.val / 16 ∧ win0_5.xsize (grid0.coords t) 0 = 1 := ⟨by rw [e]; exact Nat.mul_one _, rfl⟩
  have e1 : win0_5.index t 1 * win0_5.size 1 = t.val % 4 * 1024 ∧ win0_5.xsize (grid0.coords t) 1 = 1024 := ⟨by rw [e]; rfl, rfl⟩
  have e2 : win0_5.index t 2 * win0_5.size 2 = t.val / 4 % 4 * 128 ∧ win0_5.xsize (grid0.coords t) 2 = 128 := ⟨by rw [e]; rfl, rfl⟩
  refine ⟨fun h => ?_, fun h a => ?_⟩
  · have q0 : win0_5.index t 0 * win0_5.size 0 ≤ (i 0 : ℕ) ∧ (i 0 : ℕ) < win0_5.index t 0 * win0_5.size 0 + win0_5.xsize (grid0.coords t) 0 := h 0
    have q1 : win0_5.index t 1 * win0_5.size 1 ≤ (i 1 : ℕ) ∧ (i 1 : ℕ) < win0_5.index t 1 * win0_5.size 1 + win0_5.xsize (grid0.coords t) 1 := h 1
    have q2 : win0_5.index t 2 * win0_5.size 2 ≤ (i 2 : ℕ) ∧ (i 2 : ℕ) < win0_5.index t 2 * win0_5.size 2 + win0_5.xsize (grid0.coords t) 2 := h 2
    rw [e0.1, e0.2] at q0; rw [e1.1, e1.2] at q1; rw [e2.1, e2.2] at q2
    exact ⟨by omega, q1, q2⟩
  · match a with
    | ⟨0, _⟩ => show win0_5.index t 0 * win0_5.size 0 ≤ (i 0 : ℕ) ∧ (i 0 : ℕ) < win0_5.index t 0 * win0_5.size 0 + win0_5.xsize (grid0.coords t) 0
                rw [e0.1, e0.2]; omega
    | ⟨1, _⟩ => show win0_5.index t 1 * win0_5.size 1 ≤ (i 1 : ℕ) ∧ (i 1 : ℕ) < win0_5.index t 1 * win0_5.size 1 + win0_5.xsize (grid0.coords t) 1
                rw [e1.1, e1.2]; exact h.2.1
    | ⟨2, _⟩ => show win0_5.index t 2 * win0_5.size 2 ≤ (i 2 : ℕ) ∧ (i 2 : ℕ) < win0_5.index t 2 * win0_5.size 2 + win0_5.xsize (grid0.coords t) 2
                rw [e2.1, e2.2]; exact h.2.2

theorem cover (i : S8x4096x512.Idx) :
    ∃ t : Fin cfg0.N, (cfg0.win 5).flush t = true ∧ i ∈ ((cfg0.win 5).blk t).view.set := by
  have h0 : (i 0 : ℕ) < 8 := (i 0).isLt
  have h1 : (i 1 : ℕ) < 4096 := (i 1).isLt
  have h2 : (i 2 : ℕ) < 512 := (i 2).isLt
  refine ⟨⟨16 * (i 0 : ℕ) + 4 * ((i 2 : ℕ) / 128) + (i 1 : ℕ) / 1024, lt_of_lt_of_eq (by omega) N_0.symm⟩, flush0_5 _, ?_⟩
  rw [mem_blk]
  dsimp only
  omega

theorem final_o (H : Reals m c Q K V u₁ w₁ u₂ w₂) : (dats m 0 c).arrAt 5 cfg0.N
    = result Q K V (lam u₁ w₁ u₂ w₂) (fun e => m ((c : Thread nD τ).loc main_arg7) (ix2 (0 : Fin 1) e)) :=
  (dats m 0 c).arrAt_eq_of_cover 5 _ (fun t _ => flushed_eq H t) cover

end Cert.KernelIdeal.Attn

end
-- ==== Proof.Attn.Ref.lean ====
/-
  The reference's result at an index: the function of Spec.lean, where queries, keys, values and coefficients are real.
-/
module

public import proofs.«01_k».proof.Proof.Gen.ReferenceIdeal.Run
public import proofs.«01_k».proof.Proof.Attn.Spec

@[expose] public section

set_option maxRecDepth 16384

noncomputable section

namespace Cert.ReferenceIdeal.Attn

open Idealize.ShloMosaic Idealize.ShloMosaic.TcCoe Idealize.SL.Sem Cert.ReferenceIdeal Cert.ReferenceIdeal.Gen Cert.ReferenceIdeal.Value
open Cert.Attn (lam lam0_eq row attn normed avg coe_sum fold_max ofBits_ninf ofBits_eighth weight sum_weights)

def scores (q k : FVec Ideal S8x4096x512 .f32) : FVec Ideal S8x4x2x4096x4096 .f32 :=
  Host.dotGeneral (F := Ideal) dot_S8x4096x4x2x64_S8x4096x4x2x64_S8x4x2x4096x4096_4_4_1_1_023_023 none (mulf (shapeCast _ q shapeCasts_S8x4096x512_S8x4096x4x2x64) (broadcastInDim S8x4096x4x2x64 ![] bcast_S_S8x4096x4x2x64 (constant S_ .f32 0x3E000000#32))) (shapeCast _ k shapeCasts_S8x4096x512_S8x4096x4x2x64)

def top (s : FVec Ideal S8x4x2x4096x4096 .f32) : FVec Ideal S8x4x2x4096 .f32 :=
  Host.reduce FloatOps.maximumf s (constant S_ .f32 0xFF800000#32) reducesTo_S8x4x2x4096x4096_S8x4x2x4096_d4 h_S_

def cap (t : FVec Ideal S8x4x2x4096 .f32) : FVec Ideal S8x4x2x4096 .f32 :=
  maximumf (broadcastInDim S8x4x2x4096 ![] bcast_S_S8x4x2x4096 (constant S_ .f32 0xFF800000#32)) t

def spread (t : FVec Ideal S8x4x2x4096 .f32) : FVec Ideal S8x4x2x4096x4096 .f32 :=
  broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 t)

def expo (s : FVec Ideal S8x4x2x4096x4096 .f32) : FVec Ideal S8x4x2x4096x4096 .f32 :=
  Host.exp (subf s (spread (cap (top s))))

def probs (x : FVec Ideal S8x4x2x4096x4096 .f32) : FVec Ideal S8x4x2x4096x4096 .f32 :=
  Host.divf x (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 (Host.reduceAdd x (constant S_ .f32 0x00000000#32) reducesTo_S8x4x2x4096x4096_S8x4x2x4096_d4 h_S_)))

def coef (a3 a4 a5 a6 : Vec Ideal S1x64 .f32) : FVec Ideal S_ .f32 :=
  addf (subf (Host.exp (Host.reduceAdd (mulf (shapeCast _ a3 shapeCasts_S1x64_S64) (shapeCast _ a4 shapeCasts_S1x64_S64)) (constant S_ .f32 0x00000000#32) reducesTo_S64_S_d0 h_S_)) (Host.exp (Host.reduceAdd (mulf (shapeCast _ a5 shapeCasts_S1x64_S64) (shapeCast _ a6 shapeCasts_S1x64_S64)) (constant S_ .f32 0x00000000#32) reducesTo_S64_S_d0 h_S_))) (constant S_ .f32 0x3E4CCCCD#32)

def weights (p : FVec Ideal S8x4x2x4096x4096 .f32) (l : FVec Ideal S_ .f32) : FVec Ideal S8x4x4096x4096 .f32 :=
  subf (shapeCast _ (extractStridedSlice S8x4x1x4096x4096 ![0, 0, 0, 0, 0] p slices_S8x4x2x4096x4096_S8x4x1x4096x4096_0_0_0_0_0) shapeCasts_S8x4x1x4096x4096_S8x4x4096x4096) (mulf (broadcastInDim S8x4x4096x4096 ![] bcast_S_S8x4x4096x4096 l) (shapeCast _ (extractStridedSlice S8x4x1x4096x4096 ![0, 0, 1, 0, 0] p slices_S8x4x2x4096x4096_S8x4x1x4096x4096_0_0_1_0_0) shapeCasts_S8x4x1x4096x4096_S8x4x4096x4096))

def heads (v : FVec Ideal S8x4096x512 .f32) (w : FVec Ideal S8x4x4096x4096 .f32) : FVec Ideal S8x4096x4x128 .f32 :=
  transpose S8x4096x4x128 [0, 3, 1, 2] (Host.dotGeneral (F := Ideal) dot_S8x4096x4x128_S8x4x4096x4096_S8x4x128x4096_1_3_3_2_02_01 none (shapeCast _ v shapeCasts_S8x4096x512_S8x4096x4x128) w) transposes_S8x4x128x4096_S8x4096x4x128_0_3_1_2

def gained (o : FVec Ideal S8x4096x4x128 .f32) (g : Vec Ideal S1x128 .f32) : FVec Ideal S8x4096x512 .bf16 :=
  truncf .bf16 (shapeCast _ (mulf (mulf (mulf o (broadcastInDim S8x4096x4x128 ![0, 1, 2, 3] bcast_S8x4096x4x1_S8x4096x4x128_0_1_2_3 (Host.rsqrt (addf (Host.divf (broadcastInDim S8x4096x4x1 ![0, 1, 2] bcast_S8x4096x4_S8x4096x4x1_0_1_2 (Host.reduceAdd (mulf o o) (constant S_ .f32 0x00000000#32) reducesTo_S8x4096x4x128_S8x4096x4_d3 h_S_)) (broadcastInDim S8x4096x4x1 ![] bcast_S_S8x4096x4x1 (constant S_ .f32 0x43000000#32))) (broadcastInDim S8x4096x4x1 ![] bcast_S_S8x4096x4x1 (constant S_ .f32 0x358637BD#32)))))) (broadcastInDim S8x4096x4x128 ![0, 1, 2, 3] bcast_S1x1x1x128_S8x4096x4x128_0_1_2_3 (broadcastInDim S1x1x1x128 ![3] bcast_S128_S1x1x1x128_3 (shapeCast _ g shapeCasts_S1x128_S128)))) (broadcastInDim S8x4096x4x128 ![] bcast_S_S8x4096x4x128 (constant S_ .f32 0x3F4CCCCD#32))) shapeCasts_S8x4096x4x128_S8x4096x512) bitsLt_bf16_f32

variable (m : (ℓ : Loc nD τ sig) → Buf (Elt Ideal) ℓ) (c : Dev nD)

theorem res_eq : res_out0 m c = gained (heads (m ((c.tc : Thread nD τ).loc main_arg2))
    (weights (probs (expo (scores (m ((c.tc : Thread nD τ).loc main_arg0)) (m ((c.tc : Thread nD τ).loc main_arg1)))))
      (coef (m ((c.tc : Thread nD τ).loc main_arg3)) (m ((c.tc : Thread nD τ).loc main_arg4)) (m ((c.tc : Thread nD τ).loc main_arg5)) (m ((c.tc : Thread nD τ).loc main_arg6)))))
    (m ((c.tc : Thread nD τ).loc main_arg7)) := by
  unfold res_out0 res_main_v55
  with_unfolding_all rfl

theorem scores_apply (q k : FVec Ideal S8x4096x512 .f32) (b : Fin 8) (h : Fin 4) (p : Fin 2) (s j : Fin 4096) :
    scores q k (ix5 b h p s j) = ∑ d : Fin 64, ((q (ix3 b s (⟨128 * h + 64 * p + d, by omega⟩ : Fin 512)) : EReal) * Ideal.ofBits .f32 0x3E000000#32)
      * k (ix3 b j (⟨128 * h + 64 * p + d, by omega⟩ : Fin 512)) := by
  unfold scores
  pointwise
  refine Finset.sum_congr rfl fun d _ => ?_
  simp only [show (h : ℕ) * 128 + (p : ℕ) * 64 + (d : ℕ) = 128 * h + 64 * p + d by omega]

theorem top_apply (x : FVec Ideal S8x4x2x4096x4096 .f32) (b : Fin 8) (h : Fin 4) (p : Fin 2) (s : Fin 4096) :
    top x (ix4 b h p s) = Finset.fold max ⊥ (fun j => (x (ix5 b h p s j) : EReal)) Finset.univ := by
  unfold top
  rw [← ofBits_ninf]
  pointwise

theorem cap_apply (t : FVec Ideal S8x4x2x4096 .f32) (b : Fin 8) (h : Fin 4) (p : Fin 2) (s : Fin 4096) :
    cap t (ix4 b h p s) = max ⊥ (t (ix4 b h p s) : EReal) := by
  rw [← ofBits_ninf]
  rfl

theorem spread_apply (t : FVec Ideal S8x4x2x4096 .f32) (b : Fin 8) (h : Fin 4) (p : Fin 2) (s j : Fin 4096) :
    spread t (ix5 b h p s j) = t (ix4 b h p s) := by
  unfold spread
  pointwise

theorem expo_apply (x : FVec Ideal S8x4x2x4096x4096 .f32) (b : Fin 8) (h : Fin 4) (p : Fin 2) (s j : Fin 4096) :
    expo x (ix5 b h p s j) = Ideal.exp (x (ix5 b h p s j) - max ⊥ (top x (ix4 b h p s))) := by
  rw [← cap_apply, ← spread_apply (cap (top x)) b h p s j]
  rfl

theorem probs_apply (x : FVec Ideal S8x4x2x4096x4096 .f32) (b : Fin 8) (h : Fin 4) (p : Fin 2) (s j : Fin 4096) :
    probs x (ix5 b h p s j) = Ideal.div (x (ix5 b h p s j)) (0 + ∑ j, x (ix5 b h p s j)) := by
  unfold probs
  pointwise

theorem coef_apply (a3 a4 a5 a6 : Vec Ideal S1x64 .f32) :
    coef a3 a4 a5 a6 ix0 = Ideal.exp (0 + ∑ d : Fin 64, (a3 (ix2 (0 : Fin 1) d) : EReal) * a4 (ix2 (0 : Fin 1) d))
      - Ideal.exp (0 + ∑ d : Fin 64, (a5 (ix2 (0 : Fin 1) d) : EReal) * a6 (ix2 (0 : Fin 1) d)) + Ideal.ofBits .f32 0x3E4CCCCD#32 := by
  unfold coef
  pointwise

theorem weights_apply (p : FVec Ideal S8x4x2x4096x4096 .f32) (l : FVec Ideal S_ .f32) (b : Fin 8) (h : Fin 4) (s j : Fin 4096) :
    weights p l (ix4 b h s j) = p (ix5 b h (0 : Fin 2) s j) - l ix0 * p (ix5 b h (1 : Fin 2) s j) := by
  unfold weights
  pointwise

theorem heads_apply (v : FVec Ideal S8x4096x512 .f32) (w : FVec Ideal S8x4x4096x4096 .f32) (b : Fin 8) (s : Fin 4096) (h : Fin 4) (e : Fin 128) :
    heads v w (ix4 b s h e) = ∑ j : Fin 4096, (v (ix3 b j (⟨128 * h + e, by omega⟩ : Fin 512)) : EReal) * w (ix4 b h s j) := by
  unfold heads
  pointwise
  simp only [show (h : ℕ) * 128 + (e : ℕ) = 128 * h + e by omega]

theorem gained_apply (o : FVec Ideal S8x4096x4x128 .f32) (g : Vec Ideal S1x128 .f32) (b : Fin 8) (s : Fin 4096) (d : Fin 512) :
    gained o g (ix3 b s d) = normed (fun e => o (ix4 b s (⟨d / 128, by omega⟩ : Fin 4) e)) (g (ix2 (0 : Fin 1) (⟨d % 128, by omega⟩ : Fin 128))) ⟨d % 128, by omega⟩ := by
  unfold gained normed
  pointwise

variable {Q K V : Fin 8 → Fin 4096 → Fin 512 → ℝ} {u₁ w₁ u₂ w₂ : Fin 64 → ℝ}

theorem scores_real (q k : FVec Ideal S8x4096x512 .f32) (hq : ∀ b s d, (q (ix3 b s d) : EReal) = (Q b s d : EReal))
    (hk : ∀ b s d, (k (ix3 b s d) : EReal) = (K b s d : EReal)) (b : Fin 8) (h : Fin 4) (p : Fin 2) (s j : Fin 4096) :
    scores q k (ix5 b h p s j) = (Cert.Attn.score Q K b h p s j : EReal) := by
  rw [scores_apply]
  simp only [hq, hk, ofBits_eighth, ← EReal.coe_mul, coe_sum]
  rfl

/-- One softmax weight, from real scores. -/
theorem probs_real (x : FVec Ideal S8x4x2x4096x4096 .f32) (b : Fin 8) (h : Fin 4) (p : Fin 2) (s : Fin 4096) (f : Fin 4096 → ℝ)
    (hx : ∀ j, (x (ix5 b h p s j) : EReal) = (f j : EReal)) (j : Fin 4096) :
    probs (expo x) (ix5 b h p s j) = ((Real.exp (f j) / ∑ i, Real.exp (f i) : ℝ) : EReal) := by
  obtain ⟨M, hM⟩ := fold_max f
  have ht : max ⊥ (top x (ix4 b h p s)) = (M : EReal) := by
    rw [top_apply, max_eq_right bot_le, ← hM]
    simp only [hx]
  rw [probs_apply]
  simp only [expo_apply, ht, hx]
  exact weight (by norm_num) f M j

theorem coef_real (a3 a4 a5 a6 : Vec Ideal S1x64 .f32)
    (h3 : ∀ d, (a3 (ix2 (0 : Fin 1) d) : EReal) = (u₁ d : EReal)) (h4 : ∀ d, (a4 (ix2 (0 : Fin 1) d) : EReal) = (w₁ d : EReal))
    (h5 : ∀ d, (a5 (ix2 (0 : Fin 1) d) : EReal) = (u₂ d : EReal)) (h6 : ∀ d, (a6 (ix2 (0 : Fin 1) d) : EReal) = (w₂ d : EReal)) :
    coef a3 a4 a5 a6 ix0 = (lam u₁ w₁ u₂ w₂ : EReal) := by
  rw [coef_apply]
  simp only [h3, h4, h5, h6, ← EReal.coe_mul, coe_sum, zero_add, Ideal.exp_coe, lam0_eq, ← EReal.coe_sub, ← EReal.coe_add]
  rfl

theorem heads_real (v : FVec Ideal S8x4096x512 .f32) (x : FVec Ideal S8x4x2x4096x4096 .f32) (l : FVec Ideal S_ .f32) (r : ℝ)
    (hv : ∀ b s d, (v (ix3 b s d) : EReal) = (V b s d : EReal)) (hl : l ix0 = (r : EReal))
    (hx : ∀ b h p s j, (x (ix5 b h p s j) : EReal) = (Cert.Attn.score Q K b h p s j : EReal))
    (b : Fin 8) (s : Fin 4096) (h : Fin 4) (e : Fin 128) :
    heads v (weights (probs (expo x)) l) (ix4 b s h e) = (row Q K V r b h s e : EReal) := by
  rw [heads_apply]
  simp only [weights_apply, hl, hv, probs_real x b h 0 s _ (hx b h 0 s), probs_real x b h 1 s _ (hx b h 1 s)]
  exact sum_weights _ _ _ _

theorem res_apply (hq : ∀ b s d, (m ((c : Thread nD τ).loc main_arg0) (ix3 b s d) : EReal) = (Q b s d : EReal))
    (hk : ∀ b s d, (m ((c : Thread nD τ).loc main_arg1) (ix3 b s d) : EReal) = (K b s d : EReal))
    (hv : ∀ b s d, (m ((c : Thread nD τ).loc main_arg2) (ix3 b s d) : EReal) = (V b s d : EReal))
    (h3 : ∀ d, (m ((c : Thread nD τ).loc main_arg3) (ix2 (0 : Fin 1) d) : EReal) = (u₁ d : EReal))
    (h4 : ∀ d, (m ((c : Thread nD τ).loc main_arg4) (ix2 (0 : Fin 1) d) : EReal) = (w₁ d : EReal))
    (h5 : ∀ d, (m ((c : Thread nD τ).loc main_arg5) (ix2 (0 : Fin 1) d) : EReal) = (u₂ d : EReal))
    (h6 : ∀ d, (m ((c : Thread nD τ).loc main_arg6) (ix2 (0 : Fin 1) d) : EReal) = (w₂ d : EReal))
    (b : Fin 8) (s : Fin 4096) (d : Fin 512) :
    (res_out0 m c (ix3 b s d) : EReal) = attn Q K V (lam u₁ w₁ u₂ w₂) (fun e => m ((c : Thread nD τ).loc main_arg7) (ix2 (0 : Fin 1) e))
      b ⟨d / 128, by omega⟩ s ⟨d % 128, by omega⟩ := by
  rw [res_eq]
  refine (gained_apply _ _ b s d).trans ?_
  unfold attn
  refine congrArg (fun o => normed o _ _) (funext fun e => ?_)
  exact heads_real _ _ _ _ hv (coef_real _ _ _ _ h3 h4 h5 h6) (scores_real _ _ hq hk) b s _ e

end Cert.ReferenceIdeal.Attn

end
-- ==== Proof.Attn.Claims.lean ====
/-
  The claims about the attention call: finite arguments are reals, and on those the call and the reference agree.
-/
module

public import proofs.«01_k».proof.Defs
public import proofs.«01_k».proof.Proof.Gen.Pre_finite
public import proofs.«01_k».proof.Proof.Attn.Kernel
public import proofs.«01_k».proof.Proof.Attn.Ref
public import Idealize.ShloMosaic.Lib.Quiescent

@[expose] public section

set_option maxRecDepth 16384

noncomputable section

namespace Cert.Proof.AttnClaims

open Idealize.ShloMosaic Idealize.ShloMosaic.TcCoe Idealize.SL.Sem
open Cert.Attn (lam)

theorem ofBits_pinf : Ideal.ofBits .f32 0x7F800000#32 = ⊤ := by simp [Ideal.ofBits, Ideal.ieee]

/-- An extended real of magnitude below infinity is a real. -/
theorem real_of {s : Shape} (x : FVec Ideal s .f32)
    (h : cmpf (F := Ideal) .olt (Host.absf x) (fun _ => Ideal.ofBits .f32 0x7F800000#32) = fun _ => 1#1) (i : s.Idx) : (x i : EReal) = ((x i : EReal).toReal : EReal) := by
  have h1 := congrFun h i
  have h2 : (Ideal.cmp .olt (max (x i : EReal) (-(x i : EReal))) (Ideal.ofBits .f32 0x7F800000#32)) = 1#1 := h1
  rw [ofBits_pinf] at h2
  have h3 : max (x i : EReal) (-(x i : EReal)) < ⊤ := by
    by_contra hc
    simp [Ideal.cmp, hc] at h2
  refine (EReal.coe_toReal ?_ ?_).symm
  · intro e; rw [e] at h3; simp at h3
  · intro e; rw [e] at h3; simp at h3

theorem preserves : Cert.preserves_Kernel_KernelIdeal :=
  IdealRules.named_const.statement Cert.KernelIdeal.κ "q_scale" .f32 0x3E38AA3B#32 (((1 / 8) * (Real.log 2)⁻¹ : ℝ) : EReal) rfl

theorem frame_ref : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have H : ∀ c : Dev Cert.KernelIdeal.nD, Cert.KernelIdeal.Attn.Reals m c
      (fun b s d => (m ((c : Thread Cert.KernelIdeal.nD Cert.KernelIdeal.τ).loc Cert.KernelIdeal.main_arg0) (ix3 b s d) : EReal).toReal)
      (fun b s d => (m ((c : Thread Cert.KernelIdeal.nD Cert.KernelIdeal.τ).loc Cert.KernelIdeal.main_arg1) (ix3 b s d) : EReal).toReal)
      (fun b s d => (m ((c : Thread Cert.KernelIdeal.nD Cert.KernelIdeal.τ).loc Cert.KernelIdeal.main_arg2) (ix3 b s d) : EReal).toReal)
      (fun d => (m ((c : Thread Cert.KernelIdeal.nD Cert.KernelIdeal.τ).loc Cert.KernelIdeal.main_arg3) (ix2 (0 : Fin 1) d) : EReal).toReal)
      (fun d => (m ((c : Thread Cert.KernelIdeal.nD Cert.KernelIdeal.τ).loc Cert.KernelIdeal.main_arg4) (ix2 (0 : Fin 1) d) : EReal).toReal)
      (fun d => (m ((c : Thread Cert.KernelIdeal.nD Cert.KernelIdeal.τ).loc Cert.KernelIdeal.main_arg5) (ix2 (0 : Fin 1) d) : EReal).toReal)
      (fun d => (m ((c : Thread Cert.KernelIdeal.nD Cert.KernelIdeal.τ).loc Cert.KernelIdeal.main_arg6) (ix2 (0 : Fin 1) d) : EReal).toReal) := fun c => by
    obtain ⟨h0, h1, h2, h3, h4, h5, h6⟩ := hpre c
    exact ⟨fun b s d => real_of (s := Cert.Pre_finite.S8x4096x512) _ h0 (ix3 b s d), fun b s d => real_of (s := Cert.Pre_finite.S8x4096x512) _ h1 (ix3 b s d),
      fun b s d => real_of (s := Cert.Pre_finite.S8x4096x512) _ h2 (ix3 b s d), fun d => real_of (s := Cert.Pre_finite.S1x64) _ h3 (ix2 (0 : Fin 1) d),
      fun d => real_of (s := Cert.Pre_finite.S1x64) _ h4 (ix2 (0 : Fin 1) d), fun d => real_of (s := Cert.Pre_finite.S1x64) _ h5 (ix2 (0 : Fin 1) d),
      fun d => real_of (s := Cert.Pre_finite.S1x64) _ h6 (ix2 (0 : Fin 1) d)⟩
  refine ⟨fun c => (Cert.KernelIdeal.Gen.dats m 0 c).arrAt 5 Cert.KernelIdeal.cfg0.N, ?_, ?_⟩
  · exact (θ_run Cert.KernelIdeal.defs _ _).mono
      (fun r h c => ⟨(h.1 c).1 5, h.2.1 c⟩)
      (θ_run_and (Cert.KernelIdeal.Gen.run_main m g) (Cert.KernelIdeal.Gen.frame m g))
  · refine (θ_run Cert.ReferenceIdeal.defs _ _).mono (fun r h c => ⟨(h c).1.trans ?_, (h c).2⟩) (Cert.ReferenceIdeal.Value.run (F := Ideal) m' g')
    obtain ⟨a0, a1, a2, a3, a4, a5, a6, a7⟩ := hargs c
    have K := H c
    refine Eq.trans ?_ (Cert.KernelIdeal.Attn.final_o K).symm
    funext i
    have e := Cert.ReferenceIdeal.Attn.res_apply m' c (fun b s d => (congrFun a0 _).trans (K.q b s d)) (fun b s d => (congrFun a1 _).trans (K.k b s d))
      (fun b s d => (congrFun a2 _).trans (K.v b s d)) (fun d => (congrFun a3 _).trans (K.u₁ d)) (fun d => (congrFun a4 _).trans (K.w₁ d))
      (fun d => (congrFun a5 _).trans (K.u₂ d)) (fun d => (congrFun a6 _).trans (K.w₂ d)) ⟨i 0, (i 0).isLt⟩ ⟨i 1, (i 1).isLt⟩ ⟨i 2, (i 2).isLt⟩
    rw [a7] at e
    have hi : i = ix3 (⟨i 0, (i 0).isLt⟩ : Fin 8) (⟨i 1, (i 1).isLt⟩ : Fin 4096) (⟨i 2, (i 2).isLt⟩ : Fin 512) := by
      funext a
      match a with
      | ⟨0, _⟩ => rfl
      | ⟨1, _⟩ => rfl
      | ⟨2, _⟩ => rfl
    exact (congrArg _ hi).trans e

end Cert.Proof.AttnClaims

end
-- ==== Proof.Experts.Body.lean ====
/-
  The experts kernel's body at one grid point, on any whole buffers: what it leaves in the output tile and in
  the three weight scratches, in the three cases the two table words decide.
-/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Every eighth row from row `r`, all 128 lanes. -/
abbrev row0 : Rect S4096x128 := ⟨⟨![0, 0], S512x128.size, ![8, 1], inb_S4096x128_S512x128_0_0_s_8_1⟩, spos_8_1⟩
abbrev row1 : Rect S4096x128 := ⟨⟨![1, 0], S512x128.size, ![8, 1], inb_S4096x128_S512x128_1_0_s_8_1⟩, spos_8_1⟩
abbrev row2 : Rect S4096x128 := ⟨⟨![2, 0], S512x128.size, ![8, 1], inb_S4096x128_S512x128_2_0_s_8_1⟩, spos_8_1⟩
abbrev row3 : Rect S4096x128 := ⟨⟨![3, 0], S512x128.size, ![8, 1], inb_S4096x128_S512x128_3_0_s_8_1⟩, spos_8_1⟩
abbrev row4 : Rect S4096x128 := ⟨⟨![4, 0], S512x128.size, ![8, 1], inb_S4096x128_S512x128_4_0_s_8_1⟩, spos_8_1⟩
abbrev row5 : Rect S4096x128 := ⟨⟨![5, 0], S512x128.size, ![8, 1], inb_S4096x128_S512x128_5_0_s_8_1⟩, spos_8_1⟩
abbrev row6 : Rect S4096x128 := ⟨⟨![6, 0], S512x128.size, ![8, 1], inb_S4096x128_S512x128_6_0_s_8_1⟩, spos_8_1⟩
abbrev row7 : Rect S4096x128 := ⟨⟨![7, 0], S512x128.size, ![8, 1], inb_S4096x128_S512x128_7_0_s_8_1⟩, spos_8_1⟩
/-- The whole of a buffer, as a rectangle. -/
abbrev wg3 : Rect S1x1024x256 := Rect.unit (s := S1x1024x256) ![0, 0, 0] S1x1024x256.size inb_S1x1024x256_S1x1024x256_0_0_0
abbrev wd3 : Rect S1x256x1024 := Rect.unit (s := S1x256x1024) ![0, 0, 0] S1x256x1024.size inb_S1x256x1024_S1x256x1024_0_0_0
abbrev wg2 : Rect S1024x256 := Rect.unit (s := S1024x256) ![0, 0] S1024x256.size inb_S1024x256_S1024x256_0_0
abbrev wd2 : Rect S256x1024 := Rect.unit (s := S256x1024) ![0, 0] S256x1024.size inb_S256x1024_S256x1024_0_0
abbrev xy2 : Rect S4096x128 := Rect.unit (s := S4096x128) ![0, 0] S4096x128.size inb_S4096x128_S4096x128_0_0

/-- The tile's result as rows of 1024. -/
def yRows (x : Vec F S4096x128 .f32) (a b : FVec F S1024x256 .bf16) (d : FVec F S256x1024 .bf16) : FVec F S512x1024 .f32 :=
  k0_pay11 (View.ld x row0) (View.ld x row1) (View.ld x row2) (View.ld x row3) (View.ld x row4) (View.ld x row5) (View.ld x row6) (View.ld x row7) a b d

/-- The tile's result as the eight stores lay it out. -/
def yTile (v : FVec F S512x1024 .f32) : Vec F S4096x128 .f32 :=
  View.canon [⟨row7, k0_pay9 v⟩, ⟨row6, k0_pay8 v⟩, ⟨row5, k0_pay7 v⟩, ⟨row4, k0_pay6 v⟩, ⟨row3, k0_pay5 v⟩, ⟨row2, k0_pay4 v⟩,
    ⟨row1, extractStridedSlice S512x128 ![0, 128] v slices_S512x1024_o0_128_S512x128⟩,
    ⟨row0, extractStridedSlice S512x128 ![0, 0] v slices_S512x1024_o0_0_S512x128⟩]

theorem h_S1 : 0 < S1.numel := by decide

/-- The count of active tiles, the tile's expert and the preceding tile's, as the body reads them off the tables. -/
abbrev wN (na : Vec F S1 .i32) : BitVec 32 := View.ld na (Rect.unit (s := S1) ![0] S1.size inb_S1_S1_0) (Shape.Idx.first h_S1)
abbrev wE (i : grid0.Coords) (te : Vec F S160 .i32) : BitVec 32 := View.ld te (Rect.unit (s := S160) (k0_off1 i) S1.size (k0_off1_inb i)) (Shape.Idx.first h_S1)
abbrev wP (i : grid0.Coords) (te : Vec F S160 .i32) : BitVec 32 := View.ld te (Rect.unit (s := S160) (k0_off2 i) S1.size (k0_off2_inb i)) (Shape.Idx.first h_S1)

/-- The body reloads the weights: the tile is active, and it is the first or its expert is not the preceding tile's. -/
abbrev reload (i : grid0.Coords) (v0 v4 v8 : BitVec 32) : BitVec 1 :=
  Scalar.cmpi .ne (Scalar.extui (Scalar.andi (Scalar.cmpi .slt (BitVec.ofNat 32 (i 0).val) v0)
    (Scalar.ori (Scalar.cmpi .eq (BitVec.ofNat 32 (i 0).val) 0#32) (Scalar.cmpi .ne v4 v8)))) 0#32

/-- A row is in the stride from its remainder by eight. -/
theorem mem_row (r : ℕ) (h : ∀ a, S512x128.size a = 0 ∨ (![r, 0] : Fin 2 → Nat) a + (![8, 1] : Fin 2 → Nat) a * (S512x128.size a - 1) < S4096x128.size a)
    (y : S4096x128.Idx) (hy : (y 0).val % 8 = r) :
    y ∈ (⟨⟨![r, 0], S512x128.size, ![8, 1], h⟩, spos_8_1⟩ : Rect S4096x128).set := by
  rw [LoadRect.mem_set]
  have h0 : (y 0).val < 4096 := (y 0).isLt
  have h1 : (y 1).val < 128 := (y 1).isLt
  intro a
  fin_cases a
  · exact ⟨(y 0).val / 8, by show _ < 512; omega, by show (y 0).val = r + 8 * ((y 0).val / 8); omega⟩
  · exact ⟨(y 1).val, h1, by show (y 1).val = 0 + 1 * (y 1).val; omega⟩

/-- The eight strides cover the tile. -/
theorem cover_rows (w0 w1 w2 w3 w4 w5 w6 w7 : Vec F S512x128 .f32) (y : S4096x128.Idx) :
    ∃ p ∈ ([⟨row7, w7⟩, ⟨row6, w6⟩, ⟨row5, w5⟩, ⟨row4, w4⟩, ⟨row3, w3⟩, ⟨row2, w2⟩, ⟨row1, w1⟩, ⟨row0, w0⟩] : List (View.Piece (Elt F) S4096x128 .f32)), y ∈ p.1.set := by
  have hlt : (y 0).val % 8 < 8 := Nat.mod_lt _ (by decide)
  generalize hr : (y 0).val % 8 = r at hlt
  rcases (by omega : r = 0 ∨ r = 1 ∨ r = 2 ∨ r = 3 ∨ r = 4 ∨ r = 5 ∨ r = 6 ∨ r = 7) with h | h | h | h | h | h | h | h <;> subst h
  · exact ⟨⟨row0, w0⟩, by simp, mem_row 0 _ y hr⟩
  · exact ⟨⟨row1, w1⟩, by simp, mem_row 1 _ y hr⟩
  · exact ⟨⟨row2, w2⟩, by simp, mem_row 2 _ y hr⟩
  · exact ⟨⟨row3, w3⟩, by simp, mem_row 3 _ y hr⟩
  · exact ⟨⟨row4, w4⟩, by simp, mem_row 4 _ y hr⟩
  · exact ⟨⟨row5, w5⟩, by simp, mem_row 5 _ y hr⟩
  · exact ⟨⟨row6, w6⟩, by simp, mem_row 6 _ y hr⟩
  · exact ⟨⟨row7, w7⟩, by simp, mem_row 7 _ y hr⟩

/-- A whole-buffer write leaves its payload. -/
theorem read_whole2 {S : Shape} {e : EltTy} (m : Memref sig .tc .vmem S e) (f : m.view.ty.Contents (Elt F)) (off : Fin S.rank → Nat) (h0 : off = fun _ => 0)
    (inb : ∀ a, off a + S.size a ≤ S.size a) (w : S.Idx → Elt F e) :
    m.view.read (Elt F) (m.view.writes (Elt F) f [⟨Rect.unit (s := S) off S.size inb, w⟩]) = w := by
  subst h0
  funext y
  have hy : (Rect.unit (s := S) (fun _ => 0) S.size inb).emb y = y := by
    funext a; apply Fin.ext; rw [Rect.emb_apply]; show 0 + 1 * _ = _; omega
  have hm : y ∈ (Rect.unit (s := S) (fun _ => 0) S.size inb).set := by
    have h := LoadRect.idx_mem (Rect.unit (s := S) (fun _ => 0) S.size inb).toLoadRect y
    exact (show (Rect.unit (s := S) (fun _ => 0) S.size inb).idx y = y from hy) ▸ h
  rw [View.read_writes_apply_eq_canon m.view f y [⟨Rect.unit (s := S) (fun _ => 0) S.size inb, w⟩] ⟨_, List.mem_singleton.mpr rfl, hm⟩]
  have key := View.canon_cons_emb (Rect.unit (s := S) (fun _ => 0) S.size inb) w [] y
  rw [hy] at key
  exact key

theorem zero2 : (![0, 0] : Fin 2 → Nat) = fun _ => 0 := by funext a; fin_cases a <;> rfl

set_option maxHeartbeats 1600000 in
/-- An active tile whose weights are in the scratches. -/
theorem body_keep (c : Dev nD) (E : Set ℕ) (i : grid0.Coords)
    (arg1 : Memref sig .tc .smem S160 .i32) (harg1 : arg1.IsWhole) (arg2 : Memref sig .tc .smem S1 .i32) (harg2 : arg2.IsWhole)
    (arg3 : Memref sig .tc .vmem S4096x128 .f32) (harg3 : arg3.IsWhole)
    (arg4 : Memref sig .tc .vmem S1x1024x256 .f32) (harg4 : arg4.IsWhole) (arg5 : Memref sig .tc .vmem S1x1024x256 .f32) (harg5 : arg5.IsWhole)
    (arg6 : Memref sig .tc .vmem S1x256x1024 .f32) (harg6 : arg6.IsWhole) (arg7 : Memref sig .tc .vmem S4096x128 .f32) (harg7 : arg7.IsWhole)
    (arg8 : Memref sig .tc .vmem S1024x256 .bf16) (harg8 : arg8.IsWhole) (arg9 : Memref sig .tc .vmem S1024x256 .bf16) (harg9 : arg9.IsWhole)
    (arg10 : Memref sig .tc .vmem S256x1024 .bf16) (harg10 : arg10.IsWhole)
    (q1 q2 : PosShare TreeShare) (te : Vec F S160 .i32) (na : Vec F S1 .i32) (x3 : Vec F S4096x128 .f32) (x8 x9 : Vec F S1024x256 .bf16) (x10 : Vec F S256x1024 .bf16)
    (h1 : ¬ reload i (wN na) (wE i te) (wP i te) = 1#1) (h2 : k0_cond2 i (wN na) = 1#1) (h3 : ¬ k0_cond3 i (wN na) = 1#1)
    (K : PUnit → sProp 𝕄) :
    iprop(owns (c : Thread nD τ) arg1 q1 te ∗ owns (c : Thread nD τ) arg2 q2 na
        ∗ owns (c : Thread nD τ) arg3 fullShare (x3)
        ∗ (∃ d, owns (c : Thread nD τ) arg7 fullShare d)
        ∗ owns (c : Thread nD τ) arg8 fullShare (x8)
        ∗ owns (c : Thread nD τ) arg9 fullShare (x9)
        ∗ owns (c : Thread nD τ) arg10 fullShare (x10)
        ∗ (iprop(owns (c : Thread nD τ) arg1 q1 te ∗ owns (c : Thread nD τ) arg2 q2 na
            ∗ owns (c : Thread nD τ) arg3 fullShare (x3)
            ∗ owns (c : Thread nD τ) arg7 fullShare (yTile (yRows x3 (View.ld x8 wg2) (View.ld x9 wg2) (View.ld x10 wd2)))
            ∗ owns (c : Thread nD τ) arg8 fullShare (x8)
            ∗ owns (c : Thread nD τ) arg9 fullShare (x9)
            ∗ owns (c : Thread nD τ) arg10 fullShare (x10)) -∗ K ⟨⟩))
      ⊢ wp frame (wpE (defs₀ (F := F)) Variants.none c none) E
          (cc0_moe_experts i arg1 harg1 arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton]; unfold k0_part1_skel smemLoad smemLoadElt
  unfold owns
  iintro ⟨⟨%f1, %hf1, H1⟩, ⟨%f2, %hf2, H2⟩, ⟨%f3, %hf3, H3⟩, ⟨%d7, %f7, -, H7⟩, ⟨%f8, %hf8, H8⟩, ⟨%f9, %hf9, H9⟩, ⟨%f10, %hf10, H10⟩, Hk⟩
  subst hf1 hf2 hf3 hf8 hf9 hf10
  have hh1 : ¬ Scalar.cmpi .ne (Scalar.extui (Scalar.andi (Scalar.cmpi .slt (BitVec.ofNat 32 (i 0).val) (View.readAt (Elt F) arg2.view (Rect.unit (s := S1) ![0] S1.size inb_S1_S1_0).toLoadRect f2 (Shape.Idx.first h_S1))) (Scalar.ori (Scalar.cmpi .eq (BitVec.ofNat 32 (i 0).val) 0#32) (Scalar.cmpi .ne (View.readAt (Elt F) arg1.view (Rect.unit (s := S160) (k0_off1 i) S1.size (k0_off1_inb i)).toLoadRect f1 (Shape.Idx.first h_S1)) (View.readAt (Elt F) arg1.view (Rect.unit (s := S160) (k0_off2 i) S1.size (k0_off2_inb i)).toLoadRect f1 (Shape.Idx.first h_S1)))))) 0#32 = 1#1 := h1
  have hh2 : k0_cond2 i (View.readAt (Elt F) arg2.view (Rect.unit (s := S1) ![0] S1.size inb_S1_S1_0).toLoadRect f2 (Shape.Idx.first h_S1)) = 1#1 := h2
  have hh3 : ¬ k0_cond3 i (View.readAt (Elt F) arg2.view (Rect.unit (s := S1) ![0] S1.size inb_S1_S1_0).toLoadRect f2 (Shape.Idx.first h_S1)) = 1#1 := h3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists _; isplitr
    swap; · iexact H7
    ipureintro
    exact (View.read_writes_eq_canon _ _ _ (cover_rows _ _ _ _ _ _ _ _)).trans rfl
  isplitl [H8]
  · iexists f8; isplitr; · ipureintro; rfl
    iexact H8
  isplitl [H9]
  · iexists f9; isplitr; · ipureintro; rfl
    iexact H9
  iexists f10; isplitr; · ipureintro; rfl
  iexact H10

set_option maxHeartbeats 1600000 in
/-- A tile past the active ones. -/
theorem body_idle (c : Dev nD) (E : Set ℕ) (i : grid0.Coords)
    (arg1 : Memref sig .tc .smem S160 .i32) (harg1 : arg1.IsWhole) (arg2 : Memref sig .tc .smem S1 .i32) (harg2 : arg2.IsWhole)
    (arg3 : Memref sig .tc .vmem S4096x128 .f32) (harg3 : arg3.IsWhole)
    (arg4 : Memref sig .tc .vmem S1x1024x256 .f32) (harg4 : arg4.IsWhole) (arg5 : Memref sig .tc .vmem S1x1024x256 .f32) (harg5 : arg5.IsWhole)
    (arg6 : Memref sig .tc .vmem S1x256x1024 .f32) (harg6 : arg6.IsWhole) (arg7 : Memref sig .tc .vmem S4096x128 .f32) (harg7 : arg7.IsWhole)
    (arg8 : Memref sig .tc .vmem S1024x256 .bf16) (harg8 : arg8.IsWhole) (arg9 : Memref sig .tc .vmem S1024x256 .bf16) (harg9 : arg9.IsWhole)
    (arg10 : Memref sig .tc .vmem S256x1024 .bf16) (harg10 : arg10.IsWhole)
    (q1 q2 : PosShare TreeShare) (te : Vec F S160 .i32) (na : Vec F S1 .i32)
    (h1 : ¬ reload i (wN na) (wE i te) (wP i te) = 1#1) (h2 : ¬ k0_cond2 i (wN na) = 1#1) (h3 : k0_cond3 i (wN na) = 1#1)
    (K : PUnit → sProp 𝕄) :
    iprop(owns (c : Thread nD τ) arg1 q1 te ∗ owns (c : Thread nD τ) arg2 q2 na
        ∗ (∃ d, owns (c : Thread nD τ) arg7 fullShare d)
        ∗ (iprop(owns (c : Thread nD τ) arg1 q1 te ∗ owns (c : Thread nD τ) arg2 q2 na
            ∗ owns (c : Thread nD τ) arg7 fullShare (k0_pay10)) -∗ K ⟨⟩))
      ⊢ wp frame (wpE (defs₀ (F := F)) Variants.none c none) E
          (cc0_moe_experts i arg1 harg1 arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton]; unfold k0_part1_skel smemLoad smemLoadElt
  unfold owns
  iintro ⟨⟨%f1, %hf1, H1⟩, ⟨%f2, %hf2, H2⟩, ⟨%d7, %f7, -, H7⟩, Hk⟩
  subst hf1 hf2
  have hh1 : ¬ Scalar.cmpi .ne (Scalar.extui (Scalar.andi (Scalar.cmpi .slt (BitVec.ofNat 32 (i 0).val) (View.readAt (Elt F) arg2.view (Rect.unit (s := S1) ![0] S1.size inb_S1_S1_0).toLoadRect f2 (Shape.Idx.first h_S1))) (Scalar.ori (Scalar.cmpi .eq (BitVec.ofNat 32 (i 0).val) 0#32) (Scalar.cmpi .ne (View.readAt (Elt F) arg1.view (Rect.unit (s := S160) (k0_off1 i) S1.size (k0_off1_inb i)).toLoadRect f1 (Shape.Idx.first h_S1)) (View.readAt (Elt F) arg1.view (Rect.unit (s := S160) (k0_off2 i) S1.size (k0_off2_inb i)).toLoadRect f1 (Shape.Idx.first h_S1)))))) 0#32 = 1#1 := h1
  have hh2 : ¬ k0_cond2 i (View.readAt (Elt F) arg2.view (Rect.unit (s := S1) ![0] S1.size inb_S1_S1_0).toLoadRect f2 (Shape.Idx.first h_S1)) = 1#1 := h2
  have hh3 : k0_cond3 i (View.readAt (Elt F) arg2.view (Rect.unit (s := S1) ![0] S1.size inb_S1_S1_0).toLoadRect f2 (Shape.Idx.first h_S1)) = 1#1 := h3
  sl_exec
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  exact read_whole2 _ _ _ zero2 _ _

set_option maxHeartbeats 1600000 in
/-- An active tile whose weights are loaded into the scratches first. -/
theorem body_reload (c : Dev nD) (E : Set ℕ) (i : grid0.Coords)
    (arg1 : Memref sig .tc .smem S160 .i32) (harg1 : arg1.IsWhole) (arg2 : Memref sig .tc .smem S1 .i32) (harg2 : arg2.IsWhole)
    (arg3 : Memref sig .tc .vmem S4096x128 .f32) (harg3 : arg3.IsWhole)
    (arg4 : Memref sig .tc .vmem S1x1024x256 .f32) (harg4 : arg4.IsWhole) (arg5 : Memref sig .tc .vmem S1x1024x256 .f32) (harg5 : arg5.IsWhole)
    (arg6 : Memref sig .tc .vmem S1x256x1024 .f32) (harg6 : arg6.IsWhole) (arg7 : Memref sig .tc .vmem S4096x128 .f32) (harg7 : arg7.IsWhole)
    (arg8 : Memref sig .tc .vmem S1024x256 .bf16) (harg8 : arg8.IsWhole) (arg9 : Memref sig .tc .vmem S1024x256 .bf16) (harg9 : arg9.IsWhole)
    (arg10 : Memref sig .tc .vmem S256x1024 .bf16) (harg10 : arg10.IsWhole)
    (q1 q2 : PosShare TreeShare) (te : Vec F S160 .i32) (na : Vec F S1 .i32) (x3 : Vec F S4096x128 .f32) (x4 x5 : Vec F S1x1024x256 .f32) (x6 : Vec F S1x256x1024 .f32)
    (h1 : reload i (wN na) (wE i te) (wP i te) = 1#1) (h2 : k0_cond2 i (wN na) = 1#1) (h3 : ¬ k0_cond3 i (wN na) = 1#1)
    (K : PUnit → sProp 𝕄) :
    iprop(owns (c : Thread nD τ) arg1 q1 te ∗ owns (c : Thread nD τ) arg2 q2 na
        ∗ owns (c : Thread nD τ) arg3 fullShare (x3)
        ∗ owns (c : Thread nD τ) arg4 fullShare (x4)
        ∗ owns (c : Thread nD τ) arg5 fullShare (x5)
        ∗ owns (c : Thread nD τ) arg6 fullShare (x6)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 q1 te ∗ owns (c : Thread nD τ) arg2 q2 na
            ∗ owns (c : Thread nD τ) arg3 fullShare (x3)
            ∗ owns (c : Thread nD τ) arg4 fullShare (x4)
            ∗ owns (c : Thread nD τ) arg5 fullShare (x5)
            ∗ owns (c : Thread nD τ) arg6 fullShare (x6)
            ∗ owns (c : Thread nD τ) arg7 fullShare (yTile (yRows x3 (k0_pay1 (View.ld x4 wg3)) (k0_pay2 (View.ld x5 wg3)) (k0_pay3 (View.ld x6 wd3))))
            ∗ owns (c : Thread nD τ) arg8 fullShare (k0_pay1 (View.ld x4 wg3))
            ∗ owns (c : Thread nD τ) arg9 fullShare (k0_pay2 (View.ld x5 wg3))
            ∗ owns (c : Thread nD τ) arg10 fullShare (k0_pay3 (View.ld x6 wd3))) -∗ K ⟨⟩))
      ⊢ wp frame (wpE (defs₀ (F := F)) Variants.none c none) E
          (cc0_moe_experts i arg1 harg1 arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton]; unfold k0_part1_skel smemLoad smemLoadElt
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf1 hf2 hf3 hf4 hf5 hf6
  have hh1 : Scalar.cmpi .ne (Scalar.extui (Scalar.andi (Scalar.cmpi .slt (BitVec.ofNat 32 (i 0).val) (View.readAt (Elt F) arg2.view (Rect.unit (s := S1) ![0] S1.size inb_S1_S1_0).toLoadRect f2 (Shape.Idx.first h_S1))) (Scalar.ori (Scalar.cmpi .eq (BitVec.ofNat 32 (i 0).val) 0#32) (Scalar.cmpi .ne (View.readAt (Elt F) arg1.view (Rect.unit (s := S160) (k0_off1 i) S1.size (k0_off1_inb i)).toLoadRect f1 (Shape.Idx.first h_S1)) (View.readAt (Elt F) arg1.view (Rect.unit (s := S160) (k0_off2 i) S1.size (k0_off2_inb i)).toLoadRect f1 (Shape.Idx.first h_S1)))))) 0#32 = 1#1 := h1
  have hh2 : k0_cond2 i (View.readAt (Elt F) arg2.view (Rect.unit (s := S1) ![0] S1.size inb_S1_S1_0).toLoadRect f2 (Shape.Idx.first h_S1)) = 1#1 := h2
  have hh3 : ¬ k0_cond3 i (View.readAt (Elt F) arg2.view (Rect.unit (s := S1) ![0] S1.size inb_S1_S1_0).toLoadRect f2 (Shape.Idx.first h_S1)) = 1#1 := h3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_rows _ _ _ _ _ _ _ _)).trans ?_
    have e8 : body_reload.sl.v37 c arg4 arg8 f4 = k0_pay1 (View.ld (View.read (Elt F) arg4.view f4) wg3) := View.readCov_cons_toLoadRect _ _ _ _
    have e9 : body_reload.sl.v39 c arg5 arg9 f5 = k0_pay2 (View.ld (View.read (Elt F) arg5.view f5) wg3) := View.readCov_cons_toLoadRect _ _ _ _
    have e10 : body_reload.sl.v45 c arg6 arg10 f6 = k0_pay3 (View.ld (View.read (Elt F) arg6.view f6) wd3) := View.readCov_cons_toLoadRect _ _ _ _
    rw [e8, e9, e10]
    rfl
  isplitl [H8]
  · iexists _; isplitr
    swap; · iexact H8
    ipureintro
    exact read_whole2 _ _ _ zero2 _ _
  isplitl [H9]
  · iexists _; isplitr
    swap; · iexact H9
    ipureintro
    exact read_whole2 _ _ _ zero2 _ _
  iexists _; isplitr
  swap; · iexact H10
  ipureintro
  exact read_whole2 _ _ _ zero2 _ _

end Cert.Kernel2Ideal.Experts

end
-- ==== Proof.Experts.Common.lean ====
/-
  The experts call's pipeline data: the windows' blocks, what the body leaves in each buffer at each tile, and
  what holds between tiles — the tables as read, and, after an active tile, that tile's expert in the scratches.
-/
module

public import proofs.«01_k».proof.Proof.Experts.Body

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The tables' contents, admissible: every tile's expert names a block of the weights. -/
abbrev Tab (F : FTy → Type) [FloatOps F] := (pcfg0 (F := F)).Adm

variable (a : Tab F) (A : (c : Dev nD) → (b : Ref sig .tc) → Buf (Elt F) ((c : Thread nD τ).loc b))

/-- Window `w`'s block at tile `t`. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (A c (Pipeline.arrRef spec0 w))

/-- Tile `t`'s coordinates, and whether the tile is active. -/
abbrev co (t : Fin (cfg0 a).N) : grid0.Coords := grid0.coords t
abbrev nW : BitVec 32 := wN (F := F) (a.1 1)
def act (t : Fin (cfg0 a).N) : Prop := k0_cond2 (co a t) (nW a) = 1#1
instance (t : Fin (cfg0 a).N) : Decidable (act a t) := by unfold act; infer_instance

/-- A tile's weights as the scratches hold them. -/
def sG (c : Dev nD) (t : Fin (cfg0 a).N) : Vec F S1024x256 .bf16 := k0_pay1 (View.ld (iblk a A c 1 t) wg3)
def sU (c : Dev nD) (t : Fin (cfg0 a).N) : Vec F S1024x256 .bf16 := k0_pay2 (View.ld (iblk a A c 2 t) wg3)
def sD (c : Dev nD) (t : Fin (cfg0 a).N) : Vec F S256x1024 .bf16 := k0_pay3 (View.ld (iblk a A c 3 t) wd3)

/-- What a tile leaves in the output block. -/
def outT (c : Dev nD) (t : Fin (cfg0 a).N) : Vec F S4096x128 .f32 :=
  if act a t then yTile (yRows (iblk a A c 0 t) (sG a A c t) (sU a A c t) (sD a A c t)) else k0_pay10

/-- Before position `t`: if the tile just done was active, the scratches hold its weights. -/
def scr (c : Dev nD) (t : Fin ((cfg0 a).N + 1)) : sProp 𝕄 :=
  iprop(∃ (g u : Vec F S1024x256 .bf16) (d : Vec F S256x1024 .bf16),
    ⌜∀ s : Fin (cfg0 a).N, s.val + 1 = t.val → act a s → g = sG a A c s ∧ u = sU a A c s ∧ d = sD a A c s⌝
    ∗ owns (c : Thread nD τ) (Memref.whole cc0_scratch0) fullShare g
    ∗ owns (c : Thread nD τ) (Memref.whole cc0_scratch1) fullShare u
    ∗ owns (c : Thread nD τ) (Memref.whole cc0_scratch2) fullShare d)

/-- The pipeline's data on core `c`. -/
def dats (_ : Fin 1) (c : Dev nD) : Dat τ (Elt F) Unit ℕ (UR sig nD τ) ℕ (cfg0 a) c where
  A w := A c (Pipeline.arrRef spec0 w)
  after w t := match w with
    | ⟨0, _⟩ => iblk a A c 0 t
    | ⟨1, _⟩ => iblk a A c 1 t
    | ⟨2, _⟩ => iblk a A c 2 t
    | ⟨3, _⟩ => iblk a A c 3 t
    | ⟨4, _⟩ => outT a A c t
  Φ t := iprop(Pipeline.prefHeld pre0 c (fun _ => fullShare.right) a.1 ∗ scr a A c t ∗ ∃ r, prngReg c r)
  q _ := fullShare
  owed _ := 0

theorem A_eq (c : Dev nD) (w : Fin (cfg0 a).W) : (dats a A 0 c).A w = A c (Pipeline.arrRef spec0 w) := by
  dsimp only [dats]
theorem after_0 (c : Dev nD) (t : Fin (cfg0 a).N) : (dats a A 0 c).after 0 t = iblk a A c 0 t := by dsimp only [dats]; rfl
theorem after_1 (c : Dev nD) (t : Fin (cfg0 a).N) : (dats a A 0 c).after 1 t = iblk a A c 1 t := by dsimp only [dats]; rfl
theorem after_2 (c : Dev nD) (t : Fin (cfg0 a).N) : (dats a A 0 c).after 2 t = iblk a A c 2 t := by dsimp only [dats]; rfl
theorem after_3 (c : Dev nD) (t : Fin (cfg0 a).N) : (dats a A 0 c).after 3 t = iblk a A c 3 t := by dsimp only [dats]; rfl
theorem after_4 (c : Dev nD) (t : Fin (cfg0 a).N) : (dats a A 0 c).after 4 t = outT a A c t := by dsimp only [dats]; rfl

/-- An input's buffer holds its block at every tile, fetched there or kept. -/
theorem before_0 (c : Dev nD) (t : Fin (cfg0 a).N) (d) : (dats a A 0 c).before 0 t d = iblk a A c 0 t :=
  ((dats a A 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dats a A 0 c).before 1 t d = iblk a A c 1 t :=
  ((dats a A 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 a).N) (d) : (dats a A 0 c).before 2 t d = iblk a A c 2 t :=
  ((dats a A 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 a).N) (d) : (dats a A 0 c).before 3 t d = iblk a A c 3 t :=
  ((dats a A 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The words of the tables -/

theorem cond2_iff (i : grid0.Coords) (v : BitVec 32) : k0_cond2 i v = 1#1 ↔ (BitVec.ofNat 32 (i 0).val).slt v = true := by
  unfold k0_cond2
  dsimp only
  generalize BitVec.ofNat 32 (i 0).val = x
  unfold Scalar.cmpi Scalar.extui
  simp only [IntOp.cmpi]
  cases x.slt v <;> decide

theorem cond3_iff (i : grid0.Coords) (v : BitVec 32) : k0_cond3 i v = 1#1 ↔ ¬ k0_cond2 i v = 1#1 := by
  rw [cond2_iff]
  unfold k0_cond3
  dsimp only
  generalize BitVec.ofNat 32 (i 0).val = x
  unfold Scalar.cmpi Scalar.extui Scalar.xori
  simp only [IntOp.cmpi]
  cases x.slt v <;> decide

theorem reload_iff (i : grid0.Coords) (v0 v4 v8 : BitVec 32) :
    reload i v0 v4 v8 = 1#1 ↔ k0_cond2 i v0 = 1#1 ∧ ((i 0).val = 0 ∨ v4 ≠ v8) := by
  have hx : (BitVec.ofNat 32 (i 0).val == 0#32) = decide ((i 0).val = 0) := by
    have h : (i 0).val < 160 := (i 0).isLt
    rw [Bool.eq_iff_iff]
    simp only [beq_iff_eq, decide_eq_true_eq]
    constructor
    · intro e
      have := congrArg BitVec.toNat e
      simp only [BitVec.toNat_ofNat] at this
      omega
    · intro e; rw [e]
  rw [cond2_iff]
  unfold reload Scalar.cmpi Scalar.extui Scalar.andi Scalar.ori
  simp only [IntOp.cmpi, hx]
  have hb : (v4 != v8) = decide (v4 ≠ v8) := by
    by_cases e : v4 = v8 <;> simp [e]
  rw [hb]
  by_cases e : v4 ≠ v8 <;> by_cases z : (i 0).val = 0 <;> cases (BitVec.ofNat 32 (i 0).val).slt v0 <;>
    simp only [e, z, decide_true, decide_false, true_or, or_true, or_false, or_self, false_or, and_true, and_false, not_false_iff, not_true, ne_eq] <;> decide

/-! ## What one tile keeps of the last -/

section
variable (a : Tab F)

theorem nW_eq : nW a = a.1.atD 1 ![0] := by
  unfold nW wN Pipeline.Prefetch.Contents.atD
  split
  · next h => rfl
  · next h => exact absurd (show ∀ i : Fin 1, (![0] : Fin 1 → Nat) i + 1 ≤ (![1] : Fin 1 → Nat) i by decide) h

/-- The expert's word of a tile, and of the tile before. -/
abbrev eW (t : Fin (cfg0 a).N) : BitVec 32 := wE (F := F) (co a t) (a.1 0)
abbrev pW (t : Fin (cfg0 a).N) : BitVec 32 := wP (F := F) (co a t) (a.1 0)

theorem off_prev : ∀ i i' : grid0.Coords, (i 0).val + 1 = (i' 0).val → k0_off2 i' = k0_off1 i := by
  decide +kernel

theorem coords_val (t : Fin (cfg0 a).N) : (co a t 0).val = t.val := by
  have h : ∀ t : Fin 160, ((grid0.coords ⟨t.val, t.isLt⟩) 0).val = t.val := by decide +kernel
  exact h ⟨t.val, t.isLt⟩

theorem ld_off (X : Vec F S160 .i32) (o o' : Fin 1 → Nat) (e : o = o') (h : ∀ a, o a + S1.size a ≤ S160.size a)
    (h' : ∀ a, o' a + S1.size a ≤ S160.size a) :
    View.ld X (Rect.unit (s := S160) o S1.size h) (Shape.Idx.first h_S1) = View.ld X (Rect.unit (s := S160) o' S1.size h') (Shape.Idx.first h_S1) := by
  subst e; rfl

theorem pW_eq (s t : Fin (cfg0 a).N) (h : s.val + 1 = t.val) : pW a t = eW a s := by
  have e := off_prev (co a s) (co a t) (by rw [coords_val, coords_val]; exact h)
  exact ld_off (F := F) (a.1 0) _ _ e _ _

/-- An active tile's predecessor is active. -/
theorem act_pred (s t : Fin (cfg0 a).N) (h : s.val + 1 = t.val) (ht : act a t) : act a s := by
  unfold act at ht ⊢
  rw [cond2_iff] at ht ⊢
  have hs := coords_val a s
  have htv := coords_val a t
  have hN : t.val < 160 := t.isLt
  rw [BitVec.slt_eq_decide, decide_eq_true_eq] at ht ⊢
  rw [htv] at ht
  rw [hs]
  have e1 : (BitVec.ofNat 32 s.val).toInt = s.val := by
    rw [BitVec.toInt_eq_toNat_cond, BitVec.toNat_ofNat]; split <;> omega
  have e2 : (BitVec.ofNat 32 t.val).toInt = t.val := by
    rw [BitVec.toInt_eq_toNat_cond, BitVec.toNat_ofNat]; split <;> omega
  omega

/-- Tiles of one expert read one block of each weight. -/
theorem index_eq (w : Fin (cfg0 a).W) (hw : w.val = 1 ∨ w.val = 2 ∨ w.val = 3) (s t : Fin (cfg0 a).N) (h : eW a s = eW a t) :
    ((cfg0 a).win w).index s = ((cfg0 a).win w).index t := by
  obtain ⟨w, hlt⟩ := w
  have key : (![(eW a s).toNat, 0, 0] : Fin 3 → Nat) = ![(eW a t).toNat, 0, 0] := by rw [h]
  rcases hw with e | e | e <;> (simp only at e; subst e; exact key)

variable (A : (c : Dev nD) → (b : Ref sig .tc) → Buf (Elt F) ((c : Thread nD τ).loc b))

theorem fetched_1 (c : Dev nD) (t : Fin (cfg0 a).N) (d) : (dats a A 0 c).fetched 1 t d = iblk a A c 1 t := by
  unfold Dat.fetched Dat.blockOf iblk; rw [A_eq]; rfl
theorem fetched_2 (c : Dev nD) (t : Fin (cfg0 a).N) (d) : (dats a A 0 c).fetched 2 t d = iblk a A c 2 t := by
  unfold Dat.fetched Dat.blockOf iblk; rw [A_eq]; rfl
theorem fetched_3 (c : Dev nD) (t : Fin (cfg0 a).N) (d) : (dats a A 0 c).fetched 3 t d = iblk a A c 3 t := by
  unfold Dat.fetched Dat.blockOf iblk; rw [A_eq]; rfl

theorem sG_congr (c : Dev nD) (s t : Fin (cfg0 a).N) (h : eW a s = eW a t) : sG a A c s = sG a A c t := by
  have e : iblk a A c 1 s = iblk a A c 1 t := by
    rw [← fetched_1 a A c s (iblk a A c 1 s), ← fetched_1 a A c t (iblk a A c 1 s)]
    exact (dats a A 0 c).fetched_congr 1 (index_eq a 1 (Or.inl rfl) s t h) rfl _
  unfold sG; rw [e]
theorem sU_congr (c : Dev nD) (s t : Fin (cfg0 a).N) (h : eW a s = eW a t) : sU a A c s = sU a A c t := by
  have e : iblk a A c 2 s = iblk a A c 2 t := by
    rw [← fetched_2 a A c s (iblk a A c 2 s), ← fetched_2 a A c t (iblk a A c 2 s)]
    exact (dats a A 0 c).fetched_congr 2 (index_eq a 2 (Or.inr (Or.inl rfl)) s t h) rfl _
  unfold sU; rw [e]
theorem sD_congr (c : Dev nD) (s t : Fin (cfg0 a).N) (h : eW a s = eW a t) : sD a A c s = sD a A c t := by
  have e : iblk a A c 3 s = iblk a A c 3 t := by
    rw [← fetched_3 a A c s (iblk a A c 3 s), ← fetched_3 a A c t (iblk a A c 3 s)]
    exact (dats a A 0 c).fetched_congr 3 (index_eq a 3 (Or.inr (Or.inr rfl)) s t h) rfl _
  unfold sD; rw [e]

/-- A tile that does not load its weights anew and is active is not the first, and its expert is the last tile's. -/
theorem keep_prev (t : Fin (cfg0 a).N) (h1 : ¬ reload (co a t) (nW a) (eW a t) (pW a t) = 1#1) (h2 : act a t) :
    ∃ s : Fin (cfg0 a).N, s.val + 1 = t.val ∧ act a s ∧ eW a s = eW a t := by
  rw [reload_iff] at h1
  have h0 : ¬ (co a t 0).val = 0 := fun e => h1 ⟨h2, Or.inl e⟩
  have he : ¬ eW a t ≠ pW a t := fun e => h1 ⟨h2, Or.inr e⟩
  rw [coords_val] at h0
  have hs : (t.val - 1) + 1 = t.val := by omega
  refine ⟨⟨t.val - 1, by have := t.isLt; omega⟩, hs, act_pred a _ t hs h2, ?_⟩
  rw [← pW_eq a ⟨t.val - 1, by have := t.isLt; omega⟩ t hs]
  exact (not_not.mp he).symm

/-- Some store writes the output block at every tile. -/
theorem idle_eq (t : Fin (cfg0 a).N) : (cfg0 a).idle 4 ((cfg0 a).grid.coords t) = false := by
  change (!(k0_cond2 (co a t) (a.1.atD 1 ![0]) == 1#1) && !(k0_cond3 (co a t) (a.1.atD 1 ![0]) == 1#1)) = false
  rw [← nW_eq]
  by_cases h : k0_cond2 (co a t) (nW a) = 1#1
  · simp [h]
  · simp [(cond3_iff _ _).mpr h]

/-- A whole buffer's points-to is owning it at those contents. -/
theorem owns_of_pts (c : Thread nD τ) (b : Ref sig c.2.kind) (q : PosShare TreeShare) (X : Buf (Elt F) (c.loc b)) :
    ((c.loc b ↦{q} X : sProp 𝕄)) ⊢ owns c (Memref.whole b) q X := by
  rw [owns_whole_eq]
  iintro H
  iexists _; isplitr [H]; · ipureintro; rfl
  iexact H
theorem pts_of_owns (c : Thread nD τ) (b : Ref sig c.2.kind) (q : PosShare TreeShare) (X : Buf (Elt F) (c.loc b)) :
    (owns c (Memref.whole b) q X : sProp 𝕄) ⊢ (c.loc b ↦{q} X) := by
  rw [owns_whole_eq]
  iintro ⟨%f, %h, H⟩
  subst h
  iexact H

/-- The tables' shares, apart. -/
theorem prefHeld_split (c : Dev nD) (q : PosShare TreeShare) :
    (Pipeline.prefHeld pre0 c (fun _ => q) a.1 : sProp 𝕄)
      ⊢ iprop(owns (c : Thread nD τ) (Memref.whole main_arg1) q (a.1 0) ∗ owns (c : Thread nD τ) (Memref.whole main_arg2) q (a.1 1)) := by
  unfold Pipeline.prefHeld
  rw [show (Finset.univ : Finset (Fin pre0.K)) = insert 0 {1} from by decide, bigSep_insert (by decide), bigSep_singleton]
  exact BIClass.sep_mono (owns_of_pts (c : Thread nD τ) main_arg1 q (a.1 0)) (owns_of_pts (c : Thread nD τ) main_arg2 q (a.1 1))
theorem prefHeld_join (c : Dev nD) (q : PosShare TreeShare) :
    iprop(owns (c : Thread nD τ) (Memref.whole main_arg1) q (a.1 0) ∗ owns (c : Thread nD τ) (Memref.whole main_arg2) q (a.1 1))
      ⊢ (Pipeline.prefHeld pre0 c (fun _ => q) a.1 : sProp 𝕄) := by
  unfold Pipeline.prefHeld
  rw [show (Finset.univ : Finset (Fin pre0.K)) = insert 0 {1} from by decide, bigSep_insert (by decide), bigSep_singleton]
  exact BIClass.sep_mono (pts_of_owns (c : Thread nD τ) main_arg1 q (a.1 0)) (pts_of_owns (c : Thread nD τ) main_arg2 q (a.1 1))

end

end Cert.Kernel2Ideal.Experts

end
-- ==== Proof.Experts.Oblig.lean ====
/-
  The experts call's body, at any tile, takes the pipeline's data from before the tile to after it.
-/
module

public import proofs.«01_k».proof.Proof.Experts.Common
public import Idealize.ShloMosaic.Lib.Pipeline.Value

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (a : Tab F) (A : (c : Dev nD) → (b : Ref sig .tc) → Buf (Elt F) ((c : Thread nD τ).loc b))

/-- Window `w`'s buffer at tile `t`. -/
abbrev st0 (t : Fin (cfg0 a).N) : Memref sig .tc .vmem S4096x128 .f32 := ((cfg0 a).win 0).stage ((cfg0 a).slots t 0)
abbrev st1 (t : Fin (cfg0 a).N) : Memref sig .tc .vmem S1x1024x256 .f32 := ((cfg0 a).win 1).stage ((cfg0 a).slots t 1)
abbrev st2 (t : Fin (cfg0 a).N) : Memref sig .tc .vmem S1x1024x256 .f32 := ((cfg0 a).win 2).stage ((cfg0 a).slots t 2)
abbrev st3 (t : Fin (cfg0 a).N) : Memref sig .tc .vmem S1x256x1024 .f32 := ((cfg0 a).win 3).stage ((cfg0 a).slots t 3)
abbrev st4 (t : Fin (cfg0 a).N) : Memref sig .tc .vmem S4096x128 .f32 := ((cfg0 a).win 4).stage ((cfg0 a).slots t 4)

/-- The body's call at tile `t`. -/
def bodyAt (t : Fin (cfg0 a).N) : Prog (TpuEff nD τ sig (Elt F) Λ₀ .tc) PUnit :=
  cc0_moe_experts (co a t) (Memref.whole main_arg1) (Memref.isWhole_whole _) (Memref.whole main_arg2) (Memref.isWhole_whole _)
    (st0 a t) (hstage0_0 (((cfg0 a).slots t 0).cast nbuf0_0)) (st1 a t) (hstage0_1 (((cfg0 a).slots t 1).cast nbuf0_1))
    (st2 a t) (hstage0_2 (((cfg0 a).slots t 2).cast nbuf0_2)) (st3 a t) (hstage0_3 (((cfg0 a).slots t 3).cast nbuf0_3))
    (st4 a t) (hstage0_4 (((cfg0 a).slots t 4).cast nbuf0_4))
    (Memref.whole cc0_scratch0) (Memref.isWhole_whole _) (Memref.whole cc0_scratch1) (Memref.isWhole_whole _) (Memref.whole cc0_scratch2) (Memref.isWhole_whole _)

theorem defs₀_row (t : Fin (cfg0 a).N) :
    defs₀ (F := F) .tc (cfg0 a).body ((cfg0 a).bodyArgs t ((cfg0 a).slots t)) = bodyAt a t := by
  unfold defs₀; rw [Defs.onTc_tc]; rfl

def tabs (c : Dev nD) : sProp 𝕄 :=
  iprop(owns (c : Thread nD τ) (Memref.whole main_arg1) fullShare.right (a.1 0) ∗ owns (c : Thread nD τ) (Memref.whole main_arg2) fullShare.right (a.1 1))

/-- The buffers before the body and after it. -/
def bufsPre (c : Dev nD) (t : Fin (cfg0 a).N) : sProp 𝕄 :=
  iprop(owns (c : Thread nD τ) (st0 a t) fullShare (iblk a A c 0 t) ∗ owns (c : Thread nD τ) (st1 a t) fullShare (iblk a A c 1 t)
    ∗ owns (c : Thread nD τ) (st2 a t) fullShare (iblk a A c 2 t) ∗ owns (c : Thread nD τ) (st3 a t) fullShare (iblk a A c 3 t)
    ∗ (∃ d, owns (c : Thread nD τ) (st4 a t) fullShare d))
def bufsPost (c : Dev nD) (t : Fin (cfg0 a).N) : sProp 𝕄 :=
  iprop(owns (c : Thread nD τ) (st0 a t) fullShare (iblk a A c 0 t) ∗ owns (c : Thread nD τ) (st1 a t) fullShare (iblk a A c 1 t)
    ∗ owns (c : Thread nD τ) (st2 a t) fullShare (iblk a A c 2 t) ∗ owns (c : Thread nD τ) (st3 a t) fullShare (iblk a A c 3 t)
    ∗ owns (c : Thread nD τ) (st4 a t) fullShare (outT a A c t))

theorem outT_act (c : Dev nD) (t : Fin (cfg0 a).N) (h : act a t) :
    outT a A c t = yTile (yRows (iblk a A c 0 t) (sG a A c t) (sU a A c t) (sD a A c t)) := by unfold outT; rw [if_pos h]
theorem outT_idle (c : Dev nD) (t : Fin (cfg0 a).N) (h : ¬ act a t) : outT a A c t = k0_pay10 := by unfold outT; rw [if_neg h]

theorem succ_inj (s t : Fin (cfg0 a).N) (h : s.val + 1 = t.succ.val) : s = t := by
  apply Fin.ext; simp only [Fin.val_succ] at h; omega

theorem ld_wg2 (x : Vec F S1024x256 .bf16) : View.ld x wg2 = x := View.ld_unit_zero (funext (by decide)) _ _
theorem ld_wd2 (x : Vec F S256x1024 .bf16) : View.ld x wd2 = x := View.ld_unit_zero (funext (by decide)) _ _

/-- A tile whose expert's weights are loaded anew. -/
theorem tile_reload (c : Dev nD) (t : Fin (cfg0 a).N) (h1 : reload (co a t) (nW a) (eW a t) (pW a t) = 1#1) (h2 : act a t) :
    iprop(tabs a c ∗ scr a A c t.castSucc ∗ bufsPre a A c t)
      ⊢ wp frame (wpE (defs₀ (F := F)) Variants.none (c : Thread nD τ) none) Set.univ (bodyAt a t) (fun _ => iprop(tabs a c ∗ scr a A c t.succ ∗ bufsPost a A c t)) := by
  have h3 : ¬ k0_cond3 (co a t) (nW a) = 1#1 := fun h => (cond3_iff _ _).mp h h2
  unfold tabs scr bufsPre bufsPost bodyAt
  rw [outT_act a A c t h2]
  iintro ⟨⟨T1, T2⟩, ⟨%g, %u, %d, %hs, S0, S1, S2⟩, H0, H1, H2, H3, H4⟩
  iapply (body_reload c Set.univ (co a t) _ _ _ _ _ _ _ _ _ _ _ _ _ _ _ _ _ _ _ _ fullShare.right fullShare.right (a.1 0) (a.1 1)
    (iblk a A c 0 t) (iblk a A c 1 t) (iblk a A c 2 t) (iblk a A c 3 t) h1 h2 h3 _)
  isplitl [T1]; · iexact T1
  isplitl [T2]; · iexact T2
  isplitl [H0]; · iexact H0
  isplitl [H1]; · iexact H1
  isplitl [H2]; · iexact H2
  isplitl [H3]; · iexact H3
  isplitl [H4]; · iexact H4
  isplitl [S0]; · iexists _; iexact S0
  isplitl [S1]; · iexists _; iexact S1
  isplitl [S2]; · iexists _; iexact S2
  iintro ⟨T1, T2, H0, H1, H2, H3, H4, S0, S1, S2⟩
  isplitl [T1 T2]
  · isplitl [T1]; · iexact T1
    iexact T2
  isplitl [S0 S1 S2]
  · iexists (sG a A c t), (sU a A c t), (sD a A c t)
    isplitr [S0 S1 S2]
    · ipureintro
      intro s hs' _
      rw [succ_inj a s t hs']
      exact ⟨rfl, rfl, rfl⟩
    isplitl [S0]; · iexact S0
    isplitl [S1]; · iexact S1
    iexact S2
  isplitl [H0]; · iexact H0
  isplitl [H1]; · iexact H1
  isplitl [H2]; · iexact H2
  isplitl [H3]; · iexact H3
  iexact H4

/-- An active tile of the last tile's expert. -/
theorem tile_keep (c : Dev nD) (t : Fin (cfg0 a).N) (h1 : ¬ reload (co a t) (nW a) (eW a t) (pW a t) = 1#1) (h2 : act a t) :
    iprop(tabs a c ∗ scr a A c t.castSucc ∗ bufsPre a A c t)
      ⊢ wp frame (wpE (defs₀ (F := F)) Variants.none (c : Thread nD τ) none) Set.univ (bodyAt a t) (fun _ => iprop(tabs a c ∗ scr a A c t.succ ∗ bufsPost a A c t)) := by
  have h3 : ¬ k0_cond3 (co a t) (nW a) = 1#1 := fun h => (cond3_iff _ _).mp h h2
  obtain ⟨s, hst, hsa, hse⟩ := keep_prev a t h1 h2
  unfold tabs scr bufsPre bufsPost bodyAt
  rw [outT_act a A c t h2]
  iintro ⟨⟨T1, T2⟩, ⟨%g, %u, %d, %hs, S0, S1, S2⟩, H0, H1, H2, H3, H4⟩
  obtain ⟨hg, hu, hd⟩ := hs s hst hsa
  rw [sG_congr a A c s t hse] at hg
  rw [sU_congr a A c s t hse] at hu
  rw [sD_congr a A c s t hse] at hd
  subst hg hu hd
  iapply (body_keep c Set.univ (co a t) _ _ _ _ _ _ _ _ _ _ _ _ _ _ _ _ _ _ _ _ fullShare.right fullShare.right (a.1 0) (a.1 1)
    (iblk a A c 0 t) (sG a A c t) (sU a A c t) (sD a A c t) h1 h2 h3 _)
  isplitl [T1]; · iexact T1
  isplitl [T2]; · iexact T2
  isplitl [H0]; · iexact H0
  isplitl [H4]; · iexact H4
  isplitl [S0]; · iexact S0
  isplitl [S1]; · iexact S1
  isplitl [S2]; · iexact S2
  rw [ld_wg2, ld_wg2, ld_wd2]
  iintro ⟨T1, T2, H0, H4, S0, S1, S2⟩
  isplitl [T1 T2]
  · isplitl [T1]; · iexact T1
    iexact T2
  isplitl [S0 S1 S2]
  · iexists (sG a A c t), (sU a A c t), (sD a A c t)
    isplitr [S0 S1 S2]
    · ipureintro
      intro s hs' _
      rw [succ_inj a s t hs']
      exact ⟨rfl, rfl, rfl⟩
    isplitl [S0]; · iexact S0
    isplitl [S1]; · iexact S1
    iexact S2
  isplitl [H0]; · iexact H0
  isplitl [H1]; · iexact H1
  isplitl [H2]; · iexact H2
  isplitl [H3]; · iexact H3
  iexact H4

/-- An inactive tile. -/
theorem tile_idle (c : Dev nD) (t : Fin (cfg0 a).N) (h2 : ¬ act a t) :
    iprop(tabs a c ∗ scr a A c t.castSucc ∗ bufsPre a A c t)
      ⊢ wp frame (wpE (defs₀ (F := F)) Variants.none (c : Thread nD τ) none) Set.univ (bodyAt a t) (fun _ => iprop(tabs a c ∗ scr a A c t.succ ∗ bufsPost a A c t)) := by
  have h3 : k0_cond3 (co a t) (nW a) = 1#1 := (cond3_iff _ _).mpr h2
  have h1 : ¬ reload (co a t) (nW a) (eW a t) (pW a t) = 1#1 := fun h => h2 ((reload_iff _ _ _ _).mp h).1
  unfold tabs scr bufsPre bufsPost bodyAt
  rw [outT_idle a A c t h2]
  iintro ⟨⟨T1, T2⟩, ⟨%g, %u, %d, %hs, S0, S1, S2⟩, H0, H1, H2, H3, H4⟩
  iapply (body_idle c Set.univ (co a t) _ _ _ _ _ _ _ _ _ _ _ _ _ _ _ _ _ _ _ _ fullShare.right fullShare.right (a.1 0) (a.1 1) h1 h2 h3 _)
  isplitl [T1]; · iexact T1
  isplitl [T2]; · iexact T2
  isplitl [H4]; · iexact H4
  iintro ⟨T1, T2, H4⟩
  isplitl [T1 T2]
  · isplitl [T1]; · iexact T1
    iexact T2
  isplitl [S0 S1 S2]
  · iexists g, u, d
    isplitr [S0 S1 S2]
    · ipureintro
      intro s hs' hact
      rw [succ_inj a s t hs'] at hact
      exact absurd hact h2
    isplitl [S0]; · iexact S0
    isplitl [S1]; · iexact S1
    iexact S2
  isplitl [H0]; · iexact H0
  isplitl [H1]; · iexact H1
  isplitl [H2]; · iexact H2
  isplitl [H3]; · iexact H3
  iexact H4

theorem tile (c : Dev nD) (t : Fin (cfg0 a).N) :
    iprop(tabs a c ∗ scr a A c t.castSucc ∗ bufsPre a A c t)
      ⊢ wp frame (wpE (defs₀ (F := F)) Variants.none (c : Thread nD τ) none) Set.univ (bodyAt a t) (fun _ => iprop(tabs a c ∗ scr a A c t.succ ∗ bufsPost a A c t)) := by
  by_cases h2 : act a t
  · by_cases h1 : reload (co a t) (nW a) (eW a t) (pW a t) = 1#1
    · exact tile_reload a A c t h1 h2
    · exact tile_keep a A c t h1 h2
  · exact tile_idle a A c t h2

/-- What the body is called with at tile `t`, and what it returns. -/
def bodyPre (c : Dev nD) (t : Fin (cfg0 a).N) : sProp 𝕄 :=
  iprop((dats a A 0 c).Φ t.castSucc ∗ (dats a A 0 c).owesAt () t.castSucc
    ∗ (∃ d, owns (c : Thread nD τ) (st0 a t) fullShare ((dats a A 0 c).before 0 t d))
    ∗ (∃ d, owns (c : Thread nD τ) (st1 a t) fullShare ((dats a A 0 c).before 1 t d))
    ∗ (∃ d, owns (c : Thread nD τ) (st2 a t) fullShare ((dats a A 0 c).before 2 t d))
    ∗ (∃ d, owns (c : Thread nD τ) (st3 a t) fullShare ((dats a A 0 c).before 3 t d))
    ∗ (∃ d, owns (c : Thread nD τ) (st4 a t) fullShare ((dats a A 0 c).before 4 t d)))
def bodyPost (c : Dev nD) (t : Fin (cfg0 a).N) : sProp 𝕄 :=
  iprop((dats a A 0 c).Φ t.succ ∗ (dats a A 0 c).owesAt () t.succ
    ∗ owns (c : Thread nD τ) (st0 a t) fullShare ((dats a A 0 c).after 0 t)
    ∗ owns (c : Thread nD τ) (st1 a t) fullShare ((dats a A 0 c).after 1 t)
    ∗ owns (c : Thread nD τ) (st2 a t) fullShare ((dats a A 0 c).after 2 t)
    ∗ owns (c : Thread nD τ) (st3 a t) fullShare ((dats a A 0 c).after 3 t)
    ∗ owns (c : Thread nD τ) (st4 a t) fullShare ((dats a A 0 c).after 4 t))

theorem Φ_eq (c : Dev nD) (t : Fin ((cfg0 a).N + 1)) :
    (dats a A 0 c).Φ t = iprop(Pipeline.prefHeld pre0 c (fun _ => fullShare.right) a.1 ∗ scr a A c t ∗ ∃ r, prngReg c r) := by dsimp only [dats]

theorem sound_body (c : Dev nD) (t : Fin (cfg0 a).N) :
    bodyPre a A c t ⊢ wp frame (wpE (defs₀ (F := F)) Variants.none (c : Thread nD τ) none) Set.univ (bodyAt a t) (fun _ => bodyPost a A c t) := by
  unfold bodyPre bodyPost
  simp only [before_0, before_1, before_2, before_3]
  rw [show (dats a A 0 c).owesAt () t.succ = (dats a A 0 c).owesAt () t.castSucc from rfl, Φ_eq, Φ_eq, after_0, after_1, after_2, after_3, after_4]
  refine BIBase.Entails.trans (Q := iprop((tabs a c ∗ scr a A c t.castSucc ∗ bufsPre a A c t) ∗ (dats a A 0 c).owesAt () t.castSucc ∗ ∃ r, prngReg c r)) ?_
    ((BIClass.sep_mono (tile a A c t) .rfl).trans ((wp_frame_r _ _ _).trans (wp_mono _ _ _ fun _ => ?_)))
  · unfold bufsPre
    iintro ⟨⟨HT, HS, HP⟩, Ho, ⟨%d0, H0⟩, ⟨%d1, H1⟩, ⟨%d2, H2⟩, ⟨%d3, H3⟩, ⟨%d4, H4⟩⟩
    isplitr [Ho HP]
    · isplitl [HT]
      · unfold tabs; iapply (prefHeld_split a c fullShare.right); iexact HT
      isplitl [HS]; · iexact HS
      isplitl [H0]; · iexact H0
      isplitl [H1]; · iexact H1
      isplitl [H2]; · iexact H2
      isplitl [H3]; · iexact H3
      iexists _; iexact H4
    · isplitl [Ho]; · iexact Ho
      iexact HP
  · unfold bufsPost
    iintro ⟨⟨HT, HS, HB⟩, Ho, HP⟩
    isplitl [HT HS HP]
    · isplitl [HT]
      · iapply (prefHeld_join a c fullShare.right); unfold tabs; iexact HT
      isplitl [HS]; · iexact HS
      iexact HP
    isplitl [Ho]; · iexact Ho
    iexact HB

def pick (b : Bool) (R P : sProp 𝕄) : sProp 𝕄 := match b with | true => R | false => P
theorem of_not_idle {b : Bool} (h : b = false) (P R : sProp 𝕄) : P ⊢ pick b R P := by
  subst h; exact .rfl

theorem body_obligation (c : Dev nD) : BodyObligation (dats a A 0 c) (defs₀ (F := F)) Variants.none () Set.univ := fun t => by
  rw [bigSep_W0, bigSep_W0, defs₀_row]
  refine triple_restated (sound_body a A c t) rfl .rfl fun _ => ?_
  unfold bodyPost
  refine BIClass.sep_mono .rfl (BIClass.sep_mono .rfl (BIClass.sep_mono .rfl (BIClass.sep_mono .rfl (BIClass.sep_mono .rfl (BIClass.sep_mono .rfl ?_)))))
  exact of_not_idle (F := F) (idle_eq a t) _ _

end Cert.Kernel2Ideal.Experts

end
-- ==== Proof.Experts.Run.lean ====
/-
  The experts call's run: from any memory whose experts are in range, @main ends with the result's array at what the
  pipeline's data compute, its arguments unchanged and every counter at zero.
-/
module

public import proofs.«01_k».proof.Proof.Experts.Oblig
public import proofs.«01_k».proof.Pre_experts_in_range
public import proofs.«01_k».proof.Proof.Gen.Pre_experts_in_range
public import Idealize.ShloMosaic.Lib.Pipeline.Frame
public import Idealize.ShloMosaic.Lib.Claim

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers where the pipeline begins. -/
def V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- A buffer no host reshape writes is as launched. -/
theorem V_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2, StableHlo.devRef_ne_of_ne h3⟩))

/-- Every tile's expert is in range. -/
def InRange (te : Vec F S160 .i32) : Prop := ∀ x, (te x).toNat < 32

theorem ok_of (pf : pre0.Contents (Elt F)) (h : InRange (F := F) (pf 0)) : ok0 pf := by
  have aux (v : BitVec 32) (hv : v.toNat < 32) (n k : Nat) :
      ∀ a : Fin 3, ((![v.toNat, 0, 0] : Fin 3 → Nat) a + 1) * (![1, n, k] : Fin 3 → Nat) a ≤ (![32, n, k] : Fin 3 → Nat) a := by
    intro a
    fin_cases a
    · show (v.toNat + 1) * 1 ≤ 32; omega
    · show (0 + 1) * n ≤ n; omega
    · show (0 + 1) * k ≤ k; omega
  unfold ok0
  refine ⟨fun i => ⟨?_, Or.inl rfl⟩, fun i => ⟨?_, Or.inl rfl⟩, fun i => ⟨?_, Or.inl rfl⟩⟩
  · exact aux _ (h _) 1024 256
  · exact aux _ (h _) 1024 256
  · exact aux _ (h _) 256 1024

/-- The tables at launch. -/
def tab0 : pre0.Contents (Elt F) := fun k => m (((0 : Dev nD) : Thread nD τ).loc (pre0.ref k))

def adm (h : InRange (F := F) (tab0 m 0)) : Tab F := ⟨tab0 m, ok_of _ h⟩

/-- What the precondition says of the tables. -/
theorem inRange_of (x0 : FVec F S81920x1024 .f32) (te : IVec S160 32) (na : IVec S1 32) (w3 w4 : FVec F S1x32x1024x256 .f32) (w5 : FVec F S1x32x256x1024 .f32)
    (h : Cert.Pre_experts_in_range.fn (F := F) x0 te na w3 w4 w5 = fun _ => 1#1) : InRange (F := F) te := by
  intro x
  have e := congrFun h x
  simp only [Cert.Pre_experts_in_range.fn, andi, cmpi, broadcastInDim, constantI] at e
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  have key : ∀ v : BitVec 32, IntOp.andi (IntOp.cmpi .sge v 0#32) (IntOp.cmpi .slt v 32#32) = 1#1 → v.toNat < 32 := by
    intro v e
    simp only [IntOp.cmpi, hand, hone, Bool.and_eq_true, BitVec.sle_eq_decide, BitVec.slt_eq_decide, decide_eq_true_eq,
      BitVec.toInt_eq_toNat_cond, BitVec.toNat_ofNat, Nat.reducePow, Nat.reduceMod] at e
    omega
  exact key _ e

section Run

variable (hr : InRange (F := F) (tab0 m 0))

abbrev fam : (p : Fin 1) → (c : Dev nD) → Dat τ (Elt F) Unit ℕ (UR sig nD τ) ℕ (Pipeline.pin pcfgs (fun _ => adm m hr) p) c :=
  fun p c => dats (adm m hr) (V m) p c

theorem hmain : Pipeline.HMainP (Ix := Unit) (Name := ℕ) (U := UR sig nD τ) (Lvl := ℕ) pcfgs 0 (defs₀ (F := F)) Variants.none m (main (F := F)) (V m) :=
  Pipeline.hmainP_prefix pcfgs 0 defs₀ Variants.none m main hostOps0 hostOps0_sub hostOps0_fresh main_chain

theorem V_pre (c : Dev nD) (k : Fin 2) : V m c (pre0.ref k) = (adm m hr).1 k := by
  rw [V_of_ne m c (pre0.ref k) (by revert k; decide) (by revert k; decide) (by revert k; decide) (by revert k; decide)]
  obtain rfl : c = 0 := Subsingleton.elim _ _
  rfl

theorem scr_start (c : Dev nD) : iprop(∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
    ⊢ (scr (adm m hr) (V m) c 0 : sProp 𝕄) := by
  unfold scr
  iintro ⟨⟨%f, H0⟩, ⟨%g, H1⟩, ⟨%h, H2⟩⟩
  iexists f, g, h
  isplitr [H0 H1 H2]
  · ipureintro
    intro s hs
    exact absurd hs (Nat.succ_ne_zero _)
  isplitl [H0]; · iapply (owns_of_pts (c : Thread nD τ) cc0_scratch0 fullShare f); iexact H0
  isplitl [H1]; · iapply (owns_of_pts (c : Thread nD τ) cc0_scratch1 fullShare g); iexact H1
  iapply (owns_of_pts (c : Thread nD τ) cc0_scratch2 fullShare h); iexact H2

theorem scr_end (c : Dev nD) (t) : (scr (adm m hr) (V m) c t : sProp 𝕄)
    ⊢ iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)) := by
  unfold scr
  iintro ⟨%f, %g, %h, -, H0, H1, H2⟩
  isplitl [H0]; · iexists f; iapply (pts_of_owns (c : Thread nD τ) cc0_scratch0 fullShare f); iexact H0
  isplitl [H1]; · iexists g; iapply (pts_of_owns (c : Thread nD τ) cc0_scratch1 fullShare g); iexact H1
  iexists h; iapply (pts_of_owns (c : Thread nD τ) cc0_scratch2 fullShare h); iexact H2

theorem hin (c : Dev nD) : iprop(Pipeline.ΦA spec0 c ∗ Pipeline.ΦT pre0 (adm m hr).1 c) ⊢ (fam m hr 0 c).Φ 0 := by
  rw [Φ_eq]
  unfold Pipeline.ΦA
  rw [scopedRest0_eq]
  iintro ⟨⟨HS, HP⟩, HT⟩
  isplitl [HT]; · iexact HT
  isplitl [HS]; · iapply (scr_start m hr c); iexact HS
  iexact HP

theorem hout (c : Dev nD) : (fam m hr 0 c).Φ (Fin.last _) ⊢ Pipeline.ΦA spec0 c := by
  rw [Φ_eq]
  unfold Pipeline.ΦA
  rw [scopedRest0_eq]
  iintro ⟨-, HS, HP⟩
  isplitl [HS]; · iapply (scr_end m hr c _); iexact HS
  iexact HP

theorem rest_mem (b : Ref sig .tc) (hs : b.isScoped = false) (ha : ∀ w, (spec0 w).arr.view.ref ≠ b) :
    b ∈ Pipeline.restRefs sig (Pipeline.pin pcfgs (fun _ => adm m hr) 0).spec := Pipeline.mem_restRefs_of b hs ha

set_option backward.isDefEq.respectTransparency.types false in
set_option maxHeartbeats 800000 in
/-- The launch. -/
theorem run_frame : θ_run defs (onTc (τ := τ) (main (F := F))) (s₀ m ρ)
    (fun r => Pipeline.FramePost (Pipeline.pin pcfgs fun _ => adm m hr) (fam m hr) 0 (V m) r ∧ r.2.sem = fun _ => 0) :=
  Pipeline.θ_run_frameP_track (Q' := _) pcfgs (fun _ => adm m hr) (fam m hr) (0 : Fin 1) launch0 defs₀ Variants.none m ρ main
    (hbody := fun c => (body_obligation (adm m hr) (V m) c).loose) (hshare := fun c => (fam m hr 0 c).share_full fun _ => rfl)
    (howed := fun _ _ => rfl) (V := V m) (hmain := hmain m) (hA := A_eq (adm m hr) (V m)) (hpf := V_pre m hr)
    (hin := hin m hr) (hout := hout m hr)

/-- The run: the result at the pipeline's data, the arguments unchanged, every counter at zero. -/
theorem run_main : θ_run defs (onTc (τ := τ) (main (F := F))) ⟨m, fun _ => 0, ρ⟩ (fun r => (∀ c : Dev nD,
      r.2.mem ((c.tc : Thread nD τ).loc main_v4) = (fam m hr 0 c).arrAt 4 (cfg0 (adm m hr)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      ((h.1 c).2 main_arg0 (rest_mem m hr main_arg0 (by decide) (by decide))).trans (V_of_ne m c _ (by decide) (by decide) (by decide) (by decide)),
      ((h.1 c).2 main_arg1 (rest_mem m hr main_arg1 (by decide) (by decide))).trans (V_of_ne m c _ (by decide) (by decide) (by decide) (by decide)),
      ((h.1 c).2 main_arg2 (rest_mem m hr main_arg2 (by decide) (by decide))).trans (V_of_ne m c _ (by decide) (by decide) (by decide) (by decide)),
      ((h.1 c).2 main_arg3 (rest_mem m hr main_arg3 (by decide) (by decide))).trans (V_of_ne m c _ (by decide) (by decide) (by decide) (by decide)),
      ((h.1 c).2 main_arg4 (rest_mem m hr main_arg4 (by decide) (by decide))).trans (V_of_ne m c _ (by decide) (by decide) (by decide) (by decide)),
      ((h.1 c).2 main_arg5 (rest_mem m hr main_arg5 (by decide) (by decide))).trans (V_of_ne m c _ (by decide) (by decide) (by decide) (by decide))⟩, h.2⟩)
    (run_frame m ρ hr)

include hr in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_main m ρ hr)

include hr in
/-- The frame, of any program table and main equal to these. -/
theorem frame_same (D : Defs nD τ sig (Elt F) (Pipeline.Sig Λ₀ (Fin 1) fun p => (pcfgs (F := F) p).Adm)) (hD : D = defs)
    (M : Dev nD → Prog (TpuEff nD τ sig (Elt F) (Pipeline.Sig Λ₀ (Fin 1) fun p => (pcfgs (F := F) p).Adm) .tc) PUnit) (hM : M = main) :
    θ_run D (onTc (τ := τ) M) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  subst hD hM
  exact frame m ρ hr

end Run

end Cert.Kernel2Ideal.Experts

end
-- ==== Proof.Experts.Frames.lean ====
/-
  The experts call's frames: the run at words and at the ideal values, of the one text both programs have.
-/
module

public import proofs.«01_k».proof.Proof.Experts.Run
public import proofs.«01_k».proof.Proof.Gen.Kernel2
public import proofs.«01_k».proof.Proof.Gen.Kernel2.Launch
public import proofs.«01_k».proof.Defs

@[expose] public section

set_option maxRecDepth 16384

noncomputable section

namespace Cert.Experts

open Idealize.ShloMosaic Idealize.ShloMosaic.TcCoe

/-- The precondition puts the launch's experts in range. -/
theorem range_ideal (m : (ℓ : Loc Cert.Kernel2Ideal.nD Cert.Kernel2Ideal.τ Cert.Kernel2Ideal.sig) → Buf (Elt Ideal) ℓ) (h : Cert.Pre_Kernel2Ideal m) :
    Cert.Kernel2Ideal.Experts.InRange (F := Ideal) (Cert.Kernel2Ideal.Experts.tab0 m 0) :=
  Cert.Kernel2Ideal.Experts.inRange_of _ _ _ _ _ _ (h 0)

theorem frame_ideal : Cert.quiescent_Kernel2Ideal := fun m ρ h =>
  Cert.Kernel2Ideal.Experts.frame m ρ (range_ideal m h)

theorem range_bits (m : (ℓ : Loc Cert.Kernel2.nD Cert.Kernel2.τ Cert.Kernel2.sig) → Buf (Elt Bits) ℓ) (h : Cert.Pre_Kernel2 m) :
    Cert.Kernel2Ideal.Experts.InRange (F := Bits) (Cert.Kernel2Ideal.Experts.tab0 (F := Bits) m 0) :=
  Cert.Kernel2Ideal.Experts.inRange_of (F := Bits) _ _ _ _ _ _ (h 0)

theorem defs₀_same : (Cert.Kernel2Ideal.defs₀ (F := Bits)) = Cert.Kernel2.defs₀ (F := Bits) := by
  unfold Cert.Kernel2Ideal.defs₀ Cert.Kernel2.defs₀
  congr 1
  funext l x
  match l, x with
  | 0, (t, s) => with_unfolding_all rfl
theorem defs_same : Cert.Kernel2.defs (F := Bits) = Cert.Kernel2Ideal.defs (F := Bits) :=
  congrArg (Pipeline.defs Cert.Kernel2Ideal.pcfgs) defs₀_same.symm
theorem main_same : (Cert.Kernel2.main (F := Bits)) = Cert.Kernel2Ideal.main (F := Bits) := by with_unfolding_all rfl

theorem frame_bits : Cert.quiescent_Kernel2 := fun m ρ h =>
  Cert.Kernel2Ideal.Experts.frame_same (F := Bits) m ρ (range_bits m h) _ defs_same _ main_same

end Cert.Experts

end
-- ==== Proof.Experts.Spec.lean ====
/-
  One expert's gated unit on one row, as functions of extended reals: what both programs compute of every row of an
  active tile.
-/
module

public import Idealize.ShloMosaic.Lib.Pointwise

@[expose] public section

noncomputable section

namespace Cert.Experts

open Idealize.ShloMosaic

/-- Hidden unit `f` of a row `x`: its gate through the sigmoid-weighted unit, times its up-projection. -/
def hid (x : Fin 1024 → EReal) (g u : Fin 1024 → Fin 256 → EReal) (f : Fin 256) : EReal :=
  (∑ d, x d * g d f) * Ideal.logistic (∑ d, x d * g d f) * ∑ d, x d * u d f

/-- The row's result in column `k`. -/
def line (x : Fin 1024 → EReal) (g u : Fin 1024 → Fin 256 → EReal) (w : Fin 256 → Fin 1024 → EReal) (k : Fin 1024) : EReal :=
  ∑ f, hid x g u f * w f k

/-- The whole result at row `q` of 128 lanes: rows of 1024 lie eight to a group; a tile past the count holds zeros. -/
def result (X : Fin 81920 → Fin 1024 → EReal) (e : Fin 160 → Fin 32) (on : Fin 160 → Prop) [∀ t, Decidable (on t)]
    (g u : Fin 32 → Fin 1024 → Fin 256 → EReal) (w : Fin 32 → Fin 256 → Fin 1024 → EReal) (q : Fin 655360) (l : Fin 128) : EReal :=
  if on ⟨q / 4096, by omega⟩ then
    line (X ⟨q / 8, by omega⟩) (g (e ⟨q / 4096, by omega⟩)) (u (e ⟨q / 4096, by omega⟩)) (w (e ⟨q / 4096, by omega⟩)) ⟨q % 8 * 128 + l, by omega⟩
  else 0

end Cert.Experts

end
-- ==== Proof.Experts.Tile.lean ====
/-
  A tile's result at an index, on the extended reals: the eight strided loads side by side are the tile's rows of 1024,
  the two products, the gate and the third product are each row's unit, and the eight strided stores put them back.
-/
module

public import proofs.«01_k».proof.Proof.Experts.Body
public import proofs.«01_k».proof.Proof.Experts.Spec
public import Idealize.ShloMosaic.Lib.Pipeline.Value

@[expose] public section

set_option maxRecDepth 16384

noncomputable section

namespace Cert.Kernel2Ideal.Experts

open Idealize.ShloMosaic Cert.Kernel2Ideal Cert.Kernel2Ideal.Gen Cert.Experts

/-- A strided load at an index. -/
theorem ld_row (r : ℕ) (hr : r < 8) (h : ∀ a, S512x128.size a = 0 ∨ (![r, 0] : Fin 2 → Nat) a + (![8, 1] : Fin 2 → Nat) a * (S512x128.size a - 1) < S4096x128.size a)
    (x : Vec Ideal S4096x128 .f32) (i : Fin 512) (l : Fin 128) :
    (View.ld x (⟨⟨![r, 0], S512x128.size, ![8, 1], h⟩, spos_8_1⟩ : Rect S4096x128) (ix2 i l) : EReal) = x (ix2 (⟨i * 8 + r, by omega⟩ : Fin 4096) l) := by
  refine congrArg x (funext fun a => Fin.ext ?_)
  match a with
  | ⟨0, _⟩ => show r + 8 * (i : ℕ) = i * 8 + r; omega
  | ⟨1, _⟩ => show 0 + 1 * (l : ℕ) = l; omega

/-- Eight blocks of 128 lanes side by side. -/
def beside (v0 v1 v2 v3 v4 v5 v6 v7 : Vec Ideal S512x128 .f32) : FVec Ideal S512x1024 .f32 :=
  concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩] concatenates_S512x128_S512x128_S512x128_S512x128_S512x128_S512x128_S512x128_S512x128_S512x1024_d1

theorem beside_apply (f : Fin 8 → Vec Ideal S512x128 .f32) (i : Fin 512) (d : Fin 1024) :
    (beside (f 0) (f 1) (f 2) (f 3) (f 4) (f 5) (f 6) (f 7) (ix2 i d) : EReal) = f ⟨d / 128, by omega⟩ (ix2 i (⟨d % 128, by omega⟩ : Fin 128)) := by
  refine concatenate_ofFn_apply (t := S512x1024) (s₁ := S512x128) (1 : Fin 2) f
    concatenates_S512x128_S512x128_S512x128_S512x128_S512x128_S512x128_S512x128_S512x128_S512x1024_d1 rfl 128 rfl (ix2 i d)
    ⟨d / 128, by omega⟩ rfl (ix2 i (⟨d % 128, by omega⟩ : Fin 128)) rfl (fun b hb => ?_)
  match b with
  | ⟨0, _⟩ => rfl
  | ⟨1, _⟩ => exact absurd rfl hb

/-- The gated unit of a tile's rows: two products, the gate, and the product with the third weight. -/
def unit (x : FVec Ideal S512x1024 .f32) (g u : FVec Ideal S1024x256 .bf16) (w : FVec Ideal S256x1024 .bf16) : FVec Ideal S512x1024 .f32 :=
  matmul dot_S512x256_S256x1024_S512x1024_1_0_0_1_n_n none
    (truncf .bf16 (mulf (mulf (matmul dot_S512x1024_S1024x256_S512x256_1_0_0_1_n_n none (truncf .bf16 x bitsLt_bf16_f32) g (constant S512x256 .f32 0x00000000#32))
      (logistic (matmul dot_S512x1024_S1024x256_S512x256_1_0_0_1_n_n none (truncf .bf16 x bitsLt_bf16_f32) g (constant S512x256 .f32 0x00000000#32))))
      (matmul dot_S512x1024_S1024x256_S512x256_1_0_0_1_n_n none (truncf .bf16 x bitsLt_bf16_f32) u (constant S512x256 .f32 0x00000000#32))) bitsLt_bf16_f32)
    w (constant S512x1024 .f32 0x00000000#32)

theorem unit_apply (x : FVec Ideal S512x1024 .f32) (g u : FVec Ideal S1024x256 .bf16) (w : FVec Ideal S256x1024 .bf16) (i : Fin 512) (k : Fin 1024) :
    (unit x g u w (ix2 i k) : EReal)
      = line (fun d => x (ix2 i d)) (fun d f => g (ix2 d f)) (fun d f => u (ix2 d f)) (fun f k => w (ix2 f k)) k := by
  unfold unit line hid
  pointwise

theorem pay11_eq (v0 v1 v2 v3 v4 v5 v6 v7 : Vec Ideal S512x128 .f32) (g u : FVec Ideal S1024x256 .bf16) (w : FVec Ideal S256x1024 .bf16) :
    k0_pay11 v0 v1 v2 v3 v4 v5 v6 v7 g u w = unit (beside v0 v1 v2 v3 v4 v5 v6 v7) g u w := by
  have e : k0_pay11 v0 v1 v2 v3 v4 v5 v6 v7 g u w = unit (beside (shapeCast S512x128 v0 shapeCasts_S512x128_S512x128) (shapeCast S512x128 v1 shapeCasts_S512x128_S512x128)
      (shapeCast S512x128 v2 shapeCasts_S512x128_S512x128) (shapeCast S512x128 v3 shapeCasts_S512x128_S512x128) (shapeCast S512x128 v4 shapeCasts_S512x128_S512x128)
      (shapeCast S512x128 v5 shapeCasts_S512x128_S512x128) (shapeCast S512x128 v6 shapeCasts_S512x128_S512x128) (shapeCast S512x128 v7 shapeCasts_S512x128_S512x128)) g u w := rfl
  rw [e]
  simp only [shapeCast_self]

theorem spos_row (r : ℕ) (hr : r < 8) : ∀ a, S512x128.size a = 0 ∨ (![r, 0] : Fin 2 → Nat) a + (![8, 1] : Fin 2 → Nat) a * (S512x128.size a - 1) < S4096x128.size a := by
  intro a
  match a with
  | ⟨0, _⟩ => exact Or.inr (show r + 8 * (512 - 1) < 4096 by omega)
  | ⟨1, _⟩ => exact Or.inr (show 0 + 1 * (128 - 1) < 128 by omega)

/-- A tile's rows of 1024, from its rows of 128. -/
theorem yRows_apply (x : Vec Ideal S4096x128 .f32) (g u : FVec Ideal S1024x256 .bf16) (w : FVec Ideal S256x1024 .bf16) (i : Fin 512) (k : Fin 1024) :
    (yRows x g u w (ix2 i k) : EReal)
      = line (fun d => x (ix2 (⟨i * 8 + d / 128, by omega⟩ : Fin 4096) (⟨d % 128, by omega⟩ : Fin 128))) (fun d f => g (ix2 d f)) (fun d f => u (ix2 d f)) (fun f k => w (ix2 f k)) k := by
  unfold yRows
  rw [pay11_eq, unit_apply]
  refine congrArg (fun x => line x _ _ _ k) (funext fun d => ?_)
  refine (beside_apply (fun b => View.ld x (⟨⟨![b.val, 0], S512x128.size, ![8, 1], spos_row b.val b.isLt⟩, spos_8_1⟩ : Rect S4096x128)) i d).trans ?_
  exact ld_row _ (by omega) _ x i _

/-- The slice a store writes: 128 columns from `128 r` on. -/
theorem slice_apply (r : ℕ) (hr : r < 8) (v : FVec Ideal S512x1024 .f32) (h : S512x1024.Slices ![0, 128 * r] S512x128) (j : S512x128.Idx) :
    (extractStridedSlice S512x128 ![0, 128 * r] v h j : EReal) = v (ix2 (⟨j 0, (j 0).isLt⟩ : Fin 512) (⟨128 * r + j 1, by have : (j 1 : ℕ) < 128 := (j 1).isLt; omega⟩ : Fin 1024)) := by
  refine congrArg v (funext fun a => Fin.ext ?_)
  match a with
  | ⟨0, _⟩ => exact Nat.zero_add _
  | ⟨1, _⟩ => rfl

/-- What the eight stores leave, as one function of the tile's index. -/
def laid (v : FVec Ideal S512x1024 .f32) (y : S4096x128.Idx) : EReal :=
  v (ix2 (⟨(y 0 : ℕ) / 8, by have : (y 0 : ℕ) < 4096 := (y 0).isLt; omega⟩ : Fin 512)
    (⟨(y 0 : ℕ) % 8 * 128 + y 1, by have : (y 1 : ℕ) < 128 := (y 1).isLt; omega⟩ : Fin 1024))

theorem piece_laid (r : ℕ) (hr : r < 8) (hi : ∀ a, S512x128.size a = 0 ∨ (![r, 0] : Fin 2 → Nat) a + (![8, 1] : Fin 2 → Nat) a * (S512x128.size a - 1) < S4096x128.size a)
    (v : FVec Ideal S512x1024 .f32) (h : S512x1024.Slices ![0, 128 * r] S512x128) (j : S512x128.Idx) :
    (extractStridedSlice S512x128 ![0, 128 * r] v h j : EReal) = laid v ((⟨⟨![r, 0], S512x128.size, ![8, 1], hi⟩, spos_8_1⟩ : Rect S4096x128).emb j) := by
  rw [slice_apply r hr]
  unfold laid
  have e0 : (((⟨⟨![r, 0], S512x128.size, ![8, 1], hi⟩, spos_8_1⟩ : Rect S4096x128).emb j) 0 : ℕ) = r + 8 * (j 0 : ℕ) := rfl
  have e1 : (((⟨⟨![r, 0], S512x128.size, ![8, 1], hi⟩, spos_8_1⟩ : Rect S4096x128).emb j) 1 : ℕ) = 0 + 1 * (j 1 : ℕ) := rfl
  congr 2
  · exact Fin.ext (by simp only [e0]; omega)
  · exact Fin.ext (by simp only [e0, e1]; omega)

theorem yTile_apply (v : FVec Ideal S512x1024 .f32) (y : S4096x128.Idx) : (yTile v y : EReal) = laid v y := by
  unfold yTile
  refine View.canon_apply_of_pieces (Val := Elt Ideal) (laid v) _ (fun p hp => ?_) y (cover_rows _ _ _ _ _ _ _ _ y)
  simp only [List.mem_cons, List.not_mem_nil, or_false] at hp
  rcases hp with rfl | rfl | rfl | rfl | rfl | rfl | rfl | rfl
  · exact piece_laid 7 (by omega) _ v slices_S512x1024_o0_896_S512x128
  · exact piece_laid 6 (by omega) _ v slices_S512x1024_o0_768_S512x128
  · exact piece_laid 5 (by omega) _ v slices_S512x1024_o0_640_S512x128
  · exact piece_laid 4 (by omega) _ v slices_S512x1024_o0_512_S512x128
  · exact piece_laid 3 (by omega) _ v slices_S512x1024_o0_384_S512x128
  · exact piece_laid 2 (by omega) _ v slices_S512x1024_o0_256_S512x128
  · exact piece_laid 1 (by omega) _ v slices_S512x1024_o0_128_S512x128
  · exact piece_laid 0 (by omega) _ v slices_S512x1024_o0_0_S512x128

/-- The tile's output at row `j` of 128 lanes and lane `l`, from its input rows. -/
theorem tile_apply (x : Vec Ideal S4096x128 .f32) (g u : FVec Ideal S1024x256 .bf16) (w : FVec Ideal S256x1024 .bf16) (j : Fin 4096) (l : Fin 128) :
    (yTile (yRows x g u w) (ix2 j l) : EReal)
      = line (fun d => x (ix2 (⟨j / 8 * 8 + d / 128, by omega⟩ : Fin 4096) (⟨d % 128, by omega⟩ : Fin 128))) (fun d f => g (ix2 d f)) (fun d f => u (ix2 d f)) (fun f k => w (ix2 f k))
          ⟨j % 8 * 128 + l, by omega⟩ :=
  (yTile_apply _ _).trans (yRows_apply x g u w ⟨j / 8, by omega⟩ ⟨j % 8 * 128 + l, by omega⟩)

theorem pay1_apply (v : Vec Ideal S1x1024x256 .f32) (d : Fin 1024) (f : Fin 256) : (k0_pay1 v (ix2 d f) : EReal) = v (ix3 (0 : Fin 1) d f) := by
  pointwise [k0_pay1]
theorem pay2_apply (v : Vec Ideal S1x1024x256 .f32) (d : Fin 1024) (f : Fin 256) : (k0_pay2 v (ix2 d f) : EReal) = v (ix3 (0 : Fin 1) d f) := by
  pointwise [k0_pay2]
theorem pay3_apply (v : Vec Ideal S1x256x1024 .f32) (f : Fin 256) (d : Fin 1024) : (k0_pay3 v (ix2 f d) : EReal) = v (ix3 (0 : Fin 1) f d) := by
  pointwise [k0_pay3]
theorem pay10_apply (j : S4096x128.Idx) : (k0_pay10 (F := Ideal) j : EReal) = 0 := by
  pointwise [k0_pay10]

end Cert.Kernel2Ideal.Experts

end
-- ==== Proof.Experts.Host.lean ====
/-
  The experts call's blocks at an index: what the host's reshapes hand the pipeline, and what each window reads of it.
-/
module

public import proofs.«01_k».proof.Proof.Experts.Run
public import proofs.«01_k».proof.Proof.Experts.Tile
public import Idealize.ShloMosaic.Lib.StableHlo.ReadAt
public import Idealize.ShloMosaic.Lib.Pipeline.ValueKit.Point

@[expose] public section

set_option maxRecDepth 16384

noncomputable section

namespace Cert.Kernel2Ideal.Experts

open Idealize.ShloMosaic Idealize.ShloMosaic.TcCoe Idealize.SL.Sem Cert.Kernel2Ideal Cert.Kernel2Ideal.Gen Cert.Experts
open Idealize.ShloMosaic.Pipeline (Dat)

variable (m : (ℓ : Loc nD τ sig) → Buf (Elt Ideal) ℓ)

theorem V_x (c : Dev nD) (r : Fin 655360) (l : Fin 128) :
    (V m c main_v0 (ix2 r l) : EReal) = m ((c : Thread nD τ).loc main_arg0) (ix2 (⟨r / 8, by omega⟩ : Fin 81920) (⟨r % 8 * 128 + l, by omega⟩ : Fin 1024)) := by
  unfold V
  after_reads_at

theorem V_g (c : Dev nD) (e : Fin 32) (d : Fin 1024) (f : Fin 256) :
    (V m c main_v1 (ix3 e d f) : EReal) = m ((c : Thread nD τ).loc main_arg3) (ix4 (0 : Fin 1) e d f) := by
  unfold V
  after_reads_at

theorem V_u (c : Dev nD) (e : Fin 32) (d : Fin 1024) (f : Fin 256) :
    (V m c main_v2 (ix3 e d f) : EReal) = m ((c : Thread nD τ).loc main_arg4) (ix4 (0 : Fin 1) e d f) := by
  unfold V
  after_reads_at

theorem V_w (c : Dev nD) (e : Fin 32) (f : Fin 256) (d : Fin 1024) :
    (V m c main_v3 (ix3 e f d) : EReal) = m ((c : Thread nD τ).loc main_arg5) (ix4 (0 : Fin 1) e f d) := by
  unfold V
  after_reads_at

variable (a : Tab Ideal)

theorem move : ∀ t : Fin grid0.N, cc0_transform_0 (grid0.coords t) = ![t.val, 0] ∧ cc0_transform_4 (grid0.coords t) = ![t.val, 0] := by decide +kernel

theorem idx_x (t : Fin (cfg0 a).N) : ((cfg0 a).win 0).index t = ![t.val, 0] := (move t).1
theorem idx_o (t : Fin (cfg0 a).N) : ((cfg0 a).win 4).index t = ![t.val, 0] := (move t).2
theorem idx_g (t : Fin (cfg0 a).N) : ((cfg0 a).win 1).index t = ![(eW a t).toNat, 0, 0] := rfl
theorem idx_u (t : Fin (cfg0 a).N) : ((cfg0 a).win 2).index t = ![(eW a t).toNat, 0, 0] := rfl
theorem idx_w (t : Fin (cfg0 a).N) : ((cfg0 a).win 3).index t = ![(eW a t).toNat, 0, 0] := rfl

theorem read_x (t : Fin (cfg0 a).N) (A : Vec Ideal S655360x128 .f32) (j : Fin 4096) (l : Fin 128) :
    ((((cfg0 a).win 0).blk t).view.read (Elt Ideal) A (ix2 j l) : EReal)
      = A (ix2 (⟨t.val * 4096 + j, by have : t.val < 160 := t.isLt; omega⟩ : Fin 655360) l) := by
  blk_ext [idx_x a t]

theorem read_o (t : Fin (cfg0 a).N) (A : Vec Ideal S655360x128 .f32) (j : Fin 4096) (l : Fin 128) :
    ((((cfg0 a).win 4).blk t).view.read (Elt Ideal) A (ix2 j l) : EReal)
      = A (ix2 (⟨t.val * 4096 + j, by have : t.val < 160 := t.isLt; omega⟩ : Fin 655360) l) := by
  blk_ext [idx_o a t]

theorem read_g (t : Fin (cfg0 a).N) (e : Fin 32) (he : (eW a t).toNat = e) (A : Vec Ideal S32x1024x256 .f32) (d : Fin 1024) (f : Fin 256) :
    ((((cfg0 a).win 1).blk t).view.read (Elt Ideal) A (ix3 (0 : Fin 1) d f) : EReal) = A (ix3 e d f) := by
  blk_ext [idx_g a t, he]

theorem read_u (t : Fin (cfg0 a).N) (e : Fin 32) (he : (eW a t).toNat = e) (A : Vec Ideal S32x1024x256 .f32) (d : Fin 1024) (f : Fin 256) :
    ((((cfg0 a).win 2).blk t).view.read (Elt Ideal) A (ix3 (0 : Fin 1) d f) : EReal) = A (ix3 e d f) := by
  blk_ext [idx_u a t, he]

theorem read_w (t : Fin (cfg0 a).N) (e : Fin 32) (he : (eW a t).toNat = e) (A : Vec Ideal S32x256x1024 .f32) (f : Fin 256) (d : Fin 1024) :
    ((((cfg0 a).win 3).blk t).view.read (Elt Ideal) A (ix3 (0 : Fin 1) f d) : EReal) = A (ix3 e f d) := by
  blk_ext [idx_w a t, he]

/-- A tile's expert is the table's word at the tile. -/
theorem off_val : ∀ t : Fin grid0.N, k0_off1 (grid0.coords t) 0 = t.val := by decide +kernel

theorem eW_eq (t : Fin (cfg0 a).N) : eW a t = (a.1 0 : IVec S160 32) (ix1 (⟨t.val, t.isLt⟩ : Fin 160)) := by
  refine congrArg (a.1 0 : IVec S160 32) (funext fun b => Fin.ext ?_)
  obtain rfl : b = 0 := Subsingleton.elim _ _
  show k0_off1 (grid0.coords t) 0 + 1 * 0 = t.val
  rw [off_val]; omega

theorem nW_val : nW a = (a.1 1 : IVec S1 32) (ix1 (0 : Fin 1)) :=
  congrArg (a.1 1 : IVec S1 32) (funext fun b => by obtain rfl : b = 0 := Subsingleton.elim _ _; rfl)

end Cert.Kernel2Ideal.Experts

end
-- ==== Proof.Experts.Value.lean ====
/-
  The experts call's result array: at every index the function of Spec.lean.
-/
module

public import proofs.«01_k».proof.Proof.Experts.Host

@[expose] public section

set_option maxRecDepth 16384

noncomputable section

namespace Cert.Kernel2Ideal.Experts

open Idealize.ShloMosaic Idealize.ShloMosaic.TcCoe Idealize.SL.Sem Cert.Kernel2Ideal Cert.Kernel2Ideal.Gen Cert.Experts
open Idealize.ShloMosaic.Pipeline (Dat)

/-- Whether tile `t` is below the count. -/
abbrev on (na : IVec S1 32) (t : Fin 160) : Prop := IntOp.cmpi .slt (BitVec.ofNat 32 t) (na (ix1 (0 : Fin 1))) = 1#1

theorem act_iff (a : Tab Ideal) (t : Fin (cfg0 a).N) : act a t ↔ on (a.1 1) ⟨t.val, t.isLt⟩ := by
  unfold act on
  rw [cond2_iff, coords_val, nW_val]
  show _ ↔ BitVec.ofBool (BitVec.slt _ _) = 1#1
  cases (BitVec.ofNat 32 t.val).slt ((a.1 1 : IVec S1 32) (ix1 (0 : Fin 1))) <;> decide

theorem zero3 : (![0, 0, 0] : Fin 3 → Nat) = fun _ => 0 := by funext a; fin_cases a <;> rfl

variable (m : (ℓ : Loc nD τ sig) → Buf (Elt Ideal) ℓ) (hr : InRange (F := Ideal) (tab0 m 0)) (c : Dev nD)

/-- The whole result array. -/
def whole (m : (ℓ : Loc nD τ sig) → Buf (Elt Ideal) ℓ) (c : Dev nD) (e : Fin 160 → Fin 32) : Vec Ideal S655360x128 .f32 := fun i =>
  result (fun r d => m ((c : Thread nD τ).loc main_arg0) (ix2 r d)) e (on (m ((c : Thread nD τ).loc main_arg2)))
    (fun e d f => m ((c : Thread nD τ).loc main_arg3) (ix4 (0 : Fin 1) e d f)) (fun e d f => m ((c : Thread nD τ).loc main_arg4) (ix4 (0 : Fin 1) e d f))
    (fun e f d => m ((c : Thread nD τ).loc main_arg5) (ix4 (0 : Fin 1) e f d)) ⟨i 0, (i 0).isLt⟩ ⟨i 1, (i 1).isLt⟩

theorem tab_te : ((adm m hr).1 0 : IVec S160 32) = m ((c : Thread nD τ).loc main_arg1) := by
  obtain rfl : c = 0 := Subsingleton.elim _ _
  rfl
theorem tab_na : ((adm m hr).1 1 : IVec S1 32) = m ((c : Thread nD τ).loc main_arg2) := by
  obtain rfl : c = 0 := Subsingleton.elim _ _
  rfl

variable (e : Fin 160 → Fin 32) (he : ∀ t, ((m ((c : Thread nD τ).loc main_arg1) : IVec S160 32) (ix1 t)).toNat = e t)

include he in
theorem eW_val (t : Fin (cfg0 (adm m hr)).N) : (eW (adm m hr) t).toNat = e ⟨t.val, t.isLt⟩ := by
  rw [eW_eq, tab_te m hr c]
  exact he _

theorem blk_x (t : Fin (cfg0 (adm m hr)).N) (j : Fin 4096) (l : Fin 128) :
    (iblk (adm m hr) (V m) c 0 t (ix2 j l) : EReal) = m ((c : Thread nD τ).loc main_arg0)
      (ix2 (⟨(t.val * 4096 + j) / 8, by have : t.val < 160 := t.isLt; omega⟩ : Fin 81920) (⟨(t.val * 4096 + j) % 8 * 128 + l, by omega⟩ : Fin 1024)) :=
  (read_x _ t _ j l).trans (V_x m c _ l)

include he in
theorem sG_apply (t : Fin (cfg0 (adm m hr)).N) (d : Fin 1024) (f : Fin 256) :
    (sG (adm m hr) (V m) c t (ix2 d f) : EReal) = m ((c : Thread nD τ).loc main_arg3) (ix4 (0 : Fin 1) (e ⟨t.val, t.isLt⟩) d f) := by
  refine (pay1_apply _ d f).trans ?_
  refine (congrFun (View.ld_unit_zero zero3 _ _) _).trans ?_
  exact (read_g _ t _ (eW_val m hr c e he t) _ d f).trans (V_g m c _ d f)

include he in
theorem sU_apply (t : Fin (cfg0 (adm m hr)).N) (d : Fin 1024) (f : Fin 256) :
    (sU (adm m hr) (V m) c t (ix2 d f) : EReal) = m ((c : Thread nD τ).loc main_arg4) (ix4 (0 : Fin 1) (e ⟨t.val, t.isLt⟩) d f) := by
  refine (pay2_apply _ d f).trans ?_
  refine (congrFun (View.ld_unit_zero zero3 _ _) _).trans ?_
  exact (read_u _ t _ (eW_val m hr c e he t) _ d f).trans (V_u m c _ d f)

include he in
theorem sD_apply (t : Fin (cfg0 (adm m hr)).N) (f : Fin 256) (d : Fin 1024) :
    (sD (adm m hr) (V m) c t (ix2 f d) : EReal) = m ((c : Thread nD τ).loc main_arg5) (ix4 (0 : Fin 1) (e ⟨t.val, t.isLt⟩) f d) := by
  refine (pay3_apply _ f d).trans ?_
  refine (congrFun (View.ld_unit_zero zero3 _ _) _).trans ?_
  exact (read_w _ t _ (eW_val m hr c e he t) _ f d).trans (V_w m c _ f d)

include he in
/-- The block tile `t` leaves, at row `j` and lane `l`. -/
theorem outT_apply (t : Fin (cfg0 (adm m hr)).N) (j : Fin 4096) (l : Fin 128) :
    (outT (adm m hr) (V m) c t (ix2 j l) : EReal)
      = whole m c e (ix2 (⟨t.val * 4096 + j, by have : t.val < 160 := t.isLt; omega⟩ : Fin 655360) l) := by
  have ht : t.val < 160 := t.isLt
  have h1 : (⟨(t.val * 4096 + (j : ℕ)) / 4096, by omega⟩ : Fin 160) = ⟨t.val, ht⟩ := Fin.ext (by simp only; omega)
  have hw : whole m c e (ix2 (⟨t.val * 4096 + j, by omega⟩ : Fin 655360) l) = result (fun r d => m ((c : Thread nD τ).loc main_arg0) (ix2 r d)) e (on (m ((c : Thread nD τ).loc main_arg2)))
    (fun e d f => m ((c : Thread nD τ).loc main_arg3) (ix4 (0 : Fin 1) e d f)) (fun e d f => m ((c : Thread nD τ).loc main_arg4) (ix4 (0 : Fin 1) e d f))
    (fun e f d => m ((c : Thread nD τ).loc main_arg5) (ix4 (0 : Fin 1) e f d)) (⟨t.val * 4096 + j, by omega⟩ : Fin 655360) l := rfl
  rw [hw]
  unfold result
  simp only [h1]
  unfold outT
  have hon : act (adm m hr) t ↔ on (m ((c : Thread nD τ).loc main_arg2)) ⟨t.val, ht⟩ := by rw [act_iff, tab_na m hr c]
  by_cases hact : act (adm m hr) t
  · rw [if_pos hact, if_pos (hon.mp hact)]
    refine (tile_apply _ _ _ _ j l).trans ?_
    have ec : (⟨(j : ℕ) % 8 * 128 + l, by omega⟩ : Fin 1024) = ⟨(t.val * 4096 + j) % 8 * 128 + l, by omega⟩ := Fin.ext (by simp only; omega)
    have ex : ∀ d : Fin 1024, (iblk (adm m hr) (V m) c 0 t (ix2 (⟨j / 8 * 8 + d / 128, by omega⟩ : Fin 4096) (⟨d % 128, by omega⟩ : Fin 128)) : EReal)
        = m ((c : Thread nD τ).loc main_arg0) (ix2 (⟨(t.val * 4096 + j) / 8, by omega⟩ : Fin 81920) d) := fun d => by
      refine (blk_x m hr c t _ _).trans ?_
      have e1 : (⟨(t.val * 4096 + (j / 8 * 8 + d / 128 : ℕ)) / 8, by omega⟩ : Fin 81920) = ⟨(t.val * 4096 + j) / 8, by omega⟩ := Fin.ext (by simp only; omega)
      have e2 : (⟨(t.val * 4096 + (j / 8 * 8 + d / 128 : ℕ)) % 8 * 128 + d % 128, by omega⟩ : Fin 1024) = d := Fin.ext (by simp only; omega)
      exact congrArg₂ (fun r k => (m ((c : Thread nD τ).loc main_arg0) (ix2 r k) : EReal)) e1 e2
    simp only [ex, sG_apply m hr c e he, sU_apply m hr c e he, sD_apply m hr c e he, ec]
  · rw [if_neg hact, if_neg (fun h => hact (hon.mpr h))]
    exact pay10_apply _

include he in
theorem flushed_eq (t : Fin (cfg0 (adm m hr)).N) :
    (fam m hr 0 c).flushed 4 t = (((cfg0 (adm m hr)).win 4).blk t).view.read (Elt Ideal) (whole m c e) := by
  show ((cfg0 (adm m hr)).win 4).cut (grid0.coords t) ((dats (adm m hr) (V m) 0 c).after 4 t) = _
  rw [after_4]
  have h : ∀ j : S4096x128.Idx, (outT (adm m hr) (V m) c t j : EReal) = (((cfg0 (adm m hr)).win 4).blk t).view.read (Elt Ideal) (whole m c e) j := fun j => by
    obtain ⟨r, l, rfl⟩ : ∃ (r : Fin 4096) (l : Fin 128), j = ix2 r l := ⟨j 0, j 1, by
      funext a
      match a with
      | ⟨0, _⟩ => rfl
      | ⟨1, _⟩ => rfl⟩
    exact (outT_apply m hr c e he t r l).trans (read_o _ t _ r l).symm
  exact funext h

theorem mem_blk (t : Fin (cfg0 (adm m hr)).N) (i : S655360x128.Idx) (h : (i 0 : ℕ) / 4096 = t.val) :
    i ∈ (((cfg0 (adm m hr)).win 4).blk t).view.set := by
  have key : ∀ R : Rect S655360x128, i ∈ R.set → i ∈ ((View.whole main_v4).slice R).set := fun R h => by
    rw [View.set_slice_whole]; exact h
  refine key (((cfg0 (adm m hr)).win 4).rect t) ?_
  refine Rect.mem_set_unit.mpr fun a => ?_
  have h1 : (i 1 : ℕ) < 128 := (i 1).isLt
  match a with
  | ⟨0, _⟩ =>
    show ((cfg0 (adm m hr)).win 4).index t (0 : Fin 2) * 4096 ≤ (i 0 : ℕ) ∧ (i 0 : ℕ) < ((cfg0 (adm m hr)).win 4).index t (0 : Fin 2) * 4096 + 4096
    rw [show ((cfg0 (adm m hr)).win 4).index t (0 : Fin 2) = t.val from congrFun (idx_o _ t) (0 : Fin 2)]
    omega
  | ⟨1, _⟩ =>
    show ((cfg0 (adm m hr)).win 4).index t (1 : Fin 2) * 128 ≤ (i 1 : ℕ) ∧ (i 1 : ℕ) < ((cfg0 (adm m hr)).win 4).index t (1 : Fin 2) * 128 + 128
    rw [show ((cfg0 (adm m hr)).win 4).index t (1 : Fin 2) = 0 from congrFun (idx_o _ t) (1 : Fin 2)]
    omega

theorem flush_each : ∀ t : Fin grid0.N, Pipeline.Window.flushOf grid0 true cc0_transform_4 t = true := by decide +kernel

theorem flush_o (t : Fin (cfg0 (adm m hr)).N) : ((cfg0 (adm m hr)).win 4).flush t = true := flush_each t

theorem cover (i : S655360x128.Idx) :
    ∃ t : Fin (cfg0 (adm m hr)).N, ((cfg0 (adm m hr)).win 4).flush t = true ∧ i ∈ (((cfg0 (adm m hr)).win 4).blk t).view.set := by
  have h0 : (i 0 : ℕ) < 655360 := (i 0).isLt
  exact ⟨⟨(i 0 : ℕ) / 4096, show _ < 160 by omega⟩, flush_o m hr _, mem_blk m hr _ i rfl⟩

include he in
theorem final_o : (fam m hr 0 c).arrAt 4 (cfg0 (adm m hr)).N = whole m c e :=
  (fam m hr 0 c).arrAt_eq_of_cover 4 _ (fun t _ => flushed_eq m hr c e he t) (cover m hr)

end Cert.Kernel2Ideal.Experts

end
-- ==== Proof.Experts.Ref.lean ====
/-
  The experts reference's result at an index: the function of Spec.lean, where every tile's expert is in range.
-/
module

public import proofs.«01_k».proof.Proof.Gen.Reference2Ideal.Run
public import proofs.«01_k».proof.Proof.Experts.Spec

@[expose] public section

set_option maxRecDepth 16384

noncomputable section

namespace Cert.Reference2Ideal.Experts

open Idealize.ShloMosaic Idealize.ShloMosaic.TcCoe Idealize.SL.Sem Cert.Reference2Ideal Cert.Reference2Ideal.Gen Cert.Experts

/-- The tiles' experts as indices: a negative one would count from the end. -/
def picks (te : IVec S160 32) : IVec S160x1 32 :=
  broadcastInDim S160x1 ![0] bcast_S160_S160x1_0 (select (cmpi .slt te (broadcastInDim S160 ![] bcast_S_S160 (constantI S_ 32 0#32))) (addi te (broadcastInDim S160 ![] bcast_S_S160 (constantI S_ 32 32#32))) te)

def takeIn (te : IVec S160 32) (w : Vec Ideal S1x32x1024x256 .f32) : FVec Ideal S160x1024x256 .f32 :=
  Host.gather gather_S32x1024x256_S160x1_S160x1024x256_12_0_n_n_0_1_11024256 (shapeCast _ w shapeCasts_S1x32x1024x256_S32x1024x256) (picks te)

def takeOut (te : IVec S160 32) (w : Vec Ideal S1x32x256x1024 .f32) : FVec Ideal S160x256x1024 .f32 :=
  Host.gather gather_S32x256x1024_S160x1_S160x256x1024_12_0_n_n_0_1_12561024 (shapeCast _ w shapeCasts_S1x32x256x1024_S32x256x1024) (picks te)

def into (x : Vec Ideal S81920x1024 .f32) (w : FVec Ideal S160x1024x256 .f32) : FVec Ideal S160x512x256 .f32 :=
  Host.dotGeneral (F := Ideal) (φ₁ := .f32) (φ₂ := .f32) dot_S160x512x1024_S160x1024x256_S160x512x256_2_1_1_2_0_0 none (shapeCast S160x512x1024 x shapeCasts_S81920x1024_S160x512x1024) w

def gate (h : FVec Ideal S160x512x256 .f32) : FVec Ideal S160x512x256 .f32 :=
  mulf h (Host.divf (broadcastInDim S160x512x256 ![] bcast_S_S160x512x256 (constant S_ .f32 0x3F800000#32)) (addf (broadcastInDim S160x512x256 ![] bcast_S_S160x512x256 (constant S_ .f32 0x3F800000#32)) (Host.exp (Host.negf h))))

def outOf (h : FVec Ideal S160x512x256 .f32) (w : FVec Ideal S160x256x1024 .f32) : FVec Ideal S160x512x1024 .f32 :=
  Host.dotGeneral (F := Ideal) dot_S160x512x256_S160x256x1024_S160x512x1024_2_1_1_2_0_0 none h w

def mask (na : IVec S1 32) : IVec S160x512x1024 1 :=
  broadcastInDim S160x512x1024 ![0, 1, 2] bcast_S160x1x1_S160x512x1024_0_1_2 (cmpi .slt (broadcastInDim S160x1x1 ![0] bcast_S160_S160x1x1_0 (iotaInDim S160 32 0)) (broadcastInDim S160x1x1 ![0, 1, 2] bcast_S1x1x1_S160x1x1_0_1_2 (broadcastInDim S1x1x1 ![2] bcast_S1_S1x1x1_2 na)))

def final (k : IVec S160x512x1024 1) (y : FVec Ideal S160x512x1024 .f32) : Vec Ideal S655360x128 .f32 :=
  shapeCast _ (select k y (broadcastInDim S160x512x1024 ![] bcast_S_S160x512x1024 (id (constant (F := Ideal) S_ .f32 0x00000000#32)))) shapeCasts_S160x512x1024_S655360x128

theorem picks_apply (te : IVec S160 32) (t : Fin 160) (h : (te (ix1 t)).toNat < 32) : picks te (ix2 t (0 : Fin 1)) = te (ix1 t) := by
  have e : picks te (ix2 t (0 : Fin 1)) = Scalar.select (IntOp.cmpi .slt (te (ix1 t)) 0#32) (IntOp.addi (te (ix1 t)) 32#32) (te (ix1 t)) := by
    unfold picks
    pointwise
  have z : IntOp.cmpi .slt (te (ix1 t)) 0#32 = 0#1 := by
    generalize te (ix1 t) = v at h
    have hs : v.slt 0#32 = false := by
      rw [BitVec.slt_eq_decide, decide_eq_false_iff_not, BitVec.toInt_eq_toNat_cond, BitVec.toInt_eq_toNat_cond]
      simp only [BitVec.toNat_ofNat]
      split <;> omega
    simp only [IntOp.cmpi, hs]
    rfl
  rw [e, z]
  rfl

/-- Whole blocks of a table of `N`, one for each of `n` indices. -/
abbrev slabs (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- A block taken by an index within the table is that block. -/
theorem slab_apply {α : Type} {N A B n : ℕ} (wf) (x : (⟨3, ![N, A, B]⟩ : Shape).Idx → α) (idx : IVec ⟨2, ![n, 1]⟩ 32) (t : Fin n) (p : Fin A) (q : Fin B)
    (e : Fin N) (he : (idx (ix2 t (0 : Fin 1))).toInt.toNat = e) :
    Host.gather (slabs N A B n wf) x idx (ix3 t p q) = x (ix3 e p q) := by
  have hs : (slabs N A B n wf).siIdx (ix3 t p q) ⟨List.idxOf (0 : Fin 3) [0], List.idxOf_lt_length_iff.2 (List.mem_singleton.mpr rfl)⟩ = ix2 t (0 : Fin 1) := by
    funext b
    match b with
    | ⟨0, _⟩ => rfl
    | ⟨1, _⟩ => rfl
  have h0 : (slabs N A B n wf).start (ix3 t p q) idx 0 = e := by
    unfold GatherDims.start
    rw [dif_pos (List.mem_singleton.mpr rfl)]
    refine (congrArg (fun z => min (idx z).toInt.toNat (N - 1)) hs).trans ?_
    simp only [he]
    omega
  refine congrArg x (funext fun a => Fin.ext ?_)
  match a with
  | ⟨0, _⟩ => exact (congrArg (fun z => z + 0 + 0) h0).trans rfl
  | ⟨1, _⟩ => exact Nat.zero_add _
  | ⟨2, _⟩ => exact Nat.zero_add _

theorem small (v : BitVec 32) (h : v.toNat < 32) : v.toInt.toNat = v.toNat := by
  rw [BitVec.toInt_eq_toNat_cond]
  split <;> omega

theorem takeIn_apply (te : IVec S160 32) (w : Vec Ideal S1x32x1024x256 .f32) (t : Fin 160) (e : Fin 32) (he : (te (ix1 t)).toNat = e) (d : Fin 1024) (f : Fin 256) :
    (takeIn te w (ix3 t d f) : EReal) = w (ix4 (0 : Fin 1) e d f) := by
  have h : (te (ix1 t)).toNat < 32 := he ▸ e.isLt
  refine (slab_apply (N := 32) (A := 1024) (B := 256) (n := 160) gather_S32x1024x256_S160x1_S160x1024x256_12_0_n_n_0_1_11024256_wf _ _ t d f e (by rw [picks_apply te t h, small _ h, he])).trans ?_
  pointwise

theorem takeOut_apply (te : IVec S160 32) (w : Vec Ideal S1x32x256x1024 .f32) (t : Fin 160) (e : Fin 32) (he : (te (ix1 t)).toNat = e) (f : Fin 256) (d : Fin 1024) :
    (takeOut te w (ix3 t f d) : EReal) = w (ix4 (0 : Fin 1) e f d) := by
  have h : (te (ix1 t)).toNat < 32 := he ▸ e.isLt
  refine (slab_apply (N := 32) (A := 256) (B := 1024) (n := 160) gather_S32x256x1024_S160x1_S160x256x1024_12_0_n_n_0_1_12561024_wf _ _ t f d e (by rw [picks_apply te t h, small _ h, he])).trans ?_
  pointwise

theorem into_apply (x : Vec Ideal S81920x1024 .f32) (w : FVec Ideal S160x1024x256 .f32) (t : Fin 160) (r : Fin 512) (f : Fin 256) :
    (into x w (ix3 t r f) : EReal) = ∑ d : Fin 1024, (x (ix2 (⟨t * 512 + r, by omega⟩ : Fin 81920) d) : EReal) * w (ix3 t d f) := by
  unfold into
  pointwise

theorem gate_apply (h : FVec Ideal S160x512x256 .f32) (i : S160x512x256.Idx) : (gate h i : EReal) = h i * Ideal.logistic (h i) := by
  unfold gate Ideal.logistic
  pointwise

theorem outOf_apply (h : FVec Ideal S160x512x256 .f32) (w : FVec Ideal S160x256x1024 .f32) (t : Fin 160) (r : Fin 512) (k : Fin 1024) :
    (outOf h w (ix3 t r k) : EReal) = ∑ f : Fin 256, (h (ix3 t r f) : EReal) * w (ix3 t f k) := by
  unfold outOf
  pointwise

theorem mask_apply (na : IVec S1 32) (t : Fin 160) (r : Fin 512) (k : Fin 1024) :
    mask na (ix3 t r k) = IntOp.cmpi .slt (BitVec.ofNat 32 t) (na (ix1 (0 : Fin 1))) := by
  unfold mask
  pointwise

theorem final_apply (k : IVec S160x512x1024 1) (y : FVec Ideal S160x512x1024 .f32) (q : Fin 655360) (l : Fin 128) :
    (final k y (ix2 q l) : EReal) = if k (ix3 (⟨q / 4096, by omega⟩ : Fin 160) (⟨q / 8 % 512, by omega⟩ : Fin 512) (⟨q % 8 * 128 + l, by omega⟩ : Fin 1024)) = 1#1 then
      (y (ix3 (⟨q / 4096, by omega⟩ : Fin 160) (⟨q / 8 % 512, by omega⟩ : Fin 512) (⟨q % 8 * 128 + l, by omega⟩ : Fin 1024)) : EReal) else 0 := by
  have z : (id (constant (F := Ideal) S_ .f32 0x00000000#32) ix0 : EReal) = 0 := by
    show Ideal.ofBits .f32 0x00000000#32 = 0
    simp [Ideal.ofBits, Ideal.ieee]
  unfold final
  pointwise
  rw [z]
  rfl

/-- The result as the composition of the parts. -/
def res (a0 : Vec Ideal S81920x1024 .f32) (a1 : IVec S160 32) (a2 : IVec S1 32) (a3 a4 : Vec Ideal S1x32x1024x256 .f32) (a5 : Vec Ideal S1x32x256x1024 .f32) : Vec Ideal S655360x128 .f32 :=
  final (mask a2) (outOf (mulf (gate (into a0 (takeIn a1 a3))) (into a0 (takeIn a1 a4))) (takeOut a1 a5))

/-- Whether tile `t` is below the count. -/
abbrev on (na : IVec S1 32) (t : Fin 160) : Prop := IntOp.cmpi .slt (BitVec.ofNat 32 t) (na (ix1 (0 : Fin 1))) = 1#1

theorem res_apply (a0 : Vec Ideal S81920x1024 .f32) (a1 : IVec S160 32) (a2 : IVec S1 32) (a3 a4 : Vec Ideal S1x32x1024x256 .f32) (a5 : Vec Ideal S1x32x256x1024 .f32)
    (e : Fin 160 → Fin 32) (he : ∀ t, (a1 (ix1 t)).toNat = e t) (q : Fin 655360) (l : Fin 128) :
    (res a0 a1 a2 a3 a4 a5 (ix2 q l) : EReal) = result (fun r d => a0 (ix2 r d)) e (on a2) (fun e d f => a3 (ix4 (0 : Fin 1) e d f)) (fun e d f => a4 (ix4 (0 : Fin 1) e d f))
      (fun e f d => a5 (ix4 (0 : Fin 1) e f d)) q l := by
  unfold res result
  rw [final_apply, mask_apply]
  have hr : (⟨q / 4096 * 512 + q / 8 % 512, by omega⟩ : Fin 81920) = ⟨q / 8, by omega⟩ := Fin.ext (by simp only; omega)
  refine if_congr Iff.rfl ?_ rfl
  rw [outOf_apply]
  unfold line hid
  refine Finset.sum_congr rfl fun f _ => ?_
  rw [takeOut_apply a1 a5 _ _ (he _)]
  refine congrArg (· * (a5 (ix4 (0 : Fin 1) (e ⟨q / 4096, by omega⟩) f (⟨q % 8 * 128 + l, by omega⟩ : Fin 1024)) : EReal)) ?_
  refine (congrArg₂ (fun x y : EReal => x * y) (gate_apply _ _) rfl).trans ?_
  simp only [into_apply, takeIn_apply a1 a3 _ _ (he _), takeIn_apply a1 a4 _ _ (he _), hr]

/-- The run of the reference, its result spelt by the parts. -/
theorem run_res (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v36) = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by unfold res final mask outOf gate into takeIn takeOut picks; with_unfolding_all rfl), (h c).2⟩) (Value.run (F := Ideal) m ρ)

end Cert.Reference2Ideal.Experts

end
-- ==== Proof.Experts.Claims.lean ====
/-
  The claims about the experts call, assembled.
-/
module

public import proofs.«01_k».proof.Defs
public import proofs.«01_k».proof.Proof.Experts.Frames
public import proofs.«01_k».proof.Proof.Experts.Value
public import proofs.«01_k».proof.Proof.Experts.Ref

@[expose] public section

set_option maxRecDepth 16384

noncomputable section

namespace Cert.Experts

open Idealize.ShloMosaic Idealize.ShloMosaic.TcCoe Idealize.SL.Sem

theorem frame_ref : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem algebraic : Cert.algebraic_Kernel2Ideal_Reference2Ideal (hKernel2Ideal := Cert.Kernel2Ideal.Gen.facts)
    (hReference2Ideal := Cert.Reference2Ideal.Gen.facts) (hPre_experts_in_range := Cert.Pre_experts_in_range.Gen.facts) := by
  intro m g m' g' hpre hargs
  have hr := range_ideal m hpre
  refine ⟨fun c => (Cert.Kernel2Ideal.Experts.fam m hr 0 c).arrAt 4 (Cert.Kernel2Ideal.cfg0 (Cert.Kernel2Ideal.Experts.adm m hr)).N, ?_, ?_⟩
  · exact (θ_run Cert.Kernel2Ideal.defs _ _).mono (fun r h => h.1) (Cert.Kernel2Ideal.Experts.run_main m g hr)
  · refine (θ_run Cert.Reference2Ideal.defs _ _).mono (fun r h c => ⟨(h c).1.trans ?_, (h c).2⟩) (Cert.Reference2Ideal.Experts.run_res m' g')
    obtain ⟨a0, a1, a2, a3, a4, a5⟩ := hargs c
    have hte : Cert.Kernel2Ideal.Experts.InRange (F := Ideal) (m ((c : Thread Cert.Kernel2Ideal.nD Cert.Kernel2Ideal.τ).loc Cert.Kernel2Ideal.main_arg1)) :=
      Cert.Kernel2Ideal.Experts.inRange_of _ _ _ _ _ _ (hpre c)
    let e : Fin 160 → Fin 32 := fun t => ⟨((m ((c : Thread Cert.Kernel2Ideal.nD Cert.Kernel2Ideal.τ).loc Cert.Kernel2Ideal.main_arg1) : IVec Cert.Kernel2Ideal.S160 32) (ix1 t)).toNat, hte (ix1 t)⟩
    refine Eq.trans ?_ (Cert.Kernel2Ideal.Experts.final_o m hr c e (fun _ => rfl)).symm
    rw [a0, a1, a2, a3, a4, a5]
    funext i
    have hi : i = ix2 (⟨i 0, (i 0).isLt⟩ : Fin 655360) (⟨i 1, (i 1).isLt⟩ : Fin 128) := by
      funext a
      match a with
      | ⟨0, _⟩ => rfl
      | ⟨1, _⟩ => rfl
    exact (congrArg _ hi).trans (Cert.Reference2Ideal.Experts.res_apply _ _ _ _ _ _ e (fun _ => rfl) _ _)

end Cert.Experts

end
-- ==== Proof.InProj.Spec.lean ====
/-
  The mathematics of the in-projection on the extended reals: a normed row, its projection, and the rotation of the first
  sixteen of every 64 columns.
-/
module

public import Idealize.ShloMosaic.Lib.ValueIdx
public import Idealize.ShloMosaic.Lib.Pointwise

@[expose] public section

noncomputable section

namespace Cert.InProj

open Idealize.ShloMosaic

/-- A row divided by the root of its mean square, times the gain. -/
def hrow (x g : Fin 1024 → EReal) (d : Fin 1024) : EReal :=
  x d * Ideal.rsqrt (Ideal.div (∑ k, x k * x k) (Ideal.ofBits .f32 0x44800000#32) + Ideal.ofBits .f32 0x358637BD#32) * g d

/-- Column `f` of the normed row's product with the weight. -/
def proj (x g : Fin 1024 → EReal) (w : Fin 1024 → Fin 2560 → EReal) (f : Fin 2560) : EReal := ∑ d, hrow x g d * w d f

/-- The angle of frequency `f` at position `s`. -/
def ang (s : Fin 4096) (f : Fin 8) : EReal :=
  FloatOps.sitofp (F := Ideal) FTy.f32 (BitVec.ofNat 32 s) * Ideal.pow (Ideal.ofBits FTy.f32 0x48F42400#32)
    (Ideal.div (-(Ideal.ofBits FTy.f32 0x40000000#32 * FloatOps.sitofp (F := Ideal) FTy.f32 (BitVec.ofNat 32 f))) (Ideal.ofBits FTy.f32 0x41800000#32))

def cosA (s : Fin 4096) (f : Fin 8) : EReal := Ideal.cos (ang s f)
def sinA (s : Fin 4096) (f : Fin 8) : EReal := Ideal.sin (ang s f)

/-- Of every 64 columns, the first eight and the next eight turn against each other by the angles of the position; the
    rest stay. -/
def rot (p : Fin 512 → EReal) (s : Fin 4096) (f : Fin 512) : EReal :=
  if h : (f : ℕ) % 64 < 8 then p f * cosA s ⟨f % 8, by omega⟩ - p ⟨f + 8, by omega⟩ * sinA s ⟨f % 8, by omega⟩
  else if (f : ℕ) % 64 < 16 then p f * cosA s ⟨f % 8, by omega⟩ + p ⟨f - 8, by omega⟩ * sinA s ⟨f % 8, by omega⟩
  else p f

variable (x : Fin 8 → Fin 4096 → Fin 1024 → EReal) (g : Fin 1024 → EReal) (w : Fin 1024 → Fin 2560 → EReal)

/-- The queries, scaled by an eighth and put in powers of two. -/
def resQ (b : Fin 8) (s : Fin 4096) (f : Fin 512) : EReal :=
  rot (fun f => proj (x b s) g w ⟨f, by omega⟩) s f * (((1 / 8) * (Real.log 2)⁻¹ : ℝ) : EReal)

def resK (b : Fin 8) (s : Fin 4096) (f : Fin 512) : EReal := rot (fun f => proj (x b s) g w ⟨512 + f, by omega⟩) s f

/-- The values turned over, sixteen rows of ones after every 128. -/
def resV (b : Fin 8) (e : Fin 576) (s : Fin 4096) : EReal :=
  if (e : ℕ) % 144 < 128 then proj (x b s) g w ⟨1024 + (128 * (e / 144) + e % 144), by omega⟩ else 1

def resX (b : Fin 8) (s : Fin 4096) (f : Fin 512) : EReal := proj (x b s) g w ⟨1536 + f, by omega⟩

def resG (b : Fin 8) (s : Fin 4096) (f : Fin 512) : EReal := proj (x b s) g w ⟨2048 + f, by omega⟩

end Cert.InProj

end
-- ==== Proof.InProj.Body.lean ====
/-
  The payloads of the in-projection's stores, at an index.
-/
module

public import proofs.«01_k».proof.Proof.Gen.Kernel3Ideal.Skeleton
public import proofs.«01_k».proof.Proof.InProj.Spec

@[expose] public section

set_option maxRecDepth 16384

noncomputable section

namespace Cert.Kernel3Ideal.InProj

open Idealize.ShloMosaic Idealize.ShloMosaic.TcCoe Idealize.SL.Sem Cert.Kernel3Ideal Cert.Kernel3Ideal.Gen Cert.InProj

/-- The scale of the queries. -/
theorem scale_eq : Named.named (F := Ideal) κ "q_scale" (φ := .f32) 0x3E38AA3B#32 = (((1 / 8) * (Real.log 2)⁻¹ : ℝ) : EReal) :=
  IdealRules.named_const.ideal_named_scalar _ _ _ _ rfl

theorem pay2_apply (x : Vec Ideal S1x512x1024 .f32) (g : Vec Ideal S1x1024 .f32) (r : Fin 512) (d : Fin 1024) :
    (k0_pay2 x g (ix2 r d) : EReal) = hrow (fun d => x (ix3 (0 : Fin 1) r d)) (fun d => g (ix2 (0 : Fin 1) d)) d := by
  unfold hrow
  pointwise [k0_pay2]

/-- A product of normed rows with 512 columns. -/
def prod (h : FVec Ideal S512x1024 .bf16) (w : FVec Ideal S1024x512 .bf16) : FVec Ideal S512x512 .f32 :=
  matmul dot_S512x1024_S1024x512_S512x512_1_0_0_1_n_n none h w (constant S512x512 .f32 0x00000000#32)

theorem prod_apply (h : FVec Ideal S512x1024 .bf16) (w : FVec Ideal S1024x512 .bf16) (r f : Fin 512) :
    (prod h w (ix2 r f) : EReal) = ∑ d : Fin 1024, (h (ix2 r d) : EReal) * w (ix2 d f) := by
  unfold prod
  pointwise

/-- Columns `128 j` to `128 j + 127`. -/
theorem cut_apply (p : FVec Ideal S512x512 .f32) (j : ℕ) (hj : j < 4) (h : S512x512.Slices ![0, 128 * j] S512x128) (r : Fin 512) (e : Fin 128) :
    (extractStridedSlice S512x128 ![0, 128 * j] p h (ix2 r e) : EReal) = p (ix2 r (⟨128 * j + e, by omega⟩ : Fin 512)) := by
  refine congrArg p (funext fun a => Fin.ext ?_)
  match a with
  | ⟨0, _⟩ => exact Nat.zero_add _
  | ⟨1, _⟩ => rfl

/-- The rotation by the three tables. -/
def turn (c lo hi p : FVec Ideal S512x128 .f32) : FVec Ideal S512x128 .f32 :=
  addf (addf (mulf p c) (mulf (dynamicRotate 1 120#32 none p rotates_S512x128_d1) lo)) (mulf (dynamicRotate 1 8#32 none p rotates_S512x128_d1) hi)

theorem turn_apply (c lo hi p : FVec Ideal S512x128 .f32) (r : Fin 512) (e : Fin 128) :
    (turn c lo hi p (ix2 r e) : EReal) = p (ix2 r e) * c (ix2 r e) + p (ix2 r (⟨(e + 8) % 128, by omega⟩ : Fin 128)) * lo (ix2 r e)
      + p (ix2 r (⟨(e + 120) % 128, by omega⟩ : Fin 128)) * hi (ix2 r e) := by
  unfold turn
  pointwise
  have e1 : ((e : ℕ) + 128 - 120) % 128 = (e + 8) % 128 := by omega
  have e2 : ((e : ℕ) + 128 - 8) % 128 = (e + 120) % 128 := by omega
  simp only [e1, e2]

/-- A rotated block stored as queries, and one stored as keys. -/
def qOut (t : FVec Ideal S512x128 .f32) : FVec Ideal S1x512x128 .bf16 :=
  shapeCast S1x512x128 (truncf .bf16 (mulf t (broadcast S512x128 (Named.named κ "q_scale" 0x3E38AA3B#32))) bitsLt_bf16_f32) shapeCasts_S512x128_S1x512x128
def kOut (t : FVec Ideal S512x128 .f32) : FVec Ideal S1x512x128 .bf16 :=
  shapeCast S1x512x128 (truncf .bf16 t bitsLt_bf16_f32) shapeCasts_S512x128_S1x512x128

theorem qOut_apply (t : FVec Ideal S512x128 .f32) (r : Fin 512) (e : Fin 128) :
    (qOut t (ix3 (0 : Fin 1) r e) : EReal) = t (ix2 r e) * (((1 / 8) * (Real.log 2)⁻¹ : ℝ) : EReal) := by
  unfold qOut
  pointwise
  rw [scale_eq]

theorem kOut_apply (t : FVec Ideal S512x128 .f32) (r : Fin 512) (e : Fin 128) :
    (kOut t (ix3 (0 : Fin 1) r e) : EReal) = t (ix2 r e) := by
  unfold kOut
  pointwise

/-- The values' product, turned over. -/
def prodT (w : FVec Ideal S512x1024 .bf16) (h : FVec Ideal S512x1024 .bf16) : FVec Ideal S512x512 .bf16 :=
  truncf .bf16 (matmul dot_S512x1024_S512x1024_S512x512_1_1_0_0_n_n none w h (constant S512x512 .f32 0x00000000#32)) bitsLt_bf16_f32

theorem prodT_apply (w h : FVec Ideal S512x1024 .bf16) (f r : Fin 512) :
    (prodT w h (ix2 f r) : EReal) = ∑ d : Fin 1024, (h (ix2 r d) : EReal) * w (ix2 f d) := by
  unfold prodT
  pointwise
  exact Finset.sum_congr rfl fun d _ => mul_comm _ _

theorem wide_apply (h : FVec Ideal S512x1024 .bf16) (w : FVec Ideal S1024x512 .bf16) (r f : Fin 512) :
    (k0_pay1 h w (ix3 (0 : Fin 1) r f) : EReal) = ∑ d : Fin 1024, (h (ix2 r d) : EReal) * w (ix2 d f) := by
  pointwise [k0_pay1]

end Cert.Kernel3Ideal.InProj

end
-- ==== Proof.InProj.Tile.lean ====
/-
  What the in-projection's stores leave in the five staged blocks, at an index.
-/
module

public import proofs.«01_k».proof.Proof.Gen.Kernel3Ideal.Frame
public import proofs.«01_k».proof.Proof.InProj.Body
public import Idealize.ShloMosaic.Lib.Pipeline.Value

@[expose] public section

set_option maxRecDepth 16384

noncomputable section

namespace Cert.Kernel3Ideal.InProj

open Idealize.ShloMosaic Idealize.ShloMosaic.TcCoe Idealize.SL.Sem Cert.Kernel3Ideal Cert.Kernel3Ideal.Gen Cert.InProj

/-- The rotation of a whole row, 128 columns by 128. -/
def spun (p : FVec Ideal S512x512 .f32) (c lo hi : FVec Ideal S512x128 .f32) (r f : Fin 512) : EReal :=
  p (ix2 r f) * c (ix2 r (⟨f % 128, by omega⟩ : Fin 128))
    + p (ix2 r (⟨f / 128 * 128 + (f % 128 + 8) % 128, by omega⟩ : Fin 512)) * lo (ix2 r (⟨f % 128, by omega⟩ : Fin 128))
    + p (ix2 r (⟨f / 128 * 128 + (f % 128 + 120) % 128, by omega⟩ : Fin 512)) * hi (ix2 r (⟨f % 128, by omega⟩ : Fin 128))

theorem turn_cut (p : FVec Ideal S512x512 .f32) (c lo hi : FVec Ideal S512x128 .f32) (j : ℕ) (hj : j < 4) (h : S512x512.Slices ![0, 128 * j] S512x128) (r : Fin 512) (e : Fin 128)
    (f : Fin 512) (hf : (f : ℕ) = 128 * j + e) :
    (turn c lo hi (extractStridedSlice S512x128 ![0, 128 * j] p h) (ix2 r e) : EReal) = spun p c lo hi r f := by
  rw [turn_apply, cut_apply p j hj, cut_apply p j hj, cut_apply p j hj]
  unfold spun
  have e0 : (⟨128 * j + e, by omega⟩ : Fin 512) = f := Fin.ext hf.symm
  have e1 : (⟨128 * j + (e + 8) % 128, by omega⟩ : Fin 512) = ⟨f / 128 * 128 + (f % 128 + 8) % 128, by omega⟩ := Fin.ext (by simp only; omega)
  have e2 : (⟨128 * j + (e + 120) % 128, by omega⟩ : Fin 512) = ⟨f / 128 * 128 + (f % 128 + 120) % 128, by omega⟩ := Fin.ext (by simp only; omega)
  have e3 : (⟨f % 128, by omega⟩ : Fin 128) = e := Fin.ext (by simp only; omega)
  rw [e0, e3]
  exact congrArg₂ (fun a b : Fin 512 => (p (ix2 r f) : EReal) * c (ix2 r e) + p (ix2 r a) * lo (ix2 r e) + p (ix2 r b) * hi (ix2 r e)) e1 e2

abbrev lane (y : S1x512x512.Idx) : Fin 512 := ⟨y 2, (y 2).isLt⟩
abbrev line (y : S1x512x512.Idx) : Fin 512 := ⟨y 1, (y 1).isLt⟩

theorem split3 {n k : ℕ} (x : (⟨3, ![1, n, k]⟩ : Shape).Idx) : ∃ (r : Fin n) (e : Fin k), x = ix3 (0 : Fin 1) r e := ⟨x 1, x 2, by
  funext a
  match a with
  | ⟨0, _⟩ => exact Subsingleton.elim (α := Fin 1) _ _
  | ⟨1, _⟩ => rfl
  | ⟨2, _⟩ => rfl⟩

theorem q_piece (p : FVec Ideal S512x512 .f32) (c lo hi : FVec Ideal S512x128 .f32) (j : ℕ) (hj : j < 4) (h : S512x512.Slices ![0, 128 * j] S512x128)
    (inb : ∀ a, (![0, 0, 128 * j] : Fin 3 → ℕ) a + S1x512x128.size a ≤ S1x512x512.size a) (x : S1x512x128.Idx) :
    (qOut (turn c lo hi (extractStridedSlice S512x128 ![0, 128 * j] p h)) x : EReal)
      = spun p c lo hi (line ((Rect.unit (s := S1x512x512) ![0, 0, 128 * j] S1x512x128.size inb).emb x)) (lane ((Rect.unit (s := S1x512x512) ![0, 0, 128 * j] S1x512x128.size inb).emb x))
          * (((1 / 8) * (Real.log 2)⁻¹ : ℝ) : EReal) := by
  obtain ⟨r, e, rfl⟩ := split3 (n := 512) (k := 128) x
  have e1 : line ((Rect.unit (s := S1x512x512) ![0, 0, 128 * j] S1x512x128.size inb).emb (ix3 (0 : Fin 1) r e)) = r := Fin.ext (show 0 + 1 * (r : ℕ) = r by omega)
  rw [qOut_apply, e1, turn_cut p c lo hi j hj h r e (lane ((Rect.unit (s := S1x512x512) ![0, 0, 128 * j] S1x512x128.size inb).emb (ix3 (0 : Fin 1) r e))) (show 128 * j + 1 * (e : ℕ) = 128 * j + e by omega)]

theorem k_piece (p : FVec Ideal S512x512 .f32) (c lo hi : FVec Ideal S512x128 .f32) (j : ℕ) (hj : j < 4) (h : S512x512.Slices ![0, 128 * j] S512x128)
    (inb : ∀ a, (![0, 0, 128 * j] : Fin 3 → ℕ) a + S1x512x128.size a ≤ S1x512x512.size a) (x : S1x512x128.Idx) :
    (kOut (turn c lo hi (extractStridedSlice S512x128 ![0, 128 * j] p h)) x : EReal)
      = spun p c lo hi (line ((Rect.unit (s := S1x512x512) ![0, 0, 128 * j] S1x512x128.size inb).emb x)) (lane ((Rect.unit (s := S1x512x512) ![0, 0, 128 * j] S1x512x128.size inb).emb x)) := by
  obtain ⟨r, e, rfl⟩ := split3 (n := 512) (k := 128) x
  have e1 : line ((Rect.unit (s := S1x512x512) ![0, 0, 128 * j] S1x512x128.size inb).emb (ix3 (0 : Fin 1) r e)) = r := Fin.ext (show 0 + 1 * (r : ℕ) = r by omega)
  rw [kOut_apply, e1, turn_cut p c lo hi j hj h r e (lane ((Rect.unit (s := S1x512x512) ![0, 0, 128 * j] S1x512x128.size inb).emb (ix3 (0 : Fin 1) r e))) (show 128 * j + 1 * (e : ℕ) = 128 * j + e by omega)]

/-- The stores of the queries and of the keys, last first. -/
def qPieces (p : FVec Ideal S512x512 .f32) (c lo hi : FVec Ideal S512x128 .f32) : List (View.Piece (Elt Ideal) S1x512x512 .bf16) :=
  [⟨Rect.unit (s := S1x512x512) ![0, 0, 384] S1x512x128.size inb_S1x512x512_S1x512x128_0_0_384, qOut (turn c lo hi (extractStridedSlice S512x128 ![0, 384] p slices_S512x512_o0_384_S512x128))⟩,
   ⟨Rect.unit (s := S1x512x512) ![0, 0, 256] S1x512x128.size inb_S1x512x512_S1x512x128_0_0_256, qOut (turn c lo hi (extractStridedSlice S512x128 ![0, 256] p slices_S512x512_o0_256_S512x128))⟩,
   ⟨Rect.unit (s := S1x512x512) ![0, 0, 128] S1x512x128.size inb_S1x512x512_S1x512x128_0_0_128, qOut (turn c lo hi (extractStridedSlice S512x128 ![0, 128] p slices_S512x512_o0_128_S512x128))⟩,
   ⟨Rect.unit (s := S1x512x512) ![0, 0, 0] S1x512x128.size inb_S1x512x512_S1x512x128_0_0_0, qOut (turn c lo hi (extractStridedSlice S512x128 ![0, 0] p slices_S512x512_o0_0_S512x128))⟩]

def kPieces (p : FVec Ideal S512x512 .f32) (c lo hi : FVec Ideal S512x128 .f32) : List (View.Piece (Elt Ideal) S1x512x512 .bf16) :=
  [⟨Rect.unit (s := S1x512x512) ![0, 0, 384] S1x512x128.size inb_S1x512x512_S1x512x128_0_0_384, kOut (turn c lo hi (extractStridedSlice S512x128 ![0, 384] p slices_S512x512_o0_384_S512x128))⟩,
   ⟨Rect.unit (s := S1x512x512) ![0, 0, 256] S1x512x128.size inb_S1x512x512_S1x512x128_0_0_256, kOut (turn c lo hi (extractStridedSlice S512x128 ![0, 256] p slices_S512x512_o0_256_S512x128))⟩,
   ⟨Rect.unit (s := S1x512x512) ![0, 0, 128] S1x512x128.size inb_S1x512x512_S1x512x128_0_0_128, kOut (turn c lo hi (extractStridedSlice S512x128 ![0, 128] p slices_S512x512_o0_128_S512x128))⟩,
   ⟨Rect.unit (s := S1x512x512) ![0, 0, 0] S1x512x128.size inb_S1x512x512_S1x512x128_0_0_0, kOut (turn c lo hi (extractStridedSlice S512x128 ![0, 0] p slices_S512x512_o0_0_S512x128))⟩]

/-- The two kinds of rows of the turned values: 128 of the product, sixteen of ones. -/
def vOut (p : FVec Ideal S512x512 .bf16) (o : ℕ) (h : S512x512.Slices ![o, 0] S128x512) : FVec Ideal S1x128x512 .bf16 :=
  shapeCast S1x128x512 (extractStridedSlice S128x512 ![o, 0] p h) shapeCasts_S128x512_S1x128x512
def ones : FVec Ideal S1x16x512 .bf16 :=
  shapeCast S1x16x512 (broadcast S16x512 (Scalar.ofBits (F := Ideal) .bf16 0x3F80#16)) shapeCasts_S16x512_S1x16x512

theorem vOut_apply (p : FVec Ideal S512x512 .bf16) (o : ℕ) (ho : o ≤ 384) (h : S512x512.Slices ![o, 0] S128x512) (e : Fin 128) (r : Fin 512) :
    (vOut p o h (ix3 (0 : Fin 1) e r) : EReal) = p (ix2 (⟨o + e, by omega⟩ : Fin 512) r) := by
  unfold vOut
  pointwise

theorem ones_apply (e : Fin 16) (r : Fin 512) : (ones (ix3 (0 : Fin 1) e r) : EReal) = 1 := by
  unfold ones
  pointwise

def vPieces (p : FVec Ideal S512x512 .bf16) : List (View.Piece (Elt Ideal) S1x576x512 .bf16) :=
  [⟨Rect.unit (s := S1x576x512) ![0, 560, 0] S1x16x512.size inb_S1x576x512_S1x16x512_0_560_0, ones⟩,
   ⟨Rect.unit (s := S1x576x512) ![0, 432, 0] S1x128x512.size inb_S1x576x512_S1x128x512_0_432_0, vOut p 384 slices_S512x512_o384_0_S128x512⟩,
   ⟨Rect.unit (s := S1x576x512) ![0, 416, 0] S1x16x512.size inb_S1x576x512_S1x16x512_0_416_0, ones⟩,
   ⟨Rect.unit (s := S1x576x512) ![0, 288, 0] S1x128x512.size inb_S1x576x512_S1x128x512_0_288_0, vOut p 256 slices_S512x512_o256_0_S128x512⟩,
   ⟨Rect.unit (s := S1x576x512) ![0, 272, 0] S1x16x512.size inb_S1x576x512_S1x16x512_0_272_0, ones⟩,
   ⟨Rect.unit (s := S1x576x512) ![0, 144, 0] S1x128x512.size inb_S1x576x512_S1x128x512_0_144_0, vOut p 128 slices_S512x512_o128_0_S128x512⟩,
   ⟨Rect.unit (s := S1x576x512) ![0, 128, 0] S1x16x512.size inb_S1x576x512_S1x16x512_0_128_0, ones⟩,
   ⟨Rect.unit (s := S1x576x512) ![0, 0, 0] S1x128x512.size inb_S1x576x512_S1x128x512_0_0_0, vOut p 0 slices_S512x512_o0_0_S128x512⟩]

/-- The turned values at an index. -/
def vAt (p : FVec Ideal S512x512 .bf16) (y : S1x576x512.Idx) : EReal :=
  if (y 1 : ℕ) % 144 < 128 then p (ix2 (⟨128 * ((y 1 : ℕ) / 144) + (y 1 : ℕ) % 144 % 128, by have : (y 1 : ℕ) < 576 := (y 1).isLt; omega⟩ : Fin 512) (⟨y 2, (y 2).isLt⟩ : Fin 512)) else 1

theorem v_piece (p : FVec Ideal S512x512 .bf16) (j : ℕ) (hj : j < 4) (h : S512x512.Slices ![128 * j, 0] S128x512)
    (inb : ∀ a, (![0, 144 * j, 0] : Fin 3 → ℕ) a + S1x128x512.size a ≤ S1x576x512.size a) (x : S1x128x512.Idx) :
    (vOut p (128 * j) h x : EReal) = vAt p ((Rect.unit (s := S1x576x512) ![0, 144 * j, 0] S1x128x512.size inb).emb x) := by
  obtain ⟨e, r, rfl⟩ := split3 (n := 128) (k := 512) x
  have e1 : (((Rect.unit (s := S1x576x512) ![0, 144 * j, 0] S1x128x512.size inb).emb (ix3 (0 : Fin 1) e r)) 1 : ℕ) = 144 * j + e := show 144 * j + 1 * (e : ℕ) = _ by omega
  have e2 : (((Rect.unit (s := S1x576x512) ![0, 144 * j, 0] S1x128x512.size inb).emb (ix3 (0 : Fin 1) e r)) 2 : ℕ) = r := show 0 + 1 * (r : ℕ) = _ by omega
  rw [vOut_apply _ _ (by omega)]
  unfold vAt
  rw [if_pos (by omega)]
  congr 2
  · exact Fin.ext (by simp only [e1]; omega)
  · exact Fin.ext e2.symm

theorem one_piece (p : FVec Ideal S512x512 .bf16) (j : ℕ) (hj : j < 4)
    (inb : ∀ a, (![0, 144 * j + 128, 0] : Fin 3 → ℕ) a + S1x16x512.size a ≤ S1x576x512.size a) (x : S1x16x512.Idx) :
    (ones x : EReal) = vAt p ((Rect.unit (s := S1x576x512) ![0, 144 * j + 128, 0] S1x16x512.size inb).emb x) := by
  obtain ⟨e, r, rfl⟩ := split3 (n := 16) (k := 512) x
  have e1 : (((Rect.unit (s := S1x576x512) ![0, 144 * j + 128, 0] S1x16x512.size inb).emb (ix3 (0 : Fin 1) e r)) 1 : ℕ) = 144 * j + 128 + e := show 144 * j + 128 + 1 * (e : ℕ) = _ by omega
  rw [ones_apply]
  unfold vAt
  rw [if_neg (by omega)]

/-- The 512 columns of the weight from `o` on. -/
abbrev wCols (o : ℕ) (inb : ∀ a, (![0, o] : Fin 2 → ℕ) a + S1024x512.size a ≤ S1024x2560.size a) (w : Vec Ideal S1024x2560 .bf16) : FVec Ideal S1024x512 .bf16 :=
  View.ld w (Rect.unit (s := S1024x2560) ![0, o] S1024x512.size inb)

theorem wCols_apply (o : ℕ) (inb : ∀ a, (![0, o] : Fin 2 → ℕ) a + S1024x512.size a ≤ S1024x2560.size a) (ho : o + 512 ≤ 2560) (w : Vec Ideal S1024x2560 .bf16) (d : Fin 1024) (f : Fin 512) :
    (wCols o inb w (ix2 d f) : EReal) = w (ix2 d (⟨o + f, by omega⟩ : Fin 2560)) := by
  refine congrArg w (funext fun a => Fin.ext ?_)
  match a with
  | ⟨0, _⟩ => show 0 + 1 * (d : ℕ) = d; omega
  | ⟨1, _⟩ => show o + 1 * (f : ℕ) = o + f; omega

theorem zero2 : (![0, 0] : Fin 2 → ℕ) = fun _ => 0 := by funext a; fin_cases a <;> rfl
theorem zero3 : (![0, 0, 0] : Fin 3 → ℕ) = fun _ => 0 := by funext a; fin_cases a <;> rfl

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x576x512 .bf16) (harg11 : arg11.IsWhole) (arg12 : Memref sig .tc .vmem S1x512x512 .bf16) (harg12 : arg12.IsWhole) (arg13 : Memref sig .tc .vmem S1x512x512 .bf16) (harg13 : arg13.IsWhole)
variable (x0 : Vec Ideal S1x512x1024 .f32) (x1 : Vec Ideal S1x1024 .f32) (x2 : Vec Ideal S1024x2560 .bf16) (x3 : Vec Ideal S512x1024 .bf16) (x4 : Vec Ideal S512x128 .f32) (x5 : Vec Ideal S512x128 .f32) (x6 : Vec Ideal S512x128 .f32)

/-- The loads of the body, as the executed body names them. -/
def gotX : Vec Ideal S1x512x1024 .f32 := View.ld (arg2.view.read (Elt Ideal) (harg2.unread x0)) (Rect.unit (s := S1x512x1024) ![0, 0, 0] S1x512x1024.size inb_S1x512x1024_S1x512x1024_0_0_0)
def gotG : Vec Ideal S1x1024 .f32 := View.ld (arg3.view.read (Elt Ideal) (harg3.unread x1)) (Rect.unit (s := S1x1024) ![0, 0] S1x1024.size inb_S1x1024_S1x1024_0_0)
def gotC : Vec Ideal S512x128 .f32 := View.ld (arg6.view.read (Elt Ideal) (harg6.unread x4)) (Rect.unit (s := S512x128) ![0, 0] S512x128.size inb_S512x128_S512x128_0_0)
def gotLo : Vec Ideal S512x128 .f32 := View.ld (arg7.view.read (Elt Ideal) (harg7.unread x5)) (Rect.unit (s := S512x128) ![0, 0] S512x128.size inb_S512x128_S512x128_0_0)
def gotHi : Vec Ideal S512x128 .f32 := View.ld (arg8.view.read (Elt Ideal) (harg8.unread x6)) (Rect.unit (s := S512x128) ![0, 0] S512x128.size inb_S512x128_S512x128_0_0)
def gotWv : Vec Ideal S512x1024 .bf16 := View.ld (arg5.view.read (Elt Ideal) (harg5.unread x3)) (Rect.unit (s := S512x1024) ![0, 0] S512x1024.size inb_S512x1024_S512x1024_0_0)

theorem gotX_eq : gotX arg2 harg2 x0 = x0 := (View.ld_unit_zero (S := S1x512x1024) zero3 _ _).trans (harg2.read_unread x0)
theorem gotG_eq : gotG arg3 harg3 x1 = x1 := (View.ld_unit_zero (S := S1x1024) zero2 _ _).trans (harg3.read_unread x1)
theorem gotC_eq : gotC arg6 harg6 x4 = x4 := (View.ld_unit_zero (S := S512x128) zero2 _ _).trans (harg6.read_unread x4)
theorem gotLo_eq : gotLo arg7 harg7 x5 = x5 := (View.ld_unit_zero (S := S512x128) zero2 _ _).trans (harg7.read_unread x5)
theorem gotHi_eq : gotHi arg8 harg8 x6 = x6 := (View.ld_unit_zero (S := S512x128) zero2 _ _).trans (harg8.read_unread x6)
theorem gotWv_eq : gotWv arg5 harg5 x3 = x3 := (View.ld_unit_zero (S := S512x1024) zero2 _ _).trans (harg5.read_unread x3)

/-- The product that the queries rotate, and the keys'. -/
abbrev pQ (x : Vec Ideal S1x512x1024 .f32) (g : Vec Ideal S1x1024 .f32) (w : Vec Ideal S1024x2560 .bf16) : FVec Ideal S512x512 .f32 :=
  prod (k0_pay2 x g) (shapeCast S1024x512 (wCols 0 inb_S1024x2560_S1024x512_0_0 w) shapeCasts_S1024x512_S1024x512)
abbrev pK (x : Vec Ideal S1x512x1024 .f32) (g : Vec Ideal S1x1024 .f32) (w : Vec Ideal S1024x2560 .bf16) : FVec Ideal S512x512 .f32 :=
  prod (k0_pay2 x g) (shapeCast S1024x512 (wCols 512 inb_S1024x2560_S1024x512_0_512 w) shapeCasts_S1024x512_S1024x512)

theorem out7_apply (y : S1x512x512.Idx) : (out0_A_7 c i arg2 harg2 arg3 harg3 arg4 harg4 arg5 harg5 arg6 harg6 arg7 harg7 arg8 harg8 arg9 harg9 arg10 harg10 arg11 harg11 arg12 harg12 arg13 harg13 x0 x1 x2 x3 x4 x5 x6 y : EReal)
    = spun (prod (k0_pay2 x0 x1) (wCols 0 inb_S1024x2560_S1024x512_0_0 x2)) x4 x5 x6 (line y) (lane y) * (((1 / 8) * (Real.log 2)⁻¹ : ℝ) : EReal) := by
  unfold out0_A_7
  rw [View.read_writes_junk_eq_canon]
  refine View.canon_apply_of_pieces (Val := Elt Ideal) (fun y => spun (prod (k0_pay2 x0 x1) (wCols 0 inb_S1024x2560_S1024x512_0_0 x2)) x4 x5 x6 (line y) (lane y) * (((1 / 8) * (Real.log 2)⁻¹ : ℝ) : EReal)) _ (fun p hp => ?_) y
    (cover0_A_7 c i arg2 harg2 arg3 harg3 arg4 harg4 arg5 harg5 arg6 harg6 arg7 harg7 arg8 harg8 arg9 harg9 arg10 harg10 arg11 harg11 arg12 harg12 arg13 harg13 x0 x1 x2 x3 x4 x5 x6 y)
  have hp' : p ∈ qPieces (pQ (gotX arg2 harg2 x0) (gotG arg3 harg3 x1) (arg4.view.read (Elt Ideal) (harg4.unread x2))) (shapeCast S512x128 (gotC arg6 harg6 x4) shapeCasts_S512x128_S512x128)
      (shapeCast S512x128 (gotLo arg7 harg7 x5) shapeCasts_S512x128_S512x128) (shapeCast S512x128 (gotHi arg8 harg8 x6) shapeCasts_S512x128_S512x128) := hp
  clear hp
  simp only [pQ, gotX_eq, gotG_eq, gotC_eq, gotLo_eq, gotHi_eq, Memref.IsWhole.read_unread, shapeCast_self] at hp'
  simp only [qPieces, List.mem_cons, List.not_mem_nil, or_false] at hp'
  rcases hp' with rfl | rfl | rfl | rfl
  · exact q_piece (prod (k0_pay2 x0 x1) (wCols 0 inb_S1024x2560_S1024x512_0_0 x2)) x4 x5 x6 3 (by omega) slices_S512x512_o0_384_S512x128 inb_S1x512x512_S1x512x128_0_0_384
  · exact q_piece (prod (k0_pay2 x0 x1) (wCols 0 inb_S1024x2560_S1024x512_0_0 x2)) x4 x5 x6 2 (by omega) slices_S512x512_o0_256_S512x128 inb_S1x512x512_S1x512x128_0_0_256
  · exact q_piece (prod (k0_pay2 x0 x1) (wCols 0 inb_S1024x2560_S1024x512_0_0 x2)) x4 x5 x6 1 (by omega) slices_S512x512_o0_128_S512x128 inb_S1x512x512_S1x512x128_0_0_128
  · exact q_piece (prod (k0_pay2 x0 x1) (wCols 0 inb_S1024x2560_S1024x512_0_0 x2)) x4 x5 x6 0 (by omega) slices_S512x512_o0_0_S512x128 inb_S1x512x512_S1x512x128_0_0_0

theorem out8_apply (y : S1x512x512.Idx) : (out0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 y : EReal)
    = spun (prod (k0_pay2 x0 x1) (wCols 512 inb_S1024x2560_S1024x512_0_512 x2)) x4 x5 x6 (line y) (lane y) := by
  unfold out0_A_8
  rw [View.read_writes_junk_eq_canon]
  refine View.canon_apply_of_pieces (Val := Elt Ideal) (fun y => spun (prod (k0_pay2 x0 x1) (wCols 512 inb_S1024x2560_S1024x512_0_512 x2)) x4 x5 x6 (line y) (lane y)) _ (fun p hp => ?_) y
    (cover0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 y)
  have hp' : p ∈ kPieces (pK (gotX arg2 harg2 x0) (gotG arg3 harg3 x1) (arg4.view.read (Elt Ideal) (harg4.unread x2))) (shapeCast S512x128 (gotC arg6 harg6 x4) shapeCasts_S512x128_S512x128)
      (shapeCast S512x128 (gotLo arg7 harg7 x5) shapeCasts_S512x128_S512x128) (shapeCast S512x128 (gotHi arg8 harg8 x6) shapeCasts_S512x128_S512x128) := hp
  clear hp
  simp only [pK, gotX_eq, gotG_eq, gotC_eq, gotLo_eq, gotHi_eq, Memref.IsWhole.read_unread, shapeCast_self] at hp'
  simp only [kPieces, List.mem_cons, List.not_mem_nil, or_false] at hp'
  rcases hp' with rfl | rfl | rfl | rfl
  · exact k_piece (prod (k0_pay2 x0 x1) (wCols 512 inb_S1024x2560_S1024x512_0_512 x2)) x4 x5 x6 3 (by omega) slices_S512x512_o0_384_S512x128 inb_S1x512x512_S1x512x128_0_0_384
  · exact k_piece (prod (k0_pay2 x0 x1) (wCols 512 inb_S1024x2560_S1024x512_0_512 x2)) x4 x5 x6 2 (by omega) slices_S512x512_o0_256_S512x128 inb_S1x512x512_S1x512x128_0_0_256
  · exact k_piece (prod (k0_pay2 x0 x1) (wCols 512 inb_S1024x2560_S1024x512_0_512 x2)) x4 x5 x6 1 (by omega) slices_S512x512_o0_128_S512x128 inb_S1x512x512_S1x512x128_0_0_128
  · exact k_piece (prod (k0_pay2 x0 x1) (wCols 512 inb_S1024x2560_S1024x512_0_512 x2)) x4 x5 x6 0 (by omega) slices_S512x512_o0_0_S512x128 inb_S1x512x512_S1x512x128_0_0_0

theorem out9_apply (y : S1x576x512.Idx) : (out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 y : EReal) = vAt (prodT x3 (k0_pay2 x0 x1)) y := by
  unfold out0_A_9
  rw [View.read_writes_junk_eq_canon]
  refine View.canon_apply_of_pieces (Val := Elt Ideal) (vAt (prodT x3 (k0_pay2 x0 x1))) _ (fun p hp => ?_) y
    (cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 y)
  have hp' : p ∈ vPieces (prodT (shapeCast S512x1024 (gotWv arg5 harg5 x3) shapeCasts_S512x1024_S512x1024) (k0_pay2 (gotX arg2 harg2 x0) (gotG arg3 harg3 x1))) := hp
  clear hp
  simp only [gotX_eq, gotG_eq, gotWv_eq, Memref.IsWhole.read_unread, shapeCast_self] at hp'
  simp only [vPieces, List.mem_cons, List.not_mem_nil, or_false] at hp'
  rcases hp' with rfl | rfl | rfl | rfl | rfl | rfl | rfl | rfl
  · exact one_piece (prodT x3 (k0_pay2 x0 x1)) 3 (by omega) inb_S1x576x512_S1x16x512_0_560_0
  · exact v_piece (prodT x3 (k0_pay2 x0 x1)) 3 (by omega) slices_S512x512_o384_0_S128x512 inb_S1x576x512_S1x128x512_0_432_0
  · exact one_piece (prodT x3 (k0_pay2 x0 x1)) 2 (by omega) inb_S1x576x512_S1x16x512_0_416_0
  · exact v_piece (prodT x3 (k0_pay2 x0 x1)) 2 (by omega) slices_S512x512_o256_0_S128x512 inb_S1x576x512_S1x128x512_0_288_0
  · exact one_piece (prodT x3 (k0_pay2 x0 x1)) 1 (by omega) inb_S1x576x512_S1x16x512_0_272_0
  · exact v_piece (prodT x3 (k0_pay2 x0 x1)) 1 (by omega) slices_S512x512_o128_0_S128x512 inb_S1x576x512_S1x128x512_0_144_0
  · exact one_piece (prodT x3 (k0_pay2 x0 x1)) 0 (by omega) inb_S1x576x512_S1x16x512_0_128_0
  · exact v_piece (prodT x3 (k0_pay2 x0 x1)) 0 (by omega) slices_S512x512_o0_0_S128x512 inb_S1x576x512_S1x128x512_0_0_0

theorem out10_eq : out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 = k0_pay1 (k0_pay2 x0 x1) (wCols 1536 inb_S1024x2560_S1024x512_0_1536 x2) := by
  have h : out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 = View.canon [⟨Rect.unit (s := S1x512x512) ![0, 0, 0] S1x512x512.size inb_S1x512x512_S1x512x512_0_0_0,
      k0_pay1 (k0_pay2 (gotX arg2 harg2 x0) (gotG arg3 harg3 x1)) (shapeCast S1024x512 (wCols 1536 inb_S1024x2560_S1024x512_0_1536 (arg4.view.read (Elt Ideal) (harg4.unread x2))) shapeCasts_S1024x512_S1024x512)⟩] := by
    unfold out0_A_10
    rw [View.read_writes_junk_eq_canon]
    rfl
  rw [h, View.canon_unit_zero zero3]
  simp only [gotX_eq, gotG_eq, Memref.IsWhole.read_unread, shapeCast_self]

theorem out11_eq : out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 = k0_pay1 (k0_pay2 x0 x1) (wCols 2048 inb_S1024x2560_S1024x512_0_2048 x2) := by
  have h : out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 = View.canon [⟨Rect.unit (s := S1x512x512) ![0, 0, 0] S1x512x512.size inb_S1x512x512_S1x512x512_0_0_0,
      k0_pay1 (k0_pay2 (gotX arg2 harg2 x0) (gotG arg3 harg3 x1)) (shapeCast S1024x512 (wCols 2048 inb_S1024x2560_S1024x512_0_2048 (arg4.view.read (Elt Ideal) (harg4.unread x2))) shapeCasts_S1024x512_S1024x512)⟩] := by
    unfold out0_A_11
    rw [View.read_writes_junk_eq_canon]
    rfl
  rw [h, View.canon_unit_zero zero3]
  simp only [gotX_eq, gotG_eq, Memref.IsWhole.read_unread, shapeCast_self]

end Cert.Kernel3Ideal.InProj

end
-- ==== Proof.InProj.Host.lean ====
/-
  The arrays the in-projection call finds, at an index.
-/
module

public import proofs.«01_k».proof.Proof.Gen.Kernel3Ideal.Frame.Runs
public import proofs.«01_k».proof.Proof.InProj.Spec
public import Idealize.ShloMosaic.Lib.StableHlo.ReadAt
public import Idealize.ShloMosaic.Lib.Pipeline.ValueKit.Point
public import Idealize.ShloMosaic.Lib.Routing.OpsPair
public import Idealize.ShloMosaic.Lib.Routing.OpsSet

@[expose] public section

set_option maxRecDepth 16384

noncomputable section

namespace Cert.Kernel3Ideal.InProj

open Idealize.ShloMosaic Idealize.ShloMosaic.TcCoe Idealize.SL.Sem Cert.Kernel3Ideal Cert.Kernel3Ideal.Gen Cert.InProj
open Idealize.ShloMosaic.Pipeline (Dat)

variable (m : (ℓ : Loc nD τ sig) → Buf (Elt Ideal) ℓ)

/-- The divisor, one where it is zero. -/
def dvs (n : BitVec 32) : IVec S_ 32 :=
  select (cmpi .eq (id (constantI S_ 32 n)) (constantI S_ 32 0#32)) (constantI S_ 32 1#32) (id (constantI S_ 32 n))

/-- The truncated remainder by the divisor. -/
def rem (n : BitVec 32) (x : IVec S128 32) : IVec S128 32 :=
  Host.remsi x (broadcastInDim S128 ![] bcast_S_S128 (dvs n))

/-- The remainder with the divisor's sign. -/
def md (n : BitVec 32) (x : IVec S128 32) : IVec S128 32 :=
  select (andi (cmpi .ne (cmpi .slt (rem n x) (broadcastInDim S128 ![] bcast_S_S128 (constantI S_ 32 0#32)))
      (broadcastInDim S128 ![] bcast_S_S128 (cmpi .slt (dvs n) (constantI S_ 32 0#32))))
    (cmpi .ne (rem n x) (broadcastInDim S128 ![] bcast_S_S128 (constantI S_ 32 0#32))))
    (addi (rem n x) (broadcastInDim S128 ![] bcast_S_S128 (dvs n))) (rem n x)

/-- A lane's place within its 64, and that place within its 8. -/
def lane64 : IVec S128 32 := md 64#32 (iotaInDim S128 32 0)
def lane8 : IVec S128 32 := md 8#32 lane64

/-- The table column of each lane. -/
def pick : IVec S128x1 32 :=
  broadcastInDim S128x1 ![0] bcast_S128_S128x1_0 (select (cmpi .slt lane8 (broadcastInDim S128 ![] bcast_S_S128 (constantI S_ 32 0#32)))
    (addi lane8 (broadcastInDim S128 ![] bcast_S_S128 (constantI S_ 32 8#32))) lane8)

/-- The angles: position times frequency. -/
def angT : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
            (mulf (broadcastInDim S8 ![] bcast_S_S8 (constant S_ .f32 0x40000000#32)) (sitofp .f32 (iotaInDim S8 32 0)))))
          (broadcastInDim S8 ![] bcast_S_S8 (constant S_ .f32 0x41800000#32))))))

/-- A table of 8 columns spread over the lanes. -/
def spread (x : FVec Ideal S4096x8 .f32) : FVec Ideal S4096x128 .f32 :=
  Host.gather gather_S4096x8_S128x1_S4096x128_0_1_n_n_1_1_40961 x pick

/-- `x` on the lanes that `k` holds on, a constant elsewhere. -/
def onLanes (k : IVec S1x128 1) (x : FVec Ideal S4096x128 .f32) (z : BitVec 32) : FVec Ideal S4096x128 .f32 :=
  select (broadcastInDim S4096x128 ![0, 1] bcast_S1x128_S4096x128_0_1 k) x (broadcastInDim S4096x128 ![] bcast_S_S4096x128 (id (constant (F := Ideal) S_ .f32 z)))

def below (n : BitVec 32) : IVec S1x128 1 :=
  cmpi .slt (broadcastInDim S1x128 ![1] bcast_S128_S1x128_1 lane64) (broadcastInDim S1x128 ![] bcast_S_S1x128 (constantI S_ 32 n))
def from8 : IVec S1x128 1 :=
  cmpi .sge (broadcastInDim S1x128 ![1] bcast_S128_S1x128_1 lane64) (broadcastInDim S1x128 ![] bcast_S_S1x128 (constantI S_ 32 8#32))

def cTab : FVec Ideal S4096x128 .f32 := onLanes (below 16#32) (spread (Host.cos angT)) 0x3F800000#32
def loTab : FVec Ideal S4096x128 .f32 := onLanes (below 8#32) (Host.negf (spread (Host.sin angT))) 0x00000000#32
def hiTab : FVec Ideal S4096x128 .f32 := onLanes (andi from8 (below 16#32)) (spread (Host.sin angT)) 0x00000000#32

theorem V_c (c : Dev nD) : V m c main_v33 = cTab := by
  unfold V
  after_reads_simp
  all_goals try simp -implicitDefEqProofs only [StableHlo.TRef.toBuf, StableHlo.TRef.ofBuf, cast_cast, cast_eq]
  rfl

theorem V_lo (c : Dev nD) : V m c main_v45 = loTab := by
  unfold V
  after_reads_simp
  all_goals try simp -implicitDefEqProofs only [StableHlo.TRef.toBuf, StableHlo.TRef.ofBuf, cast_cast, cast_eq]
  rfl

theorem V_hi (c : Dev nD) : V m c main_v60 = hiTab := by
  unfold V
  after_reads_simp
  all_goals try simp -implicitDefEqProofs only [StableHlo.TRef.toBuf, StableHlo.TRef.ofBuf, cast_cast, cast_eq]
  rfl

theorem V_g (c : Dev nD) (d : Fin 1024) :
    (V m c main_v64 (ix2 (0 : Fin 1) d) : EReal) = m ((c : Thread nD τ).loc main_arg1) (ix2 (0 : Fin 1) d) := by
  unfold V
  after_reads_at

theorem V_w (c : Dev nD) (d : Fin 1024) (f : Fin 2560) :
    (V m c main_v61 (ix2 d f) : EReal) = m ((c : Thread nD τ).loc main_arg2) (ix3 (0 : Fin 1) d f) := by
  unfold V
  after_reads_at

theorem V_wv (c : Dev nD) (f : Fin 512) (d : Fin 1024) :
    (V m c main_v63 (ix2 f d) : EReal) = m ((c : Thread nD τ).loc main_arg2) (ix3 (0 : Fin 1) d (⟨1024 + f, by omega⟩ : Fin 2560)) := by
  unfold V
  after_reads_at

theorem idx : ∀ t : Fin cfg0.N, win0_0.index t = ![t.val % 8, t.val / 8, 0] ∧ win0_1.index t = ![0, 0] ∧ win0_2.index t = ![0, 0]
    ∧ win0_3.index t = ![0, 0] ∧ win0_4.index t = ![t.val / 8, 0] ∧ win0_5.index t = ![t.val / 8, 0] ∧ win0_6.index t = ![t.val / 8, 0]
    ∧ win0_7.index t = ![t.val % 8, t.val / 8, 0] ∧ win0_8.index t = ![t.val % 8, t.val / 8, 0] ∧ win0_9.index t = ![t.val % 8, 0, t.val / 8]
    ∧ win0_10.index t = ![t.val % 8, t.val / 8, 0] ∧ win0_11.index t = ![t.val % 8, t.val / 8, 0] :=
  (by decide +kernel : ∀ t : Fin grid0.N, _)

theorem read_x (t : Fin cfg0.N) (A : Vec Ideal S8x4096x1024 .f32) (b : Fin 8) (i : Fin 8) (ht : t.val = 8 * i + b) (r : Fin 512) (d : Fin 1024) :
    (((cfg0.win 0).blk t).view.read (Elt Ideal) A (ix3 (0 : Fin 1) r d) : EReal) = A (ix3 b (⟨512 * i + r, by omega⟩ : Fin 4096) d) := by
  blk_ext [idx t]

theorem read_g (t : Fin cfg0.N) (A : Vec Ideal S1x1024 .f32) (d : Fin 1024) :
    (((cfg0.win 1).blk t).view.read (Elt Ideal) A (ix2 (0 : Fin 1) d) : EReal) = A (ix2 (0 : Fin 1) d) := by
  blk_ext [idx t]

theorem read_w (t : Fin cfg0.N) (A : Vec Ideal S1024x2560 .bf16) (d : Fin 1024) (f : Fin 2560) :
    (((cfg0.win 2).blk t).view.read (Elt Ideal) A (ix2 d f) : EReal) = A (ix2 d f) := by
  blk_ext [idx t]

theorem read_wv (t : Fin cfg0.N) (A : Vec Ideal S512x1024 .bf16) (f : Fin 512) (d : Fin 1024) :
    (((cfg0.win 3).blk t).view.read (Elt Ideal) A (ix2 f d) : EReal) = A (ix2 f d) := by
  blk_ext [idx t]

theorem read_c (t : Fin cfg0.N) (A : Vec Ideal S4096x128 .f32) (i : Fin 8) (ht : t.val / 8 = i) (r : Fin 512) (e : Fin 128) :
    (((cfg0.win 4).blk t).view.read (Elt Ideal) A (ix2 r e) : EReal) = A (ix2 (⟨512 * i + r, by omega⟩ : Fin 4096) e) := by
  blk_ext [idx t]

theorem read_lo (t : Fin cfg0.N) (A : Vec Ideal S4096x128 .f32) (i : Fin 8) (ht : t.val / 8 = i) (r : Fin 512) (e : Fin 128) :
    (((cfg0.win 5).blk t).view.read (Elt Ideal) A (ix2 r e) : EReal) = A (ix2 (⟨512 * i + r, by omega⟩ : Fin 4096) e) := by
  blk_ext [idx t]

theorem read_hi (t : Fin cfg0.N) (A : Vec Ideal S4096x128 .f32) (i : Fin 8) (ht : t.val / 8 = i) (r : Fin 512) (e : Fin 128) :
    (((cfg0.win 6).blk t).view.read (Elt Ideal) A (ix2 r e) : EReal) = A (ix2 (⟨512 * i + r, by omega⟩ : Fin 4096) e) := by
  blk_ext [idx t]

theorem lane64_apply (e : Fin 128) : lane64 (ix1 e) = BitVec.ofNat 32 (e % 64) := by
  unfold lane64 md rem dvs
  pointwise
  revert e
  decide +kernel

theorem lane8_apply (e : Fin 128) : lane8 (ix1 e) = BitVec.ofNat 32 (e % 8) := by
  unfold lane8 md rem dvs
  pointwise
  rw [lane64_apply]
  revert e
  decide +kernel

theorem pick_apply (e : Fin 128) : (pick (ix2 e (0 : Fin 1))).toInt.toNat = e % 8 := by
  have h : pick (ix2 e (0 : Fin 1)) = Scalar.select (IntOp.cmpi .slt (lane8 (ix1 e)) 0#32) (IntOp.addi (lane8 (ix1 e)) 8#32) (lane8 (ix1 e)) := by
    unfold pick
    pointwise
  rw [h, lane8_apply]
  revert e
  decide +kernel

theorem below_apply (n : BitVec 32) (e : Fin 128) : below n (ix2 (0 : Fin 1) e) = IntOp.cmpi .slt (BitVec.ofNat 32 (e % 64)) n := by
  unfold below
  pointwise
  rw [lane64_apply]

theorem from8_apply (e : Fin 128) : from8 (ix2 (0 : Fin 1) e) = IntOp.cmpi .sge (BitVec.ofNat 32 (e % 64)) 8#32 := by
  unfold from8
  pointwise
  rw [lane64_apply]

theorem angT_apply (s : Fin 4096) (f : Fin 8) : (angT (ix2 s f) : EReal) = ang s f := by
  unfold angT ang
  pointwise

/-- Columns taken from a table of `N`, one for each of `n` indices. -/
abbrev cols (A N n : ℕ) (wf : GatherDims.WF ⟨2, ![A, N]⟩ ⟨2, ![n, 1]⟩ ⟨2, ![A, n]⟩ [0] [1] [] [1] [] 1 ![A, 1]) :
    GatherDims ⟨2, ![A, N]⟩ ⟨2, ![n, 1]⟩ ⟨2, ![A, n]⟩ where
  offsetDims := [0]
  collapsedSliceDims := [1]
  operandBatchingDims := []
  startIndicesBatchingDims := []
  startIndexMap := [1]
  indexVectorDim := 1
  sliceSizes := ![A, 1]
  wf := wf

/-- A column taken by an index within the table is that column. -/
theorem col_apply {α : Type} {A N n : ℕ} (wf) (x : (⟨2, ![A, N]⟩ : Shape).Idx → α) (idx : IVec ⟨2, ![n, 1]⟩ 32) (p : Fin A) (t : Fin n)
    (e : Fin N) (he : (idx (ix2 t (0 : Fin 1))).toInt.toNat = e) :
    Host.gather (cols A N n wf) x idx (ix2 p t) = x (ix2 p e) := by
  have hs : (cols A N n wf).siIdx (ix2 p t) ⟨List.idxOf (1 : Fin 2) [1], List.idxOf_lt_length_iff.2 (List.mem_singleton.mpr rfl)⟩ = ix2 t (0 : Fin 1) := by
    funext b
    match b with
    | ⟨0, _⟩ => rfl
    | ⟨1, _⟩ => rfl
  have h0 : (cols A N n wf).start (ix2 p t) idx 1 = e := by
    unfold GatherDims.start
    rw [dif_pos (List.mem_singleton.mpr rfl)]
    refine (congrArg (fun z => min (idx z).toInt.toNat (N - 1)) hs).trans ?_
    simp only [he]
    omega
  refine congrArg x (funext fun a => Fin.ext ?_)
  match a with
  | ⟨0, _⟩ => exact Nat.zero_add _
  | ⟨1, _⟩ => exact (congrArg (fun z => z + 0 + 0) h0).trans rfl

theorem spread_apply (x : FVec Ideal S4096x8 .f32) (s : Fin 4096) (e : Fin 128) :
    (spread x (ix2 s e) : EReal) = x (ix2 s (⟨e % 8, by omega⟩ : Fin 8)) :=
  col_apply (A := 4096) (N := 8) (n := 128) gather_S4096x8_S128x1_S4096x128_0_1_n_n_1_1_40961_wf x pick s e ⟨e % 8, by omega⟩ (pick_apply e)

theorem onLanes_apply (k : IVec S1x128 1) (x : FVec Ideal S4096x128 .f32) (z : BitVec 32) (s : Fin 4096) (e : Fin 128) :
    (onLanes k x z (ix2 s e) : EReal) = if k (ix2 (0 : Fin 1) e) = 1#1 then (x (ix2 s e) : EReal) else Ideal.ofBits .f32 z := by
  unfold onLanes
  pointwise
  rfl

theorem below16 (e : Fin 128) : IntOp.cmpi .slt (BitVec.ofNat 32 (e % 64)) 16#32 = 1#1 ↔ (e : ℕ) % 64 < 16 := by
  revert e; decide +kernel
theorem below8 (e : Fin 128) : IntOp.cmpi .slt (BitVec.ofNat 32 (e % 64)) 8#32 = 1#1 ↔ (e : ℕ) % 64 < 8 := by
  revert e; decide +kernel
theorem mid (e : Fin 128) : IntOp.andi (IntOp.cmpi .sge (BitVec.ofNat 32 (e % 64)) 8#32) (IntOp.cmpi .slt (BitVec.ofNat 32 (e % 64)) 16#32) = 1#1
    ↔ 8 ≤ (e : ℕ) % 64 ∧ (e : ℕ) % 64 < 16 := by
  revert e; decide +kernel

theorem cTab_apply (s : Fin 4096) (e : Fin 128) :
    (cTab (ix2 s e) : EReal) = if (e : ℕ) % 64 < 16 then cosA s ⟨e % 8, by omega⟩ else 1 := by
  unfold cTab
  rw [onLanes_apply, below_apply]
  refine if_congr (below16 e) ?_ (by rw [show (1 : EReal) = ((8388608 * (2 ^ 23)⁻¹ : ℝ) : EReal) by norm_num]; simp [Ideal.ofBits, Ideal.ieee])
  rw [spread_apply]
  exact congrArg Ideal.cos (angT_apply _ _)

theorem loTab_apply (s : Fin 4096) (e : Fin 128) :
    (loTab (ix2 s e) : EReal) = if (e : ℕ) % 64 < 8 then -sinA s ⟨e % 8, by omega⟩ else 0 := by
  unfold loTab
  rw [onLanes_apply, below_apply]
  refine if_congr (below8 e) ?_ (by simp [Ideal.ofBits, Ideal.ieee])
  refine congrArg (fun z : EReal => -z) ?_
  rw [spread_apply]
  exact congrArg Ideal.sin (angT_apply _ _)

theorem hiTab_apply (s : Fin 4096) (e : Fin 128) :
    (hiTab (ix2 s e) : EReal) = if 8 ≤ (e : ℕ) % 64 ∧ (e : ℕ) % 64 < 16 then sinA s ⟨e % 8, by omega⟩ else 0 := by
  unfold hiTab
  rw [onLanes_apply]
  have h : andi from8 (below 16#32) (ix2 (0 : Fin 1) e) = IntOp.andi (from8 (ix2 (0 : Fin 1) e)) (below 16#32 (ix2 (0 : Fin 1) e)) := rfl
  rw [h, from8_apply, below_apply]
  refine if_congr (mid e) ?_ (by simp [Ideal.ofBits, Ideal.ieee])
  rw [spread_apply]
  exact congrArg Ideal.sin (angT_apply _ _)

end Cert.Kernel3Ideal.InProj

end
-- ==== Proof.InProj.Value.lean ====
/-
  The in-projection call's five result arrays: at every index the functions of Spec.lean.
-/
module

public import proofs.«01_k».proof.Proof.Gen.Kernel3Ideal.Value
public import proofs.«01_k».proof.Proof.InProj.Tile
public import proofs.«01_k».proof.Proof.InProj.Host

@[expose] public section

set_option maxRecDepth 16384

noncomputable section

namespace Cert.Kernel3Ideal.InProj

open Idealize.ShloMosaic Idealize.ShloMosaic.TcCoe Idealize.SL.Sem Cert.Kernel3Ideal Cert.Kernel3Ideal.Gen Cert.InProj
open Idealize.ShloMosaic.Pipeline (Dat)

/-- The three tables' rotation is the rotation of Spec.lean: the neighbour a table multiplies by zero does not matter. -/
theorem spun_rot (p : FVec Ideal S512x512 .f32) (c lo hi : FVec Ideal S512x128 .f32) (r : Fin 512) (s : Fin 4096) (pf : Fin 512 → EReal)
    (hp : ∀ f, (p (ix2 r f) : EReal) = pf f) (hc : ∀ e, (c (ix2 r e) : EReal) = cTab (ix2 s e)) (hlo : ∀ e, (lo (ix2 r e) : EReal) = loTab (ix2 s e))
    (hhi : ∀ e, (hi (ix2 r e) : EReal) = hiTab (ix2 s e)) (f : Fin 512) : spun p c lo hi r f = rot pf s f := by
  unfold spun
  rw [hp, hp, hp, hc, hlo, hhi, cTab_apply, loTab_apply, hiTab_apply]
  have e1 : (f : ℕ) % 128 % 64 = f % 64 := by omega
  have e2 : (f : ℕ) % 128 % 8 = f % 8 := by omega
  simp only [e1, e2]
  unfold rot
  by_cases h : (f : ℕ) % 64 < 8
  · have n1 : (⟨f / 128 * 128 + (f % 128 + 8) % 128, by omega⟩ : Fin 512) = ⟨f + 8, by omega⟩ := Fin.ext (by simp only; omega)
    rw [dif_pos h, if_pos (by omega), if_pos h, if_neg (by omega), mul_zero, add_zero, mul_neg, ← sub_eq_add_neg]
    exact congrArg (fun z => pf f * cosA s ⟨f % 8, by omega⟩ - pf z * sinA s ⟨f % 8, by omega⟩) n1
  · rw [dif_neg h, if_neg h]
    by_cases h' : (f : ℕ) % 64 < 16
    · have n1 : (⟨f / 128 * 128 + (f % 128 + 120) % 128, by omega⟩ : Fin 512) = ⟨f - 8, by omega⟩ := Fin.ext (by simp only; omega)
      rw [if_pos h', if_pos h', if_pos (by omega), mul_zero, add_zero]
      exact congrArg (fun z => pf f * cosA s ⟨f % 8, by omega⟩ + pf z * sinA s ⟨f % 8, by omega⟩) n1
    · rw [if_neg h', if_neg h', if_neg (by omega), mul_zero, mul_zero, add_zero, add_zero, mul_one]

variable (m : (ℓ : Loc nD τ sig) → Buf (Elt Ideal) ℓ) (c : Dev nD)

/-- The arguments as functions of their indices. -/
abbrev fx (b : Fin 8) (s : Fin 4096) (d : Fin 1024) : EReal := m ((c : Thread nD τ).loc main_arg0) (ix3 b s d)
abbrev fg (d : Fin 1024) : EReal := m ((c : Thread nD τ).loc main_arg1) (ix2 (0 : Fin 1) d)
abbrev fw (d : Fin 1024) (f : Fin 2560) : EReal := m ((c : Thread nD τ).loc main_arg2) (ix3 (0 : Fin 1) d f)

theorem normed (t : Fin cfg0.N) (b i : Fin 8) (ht : t.val = 8 * i + b) (r : Fin 512) (d : Fin 1024) :
    (k0_pay2 (iblk m c 0 t) (iblk m c 1 t) (ix2 r d) : EReal) = hrow (fx m c b (⟨512 * i + r, by omega⟩ : Fin 4096)) (fg m c) d := by
  refine (pay2_apply _ _ r d).trans ?_
  have h1 : ∀ d, (iblk m c 0 t (ix3 (0 : Fin 1) r d) : EReal) = fx m c b (⟨512 * i + r, by omega⟩ : Fin 4096) d := fun d =>
    (read_x t _ b i ht r d).trans (congrFun (V_main_arg0 m c) _)
  have h2 : ∀ d, (iblk m c 1 t (ix2 (0 : Fin 1) d) : EReal) = fg m c d := fun d => (read_g t _ d).trans (V_g m c d)
  exact congrArg₂ (fun x g => hrow x g d) (funext h1) (funext h2)

/-- The sum of a normed row with 512 columns of the weight. -/
theorem cols_sum (t : Fin cfg0.N) (b i : Fin 8) (ht : t.val = 8 * i + b) (r : Fin 512) (o : ℕ)
    (inb : ∀ a, (![0, o] : Fin 2 → ℕ) a + S1024x512.size a ≤ S1024x2560.size a) (ho : o + 512 ≤ 2560) (f : Fin 512) :
    (∑ d : Fin 1024, (k0_pay2 (iblk m c 0 t) (iblk m c 1 t) (ix2 r d) : EReal) * wCols o inb (iblk m c 2 t) (ix2 d f))
      = proj (fx m c b (⟨512 * i + r, by omega⟩ : Fin 4096)) (fg m c) (fw m c) ⟨o + f, by omega⟩ := by
  unfold proj
  refine Finset.sum_congr rfl fun d _ => ?_
  rw [normed m c t b i ht r d, wCols_apply o inb ho]
  exact congrArg _ ((read_w t _ d _).trans (V_w m c d _))

theorem spun_eq (t : Fin cfg0.N) (b i : Fin 8) (ht : t.val = 8 * i + b) (r : Fin 512) (o : ℕ)
    (inb : ∀ a, (![0, o] : Fin 2 → ℕ) a + S1024x512.size a ≤ S1024x2560.size a) (ho : o + 512 ≤ 2560) (f : Fin 512) :
    spun (prod (k0_pay2 (iblk m c 0 t) (iblk m c 1 t)) (wCols o inb (iblk m c 2 t))) (iblk m c 4 t) (iblk m c 5 t) (iblk m c 6 t) r f
      = rot (fun f => proj (fx m c b (⟨512 * i + r, by omega⟩ : Fin 4096)) (fg m c) (fw m c) ⟨o + f, by omega⟩) (⟨512 * i + r, by omega⟩ : Fin 4096) f := by
  have hi : t.val / 8 = i := by omega
  refine spun_rot _ _ _ _ r _ _ (fun f => (prod_apply _ _ r f).trans (cols_sum m c t b i ht r o inb ho f))
    (fun e => (read_c t _ i hi r e).trans (congrFun (V_c m c) _)) (fun e => (read_lo t _ i hi r e).trans (congrFun (V_lo m c) _))
    (fun e => (read_hi t _ i hi r e).trans (congrFun (V_hi m c) _)) f

theorem at7 (t : Fin cfg0.N) (b i : Fin 8) (ht : t.val = 8 * i + b) (r f : Fin 512) :
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ix3 (0 : Fin 1) r f) : EReal) = resQ (fx m c) (fg m c) (fw m c) b (⟨512 * i + r, by omega⟩ : Fin 4096) f := by
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ix3 (0 : Fin 1) r f)).trans ?_
  unfold resQ
  refine congrArg (· * (((1 / 8) * (Real.log 2)⁻¹ : ℝ) : EReal)) ((spun_eq m c t b i ht r 0 inb_S1024x2560_S1024x512_0_0 (by omega) f).trans ?_)
  refine congrArg (fun p => rot p _ f) (funext fun f => congrArg _ (Fin.ext (Nat.zero_add _)))

theorem at8 (t : Fin cfg0.N) (b i : Fin 8) (ht : t.val = 8 * i + b) (r f : Fin 512) :
    (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ix3 (0 : Fin 1) r f) : EReal) = resK (fx m c) (fg m c) (fw m c) b (⟨512 * i + r, by omega⟩ : Fin 4096) f :=
  (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ix3 (0 : Fin 1) r f)).trans (spun_eq m c t b i ht r 512 inb_S1024x2560_S1024x512_0_512 (by omega) f)

theorem at9 (t : Fin cfg0.N) (b i : Fin 8) (ht : t.val = 8 * i + b) (e : Fin 576) (r : Fin 512) :
    (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ix3 (0 : Fin 1) e r) : EReal) = resV (fx m c) (fg m c) (fw m c) b e (⟨512 * i + r, by omega⟩ : Fin 4096) := by
  refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ix3 (0 : Fin 1) e r)).trans ?_
  unfold vAt resV
  refine if_ctx_congr Iff.rfl (fun h => ?_) (fun _ => rfl)
  refine (prodT_apply _ _ _ r).trans ?_
  unfold proj
  refine Finset.sum_congr rfl fun d _ => ?_
  rw [normed m c t b i ht r d]
  refine congrArg _ ((read_wv t _ _ d).trans ((V_wv m c _ d).trans ?_))
  have h' : (e : ℕ) % 144 < 128 := h
  exact congrArg (fw m c d) (Fin.ext (show 1024 + (128 * ((e : ℕ) / 144) + (e : ℕ) % 144 % 128) = 1024 + (128 * ((e : ℕ) / 144) + (e : ℕ) % 144) by omega))

theorem at10 (t : Fin cfg0.N) (b i : Fin 8) (ht : t.val = 8 * i + b) (r f : Fin 512) :
    (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ix3 (0 : Fin 1) r f) : EReal) = resX (fx m c) (fg m c) (fw m c) b (⟨512 * i + r, by omega⟩ : Fin 4096) f :=
  (congrFun (out10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t)) (ix3 (0 : Fin 1) r f)).trans ((wide_apply _ _ r f).trans (cols_sum m c t b i ht r 1536 inb_S1024x2560_S1024x512_0_1536 (by omega) f))

theorem at11 (t : Fin cfg0.N) (b i : Fin 8) (ht : t.val = 8 * i + b) (r f : Fin 512) :
    (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ix3 (0 : Fin 1) r f) : EReal) = resG (fx m c) (fg m c) (fw m c) b (⟨512 * i + r, by omega⟩ : Fin 4096) f :=
  (congrFun (out11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t)) (ix3 (0 : Fin 1) r f)).trans ((wide_apply _ _ r f).trans (cols_sum m c t b i ht r 2048 inb_S1024x2560_S1024x512_0_2048 (by omega) f))

/-- A function of sequence, position and column as an array; one of sequence, row and position. -/
def arr (R : Fin 8 → Fin 4096 → Fin 512 → EReal) : Vec Ideal S8x4096x512 .bf16 := fun i => R ⟨i 0, (i 0).isLt⟩ ⟨i 1, (i 1).isLt⟩ ⟨i 2, (i 2).isLt⟩
def arrT (R : Fin 8 → Fin 576 → Fin 4096 → EReal) : Vec Ideal S8x576x4096 .bf16 := fun i => R ⟨i 0, (i 0).isLt⟩ ⟨i 1, (i 1).isLt⟩ ⟨i 2, (i 2).isLt⟩

theorem read7 (t : Fin cfg0.N) (A : Vec Ideal S8x4096x512 .bf16) (b i : Fin 8) (ht : t.val = 8 * i + b) (r f : Fin 512) :
    (((cfg0.win 7).blk t).view.read (Elt Ideal) A (ix3 (0 : Fin 1) r f) : EReal) = A (ix3 b (⟨512 * i + r, by omega⟩ : Fin 4096) f) := by
  blk_ext [idx t]
theorem read8 (t : Fin cfg0.N) (A : Vec Ideal S8x4096x512 .bf16) (b i : Fin 8) (ht : t.val = 8 * i + b) (r f : Fin 512) :
    (((cfg0.win 8).blk t).view.read (Elt Ideal) A (ix3 (0 : Fin 1) r f) : EReal) = A (ix3 b (⟨512 * i + r, by omega⟩ : Fin 4096) f) := by
  blk_ext [idx t]
theorem read9 (t : Fin cfg0.N) (A : Vec Ideal S8x576x4096 .bf16) (b i : Fin 8) (ht : t.val = 8 * i + b) (e : Fin 576) (r : Fin 512) :
    (((cfg0.win 9).blk t).view.read (Elt Ideal) A (ix3 (0 : Fin 1) e r) : EReal) = A (ix3 b e (⟨512 * i + r, by omega⟩ : Fin 4096)) := by
  blk_ext [idx t]
theorem read10 (t : Fin cfg0.N) (A : Vec Ideal S8x4096x512 .bf16) (b i : Fin 8) (ht : t.val = 8 * i + b) (r f : Fin 512) :
    (((cfg0.win 10).blk t).view.read (Elt Ideal) A (ix3 (0 : Fin 1) r f) : EReal) = A (ix3 b (⟨512 * i + r, by omega⟩ : Fin 4096) f) := by
  blk_ext [idx t]
theorem read11 (t : Fin cfg0.N) (A : Vec Ideal S8x4096x512 .bf16) (b i : Fin 8) (ht : t.val = 8 * i + b) (r f : Fin 512) :
    (((cfg0.win 11).blk t).view.read (Elt Ideal) A (ix3 (0 : Fin 1) r f) : EReal) = A (ix3 b (⟨512 * i + r, by omega⟩ : Fin 4096) f) := by
  blk_ext [idx t]

/-- A grid point is its tile of positions and its sequence. -/
theorem point (t : Fin cfg0.N) : ∃ b i : Fin 8, t.val = 8 * i + b := by
  have hN : t.val < 64 := lt_of_lt_of_eq t.isLt N_0
  exact ⟨⟨t.val % 8, by omega⟩, ⟨t.val / 8, by omega⟩, by simp only; omega⟩

theorem flushed7_eq (t : Fin cfg0.N) : (dats m 0 c).flushed 7 t = ((cfg0.win 7).blk t).view.read (Elt Ideal) (arr (resQ (fx m c) (fg m c) (fw m c))) := by
  rw [Value.flushed7_A]
  obtain ⟨b, i, ht⟩ := point t
  funext j
  obtain ⟨r, f, rfl⟩ := split3 (n := 512) (k := 512) j
  exact (at7 m c t b i ht r f).trans (read7 t (arr (resQ (fx m c) (fg m c) (fw m c))) b i ht r f).symm
theorem flushed8_eq (t : Fin cfg0.N) : (dats m 0 c).flushed 8 t = ((cfg0.win 8).blk t).view.read (Elt Ideal) (arr (resK (fx m c) (fg m c) (fw m c))) := by
  rw [Value.flushed8_A]
  obtain ⟨b, i, ht⟩ := point t
  funext j
  obtain ⟨r, f, rfl⟩ := split3 (n := 512) (k := 512) j
  exact (at8 m c t b i ht r f).trans (read8 t (arr (resK (fx m c) (fg m c) (fw m c))) b i ht r f).symm
theorem flushed9_eq (t : Fin cfg0.N) : (dats m 0 c).flushed 9 t = ((cfg0.win 9).blk t).view.read (Elt Ideal) (arrT (resV (fx m c) (fg m c) (fw m c))) := by
  rw [Value.flushed9_A]
  obtain ⟨b, i, ht⟩ := point t
  funext j
  obtain ⟨e, r, rfl⟩ := split3 (n := 576) (k := 512) j
  exact (at9 m c t b i ht e r).trans (read9 t (arrT (resV (fx m c) (fg m c) (fw m c))) b i ht e r).symm
theorem flushed10_eq (t : Fin cfg0.N) : (dats m 0 c).flushed 10 t = ((cfg0.win 10).blk t).view.read (Elt Ideal) (arr (resX (fx m c) (fg m c) (fw m c))) := by
  rw [Value.flushed10_A]
  obtain ⟨b, i, ht⟩ := point t
  funext j
  obtain ⟨r, f, rfl⟩ := split3 (n := 512) (k := 512) j
  exact (at10 m c t b i ht r f).trans (read10 t (arr (resX (fx m c) (fg m c) (fw m c))) b i ht r f).symm
theorem flushed11_eq (t : Fin cfg0.N) : (dats m 0 c).flushed 11 t = ((cfg0.win 11).blk t).view.read (Elt Ideal) (arr (resG (fx m c) (fg m c) (fw m c))) := by
  rw [Value.flushed11_A]
  obtain ⟨b, i, ht⟩ := point t
  funext j
  obtain ⟨r, f, rfl⟩ := split3 (n := 512) (k := 512) j
  exact (at11 m c t b i ht r f).trans (read11 t (arr (resG (fx m c) (fg m c) (fw m c))) b i ht r f).symm

/-- A rectangle holds the indices within it on each of three axes. -/
theorem mem_rect {A B C : ℕ} (off sz : Fin 3 → ℕ) (inb : ∀ a, off a + sz a ≤ (⟨3, ![A, B, C]⟩ : Shape).size a) (i : (⟨3, ![A, B, C]⟩ : Shape).Idx)
    (h0 : off 0 ≤ (i 0 : ℕ) ∧ (i 0 : ℕ) < off 0 + sz 0) (h1 : off 1 ≤ (i 1 : ℕ) ∧ (i 1 : ℕ) < off 1 + sz 1) (h2 : off 2 ≤ (i 2 : ℕ) ∧ (i 2 : ℕ) < off 2 + sz 2) :
    i ∈ (Rect.unit (s := ⟨3, ![A, B, C]⟩) off sz inb).set := by
  rw [Rect.mem_set_unit]
  intro a
  match a with
  | ⟨0, _⟩ => exact h0
  | ⟨1, _⟩ => exact h1
  | ⟨2, _⟩ => exact h2

/-- The point whose blocks hold a given sequence and position. -/
abbrev pt (b : Fin 8) (s : Fin 4096) : Fin cfg0.N := ⟨8 * (s / 512) + b, lt_of_lt_of_eq (by omega) N_0.symm⟩

/-- The two kinds of block at that point hold the index. -/
theorem holds (t : Fin cfg0.N) (i : S8x4096x512.Idx) (ht : t = pt ⟨i 0, (i 0).isLt⟩ ⟨i 1, (i 1).isLt⟩) (off sz : Fin 3 → ℕ) (inb : ∀ a, off a + sz a ≤ S8x4096x512.size a)
    (o0 : off 0 = t.val % 8) (o1 : off 1 = t.val / 8 * 512) (o2 : off 2 = 0) (s0 : sz 0 = 1) (s1 : sz 1 = 512) (s2 : sz 2 = 512) :
    i ∈ (Rect.unit (s := S8x4096x512) off sz inb).set := by
  have h0 : (i 0 : ℕ) < 8 := (i 0).isLt
  have h1 : (i 1 : ℕ) < 4096 := (i 1).isLt
  have h2 : (i 2 : ℕ) < 512 := (i 2).isLt
  have hv : t.val = 8 * ((i 1 : ℕ) / 512) + (i 0 : ℕ) := by rw [ht]
  exact mem_rect off sz inb i (by omega) (by omega) (by omega)

theorem holdsT (t : Fin cfg0.N) (i : S8x576x4096.Idx) (ht : t = pt ⟨i 0, (i 0).isLt⟩ ⟨i 2, (i 2).isLt⟩) (off sz : Fin 3 → ℕ) (inb : ∀ a, off a + sz a ≤ S8x576x4096.size a)
    (o0 : off 0 = t.val % 8) (o1 : off 1 = 0) (o2 : off 2 = t.val / 8 * 512) (s0 : sz 0 = 1) (s1 : sz 1 = 576) (s2 : sz 2 = 512) :
    i ∈ (Rect.unit (s := S8x576x4096) off sz inb).set := by
  have h0 : (i 0 : ℕ) < 8 := (i 0).isLt
  have h1 : (i 1 : ℕ) < 576 := (i 1).isLt
  have h2 : (i 2 : ℕ) < 4096 := (i 2).isLt
  have hv : t.val = 8 * ((i 2 : ℕ) / 512) + (i 0 : ℕ) := by rw [ht]
  exact mem_rect off sz inb i (by omega) (by omega) (by omega)

theorem cover7 (i : S8x4096x512.Idx) : ∃ t : Fin cfg0.N, (cfg0.win 7).flush t = true ∧ i ∈ ((cfg0.win 7).blk t).view.set := by
  refine ⟨pt ⟨i 0, (i 0).isLt⟩ ⟨i 1, (i 1).isLt⟩, flush0_7 _, ?_⟩
  generalize ht : pt ⟨i 0, (i 0).isLt⟩ ⟨i 1, (i 1).isLt⟩ = t
  show i ∈ ((View.whole main_v65_0).slice (win0_7.rect t)).set
  rw [View.set_slice_whole]
  have e := (idx t).2.2.2.2.2.2.2.1
  exact holds t i ht.symm _ _ _ (by rw [e]; exact Nat.mul_one _) (by rw [e]; rfl) (by rw [e]; rfl) rfl rfl rfl

theorem cover8 (i : S8x4096x512.Idx) : ∃ t : Fin cfg0.N, (cfg0.win 8).flush t = true ∧ i ∈ ((cfg0.win 8).blk t).view.set := by
  refine ⟨pt ⟨i 0, (i 0).isLt⟩ ⟨i 1, (i 1).isLt⟩, flush0_8 _, ?_⟩
  generalize ht : pt ⟨i 0, (i 0).isLt⟩ ⟨i 1, (i 1).isLt⟩ = t
  show i ∈ ((View.whole main_v65_1).slice (win0_8.rect t)).set
  rw [View.set_slice_whole]
  have e := (idx t).2.2.2.2.2.2.2.2.1
  exact holds t i ht.symm _ _ _ (by rw [e]; exact Nat.mul_one _) (by rw [e]; rfl) (by rw [e]; rfl) rfl rfl rfl

theorem cover9 (i : S8x576x4096.Idx) : ∃ t : Fin cfg0.N, (cfg0.win 9).flush t = true ∧ i ∈ ((cfg0.win 9).blk t).view.set := by
  refine ⟨pt ⟨i 0, (i 0).isLt⟩ ⟨i 2, (i 2).isLt⟩, flush0_9 _, ?_⟩
  generalize ht : pt ⟨i 0, (i 0).isLt⟩ ⟨i 2, (i 2).isLt⟩ = t
  show i ∈ ((View.whole main_v65_2).slice (win0_9.rect t)).set
  rw [View.set_slice_whole]
  have e := (idx t).2.2.2.2.2.2.2.2.2.1
  exact holdsT t i ht.symm _ _ _ (by rw [e]; exact Nat.mul_one _) (by rw [e]; rfl) (by rw [e]; rfl) rfl rfl rfl

theorem cover10 (i : S8x4096x512.Idx) : ∃ t : Fin cfg0.N, (cfg0.win 10).flush t = true ∧ i ∈ ((cfg0.win 10).blk t).view.set := by
  refine ⟨pt ⟨i 0, (i 0).isLt⟩ ⟨i 1, (i 1).isLt⟩, flush0_10 _, ?_⟩
  generalize ht : pt ⟨i 0, (i 0).isLt⟩ ⟨i 1, (i 1).isLt⟩ = t
  show i ∈ ((View.whole main_v65_3).slice (win0_10.rect t)).set
  rw [View.set_slice_whole]
  have e := (idx t).2.2.2.2.2.2.2.2.2.2.1
  exact holds t i ht.symm _ _ _ (by rw [e]; exact Nat.mul_one _) (by rw [e]; rfl) (by rw [e]; rfl) rfl rfl rfl

theorem cover11 (i : S8x4096x512.Idx) : ∃ t : Fin cfg0.N, (cfg0.win 11).flush t = true ∧ i ∈ ((cfg0.win 11).blk t).view.set := by
  refine ⟨pt ⟨i 0, (i 0).isLt⟩ ⟨i 1, (i 1).isLt⟩, flush0_11 _, ?_⟩
  generalize ht : pt ⟨i 0, (i 0).isLt⟩ ⟨i 1, (i 1).isLt⟩ = t
  show i ∈ ((View.whole main_v65_4).slice (win0_11.rect t)).set
  rw [View.set_slice_whole]
  have e := (idx t).2.2.2.2.2.2.2.2.2.2.2
  exact holds t i ht.symm _ _ _ (by rw [e]; exact Nat.mul_one _) (by rw [e]; rfl) (by rw [e]; rfl) rfl rfl rfl

theorem final7 : (dats m 0 c).arrAt 7 cfg0.N = arr (resQ (fx m c) (fg m c) (fw m c)) :=
  (dats m 0 c).arrAt_eq_of_cover 7 _ (fun t _ => flushed7_eq m c t) cover7
theorem final8 : (dats m 0 c).arrAt 8 cfg0.N = arr (resK (fx m c) (fg m c) (fw m c)) :=
  (dats m 0 c).arrAt_eq_of_cover 8 _ (fun t _ => flushed8_eq m c t) cover8
theorem final9 : (dats m 0 c).arrAt 9 cfg0.N = arrT (resV (fx m c) (fg m c) (fw m c)) :=
  (dats m 0 c).arrAt_eq_of_cover 9 _ (fun t _ => flushed9_eq m c t) cover9
theorem final10 : (dats m 0 c).arrAt 10 cfg0.N = arr (resX (fx m c) (fg m c) (fw m c)) :=
  (dats m 0 c).arrAt_eq_of_cover 10 _ (fun t _ => flushed10_eq m c t) cover10
theorem final11 : (dats m 0 c).arrAt 11 cfg0.N = arr (resG (fx m c) (fg m c) (fw m c)) :=
  (dats m 0 c).arrAt_eq_of_cover 11 _ (fun t _ => flushed11_eq m c t) cover11

end Cert.Kernel3Ideal.InProj

end
-- ==== Proof.InProj.Ref.lean ====
/-
  The in-projection reference's five results at an index: the functions of Spec.lean.
-/
module

public import proofs.«01_k».proof.Proof.Gen.Reference3Ideal.Run
public import proofs.«01_k».proof.Proof.InProj.Spec
public import Idealize.ShloMosaic.Lib.Pipeline.Value

@[expose] public section

set_option maxRecDepth 16384

noncomputable section

namespace Cert.Reference3Ideal.InProj

open Idealize.ShloMosaic Idealize.ShloMosaic.TcCoe Idealize.SL.Sem Cert.Reference3Ideal Cert.Reference3Ideal.Gen Cert.InProj

/-- The normed rows. -/
def rows (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))

/-- Their product with the weight. -/
def full (h : FVec Ideal S8x4096x1024 .f32) (w : FVec Ideal S1x1024x2560 .f32) : FVec Ideal S8x4096x2560 .f32 :=
  Host.dotGeneral (F := Ideal) (φ₁ := .f32) (φ₂ := .f32) dot_S8x4096x1024_S1024x2560_S8x4096x2560_2_0_01_1_n_n none h (shapeCast S1024x2560 w shapeCasts_S1x1024x2560_S1024x2560)

/-- 512 columns as four pairs of heads of 64. -/
def heads (o : ℕ) (h : S8x4096x2560.Slices ![0, 0, o] S8x4096x512) (p : FVec Ideal S8x4096x2560 .f32) : FVec Ideal S8x4096x4x2x64 .f32 :=
  shapeCast S8x4096x4x2x64 (extractStridedSlice S8x4096x512 ![0, 0, o] p h) shapeCasts_S8x4096x512_S8x4096x4x2x64

def angR : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- A table of positions and frequencies over every sequence and head. -/
def over (t : FVec Ideal S4096x8 .f32) : FVec Ideal S8x4096x4x2x8 .f32 :=
  broadcastInDim S8x4096x4x2x8 ![0, 1, 2, 3, 4] bcast_S1x4096x1x1x8_S8x4096x4x2x8_0_1_2_3_4 (broadcastInDim S1x4096x1x1x8 ![1, 4] bcast_S4096x8_S1x4096x1x1x8_1_4 t)

def fst (t : FVec Ideal S8x4096x4x2x64 .f32) : FVec Ideal S8x4096x4x2x8 .f32 :=
  extractStridedSlice S8x4096x4x2x8 ![0, 0, 0, 0, 0] t slices_S8x4096x4x2x64_S8x4096x4x2x8_0_0_0_0_0
def snd (t : FVec Ideal S8x4096x4x2x64 .f32) : FVec Ideal S8x4096x4x2x8 .f32 :=
  extractStridedSlice S8x4096x4x2x8 ![0, 0, 0, 0, 8] t slices_S8x4096x4x2x64_S8x4096x4x2x8_0_0_0_0_8
def rest (t : FVec Ideal S8x4096x4x2x64 .f32) : FVec Ideal S8x4096x4x2x48 .f32 :=
  extractStridedSlice S8x4096x4x2x48 ![0, 0, 0, 0, 16] t slices_S8x4096x4x2x64_S8x4096x4x2x48_0_0_0_0_16
def new1 (t : FVec Ideal S8x4096x4x2x64 .f32) : FVec Ideal S8x4096x4x2x8 .f32 :=
  subf (mulf (fst t) (over (Host.cos angR))) (mulf (snd t) (over (Host.sin angR)))
def new2 (t : FVec Ideal S8x4096x4x2x64 .f32) : FVec Ideal S8x4096x4x2x8 .f32 :=
  addf (mulf (snd t) (over (Host.cos angR))) (mulf (fst t) (over (Host.sin angR)))

/-- The rotated heads. -/
def joined (t : FVec Ideal S8x4096x4x2x64 .f32) : FVec Ideal S8x4096x4x2x64 .f32 :=
  concatenate S8x4096x4x2x64 4 [⟨S8x4096x4x2x8, new1 t⟩, ⟨S8x4096x4x2x8, new2 t⟩, ⟨S8x4096x4x2x48, rest t⟩] concatenates_S8x4096x4x2x8_S8x4096x4x2x8_S8x4096x4x2x48_S8x4096x4x2x64_d4

def flat (t : FVec Ideal S8x4096x4x2x64 .f32) : FVec Ideal S8x4096x512 .f32 := shapeCast S8x4096x512 t shapeCasts_S8x4096x4x2x64_S8x4096x512

def scaled (t : FVec Ideal S8x4096x512 .f32) : FVec Ideal S8x4096x512 .bf16 :=
  truncf .bf16 (Host.divf (mulf t (broadcastInDim S8x4096x512 ![] bcast_S_S8x4096x512 (constant S_ .f32 0x3E000000#32))) (broadcastInDim S8x4096x512 ![] bcast_S_S8x4096x512 (Host.log (constant S_ .f32 0x40000000#32)))) bitsLt_bf16_f32

/-- The values, turned over, with rows of ones. -/
def turned (p : FVec Ideal S8x4096x2560 .f32) : FVec Ideal S8x4x128x4096 .f32 :=
  transpose S8x4x128x4096 [0, 2, 3, 1] (shapeCast S8x4096x4x128 (extractStridedSlice S8x4096x512 ![0, 0, 1024] p slices_S8x4096x2560_S8x4096x512_0_0_1024) shapeCasts_S8x4096x512_S8x4096x4x128) transposes_S8x4096x4x128_S8x4x128x4096_0_2_3_1
def oneRows : FVec Ideal S8x4x16x4096 .f32 := broadcastInDim S8x4x16x4096 ![] bcast_S_S8x4x16x4096 (constant S_ .f32 0x3F800000#32)
def stacked (p : FVec Ideal S8x4096x2560 .f32) : FVec Ideal S8x4x144x4096 .f32 :=
  concatenate S8x4x144x4096 2 [⟨S8x4x128x4096, turned p⟩, ⟨S8x4x16x4096, oneRows⟩] concatenates_S8x4x128x4096_S8x4x16x4096_S8x4x144x4096_d2

def outQ (p : FVec Ideal S8x4096x2560 .f32) : FVec Ideal S8x4096x512 .bf16 := scaled (flat (joined (heads 0 slices_S8x4096x2560_S8x4096x512_0_0_0 p)))
def outK (p : FVec Ideal S8x4096x2560 .f32) : FVec Ideal S8x4096x512 .bf16 := truncf .bf16 (flat (joined (heads 512 slices_S8x4096x2560_S8x4096x512_0_0_512 p))) bitsLt_bf16_f32
def outV (p : FVec Ideal S8x4096x2560 .f32) : FVec Ideal S8x576x4096 .bf16 := truncf .bf16 (shapeCast S8x576x4096 (stacked p) shapeCasts_S8x4x144x4096_S8x576x4096) bitsLt_bf16_f32
def outX (p : FVec Ideal S8x4096x2560 .f32) : FVec Ideal S8x4096x512 .bf16 := truncf .bf16 (extractStridedSlice S8x4096x512 ![0, 0, 1536] p slices_S8x4096x2560_S8x4096x512_0_0_1536) bitsLt_bf16_f32
def outG (p : FVec Ideal S8x4096x2560 .f32) : FVec Ideal S8x4096x512 .bf16 := truncf .bf16 (extractStridedSlice S8x4096x512 ![0, 0, 2048] p slices_S8x4096x2560_S8x4096x512_0_0_2048) bitsLt_bf16_f32

theorem rows_apply (x : FVec Ideal S8x4096x1024 .f32) (g : FVec Ideal S1x1024 .f32) (b : Fin 8) (s : Fin 4096) (d : Fin 1024) :
    (rows x g (ix3 b s d) : EReal) = hrow (fun d => x (ix3 b s d)) (fun d => g (ix2 (0 : Fin 1) d)) d := by
  unfold rows hrow
  pointwise

theorem full_apply (h : FVec Ideal S8x4096x1024 .f32) (w : FVec Ideal S1x1024x2560 .f32) (b : Fin 8) (s : Fin 4096) (f : Fin 2560) :
    (full h w (ix3 b s f) : EReal) = ∑ d : Fin 1024, (h (ix3 b s d) : EReal) * w (ix3 (0 : Fin 1) d f) := by
  unfold full
  pointwise

theorem heads_apply (o : ℕ) (ho : o + 512 ≤ 2560) (h : S8x4096x2560.Slices ![0, 0, o] S8x4096x512) (p : FVec Ideal S8x4096x2560 .f32) (b : Fin 8) (s : Fin 4096) (k : Fin 4) (a : Fin 2) (j : Fin 64) :
    (heads o h p (ix5 b s k a j) : EReal) = p (ix3 b s (⟨o + (128 * k + 64 * a + j), by omega⟩ : Fin 2560)) := by
  unfold heads
  pointwise
  exact congrArg (fun e => p (ix3 b s e)) (Fin.ext (by simp only; omega))

theorem angR_apply (s : Fin 4096) (f : Fin 8) : (angR (ix2 s f) : EReal) = ang s f := by
  unfold angR ang
  pointwise

theorem over_apply (t : FVec Ideal S4096x8 .f32) (b : Fin 8) (s : Fin 4096) (k : Fin 4) (a : Fin 2) (j : Fin 8) :
    (over t (ix5 b s k a j) : EReal) = t (ix2 s j) := by
  unfold over
  pointwise

theorem fst_apply (t : FVec Ideal S8x4096x4x2x64 .f32) (b : Fin 8) (s : Fin 4096) (k : Fin 4) (a : Fin 2) (j : Fin 8) :
    (fst t (ix5 b s k a j) : EReal) = t (ix5 b s k a (⟨j, by omega⟩ : Fin 64)) := by
  unfold fst
  pointwise

theorem snd_apply (t : FVec Ideal S8x4096x4x2x64 .f32) (b : Fin 8) (s : Fin 4096) (k : Fin 4) (a : Fin 2) (j : Fin 8) :
    (snd t (ix5 b s k a j) : EReal) = t (ix5 b s k a (⟨8 + j, by omega⟩ : Fin 64)) := by
  unfold snd
  pointwise

theorem rest_apply (t : FVec Ideal S8x4096x4x2x64 .f32) (b : Fin 8) (s : Fin 4096) (k : Fin 4) (a : Fin 2) (j : Fin 48) :
    (rest t (ix5 b s k a j) : EReal) = t (ix5 b s k a (⟨16 + j, by omega⟩ : Fin 64)) := by
  unfold rest
  pointwise

theorem new1_apply (t : FVec Ideal S8x4096x4x2x64 .f32) (b : Fin 8) (s : Fin 4096) (k : Fin 4) (a : Fin 2) (j : Fin 8) :
    (new1 t (ix5 b s k a j) : EReal) = t (ix5 b s k a (⟨j, by omega⟩ : Fin 64)) * cosA s j - t (ix5 b s k a (⟨8 + j, by omega⟩ : Fin 64)) * sinA s j := by
  have h : (new1 t (ix5 b s k a j) : EReal) = fst t (ix5 b s k a j) * over (Host.cos angR) (ix5 b s k a j) - snd t (ix5 b s k a j) * over (Host.sin angR) (ix5 b s k a j) := rfl
  rw [h, fst_apply, snd_apply, over_apply, over_apply]
  exact congrArg (fun z => t (ix5 b s k a (⟨j, by omega⟩ : Fin 64)) * Ideal.cos z - t (ix5 b s k a (⟨8 + j, by omega⟩ : Fin 64)) * Ideal.sin z) (angR_apply s j)

theorem new2_apply (t : FVec Ideal S8x4096x4x2x64 .f32) (b : Fin 8) (s : Fin 4096) (k : Fin 4) (a : Fin 2) (j : Fin 8) :
    (new2 t (ix5 b s k a j) : EReal) = t (ix5 b s k a (⟨8 + j, by omega⟩ : Fin 64)) * cosA s j + t (ix5 b s k a (⟨j, by omega⟩ : Fin 64)) * sinA s j := by
  have h : (new2 t (ix5 b s k a j) : EReal) = snd t (ix5 b s k a j) * over (Host.cos angR) (ix5 b s k a j) + fst t (ix5 b s k a j) * over (Host.sin angR) (ix5 b s k a j) := rfl
  rw [h, fst_apply, snd_apply, over_apply, over_apply]
  exact congrArg (fun z => t (ix5 b s k a (⟨8 + j, by omega⟩ : Fin 64)) * Ideal.cos z + t (ix5 b s k a (⟨j, by omega⟩ : Fin 64)) * Ideal.sin z) (angR_apply s j)

/-- Two rank-5 indices agree off the last axis. -/
theorem off_last {n : ℕ} (b : Fin 8) (s : Fin 4096) (k : Fin 4) (a : Fin 2) (j : Fin n) (j' : Fin 64) (q : Fin 5) (hq : q ≠ 4) :
    ((ix5 b s k a j : (⟨5, ![8, 4096, 4, 2, n]⟩ : Shape).Idx) q : ℕ) = ((ix5 b s k a j' : S8x4096x4x2x64.Idx) q : ℕ) := by
  match q with
  | ⟨0, _⟩ => rfl
  | ⟨1, _⟩ => rfl
  | ⟨2, _⟩ => rfl
  | ⟨3, _⟩ => rfl
  | ⟨4, _⟩ => exact absurd rfl hq

theorem joined_lo (t : FVec Ideal S8x4096x4x2x64 .f32) (b : Fin 8) (s : Fin 4096) (k : Fin 4) (a : Fin 2) (j : Fin 64) (i : Fin 8) (h : (i : ℕ) = j) :
    joined t (ix5 b s k a j) = new1 t (ix5 b s k a i) :=
  concatenate_apply_piece (t := S8x4096x4x2x64) 4 _ _ _ 0 (by simp) S8x4096x4x2x8 (new1 t) rfl rfl 0 rfl _ (fun q hq => off_last b s k a i j q hq) (by show 0 + (i : ℕ) = j; omega)

theorem joined_mid (t : FVec Ideal S8x4096x4x2x64 .f32) (b : Fin 8) (s : Fin 4096) (k : Fin 4) (a : Fin 2) (j : Fin 64) (i : Fin 8) (h : 8 + (i : ℕ) = j) :
    joined t (ix5 b s k a j) = new2 t (ix5 b s k a i) :=
  concatenate_apply_piece (t := S8x4096x4x2x64) 4 _ _ _ 1 (by simp) S8x4096x4x2x8 (new2 t) rfl rfl 8 rfl _ (fun q hq => off_last b s k a i j q hq) h

theorem joined_hi (t : FVec Ideal S8x4096x4x2x64 .f32) (b : Fin 8) (s : Fin 4096) (k : Fin 4) (a : Fin 2) (j : Fin 64) (i : Fin 48) (h : 16 + (i : ℕ) = j) :
    joined t (ix5 b s k a j) = rest t (ix5 b s k a i) :=
  concatenate_apply_piece (t := S8x4096x4x2x64) 4 _ _ _ 2 (by simp) S8x4096x4x2x48 (rest t) rfl rfl 16 rfl _ (fun q hq => off_last b s k a i j q hq) h

theorem flat_apply (t : FVec Ideal S8x4096x4x2x64 .f32) (b : Fin 8) (s : Fin 4096) (f : Fin 512) :
    (flat t (ix3 b s f) : EReal) = t (ix5 b s (⟨f / 128, by omega⟩ : Fin 4) (⟨f / 64 % 2, by omega⟩ : Fin 2) (⟨f % 64, by omega⟩ : Fin 64)) := by
  unfold flat
  pointwise

/-- The rotated heads of the columns `p`, flat again. -/
theorem flat_joined (t : FVec Ideal S8x4096x4x2x64 .f32) (b : Fin 8) (s : Fin 4096) (p : Fin 512 → EReal)
    (ht : ∀ (k : Fin 4) (a : Fin 2) (j : Fin 64) (f : Fin 512), (f : ℕ) = 128 * k + 64 * a + j → (t (ix5 b s k a j) : EReal) = p f) (f : Fin 512) :
    (flat (joined t) (ix3 b s f) : EReal) = rot p s f := by
  rw [flat_apply]
  unfold rot
  split
  · next h =>
    rw [joined_lo t b s _ _ _ (⟨f % 8, by omega⟩ : Fin 8) (by simp only; omega), new1_apply,
      ht _ _ _ f (by simp only; omega), ht _ _ _ ⟨f + 8, by omega⟩ (by simp only; omega)]
  · next h =>
    split
    · next h' =>
      rw [joined_mid t b s _ _ _ (⟨f % 8, by omega⟩ : Fin 8) (by simp only; omega), new2_apply,
        ht _ _ _ f (by simp only; omega), ht _ _ _ ⟨f - 8, by omega⟩ (by simp only; omega)]
    · next h' =>
      rw [joined_hi t b s _ _ _ (⟨f % 64 - 16, by omega⟩ : Fin 48) (by simp only; omega), rest_apply, ht _ _ _ f (by simp only; omega)]

theorem eighth : Ideal.ofBits .f32 0x3E000000#32 = ((1 / 8 : ℝ) : EReal) := by
  rw [show (1 / 8 : ℝ) = 8388608 * (2 ^ 26)⁻¹ by norm_num]; simp [Ideal.ofBits, Ideal.ieee]

theorem two : Ideal.ofBits .f32 0x40000000#32 = ((2 : ℝ) : EReal) := by
  rw [show (2 : ℝ) = 8388608 * (2 ^ 22)⁻¹ by norm_num]; simp [Ideal.ofBits, Ideal.ieee]

theorem log_two : Ideal.log (Ideal.ofBits .f32 0x40000000#32) = ((Real.log 2 : ℝ) : EReal) := by
  rw [two]
  exact if_neg (by norm_num)

theorem scaled_apply (t : FVec Ideal S8x4096x512 .f32) (i : S8x4096x512.Idx) :
    (scaled t i : EReal) = t i * (((1 / 8) * (Real.log 2)⁻¹ : ℝ) : EReal) := by
  have h : (scaled t i : EReal) = Ideal.div (t i * Ideal.ofBits .f32 0x3E000000#32) (Ideal.log (Ideal.ofBits .f32 0x40000000#32)) := rfl
  have h2 : Real.log 2 ≠ 0 := (Real.log_pos (by norm_num)).ne'
  rw [h, log_two, eighth]
  unfold Ideal.div
  rw [if_neg (by exact_mod_cast h2), ← EReal.coe_inv, mul_assoc, ← EReal.coe_mul]

theorem turned_apply (p : FVec Ideal S8x4096x2560 .f32) (b : Fin 8) (k : Fin 4) (e : Fin 128) (s : Fin 4096) :
    (turned p (ix4 b k e s) : EReal) = p (ix3 b s (⟨1024 + (128 * k + e), by omega⟩ : Fin 2560)) := by
  unfold turned
  pointwise
  exact congrArg (fun e => p (ix3 b s e)) (Fin.ext (by simp only; omega))

theorem outV_apply (p : FVec Ideal S8x4096x2560 .f32) (b : Fin 8) (e : Fin 576) (s : Fin 4096) :
    (outV p (ix3 b e s) : EReal) = stacked p (ix4 b (⟨e / 144, by omega⟩ : Fin 4) (⟨e % 144, by omega⟩ : Fin 144) s) := by
  unfold outV
  pointwise

theorem off_two {n : ℕ} (b : Fin 8) (k : Fin 4) (e : Fin n) (e' : Fin 144) (s : Fin 4096) (q : Fin 4) (hq : q ≠ 2) :
    ((ix4 b k e s : (⟨4, ![8, 4, n, 4096]⟩ : Shape).Idx) q : ℕ) = ((ix4 b k e' s : S8x4x144x4096.Idx) q : ℕ) := by
  match q with
  | ⟨0, _⟩ => rfl
  | ⟨1, _⟩ => rfl
  | ⟨2, _⟩ => exact absurd rfl hq
  | ⟨3, _⟩ => rfl

theorem stacked_val (p : FVec Ideal S8x4096x2560 .f32) (b : Fin 8) (k : Fin 4) (e : Fin 144) (s : Fin 4096) (i : Fin 128) (h : (i : ℕ) = e) :
    stacked p (ix4 b k e s) = turned p (ix4 b k i s) :=
  concatenate_apply_piece (t := S8x4x144x4096) 2 _ _ _ 0 (by simp) S8x4x128x4096 (turned p) rfl rfl 0 rfl _ (fun q hq => off_two b k i e s q hq) (by show 0 + (i : ℕ) = e; omega)

theorem stacked_one (p : FVec Ideal S8x4096x2560 .f32) (b : Fin 8) (k : Fin 4) (e : Fin 144) (s : Fin 4096) (i : Fin 16) (h : 128 + (i : ℕ) = e) :
    stacked p (ix4 b k e s) = oneRows (ix4 b k i s) :=
  concatenate_apply_piece (t := S8x4x144x4096) 2 _ _ _ 1 (by simp) S8x4x16x4096 oneRows rfl rfl 128 rfl _ (fun q hq => off_two b k i e s q hq) h

theorem one : Ideal.ofBits .f32 0x3F800000#32 = 1 := by
  rw [show (1 : EReal) = ((8388608 * (2 ^ 23)⁻¹ : ℝ) : EReal) by norm_num]; simp [Ideal.ofBits, Ideal.ieee]

section
variable (x : FVec Ideal S8x4096x1024 .f32) (g : FVec Ideal S1x1024 .f32) (w : FVec Ideal S1x1024x2560 .f32)

/-- The arguments as functions of their indices. -/
abbrev fx (b : Fin 8) (s : Fin 4096) (d : Fin 1024) : EReal := x (ix3 b s d)
abbrev fg (d : Fin 1024) : EReal := g (ix2 (0 : Fin 1) d)
abbrev fw (d : Fin 1024) (f : Fin 2560) : EReal := w (ix3 (0 : Fin 1) d f)

theorem proj_apply (b : Fin 8) (s : Fin 4096) (f : Fin 2560) :
    (full (rows x g) w (ix3 b s f) : EReal) = proj (fx x b s) (fg g) (fw w) f := by
  rw [full_apply]
  unfold proj
  exact Finset.sum_congr rfl fun d _ => by rw [rows_apply]

theorem outQ_apply (b : Fin 8) (s : Fin 4096) (f : Fin 512) : (outQ (full (rows x g) w) (ix3 b s f) : EReal) = resQ (fx x) (fg g) (fw w) b s f := by
  unfold outQ resQ
  rw [scaled_apply]
  refine congrArg (· * (((1 / 8) * (Real.log 2)⁻¹ : ℝ) : EReal)) (flat_joined _ b s _ (fun k a j f hf => ?_) f)
  rw [heads_apply _ (by omega), proj_apply]
  exact congrArg _ (Fin.ext (by simp only; omega))

theorem outK_apply (b : Fin 8) (s : Fin 4096) (f : Fin 512) : (outK (full (rows x g) w) (ix3 b s f) : EReal) = resK (fx x) (fg g) (fw w) b s f := by
  refine flat_joined _ b s _ (fun k a j f hf => ?_) f
  rw [heads_apply _ (by omega), proj_apply]
  exact congrArg _ (Fin.ext (by simp only; omega))

theorem outV_res (b : Fin 8) (e : Fin 576) (s : Fin 4096) : (outV (full (rows x g) w) (ix3 b e s) : EReal) = resV (fx x) (fg g) (fw w) b e s := by
  rw [outV_apply]
  unfold resV
  split
  · next h =>
    rw [stacked_val _ _ _ _ _ (⟨e % 144, h⟩ : Fin 128) rfl, turned_apply, proj_apply]
  · next h =>
    rw [stacked_one _ _ _ _ _ (⟨e % 144 - 128, by omega⟩ : Fin 16) (by simp only; omega)]
    exact one

theorem outX_apply (b : Fin 8) (s : Fin 4096) (f : Fin 512) : (outX (full (rows x g) w) (ix3 b s f) : EReal) = resX (fx x) (fg g) (fw w) b s f := by
  unfold resX
  rw [← proj_apply]
  unfold outX
  pointwise

theorem outG_apply (b : Fin 8) (s : Fin 4096) (f : Fin 512) : (outG (full (rows x g) w) (ix3 b s f) : EReal) = resG (fx x) (fg g) (fw w) b s f := by
  unfold resG
  rw [← proj_apply]
  unfold outG
  pointwise

end

end Cert.Reference3Ideal.InProj

end
-- ==== Proof.InProj.RefRun.lean ====
/-
  The in-projection reference's run: it leaves the five results.
-/
module

public import proofs.«01_k».proof.Proof.InProj.Ref

@[expose] public section

set_option maxRecDepth 16384

noncomputable section

namespace Cert.Reference3Ideal.InProj

open Idealize.ShloMosaic Idealize.ShloMosaic.TcCoe Idealize.SL.Sem Cert.Reference3Ideal Cert.Reference3Ideal.Gen Cert.InProj

abbrev P (m : (ℓ : Loc nD τ sig) → Buf (Elt Ideal) ℓ) (c : Dev nD) : FVec Ideal S8x4096x2560 .f32 :=
  full (rows (m ((c.tc : Thread nD τ).loc main_arg0)) (m ((c.tc : Thread nD τ).loc main_arg1))) (m ((c.tc : Thread nD τ).loc main_arg2))

theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v66) = outQ (P m c) ∧ r.2.mem ((c.tc : Thread nD τ).loc main_v83) = outK (P m c)
      ∧ r.2.mem ((c.tc : Thread nD τ).loc main_v85) = outV (P m c) ∧ r.2.mem ((c.tc : Thread nD τ).loc main_v86) = outX (P m c)
      ∧ r.2.mem ((c.tc : Thread nD τ).loc main_v87) = outG (P m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨⟨(h c).1.trans (by unfold Value.res_main_v66; rfl), (h c).2.1.trans (by unfold Value.res_main_v83; rfl),
    (h c).2.2.1.trans (by rfl), (h c).2.2.2.1.trans (by rfl), (h c).2.2.2.2.1.trans (by rfl)⟩, (h c).2.2.2.2.2⟩)
    (Cert.Reference3Ideal.Value.run (F := Ideal) m ρ)

end Cert.Reference3Ideal.InProj

end
-- ==== Proof.InProj.Claims.lean ====
/-
  The claims about the in-projection call, assembled.
-/
module

public import proofs.«01_k».proof.Defs
public import proofs.«01_k».proof.Proof.InProj.Value
public import proofs.«01_k».proof.Proof.InProj.RefRun
public import Idealize.ShloMosaic.Lib.Quiescent

@[expose] public section

set_option maxRecDepth 16384

noncomputable section

namespace Cert.InProj

open Idealize.ShloMosaic Idealize.ShloMosaic.TcCoe Idealize.SL.Sem

theorem preserves : Cert.preserves_Kernel3_Kernel3Ideal :=
  IdealRules.named_const.statement Cert.Kernel3Ideal.κ "q_scale" .f32 0x3E38AA3B#32 (((1 / 8) * (Real.log 2)⁻¹ : ℝ) : EReal) rfl

theorem frame_ref : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.InProj.run_res m ρ)

/-- An array is the function it has at every index. -/
theorem eq_arr (A : Vec Ideal Cert.Kernel3Ideal.S8x4096x512 .bf16) (R : Fin 8 → Fin 4096 → Fin 512 → EReal) (h : ∀ b s f, (A (ix3 b s f) : EReal) = R b s f) :
    A = Cert.Kernel3Ideal.InProj.arr R := by
  funext i
  exact (congrArg A (eq_ix3 i)).trans (h _ _ _)
theorem eq_arrT (A : Vec Ideal Cert.Kernel3Ideal.S8x576x4096 .bf16) (R : Fin 8 → Fin 576 → Fin 4096 → EReal) (h : ∀ b e s, (A (ix3 b e s) : EReal) = R b e s) :
    A = Cert.Kernel3Ideal.InProj.arrT R := by
  funext i
  exact (congrArg A (eq_ix3 i)).trans (h _ _ _)

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Value.run_blocks m g, ?_⟩
  refine (θ_run Cert.Reference3Ideal.defs _ _).mono (fun r h c => ?_) (Cert.Reference3Ideal.InProj.run_res m' g')
  obtain ⟨⟨h0, h1, h2, h3, h4⟩, hk⟩ := h c
  obtain ⟨a0, a1, a2⟩ := hargs c
  have hP : Cert.Reference3Ideal.InProj.P m' c = Cert.Reference3Ideal.InProj.full
      (Cert.Reference3Ideal.InProj.rows (m ((c : Thread Cert.Kernel3Ideal.nD Cert.Kernel3Ideal.τ).loc Cert.Kernel3Ideal.main_arg0))
        (m ((c : Thread Cert.Kernel3Ideal.nD Cert.Kernel3Ideal.τ).loc Cert.Kernel3Ideal.main_arg1))) (m ((c : Thread Cert.Kernel3Ideal.nD Cert.Kernel3Ideal.τ).loc Cert.Kernel3Ideal.main_arg2)) := by
    unfold Cert.Reference3Ideal.InProj.P
    rw [a0, a1, a2]
  rw [hP] at h0 h1 h2 h3 h4
  exact ⟨h0.trans ((eq_arr _ _ (Cert.Reference3Ideal.InProj.outQ_apply _ _ _)).trans (Cert.Kernel3Ideal.InProj.final7 m c).symm),
    h1.trans ((eq_arr _ _ (Cert.Reference3Ideal.InProj.outK_apply _ _ _)).trans (Cert.Kernel3Ideal.InProj.final8 m c).symm),
    h2.trans ((eq_arrT _ _ (Cert.Reference3Ideal.InProj.outV_res _ _ _)).trans (Cert.Kernel3Ideal.InProj.final9 m c).symm),
    h3.trans ((eq_arr _ _ (Cert.Reference3Ideal.InProj.outX_apply _ _ _)).trans (Cert.Kernel3Ideal.InProj.final10 m c).symm),
    h4.trans ((eq_arr _ _ (Cert.Reference3Ideal.InProj.outG_apply _ _ _)).trans (Cert.Kernel3Ideal.InProj.final11 m c).symm), hk⟩

end Cert.InProj

end
-- ==== Proof.OutProj.Body.lean ====
/-
  The out-projection call's body at one grid point, on any whole buffers: the residual rows, the normed rows as the
  eight strided stores lay them out, the router's rows and the running counts, at the first point and at a later one.
-/
module

public import proofs.«01_k».proof.Proof.Gen.Kernel4Ideal
public import proofs.«01_k».proof.Proof.Gen.Kernel4Ideal.Skeleton
public import proofs.«01_k».proof.Proof.Gen.Kernel4Ideal.Launch
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic

@[expose] public section

set_option maxRecDepth 16384

noncomputable section

namespace Cert.Kernel4Ideal.OutProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Every eighth row from row `r`, all 128 lanes. -/
abbrev row0 : Rect S4096x128 := ⟨⟨![0, 0], S512x128.size, ![8, 1], inb_S4096x128_S512x128_0_0_s_8_1⟩, spos_8_1⟩
abbrev row1 : Rect S4096x128 := ⟨⟨![1, 0], S512x128.size, ![8, 1], inb_S4096x128_S512x128_1_0_s_8_1⟩, spos_8_1⟩
abbrev row2 : Rect S4096x128 := ⟨⟨![2, 0], S512x128.size, ![8, 1], inb_S4096x128_S512x128_2_0_s_8_1⟩, spos_8_1⟩
abbrev row3 : Rect S4096x128 := ⟨⟨![3, 0], S512x128.size, ![8, 1], inb_S4096x128_S512x128_3_0_s_8_1⟩, spos_8_1⟩
abbrev row4 : Rect S4096x128 := ⟨⟨![4, 0], S512x128.size, ![8, 1], inb_S4096x128_S512x128_4_0_s_8_1⟩, spos_8_1⟩
abbrev row5 : Rect S4096x128 := ⟨⟨![5, 0], S512x128.size, ![8, 1], inb_S4096x128_S512x128_5_0_s_8_1⟩, spos_8_1⟩
abbrev row6 : Rect S4096x128 := ⟨⟨![6, 0], S512x128.size, ![8, 1], inb_S4096x128_S512x128_6_0_s_8_1⟩, spos_8_1⟩
abbrev row7 : Rect S4096x128 := ⟨⟨![7, 0], S512x128.size, ![8, 1], inb_S4096x128_S512x128_7_0_s_8_1⟩, spos_8_1⟩
/-- The whole of a buffer, as a rectangle, and the counts' first column. -/
abbrev wA : Rect S512x512 := Rect.unit (s := S512x512) ![0, 0] S512x512.size inb_S512x512_S512x512_0_0
abbrev wX : Rect S512x1024 := Rect.unit (s := S512x1024) ![0, 0] S512x1024.size inb_S512x1024_S512x1024_0_0
abbrev wG : Rect S1x1024 := Rect.unit (s := S1x1024) ![0, 0] S1x1024.size inb_S1x1024_S1x1024_0_0
abbrev wR : Rect S40x1024 := Rect.unit (s := S40x1024) ![0, 0] S40x1024.size inb_S40x1024_S40x1024_0_0
abbrev wC : Rect S32x128 := Rect.unit (s := S32x128) ![0, 0] S32x128.size inb_S32x128_S32x128_0_0
abbrev wQ : Rect S8x512 := Rect.unit (s := S8x512) ![0, 0] S8x512.size inb_S8x512_S8x512_0_0
abbrev col0 : Rect S32x128 := Rect.unit (s := S32x128) ![0, 0] S32x1.size inb_S32x128_S32x1_0_0

/-- The tile's residual rows. -/
def xRows (a r : Vec F S512x512 .bf16) (x : Vec F S512x1024 .f32) (wa wr : Vec F S512x1024 .bf16) : FVec F S512x1024 .f32 :=
  k0_pay4 (View.ld a wA) (View.ld wa wX) (View.ld r wA) (View.ld wr wX) (View.ld x wX)

/-- The tile's normed rows. -/
def hRows (a r : Vec F S512x512 .bf16) (x : Vec F S512x1024 .f32) (wa wr : Vec F S512x1024 .bf16) (g : Vec F S1x1024 .f32) : FVec F S512x1024 .f32 :=
  k0_pay5 (View.ld a wA) (View.ld wa wX) (View.ld r wA) (View.ld wr wX) (View.ld x wX) (View.ld g wG)

/-- The normed rows as the eight stores lay them out. -/
def hTile (v : FVec F S512x1024 .f32) : Vec F S4096x128 .f32 :=
  View.canon [⟨row7, k0_pay13 v⟩, ⟨row6, k0_pay12 v⟩, ⟨row5, k0_pay11 v⟩, ⟨row4, k0_pay10 v⟩, ⟨row3, k0_pay9 v⟩, ⟨row2, k0_pay8 v⟩,
    ⟨row1, k0_pay7 v⟩, ⟨row0, extractStridedSlice S512x128 ![0, 0] v slices_S512x1024_o0_0_S512x128⟩]

/-- The router's values of a tile, off its normed rows `h` and the router's weights `w`. -/
abbrev it8 : IVec S8x512 32 := iota .tc S8x512 32 [0] iota_S8x512_d0_w32
abbrev it32 : IVec S32x512 32 := iota .tc S32x512 32 [0] iota_S32x512_d0_w32
def top (h : FVec F S512x1024 .f32) (w : Vec F S40x1024 .bf16) : FVec F S1x512 .f32 := k0_pay21 k0_pay16 (k0_pay19 h w) (k0_pay20 (F := F))
def best (h : FVec F S512x1024 .f32) (w : Vec F S40x1024 .bf16) : FVec F S1x512 .f32 := k0_pay24 (k0_pay15 h w) it8 k0_pay16 (k0_pay17 h w) (k0_pay18 h w)
def id1 (h : FVec F S512x1024 .f32) (w : Vec F S40x1024 .bf16) : IVec S1x512 32 := k0_pay25 (k0_pay15 h w) it8 k0_pay16 (k0_pay17 h w) (k0_pay18 h w)
def next (h : FVec F S512x1024 .f32) (w : Vec F S40x1024 .bf16) : FVec F S1x512 .f32 := k0_pay27 (k0_pay15 h w) it8 k0_pay16 (k0_pay17 h w) (k0_pay18 h w)
def cand (h : FVec F S512x1024 .f32) (w : Vec F S40x1024 .bf16) : IVec S32x512 32 := k0_pay28 (k0_pay15 h w) it8 k0_pay16 (k0_pay17 h w) (k0_pay18 h w)

/-- The tile's route rows: ids, weights and ranks, the counts before it `s`. -/
def routeT (h : FVec F S512x1024 .f32) (w : Vec F S40x1024 .bf16) (tri : Vec F S512x512 .bf16) (s : Vec F S32x128 .f32) : FVec F S8x512 .f32 :=
  k0_pay2 (id1 h w) (k0_pay29 (cand h w)) (k0_pay31 (top h w) (best h w) (next h w)) (k0_pay32 (top h w) (best h w) (next h w))
    (k0_pay37 it32 (id1 h w) (cand h w) (View.ld s col0) (View.ld tri wA)) (k0_pay38 it32 (id1 h w) (cand h w) (View.ld s col0) (View.ld tri wA))

/-- The counts after the tile, the counts before it `s`. -/
def runT (h : FVec F S512x1024 .f32) (w : Vec F S40x1024 .bf16) (s : Vec F S32x128 .f32) : FVec F S32x128 .f32 :=
  k0_pay1 (k0_pay39 it32 (id1 h w) (cand h w) (View.ld s wC))

/-- The counts are cleared first: the point is the grid's first. -/
abbrev clears (i : grid0.Coords) : BitVec 1 :=
  Scalar.cmpi .ne (Scalar.extui (Scalar.cmpi .eq (BitVec.ofNat 32 (i 0).val) 0#32)) 0#32

/-- A row is in the stride from its remainder by eight. -/
theorem mem_row (r : ℕ) (h : ∀ a, S512x128.size a = 0 ∨ (![r, 0] : Fin 2 → Nat) a + (![8, 1] : Fin 2 → Nat) a * (S512x128.size a - 1) < S4096x128.size a)
    (y : S4096x128.Idx) (hy : (y 0).val % 8 = r) :
    y ∈ (⟨⟨![r, 0], S512x128.size, ![8, 1], h⟩, spos_8_1⟩ : Rect S4096x128).set := by
  rw [LoadRect.mem_set]
  have h0 : (y 0).val < 4096 := (y 0).isLt
  have h1 : (y 1).val < 128 := (y 1).isLt
  intro a
  fin_cases a
  · exact ⟨(y 0).val / 8, by show _ < 512; omega, by show (y 0).val = r + 8 * ((y 0).val / 8); omega⟩
  · exact ⟨(y 1).val, h1, by show (y 1).val = 0 + 1 * (y 1).val; omega⟩

/-- The eight strides cover the tile. -/
theorem cover_rows (w0 w1 w2 w3 w4 w5 w6 w7 : Vec F S512x128 .f32) (y : S4096x128.Idx) :
    ∃ p ∈ ([⟨row7, w7⟩, ⟨row6, w6⟩, ⟨row5, w5⟩, ⟨row4, w4⟩, ⟨row3, w3⟩, ⟨row2, w2⟩, ⟨row1, w1⟩, ⟨row0, w0⟩] : List (View.Piece (Elt F) S4096x128 .f32)), y ∈ p.1.set := by
  have hlt : (y 0).val % 8 < 8 := Nat.mod_lt _ (by decide)
  generalize hr : (y 0).val % 8 = r at hlt
  rcases (by omega : r = 0 ∨ r = 1 ∨ r = 2 ∨ r = 3 ∨ r = 4 ∨ r = 5 ∨ r = 6 ∨ r = 7) with h | h | h | h | h | h | h | h <;> subst h
  · exact ⟨⟨row0, w0⟩, by simp, mem_row 0 _ y hr⟩
  · exact ⟨⟨row1, w1⟩, by simp, mem_row 1 _ y hr⟩
  · exact ⟨⟨row2, w2⟩, by simp, mem_row 2 _ y hr⟩
  · exact ⟨⟨row3, w3⟩, by simp, mem_row 3 _ y hr⟩
  · exact ⟨⟨row4, w4⟩, by simp, mem_row 4 _ y hr⟩
  · exact ⟨⟨row5, w5⟩, by simp, mem_row 5 _ y hr⟩
  · exact ⟨⟨row6, w6⟩, by simp, mem_row 6 _ y hr⟩
  · exact ⟨⟨row7, w7⟩, by simp, mem_row 7 _ y hr⟩

/-- What the last of a buffer's whole writes leaves. -/
theorem read_last {S : Shape} {e : EltTy} (m : Memref sig .tc .vmem S e) (f : m.view.ty.Contents (Elt F)) (off : Fin S.rank → Nat) (h0 : off = fun _ => 0)
    (inb : ∀ a, off a + S.size a ≤ S.size a) (w : S.Idx → Elt F e) (l : List (View.Piece (Elt F) S e)) :
    m.view.read (Elt F) (m.view.writes (Elt F) f (⟨Rect.unit (s := S) off S.size inb, w⟩ :: l)) = w := by
  subst h0
  funext y
  have hy : (Rect.unit (s := S) (fun _ => 0) S.size inb).emb y = y := by
    funext a; apply Fin.ext; rw [Rect.emb_apply]; show 0 + 1 * _ = _; omega
  have hm : y ∈ (Rect.unit (s := S) (fun _ => 0) S.size inb).set := by
    have h := LoadRect.idx_mem (Rect.unit (s := S) (fun _ => 0) S.size inb).toLoadRect y
    exact (show (Rect.unit (s := S) (fun _ => 0) S.size inb).idx y = y from hy) ▸ h
  rw [View.read_writes_apply_eq_canon m.view f y (⟨Rect.unit (s := S) (fun _ => 0) S.size inb, w⟩ :: l) ⟨_, List.mem_cons_self, hm⟩]
  have key := View.canon_cons_emb (Rect.unit (s := S) (fun _ => 0) S.size inb) w l y
  rw [hy] at key
  exact key

/-- A read of a buffer after a whole write. -/
theorem cov_last {S : Shape} {e : EltTy} (m : Memref sig .tc .vmem S e) (off : Fin S.rank → Nat) (h0 : off = fun _ => 0)
    (inb : ∀ a, off a + S.size a ≤ S.size a) (w : S.Idx → Elt F e) (l : List (View.Piece (Elt F) S e)) (r : Rect S) :
    m.view.readCov (⟨Rect.unit (s := S) off S.size inb, w⟩ :: l) r.toLoadRect = View.ld w r :=
  congrArg (fun z => View.ld z r) (read_last m m.view.junk off h0 inb w l)

theorem zero2 : (![0, 0] : Fin 2 → Nat) = fun _ => 0 := by funext a; fin_cases a <;> rfl

theorem ld_wC (x : Vec F S32x128 .f32) : View.ld x wC = x := View.ld_unit_zero (funext (by decide)) _ _

set_option maxHeartbeats 3200000 in
/-- A later point: the counts are as the last point left them. -/
theorem body_later (c : Dev nD) (E : Set ℕ) (i : grid0.Coords)
    (arg1 : Memref sig .tc .vmem S512x512 .bf16) (harg1 : arg1.IsWhole)
    (arg2 : Memref sig .tc .vmem S512x512 .bf16) (harg2 : arg2.IsWhole)
    (arg3 : Memref sig .tc .vmem S512x1024 .f32) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S1x1024 .f32) (harg6 : arg6.IsWhole)
    (arg7 : Memref sig .tc .vmem S40x1024 .bf16) (harg7 : arg7.IsWhole)
    (arg8 : Memref sig .tc .vmem S512x512 .bf16) (harg8 : arg8.IsWhole)
    (arg9 : Memref sig .tc .vmem S512x1024 .f32) (harg9 : arg9.IsWhole)
    (arg10 : Memref sig .tc .vmem S4096x128 .f32) (harg10 : arg10.IsWhole)
    (arg11 : Memref sig .tc .vmem S8x512 .f32) (harg11 : arg11.IsWhole)
    (arg12 : Memref sig .tc .vmem S32x128 .f32) (harg12 : arg12.IsWhole)
    (arg13 : Memref sig .tc .vmem S32x128 .f32) (harg13 : arg13.IsWhole)
    (a r : Vec F S512x512 .bf16) (x : Vec F S512x1024 .f32) (wa wr : Vec F S512x1024 .bf16) (g : Vec F S1x1024 .f32) (w : Vec F S40x1024 .bf16) (tri : Vec F S512x512 .bf16) (s : Vec F S32x128 .f32)
    (h1 : ¬ clears i = 1#1) (K : PUnit → sProp 𝕄) :
    iprop(owns (c : Thread nD τ) arg1 fullShare a ∗ owns (c : Thread nD τ) arg2 fullShare r ∗ owns (c : Thread nD τ) arg3 fullShare x ∗ owns (c : Thread nD τ) arg4 fullShare wa ∗ owns (c : Thread nD τ) arg5 fullShare wr ∗ owns (c : Thread nD τ) arg6 fullShare g ∗ owns (c : Thread nD τ) arg7 fullShare w ∗ owns (c : Thread nD τ) arg8 fullShare tri
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s
        ∗ (iprop(owns (c : Thread nD τ) arg1 fullShare a ∗ owns (c : Thread nD τ) arg2 fullShare r ∗ owns (c : Thread nD τ) arg3 fullShare x ∗ owns (c : Thread nD τ) arg4 fullShare wa ∗ owns (c : Thread nD τ) arg5 fullShare wr ∗ owns (c : Thread nD τ) arg6 fullShare g ∗ owns (c : Thread nD τ) arg7 fullShare w ∗ owns (c : Thread nD τ) arg8 fullShare tri
            ∗ owns (c : Thread nD τ) arg9 fullShare (xRows a r x wa wr)
            ∗ owns (c : Thread nD τ) arg10 fullShare (hTile (hRows a r x wa wr g))
            ∗ owns (c : Thread nD τ) arg11 fullShare (routeT (hRows a r x wa wr g) (View.ld w wR) tri s)
            ∗ owns (c : Thread nD τ) arg12 fullShare (runT (hRows a r x wa wr g) (View.ld w wR) s)
            ∗ owns (c : Thread nD τ) arg13 fullShare (runT (hRows a r x wa wr g) (View.ld w wR) s)) -∗ K ⟨⟩))
      ⊢ wp frame (wpE (defs₀ (F := F)) Variants.none c none) E
          (cc0_outproj_router i arg1 harg1 arg2 harg2 arg3 harg3 arg4 harg4 arg5 harg5 arg6 harg6 arg7 harg7 arg8 harg8 arg9 harg9 arg10 harg10 arg11 harg11 arg12 harg12 arg13 harg13) K := by
  simp only [cc0_outproj_router_eq_skeleton]; unfold cc0_outproj_router_skel
  simp only [k0_part1_eq_skeleton, k0_part2_eq_skeleton, k0_part3_eq_skeleton, k0_part4_eq_skeleton]; unfold k0_part1_skel k0_part2_skel k0_part3_skel k0_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, Hk⟩
  subst hf1 hf2 hf3 hf4 hf5 hf6 hf7 hf8 hf13
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact read_last _ _ _ zero2 _ _ _
  isplitl [H10]
  · iexists _; isplitr
    swap; · iexact H10
    ipureintro
    exact (View.read_writes_eq_canon _ _ _ (cover_rows _ _ _ _ _ _ _ _)).trans rfl
  isplitl [H11]
  · iexists _; isplitr
    swap; · iexact H11
    ipureintro
    refine (read_last _ _ _ ?_ _ _ _).trans ?_
    · exact zero2
    dsimp only
    rfl
  isplitl [H12]
  · iexists _; isplitr
    swap; · iexact H12
    ipureintro
    refine (read_last _ _ _ ?_ _ _ _).trans ?_
    · exact zero2
    refine (cov_last _ _ zero2 _ _ _ wC).trans ((ld_wC _).trans ?_)
    dsimp only
    rfl
  iexists _; isplitr
  swap; · iexact H13
  ipureintro
  refine (read_last _ _ _ ?_ _ _ _).trans ?_
  · exact zero2
  dsimp only
  rfl

set_option maxHeartbeats 3200000 in
/-- The first point: the counts are cleared. -/
theorem body_first (c : Dev nD) (E : Set ℕ) (i : grid0.Coords)
    (arg1 : Memref sig .tc .vmem S512x512 .bf16) (harg1 : arg1.IsWhole)
    (arg2 : Memref sig .tc .vmem S512x512 .bf16) (harg2 : arg2.IsWhole)
    (arg3 : Memref sig .tc .vmem S512x1024 .f32) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S1x1024 .f32) (harg6 : arg6.IsWhole)
    (arg7 : Memref sig .tc .vmem S40x1024 .bf16) (harg7 : arg7.IsWhole)
    (arg8 : Memref sig .tc .vmem S512x512 .bf16) (harg8 : arg8.IsWhole)
    (arg9 : Memref sig .tc .vmem S512x1024 .f32) (harg9 : arg9.IsWhole)
    (arg10 : Memref sig .tc .vmem S4096x128 .f32) (harg10 : arg10.IsWhole)
    (arg11 : Memref sig .tc .vmem S8x512 .f32) (harg11 : arg11.IsWhole)
    (arg12 : Memref sig .tc .vmem S32x128 .f32) (harg12 : arg12.IsWhole)
    (arg13 : Memref sig .tc .vmem S32x128 .f32) (harg13 : arg13.IsWhole)
    (a r : Vec F S512x512 .bf16) (x : Vec F S512x1024 .f32) (wa wr : Vec F S512x1024 .bf16) (g : Vec F S1x1024 .f32) (w : Vec F S40x1024 .bf16) (tri : Vec F S512x512 .bf16)
    (h1 : clears i = 1#1) (K : PUnit → sProp 𝕄) :
    iprop(owns (c : Thread nD τ) arg1 fullShare a ∗ owns (c : Thread nD τ) arg2 fullShare r ∗ owns (c : Thread nD τ) arg3 fullShare x ∗ owns (c : Thread nD τ) arg4 fullShare wa ∗ owns (c : Thread nD τ) arg5 fullShare wr ∗ owns (c : Thread nD τ) arg6 fullShare g ∗ owns (c : Thread nD τ) arg7 fullShare w ∗ owns (c : Thread nD τ) arg8 fullShare tri
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare a ∗ owns (c : Thread nD τ) arg2 fullShare r ∗ owns (c : Thread nD τ) arg3 fullShare x ∗ owns (c : Thread nD τ) arg4 fullShare wa ∗ owns (c : Thread nD τ) arg5 fullShare wr ∗ owns (c : Thread nD τ) arg6 fullShare g ∗ owns (c : Thread nD τ) arg7 fullShare w ∗ owns (c : Thread nD τ) arg8 fullShare tri
            ∗ owns (c : Thread nD τ) arg9 fullShare (xRows a r x wa wr)
            ∗ owns (c : Thread nD τ) arg10 fullShare (hTile (hRows a r x wa wr g))
            ∗ owns (c : Thread nD τ) arg11 fullShare (routeT (hRows a r x wa wr g) (View.ld w wR) tri (k0_pay3 (F := F)))
            ∗ owns (c : Thread nD τ) arg12 fullShare (runT (hRows a r x wa wr g) (View.ld w wR) (k0_pay3 (F := F)))
            ∗ owns (c : Thread nD τ) arg13 fullShare (runT (hRows a r x wa wr g) (View.ld w wR) (k0_pay3 (F := F)))) -∗ K ⟨⟩))
      ⊢ wp frame (wpE (defs₀ (F := F)) Variants.none c none) E
          (cc0_outproj_router i arg1 harg1 arg2 harg2 arg3 harg3 arg4 harg4 arg5 harg5 arg6 harg6 arg7 harg7 arg8 harg8 arg9 harg9 arg10 harg10 arg11 harg11 arg12 harg12 arg13 harg13) K := by
  simp only [cc0_outproj_router_eq_skeleton]; unfold cc0_outproj_router_skel
  simp only [k0_part1_eq_skeleton, k0_part2_eq_skeleton, k0_part3_eq_skeleton, k0_part4_eq_skeleton]; unfold k0_part1_skel k0_part2_skel k0_part3_skel k0_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact read_last _ _ _ zero2 _ _ _
  isplitl [H10]
  · iexists _; isplitr
    swap; · iexact H10
    ipureintro
    exact (View.read_writes_eq_canon _ _ _ (cover_rows _ _ _ _ _ _ _ _)).trans rfl
  isplitl [H11]
  · iexists _; isplitr
    swap; · iexact H11
    ipureintro
    refine (read_last _ _ _ ?_ _ _ _).trans ?_
    · exact zero2
    have q : body_first.sl.v131 c arg13 = View.ld (k0_pay3 (F := F)) col0 := cov_last _ _ zero2 _ _ _ col0
    dsimp only
    rw [q]
    rfl
  isplitl [H12]
  · iexists _; isplitr
    swap; · iexact H12
    ipureintro
    refine (read_last _ _ _ ?_ _ _ _).trans ?_
    · exact zero2
    refine (cov_last _ _ zero2 _ _ _ wC).trans ((ld_wC _).trans ?_)
    have q : body_first.sl.v146 c arg13 = View.ld (k0_pay3 (F := F)) wC := cov_last _ _ zero2 _ _ _ wC
    dsimp only
    rw [q]
    rfl
  iexists _; isplitr
  swap; · iexact H13
  ipureintro
  refine (read_last _ _ _ ?_ _ _ _).trans ?_
  · exact zero2
  have q : body_first.sl.v146 c arg13 = View.ld (k0_pay3 (F := F)) wC := cov_last _ _ zero2 _ _ _ wC
  dsimp only
  rw [q]
  rfl

end Cert.Kernel4Ideal.OutProj

end
-- ==== Proof.OutProj.Common.lean ====
/-
  The out-projection call's pipeline data: the windows' blocks, what the body leaves in each buffer at each tile, and
  the running counts between tiles.
-/
module

public import proofs.«01_k».proof.Proof.OutProj.Body

@[expose] public section

set_option maxRecDepth 16384

noncomputable section

namespace Cert.Kernel4Ideal.OutProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (A : (c : Dev nD) → (b : Ref sig .tc) → Buf (Elt F) ((c : Thread nD τ).loc b))

/-- Window `w`'s block at tile `t`. -/
def iblk (c : Dev nD) (w : Fin cfg0.W) (t : Fin cfg0.N) : ((cfg0.win w).xblock (cfg0.grid.coords t)).Idx → Elt F (cfg0.win w).elt :=
  ((cfg0.win w).blk t).view.read (Elt F) (A c (Pipeline.arrRef spec0 w))

/-- Tile `t`'s residual rows and its normed rows. -/
def xT (c : Dev nD) (t : Fin cfg0.N) : FVec F S512x1024 .f32 := xRows (iblk A c 0 t) (iblk A c 1 t) (iblk A c 2 t) (iblk A c 3 t) (iblk A c 4 t)
def hT (c : Dev nD) (t : Fin cfg0.N) : FVec F S512x1024 .f32 := hRows (iblk A c 0 t) (iblk A c 1 t) (iblk A c 2 t) (iblk A c 3 t) (iblk A c 4 t) (iblk A c 5 t)

/-- One tile's count, on the counts before it. -/
def step (c : Dev nD) (t : Fin cfg0.N) (s : Vec F S32x128 .f32) : Vec F S32x128 .f32 := runT (hT A c t) (View.ld (iblk A c 6 t) wR) s

/-- The counts of the first `n` tiles. -/
def cnt (c : Dev nD) : ℕ → Vec F S32x128 .f32
  | 0 => k0_pay3
  | n + 1 => if h : n < cfg0.N then step A c ⟨n, h⟩ (cnt c n) else cnt c n

theorem cnt_succ (c : Dev nD) (t : Fin cfg0.N) : cnt A c (t.val + 1) = step A c t (cnt A c t.val) := by
  rw [cnt, dif_pos t.isLt]

/-- Tile `t`'s route rows. -/
def rT (c : Dev nD) (t : Fin cfg0.N) : FVec F S8x512 .f32 := routeT (hT A c t) (View.ld (iblk A c 6 t) wR) (iblk A c 7 t) (cnt A c t.val)

/-- Before position `t`, past the first: the scratch holds the counts of the tiles done. -/
def scr (c : Dev nD) (t : Fin (cfg0.N + 1)) : sProp 𝕄 :=
  iprop(∃ s : Vec F S32x128 .f32, ⌜t.val ≠ 0 → s = cnt A c t.val⌝ ∗ owns (c : Thread nD τ) (Memref.whole cc0_scratch0) fullShare s)

/-- The pipeline's data on core `c`. -/
def dats (_ : Fin 1) (c : Dev nD) : Dat τ (Elt F) Unit ℕ (UR sig nD τ) ℕ cfg0 c where
  A w := A c (Pipeline.arrRef spec0 w)
  after w t := match w with
    | ⟨0, _⟩ => iblk A c 0 t
    | ⟨1, _⟩ => iblk A c 1 t
    | ⟨2, _⟩ => iblk A c 2 t
    | ⟨3, _⟩ => iblk A c 3 t
    | ⟨4, _⟩ => iblk A c 4 t
    | ⟨5, _⟩ => iblk A c 5 t
    | ⟨6, _⟩ => iblk A c 6 t
    | ⟨7, _⟩ => iblk A c 7 t
    | ⟨8, _⟩ => xT A c t
    | ⟨9, _⟩ => hTile (hT A c t)
    | ⟨10, _⟩ => rT A c t
    | ⟨11, _⟩ => cnt A c (t.val + 1)
  Φ t := iprop(scr A c t ∗ ∃ r, prngReg c r)
  q _ := fullShare
  owed _ := 0

theorem A_eq (c : Dev nD) (w : Fin cfg0.W) : (dats A 0 c).A w = A c (Pipeline.arrRef spec0 w) := by
  dsimp only [dats]
theorem Φ_eq (c : Dev nD) (t : Fin (cfg0.N + 1)) : (dats A 0 c).Φ t = iprop(scr A c t ∗ ∃ r, prngReg c r) := by dsimp only [dats]
theorem after_0 (c : Dev nD) (t : Fin cfg0.N) : (dats A 0 c).after 0 t = iblk A c 0 t := by dsimp only [dats]
theorem after_1 (c : Dev nD) (t : Fin cfg0.N) : (dats A 0 c).after 1 t = iblk A c 1 t := by dsimp only [dats]
theorem after_2 (c : Dev nD) (t : Fin cfg0.N) : (dats A 0 c).after 2 t = iblk A c 2 t := by dsimp only [dats]
theorem after_3 (c : Dev nD) (t : Fin cfg0.N) : (dats A 0 c).after 3 t = iblk A c 3 t := by dsimp only [dats]
theorem after_4 (c : Dev nD) (t : Fin cfg0.N) : (dats A 0 c).after 4 t = iblk A c 4 t := by dsimp only [dats]
theorem after_5 (c : Dev nD) (t : Fin cfg0.N) : (dats A 0 c).after 5 t = iblk A c 5 t := by dsimp only [dats]
theorem after_6 (c : Dev nD) (t : Fin cfg0.N) : (dats A 0 c).after 6 t = iblk A c 6 t := by dsimp only [dats]
theorem after_7 (c : Dev nD) (t : Fin cfg0.N) : (dats A 0 c).after 7 t = iblk A c 7 t := by dsimp only [dats]
theorem after_8 (c : Dev nD) (t : Fin cfg0.N) : (dats A 0 c).after 8 t = xT A c t := by dsimp only [dats]
theorem after_9 (c : Dev nD) (t : Fin cfg0.N) : (dats A 0 c).after 9 t = hTile (hT A c t) := by dsimp only [dats]
theorem after_10 (c : Dev nD) (t : Fin cfg0.N) : (dats A 0 c).after 10 t = rT A c t := by dsimp only [dats]
theorem after_11 (c : Dev nD) (t : Fin cfg0.N) : (dats A 0 c).after 11 t = cnt A c (t.val + 1) := by dsimp only [dats]

/-- An input's buffer holds its block at every tile, fetched there or kept. -/
theorem before_0 (c : Dev nD) (t : Fin cfg0.N) (d) : (dats A 0 c).before 0 t d = iblk A c 0 t :=
  ((dats A 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats A 0 c).before 1 t d = iblk A c 1 t :=
  ((dats A 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats A 0 c).before 2 t d = iblk A c 2 t :=
  ((dats A 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats A 0 c).before 3 t d = iblk A c 3 t :=
  ((dats A 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats A 0 c).before 4 t d = iblk A c 4 t :=
  ((dats A 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats A 0 c).before 5 t d = iblk A c 5 t :=
  ((dats A 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats A 0 c).before 6 t d = iblk A c 6 t :=
  ((dats A 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats A 0 c).before 7 t d = iblk A c 7 t :=
  ((dats A 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

theorem coords_val (t : Fin cfg0.N) : (grid0.coords t 0).val = t.val := by
  have h : ∀ t : Fin 64, ((grid0.coords ⟨t.val, t.isLt⟩) 0).val = t.val := by decide +kernel
  exact h ⟨t.val, t.isLt⟩

/-- The first tile is the one that clears the counts. -/
theorem clears_iff (i : grid0.Coords) : clears i = 1#1 ↔ (i 0).val = 0 := by
  have hx : (BitVec.ofNat 32 (i 0).val == 0#32) = decide ((i 0).val = 0) := by
    have h : (i 0).val < 64 := (i 0).isLt
    rw [Bool.eq_iff_iff]
    simp only [beq_iff_eq, decide_eq_true_eq]
    constructor
    · intro e
      have := congrArg BitVec.toNat e
      simp only [BitVec.toNat_ofNat] at this
      omega
    · intro e; rw [e]
  unfold clears Scalar.cmpi Scalar.extui
  simp only [IntOp.cmpi, hx]
  by_cases z : (i 0).val = 0 <;> simp only [z, decide_true, decide_false] <;> decide

/-- A whole buffer's points-to is owning it at those contents. -/
theorem owns_of_pts (c : Thread nD τ) (b : Ref sig c.2.kind) (X : Buf (Elt F) (c.loc b)) :
    ((c.loc b ↦{fullShare} X : sProp 𝕄)) ⊢ owns c (Memref.whole b) fullShare X := by
  rw [owns_whole_eq]
  iintro H
  iexists _; isplitr [H]; · ipureintro; rfl
  iexact H
theorem pts_of_owns (c : Thread nD τ) (b : Ref sig c.2.kind) (X : Buf (Elt F) (c.loc b)) :
    (owns c (Memref.whole b) fullShare X : sProp 𝕄) ⊢ (c.loc b ↦{fullShare} X) := by
  rw [owns_whole_eq]
  iintro ⟨%f, %h, H⟩
  subst h
  iexact H

end Cert.Kernel4Ideal.OutProj

end
-- ==== Proof.OutProj.Oblig.lean ====
/-
  The out-projection call's body, at any tile, takes the pipeline's data from before the tile to after it.
-/
module

public import proofs.«01_k».proof.Proof.OutProj.Common

@[expose] public section

set_option maxRecDepth 16384

noncomputable section

namespace Cert.Kernel4Ideal.OutProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (A : (c : Dev nD) → (b : Ref sig .tc) → Buf (Elt F) ((c : Thread nD τ).loc b))

/-- Window `w`'s buffer at tile `t`. -/
abbrev st0 (t : Fin cfg0.N) : Memref sig .tc .vmem S512x512 .bf16 := (cfg0.win 0).stage (cfg0.slots t 0)
abbrev st1 (t : Fin cfg0.N) : Memref sig .tc .vmem S512x512 .bf16 := (cfg0.win 1).stage (cfg0.slots t 1)
abbrev st2 (t : Fin cfg0.N) : Memref sig .tc .vmem S512x1024 .f32 := (cfg0.win 2).stage (cfg0.slots t 2)
abbrev st3 (t : Fin cfg0.N) : Memref sig .tc .vmem S512x1024 .bf16 := (cfg0.win 3).stage (cfg0.slots t 3)
abbrev st4 (t : Fin cfg0.N) : Memref sig .tc .vmem S512x1024 .bf16 := (cfg0.win 4).stage (cfg0.slots t 4)
abbrev st5 (t : Fin cfg0.N) : Memref sig .tc .vmem S1x1024 .f32 := (cfg0.win 5).stage (cfg0.slots t 5)
abbrev st6 (t : Fin cfg0.N) : Memref sig .tc .vmem S40x1024 .bf16 := (cfg0.win 6).stage (cfg0.slots t 6)
abbrev st7 (t : Fin cfg0.N) : Memref sig .tc .vmem S512x512 .bf16 := (cfg0.win 7).stage (cfg0.slots t 7)
abbrev st8 (t : Fin cfg0.N) : Memref sig .tc .vmem S512x1024 .f32 := (cfg0.win 8).stage (cfg0.slots t 8)
abbrev st9 (t : Fin cfg0.N) : Memref sig .tc .vmem S4096x128 .f32 := (cfg0.win 9).stage (cfg0.slots t 9)
abbrev st10 (t : Fin cfg0.N) : Memref sig .tc .vmem S8x512 .f32 := (cfg0.win 10).stage (cfg0.slots t 10)
abbrev st11 (t : Fin cfg0.N) : Memref sig .tc .vmem S32x128 .f32 := (cfg0.win 11).stage (cfg0.slots t 11)

/-- The body's call at tile `t`. -/
def bodyAt (t : Fin cfg0.N) : Prog (TpuEff nD τ sig (Elt F) Λ₀ .tc) PUnit :=
  cc0_outproj_router (grid0.coords t)
    (st0 t) (hstage0_0 ((cfg0.slots t 0).cast nbuf0_0))
    (st1 t) (hstage0_1 ((cfg0.slots t 1).cast nbuf0_1))
    (st2 t) (hstage0_2 ((cfg0.slots t 2).cast nbuf0_2))
    (st3 t) (hstage0_3 ((cfg0.slots t 3).cast nbuf0_3))
    (st4 t) (hstage0_4 ((cfg0.slots t 4).cast nbuf0_4))
    (st5 t) (hstage0_5 ((cfg0.slots t 5).cast nbuf0_5))
    (st6 t) (hstage0_6 ((cfg0.slots t 6).cast nbuf0_6))
    (st7 t) (hstage0_7 ((cfg0.slots t 7).cast nbuf0_7))
    (st8 t) (hstage0_8 ((cfg0.slots t 8).cast nbuf0_8))
    (st9 t) (hstage0_9 ((cfg0.slots t 9).cast nbuf0_9))
    (st10 t) (hstage0_10 ((cfg0.slots t 10).cast nbuf0_10))
    (st11 t) (hstage0_11 ((cfg0.slots t 11).cast nbuf0_11))
    (Memref.whole cc0_scratch0) (Memref.isWhole_whole _)

theorem defs₀_row (t : Fin cfg0.N) :
    defs₀ (F := F) .tc cfg0.body (cfg0.bodyArgs t (cfg0.slots t)) = bodyAt t := by
  unfold defs₀; rw [Defs.onTc_tc]; rfl

/-- The buffers before the body and after it. -/
def bufsPre (c : Dev nD) (t : Fin cfg0.N) : sProp 𝕄 :=
  iprop(owns (c : Thread nD τ) (st0 t) fullShare (iblk A c 0 t)
    ∗ owns (c : Thread nD τ) (st1 t) fullShare (iblk A c 1 t)
    ∗ owns (c : Thread nD τ) (st2 t) fullShare (iblk A c 2 t)
    ∗ owns (c : Thread nD τ) (st3 t) fullShare (iblk A c 3 t)
    ∗ owns (c : Thread nD τ) (st4 t) fullShare (iblk A c 4 t)
    ∗ owns (c : Thread nD τ) (st5 t) fullShare (iblk A c 5 t)
    ∗ owns (c : Thread nD τ) (st6 t) fullShare (iblk A c 6 t)
    ∗ owns (c : Thread nD τ) (st7 t) fullShare (iblk A c 7 t)
    ∗ (∃ d, owns (c : Thread nD τ) (st8 t) fullShare d)
    ∗ (∃ d, owns (c : Thread nD τ) (st9 t) fullShare d)
    ∗ (∃ d, owns (c : Thread nD τ) (st10 t) fullShare d)
    ∗ (∃ d, owns (c : Thread nD τ) (st11 t) fullShare d))
def bufsPost (c : Dev nD) (t : Fin cfg0.N) : sProp 𝕄 :=
  iprop(owns (c : Thread nD τ) (st0 t) fullShare (iblk A c 0 t)
    ∗ owns (c : Thread nD τ) (st1 t) fullShare (iblk A c 1 t)
    ∗ owns (c : Thread nD τ) (st2 t) fullShare (iblk A c 2 t)
    ∗ owns (c : Thread nD τ) (st3 t) fullShare (iblk A c 3 t)
    ∗ owns (c : Thread nD τ) (st4 t) fullShare (iblk A c 4 t)
    ∗ owns (c : Thread nD τ) (st5 t) fullShare (iblk A c 5 t)
    ∗ owns (c : Thread nD τ) (st6 t) fullShare (iblk A c 6 t)
    ∗ owns (c : Thread nD τ) (st7 t) fullShare (iblk A c 7 t)
    ∗ owns (c : Thread nD τ) (st8 t) fullShare (xT A c t)
    ∗ owns (c : Thread nD τ) (st9 t) fullShare (hTile (hT A c t))
    ∗ owns (c : Thread nD τ) (st10 t) fullShare (rT A c t)
    ∗ owns (c : Thread nD τ) (st11 t) fullShare (cnt A c (t.val + 1)))

theorem tile_first (c : Dev nD) (t : Fin cfg0.N) (h1 : clears (grid0.coords t) = 1#1) :
    iprop(scr A c t.castSucc ∗ bufsPre A c t)
      ⊢ wp frame (wpE (defs₀ (F := F)) Variants.none (c : Thread nD τ) none) Set.univ (bodyAt t) (fun _ => iprop(scr A c t.succ ∗ bufsPost A c t)) := by
  have h0 : t.val = 0 := by rw [← coords_val]; exact (clears_iff _).mp h1
  have hc : k0_pay3 (F := F) = cnt A c t.val := by rw [h0]; rfl
  unfold scr bufsPre bufsPost bodyAt
  rw [cnt_succ]
  unfold rT step xT hT
  iintro ⟨⟨%s, %hs, S0⟩, H0, H1, H2, H3, H4, H5, H6, H7, H8, H9, H10, H11⟩
  rw [← hc]
  iapply (body_first c Set.univ (grid0.coords t) _ _ _ _ _ _ _ _ _ _ _ _ _ _ _ _ _ _ _ _ _ _ _ _ _ _ (iblk A c 0 t) (iblk A c 1 t) (iblk A c 2 t) (iblk A c 3 t) (iblk A c 4 t) (iblk A c 5 t) (iblk A c 6 t) (iblk A c 7 t) h1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexists _; iexact S0
  iintro ⟨H0, H1, H2, H3, H4, H5, H6, H7, H8, H9, H10, H11, S0⟩
  isplitl [S0]
  · iexists _
    isplitr [S0]
    swap
    · iexact S0
    · ipureintro
      intro _
      rw [show t.succ.val = t.val + 1 from rfl, cnt_succ]
      rw [← hc]; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem tile_later (c : Dev nD) (t : Fin cfg0.N) (h1 : ¬ clears (grid0.coords t) = 1#1) :
    iprop(scr A c t.castSucc ∗ bufsPre A c t)
      ⊢ wp frame (wpE (defs₀ (F := F)) Variants.none (c : Thread nD τ) none) Set.univ (bodyAt t) (fun _ => iprop(scr A c t.succ ∗ bufsPost A c t)) := by
  have h0 : t.val ≠ 0 := fun e => h1 ((clears_iff _).mpr (by rw [coords_val]; exact e))
  unfold scr bufsPre bufsPost bodyAt
  rw [cnt_succ]
  unfold rT step xT hT
  iintro ⟨⟨%s, %hs, S0⟩, H0, H1, H2, H3, H4, H5, H6, H7, H8, H9, H10, H11⟩
  have hs' : s = cnt A c t.val := hs h0
  subst hs'
  iapply (body_later c Set.univ (grid0.coords t) _ _ _ _ _ _ _ _ _ _ _ _ _ _ _ _ _ _ _ _ _ _ _ _ _ _ (iblk A c 0 t) (iblk A c 1 t) (iblk A c 2 t) (iblk A c 3 t) (iblk A c 4 t) (iblk A c 5 t) (iblk A c 6 t) (iblk A c 7 t) (cnt A c t.val) h1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  iintro ⟨H0, H1, H2, H3, H4, H5, H6, H7, H8, H9, H10, H11, S0⟩
  isplitl [S0]
  · iexists _
    isplitr [S0]
    swap
    · iexact S0
    · ipureintro
      intro _
      rw [show t.succ.val = t.val + 1 from rfl, cnt_succ]
      rfl
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem tile (c : Dev nD) (t : Fin cfg0.N) :
    iprop(scr A c t.castSucc ∗ bufsPre A c t)
      ⊢ wp frame (wpE (defs₀ (F := F)) Variants.none (c : Thread nD τ) none) Set.univ (bodyAt t) (fun _ => iprop(scr A c t.succ ∗ bufsPost A c t)) := by
  by_cases h : clears (grid0.coords t) = 1#1
  · exact tile_first A c t h
  · exact tile_later A c t h

/-- What the body is called with at tile `t`, and what it returns. -/
def bodyPre (c : Dev nD) (t : Fin cfg0.N) : sProp 𝕄 :=
  iprop((dats A 0 c).Φ t.castSucc ∗ (dats A 0 c).owesAt () t.castSucc
    ∗ (∃ d, owns (c : Thread nD τ) (st0 t) fullShare ((dats A 0 c).before 0 t d))
    ∗ (∃ d, owns (c : Thread nD τ) (st1 t) fullShare ((dats A 0 c).before 1 t d))
    ∗ (∃ d, owns (c : Thread nD τ) (st2 t) fullShare ((dats A 0 c).before 2 t d))
    ∗ (∃ d, owns (c : Thread nD τ) (st3 t) fullShare ((dats A 0 c).before 3 t d))
    ∗ (∃ d, owns (c : Thread nD τ) (st4 t) fullShare ((dats A 0 c).before 4 t d))
    ∗ (∃ d, owns (c : Thread nD τ) (st5 t) fullShare ((dats A 0 c).before 5 t d))
    ∗ (∃ d, owns (c : Thread nD τ) (st6 t) fullShare ((dats A 0 c).before 6 t d))
    ∗ (∃ d, owns (c : Thread nD τ) (st7 t) fullShare ((dats A 0 c).before 7 t d))
    ∗ (∃ d, owns (c : Thread nD τ) (st8 t) fullShare ((dats A 0 c).before 8 t d))
    ∗ (∃ d, owns (c : Thread nD τ) (st9 t) fullShare ((dats A 0 c).before 9 t d))
    ∗ (∃ d, owns (c : Thread nD τ) (st10 t) fullShare ((dats A 0 c).before 10 t d))
    ∗ (∃ d, owns (c : Thread nD τ) (st11 t) fullShare ((dats A 0 c).before 11 t d)))
def bodyPost (c : Dev nD) (t : Fin cfg0.N) : sProp 𝕄 :=
  iprop((dats A 0 c).Φ t.succ ∗ (dats A 0 c).owesAt () t.succ
    ∗ owns (c : Thread nD τ) (st0 t) fullShare ((dats A 0 c).after 0 t)
    ∗ owns (c : Thread nD τ) (st1 t) fullShare ((dats A 0 c).after 1 t)
    ∗ owns (c : Thread nD τ) (st2 t) fullShare ((dats A 0 c).after 2 t)
    ∗ owns (c : Thread nD τ) (st3 t) fullShare ((dats A 0 c).after 3 t)
    ∗ owns (c : Thread nD τ) (st4 t) fullShare ((dats A 0 c).after 4 t)
    ∗ owns (c : Thread nD τ) (st5 t) fullShare ((dats A 0 c).after 5 t)
    ∗ owns (c : Thread nD τ) (st6 t) fullShare ((dats A 0 c).after 6 t)
    ∗ owns (c : Thread nD τ) (st7 t) fullShare ((dats A 0 c).after 7 t)
    ∗ owns (c : Thread nD τ) (st8 t) fullShare ((dats A 0 c).after 8 t)
    ∗ owns (c : Thread nD τ) (st9 t) fullShare ((dats A 0 c).after 9 t)
    ∗ owns (c : Thread nD τ) (st10 t) fullShare ((dats A 0 c).after 10 t)
    ∗ owns (c : Thread nD τ) (st11 t) fullShare ((dats A 0 c).after 11 t))

set_option maxHeartbeats 1600000 in
theorem sound_body (c : Dev nD) (t : Fin cfg0.N) :
    bodyPre A c t ⊢ wp frame (wpE (defs₀ (F := F)) Variants.none (c : Thread nD τ) none) Set.univ (bodyAt t) (fun _ => bodyPost A c t) := by
  unfold bodyPre bodyPost
  simp only [before_0, before_1, before_2, before_3, before_4, before_5, before_6, before_7]
  rw [show (dats A 0 c).owesAt () t.succ = (dats A 0 c).owesAt () t.castSucc from rfl, Φ_eq, Φ_eq, after_0, after_1, after_2, after_3, after_4, after_5, after_6, after_7, after_8, after_9, after_10, after_11]
  refine BIBase.Entails.trans (Q := iprop((scr A c t.castSucc ∗ bufsPre A c t) ∗ (dats A 0 c).owesAt () t.castSucc ∗ ∃ r, prngReg c r)) ?_
    ((BIClass.sep_mono (tile A c t) .rfl).trans ((wp_frame_r _ _ _).trans (wp_mono _ _ _ fun _ => ?_)))
  · unfold bufsPre
    iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    isplitr [Ho HP]
    · isplitl [HS]; · iexact HS
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11
    · isplitl [Ho]; · iexact Ho
      iexact HP
  · unfold bufsPost
    iintro ⟨⟨HS, HB⟩, Ho, HP⟩
    isplitl [HS HP]
    · isplitl [HS]; · iexact HS
      iexact HP
    isplitl [Ho]; · iexact Ho
    iexact HB

theorem body_obligation (c : Dev nD) : BodyObligation (dats A 0 c) (defs₀ (F := F)) Variants.none () Set.univ := fun t => by
  rw [bigSep_W0, bigSep_W0, defs₀_row]
  exact triple_restated (sound_body A c t) rfl .rfl fun _ => .rfl

end Cert.Kernel4Ideal.OutProj

end
-- ==== Proof.OutProj.Run.lean ====
/-
  The out-projection call's run: from the pipeline's data to the final memory, at any values.
-/
module

public import proofs.«01_k».proof.Proof.OutProj.Oblig

@[expose] public section

set_option maxRecDepth 16384

noncomputable section

namespace Cert.Kernel4Ideal.OutProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers where the pipeline begins. -/
def V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 (defs₀ (F := F)) Variants.none m (main (F := F)) (V m) :=
  Pipeline.hmain_prefixes cfgs 0 defs₀ Variants.none m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hin (c : Dev nD) : Pipeline.ΦA spec0 c ⊢ (dats (V m) 0 c).Φ 0 := by
  rw [Φ_eq]
  unfold Pipeline.ΦA scr
  rw [scopedRest0_eq]
  iintro ⟨⟨%f, H0⟩, HP⟩
  isplitl [H0]
  · iexists f
    isplitr [H0]
    · ipureintro
      intro h
      exact absurd rfl h
    iapply (owns_of_pts (c : Thread nD τ) cc0_scratch0 f); iexact H0
  iexact HP

theorem hout (c : Dev nD) : (dats (V m) 0 c).Φ (Fin.last _) ⊢ Pipeline.ΦA spec0 c := by
  rw [Φ_eq]
  unfold Pipeline.ΦA scr
  rw [scopedRest0_eq]
  iintro ⟨⟨%f, -, H0⟩, HP⟩
  isplitl [H0]
  · iexists f; iapply (pts_of_owns (c : Thread nD τ) cc0_scratch0 f); iexact H0
  iexact HP

set_option backward.isDefEq.respectTransparency.types false in
set_option maxHeartbeats 800000 in
/-- The launch. -/
theorem run_frame : θ_run defs (onTc (τ := τ) (main (F := F))) (s₀ m ρ)
    (fun r => Pipeline.FramePost cfgs (dats (V m)) 0 (V m) r ∧ r.2.sem = fun _ => 0) :=
  Pipeline.θ_run_frame_track (Q' := _) cfgs (dats (V m)) (0 : Fin 1) launch0 defs₀ Variants.none m ρ main
    (hbody := fun c => (body_obligation (V m) c).loose) (hshare := fun c => (dats (V m) 0 c).share_full fun _ => rfl)
    (howed := fun _ _ => rfl) (V := V m) (hmain := hmain m) (hA := A_eq (V m)) (hin := hin m) (hout := hout m)

/-- The run: the first two results at the pipeline's data, the arguments unchanged, every counter at zero. -/
theorem run_main : θ_run defs (onTc (τ := τ) (main (F := F))) ⟨m, fun _ => 0, ρ⟩ (fun r => (∀ c : Dev nD,
      (r.2.mem ((c.tc : Thread nD τ).loc main_v21_0) = (dats (V m) 0 c).arrAt 8 cfg0.N
        ∧ r.2.mem ((c.tc : Thread nD τ).loc main_v21_1) = (dats (V m) 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨⟨(h.1 c).1 8, (h.1 c).1 9⟩,
      ((h.1 c).2 main_arg0 (Pipeline.mem_restRefs_of main_arg0 (by decide) (by decide))).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c),
      ((h.1 c).2 main_arg4 (Pipeline.mem_restRefs_of main_arg4 (by decide) (by decide))).trans (V_arg4 m c),
      ((h.1 c).2 main_arg5 (Pipeline.mem_restRefs_of main_arg5 (by decide) (by decide))).trans (V_arg5 m c),
      ((h.1 c).2 main_arg6 (Pipeline.mem_restRefs_of main_arg6 (by decide) (by decide))).trans (V_arg6 m c)⟩, h.2⟩)
    (run_frame m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_main m ρ)

/-- The frame, of any program table and main equal to these. -/
theorem frame_same (D : Defs nD τ sig (Elt F) (Pipeline.Sig Λ₀ (Fin 1) fun p => (pcfgs (F := F) p).Adm)) (hD : D = defs)
    (M : Dev nD → Prog (TpuEff nD τ sig (Elt F) (Pipeline.Sig Λ₀ (Fin 1) fun p => (pcfgs (F := F) p).Adm) .tc) PUnit) (hM : M = main) :
    θ_run D (onTc (τ := τ) M) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  subst hD hM
  exact frame m ρ

end Cert.Kernel4Ideal.OutProj

end
-- ==== Proof.OutProj.Frames.lean ====
/-
  The out-projection call's frames: the run at words and at the ideal values, of the one text both programs have.
-/
module

public import proofs.«01_k».proof.Proof.OutProj.Run
public import proofs.«01_k».proof.Proof.Gen.Kernel4
public import proofs.«01_k».proof.Proof.Gen.Kernel4.Launch
public import proofs.«01_k».proof.Defs

@[expose] public section

set_option maxRecDepth 16384

noncomputable section

namespace Cert.OutProj

open Idealize.ShloMosaic Idealize.ShloMosaic.TcCoe

theorem frame_ideal : Cert.quiescent_Kernel4Ideal := fun m ρ _ => Cert.Kernel4Ideal.OutProj.frame m ρ

set_option maxHeartbeats 8000000 in
theorem defs₀_same : (Cert.Kernel4Ideal.defs₀ (F := Bits)) = Cert.Kernel4.defs₀ (F := Bits) := by
  unfold Cert.Kernel4Ideal.defs₀ Cert.Kernel4.defs₀
  congr 1
  funext l x
  match l, x with
  | 0, (t, s) => with_unfolding_all rfl
theorem defs_same : Cert.Kernel4.defs (F := Bits) = Cert.Kernel4Ideal.defs (F := Bits) :=
  congrArg (Pipeline.defs Cert.Kernel4Ideal.pcfgs) defs₀_same.symm
set_option maxHeartbeats 2000000 in
theorem main_same : (Cert.Kernel4.main (F := Bits)) = Cert.Kernel4Ideal.main (F := Bits) := by with_unfolding_all rfl

theorem frame_bits : Cert.quiescent_Kernel4 := fun m ρ _ =>
  Cert.Kernel4Ideal.OutProj.frame_same (F := Bits) m ρ _ defs_same _ main_same

end Cert.OutProj

end
-- ==== Proof.OutProj.Spec.lean ====
/-
  The mathematics of the out-projection on the extended reals: a residual row, and its place in an array of rows.
-/
module

public import proofs.«01_k».proof.Proof.InProj.Spec

@[expose] public section

noncomputable section

namespace Cert.OutProj

open Idealize.ShloMosaic

/-- A row of the stream plus the product of its attention half and its recurrence half with the weight. -/
def resid (x : Fin 1024 → EReal) (a r : Fin 512 → EReal) (w : Fin 1024 → Fin 1024 → EReal) (k : Fin 1024) : EReal :=
  x k + ((∑ d : Fin 512, a d * w ⟨d, by omega⟩ k) + ∑ d : Fin 512, r d * w ⟨512 + d, by omega⟩ k)

/-- The two halves of a row, one after the other. -/
def joint (a r : Fin 512 → EReal) (d : Fin 1024) : EReal := if h : (d : ℕ) < 512 then a ⟨d, h⟩ else r ⟨d - 512, by omega⟩

/-- The sum over the joint row is the sum over its halves. -/
theorem sum_joint (a r : Fin 512 → EReal) (w : Fin 1024 → EReal) :
    ∑ d : Fin 1024, joint a r d * w d = (∑ d : Fin 512, a d * w ⟨d, by omega⟩) + ∑ d : Fin 512, r d * w ⟨512 + d, by omega⟩ := by
  have h := Fin.sum_univ_add (a := 512) (b := 512) (fun d : Fin (512 + 512) => joint a r d * w d)
  refine h.trans (congrArg₂ (· + ·) (Finset.sum_congr rfl fun d _ => ?_) (Finset.sum_congr rfl fun d _ => ?_))
  · have e : joint a r (Fin.castAdd 512 d) = a d := dif_pos d.isLt
    rw [e]; rfl
  · have e : joint a r (Fin.natAdd 512 d) = r d :=
      (dif_neg (by show ¬ 512 + (d : ℕ) < 512; omega)).trans (congrArg r (Fin.ext (by show 512 + (d : ℕ) - 512 = d; omega)))
    rw [e]; rfl

end Cert.OutProj

end
-- ==== Proof.OutProj.Tile.lean ====
/-
  A tile of the out-projection at an index, on the extended reals: the residual rows, the normed rows, and where the
  eight strided stores put the normed rows.
-/
module

public import proofs.«01_k».proof.Proof.OutProj.Body
public import proofs.«01_k».proof.Proof.OutProj.Spec
public import Idealize.ShloMosaic.Lib.Pipeline.Value

@[expose] public section

set_option maxRecDepth 16384

noncomputable section

namespace Cert.Kernel4Ideal.OutProj

open Idealize.ShloMosaic Cert.Kernel4Ideal Cert.Kernel4Ideal.Gen Cert.OutProj Cert.InProj

theorem pay4_apply (a : Vec Ideal S512x512 .bf16) (wa : Vec Ideal S512x1024 .bf16) (r : Vec Ideal S512x512 .bf16) (wr : Vec Ideal S512x1024 .bf16) (x : Vec Ideal S512x1024 .f32)
    (i : Fin 512) (k : Fin 1024) :
    (k0_pay4 a wa r wr x (ix2 i k) : EReal)
      = x (ix2 i k) + ((∑ d : Fin 512, (a (ix2 i d) : EReal) * wa (ix2 d k)) + ∑ d : Fin 512, (r (ix2 i d) : EReal) * wr (ix2 d k)) := by
  pointwise [k0_pay4]

/-- The norm of a tile's rows. -/
def normed (v : FVec Ideal S512x1024 .f32) (g : Vec Ideal S1x1024 .f32) : FVec Ideal S512x1024 .f32 :=
  mulf (mulf v (broadcastTo S512x1024 (rsqrt (addf (divf (shapeCast S512x1 (multiReduction .add [1] S512 (mulf v v) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

theorem normed_apply (v : FVec Ideal S512x1024 .f32) (g : Vec Ideal S1x1024 .f32) (i : Fin 512) (k : Fin 1024) :
    (normed v g (ix2 i k) : EReal) = hrow (fun d => v (ix2 i d)) (fun d => g (ix2 (0 : Fin 1) d)) k := by
  unfold normed hrow
  pointwise

theorem pay5_eq (a : Vec Ideal S512x512 .bf16) (wa : Vec Ideal S512x1024 .bf16) (r : Vec Ideal S512x512 .bf16) (wr : Vec Ideal S512x1024 .bf16) (x : Vec Ideal S512x1024 .f32)
    (g : Vec Ideal S1x1024 .f32) : k0_pay5 a wa r wr x g = normed (k0_pay4 a wa r wr x) g := rfl

theorem xRows_apply (a r : Vec Ideal S512x512 .bf16) (x : Vec Ideal S512x1024 .f32) (wa wr : Vec Ideal S512x1024 .bf16) (i : Fin 512) (k : Fin 1024) :
    (xRows a r x wa wr (ix2 i k) : EReal)
      = x (ix2 i k) + ((∑ d : Fin 512, (a (ix2 i d) : EReal) * wa (ix2 d k)) + ∑ d : Fin 512, (r (ix2 i d) : EReal) * wr (ix2 d k)) := by
  unfold xRows
  rw [View.ld_unit_zero zero2, View.ld_unit_zero zero2, View.ld_unit_zero zero2, View.ld_unit_zero zero2, View.ld_unit_zero zero2]
  exact pay4_apply a wa r wr x i k

theorem hRows_apply (a r : Vec Ideal S512x512 .bf16) (x : Vec Ideal S512x1024 .f32) (wa wr : Vec Ideal S512x1024 .bf16) (g : Vec Ideal S1x1024 .f32) (i : Fin 512) (k : Fin 1024) :
    (hRows a r x wa wr g (ix2 i k) : EReal) = hrow (fun d => xRows a r x wa wr (ix2 i d)) (fun d => g (ix2 (0 : Fin 1) d)) k := by
  unfold hRows xRows
  rw [pay5_eq, normed_apply, View.ld_unit_zero (X := g) zero2]

/-- Where the eight stores put the rows, as one function of the tile's index. -/
def laid (v : FVec Ideal S512x1024 .f32) (y : S4096x128.Idx) : EReal :=
  v (ix2 (⟨(y 0 : ℕ) / 8, by have : (y 0 : ℕ) < 4096 := (y 0).isLt; omega⟩ : Fin 512)
    (⟨(y 0 : ℕ) % 8 * 128 + y 1, by have : (y 1 : ℕ) < 128 := (y 1).isLt; omega⟩ : Fin 1024))

/-- One store's rows are where `laid` has them. -/
theorem store_laid (r : ℕ) (hr : r < 8) (hi : ∀ a, S512x128.size a = 0 ∨ (![r, 0] : Fin 2 → Nat) a + (![8, 1] : Fin 2 → Nat) a * (S512x128.size a - 1) < S4096x128.size a)
    (v : FVec Ideal S512x1024 .f32) (h : S512x1024.Slices ![0, 128 * r] S512x128) (j : S512x128.Idx) :
    (extractStridedSlice S512x128 ![0, 128 * r] v h j : EReal) = laid v ((⟨⟨![r, 0], S512x128.size, ![8, 1], hi⟩, spos_8_1⟩ : Rect S4096x128).emb j) := by
  have h1 : (j 1 : ℕ) < 128 := (j 1).isLt
  have e0 : (((⟨⟨![r, 0], S512x128.size, ![8, 1], hi⟩, spos_8_1⟩ : Rect S4096x128).emb j) 0 : ℕ) = r + 8 * (j 0 : ℕ) := rfl
  have e1 : (((⟨⟨![r, 0], S512x128.size, ![8, 1], hi⟩, spos_8_1⟩ : Rect S4096x128).emb j) 1 : ℕ) = 0 + 1 * (j 1 : ℕ) := rfl
  unfold laid
  refine congrArg v (funext fun a => Fin.ext ?_)
  match a with
  | ⟨0, _⟩ => show 0 + (j 0 : ℕ) = _ / 8; rw [e0]; omega
  | ⟨1, _⟩ => show 128 * r + (j 1 : ℕ) = _ % 8 * 128 + _; rw [e0, e1]; omega

theorem hTile_apply (v : FVec Ideal S512x1024 .f32) (y : S4096x128.Idx) : (hTile v y : EReal) = laid v y := by
  unfold hTile
  refine View.canon_apply_of_pieces (Val := Elt Ideal) (laid v) _ (fun p hp => ?_) y (cover_rows _ _ _ _ _ _ _ _ y)
  simp only [List.mem_cons, List.not_mem_nil, or_false] at hp
  rcases hp with rfl | rfl | rfl | rfl | rfl | rfl | rfl | rfl
  · exact store_laid 7 (by omega) _ v slices_S512x1024_o0_896_S512x128
  · exact store_laid 6 (by omega) _ v slices_S512x1024_o0_768_S512x128
  · exact store_laid 5 (by omega) _ v slices_S512x1024_o0_640_S512x128
  · exact store_laid 4 (by omega) _ v slices_S512x1024_o0_512_S512x128
  · exact store_laid 3 (by omega) _ v slices_S512x1024_o0_384_S512x128
  · exact store_laid 2 (by omega) _ v slices_S512x1024_o0_256_S512x128
  · exact store_laid 1 (by omega) _ v slices_S512x1024_o0_128_S512x128
  · exact store_laid 0 (by omega) _ v slices_S512x1024_o0_0_S512x128

end Cert.Kernel4Ideal.OutProj

end
-- ==== Proof.OutProj.Host.lean ====
/-
  The out-projection call's blocks at an index: what the host hands the pipeline, and what each window reads of it.
-/
module

public import proofs.«01_k».proof.Proof.OutProj.Run
public import proofs.«01_k».proof.Proof.OutProj.Tile
public import Idealize.ShloMosaic.Lib.StableHlo.ReadAt
public import Idealize.ShloMosaic.Lib.Pipeline.ValueKit.Point

@[expose] public section

set_option maxRecDepth 16384

noncomputable section

namespace Cert.Kernel4Ideal.OutProj

open Idealize.ShloMosaic Idealize.ShloMosaic.TcCoe Idealize.SL.Sem Cert.Kernel4Ideal Cert.Kernel4Ideal.Gen Cert.OutProj
open Idealize.ShloMosaic.Pipeline (Dat)

variable (m : (ℓ : Loc nD τ sig) → Buf (Elt Ideal) ℓ)

theorem V_a (c : Dev nD) (r : Fin 32768) (l : Fin 512) :
    (V m c main_v0 (ix2 r l) : EReal) = m ((c : Thread nD τ).loc main_arg0) (ix3 (⟨r / 4096, by omega⟩ : Fin 8) (⟨r % 4096, by omega⟩ : Fin 4096) l) := by
  unfold V
  after_reads_at

theorem V_r (c : Dev nD) (r : Fin 32768) (l : Fin 512) :
    (V m c main_v1 (ix2 r l) : EReal) = m ((c : Thread nD τ).loc main_arg1) (ix3 (⟨r / 4096, by omega⟩ : Fin 8) (⟨r % 4096, by omega⟩ : Fin 4096) l) := by
  unfold V
  after_reads_at

theorem V_x (c : Dev nD) (r : Fin 32768) (k : Fin 1024) :
    (V m c main_v2 (ix2 r k) : EReal) = m ((c : Thread nD τ).loc main_arg2) (ix3 (⟨r / 4096, by omega⟩ : Fin 8) (⟨r % 4096, by omega⟩ : Fin 4096) k) := by
  unfold V
  after_reads_at

theorem V_wa (c : Dev nD) (d : Fin 512) (k : Fin 1024) :
    (V m c main_v18 (ix2 d k) : EReal) = m ((c : Thread nD τ).loc main_arg3) (ix3 (0 : Fin 1) (⟨d, by omega⟩ : Fin 1024) k) := by
  unfold V
  after_reads_at

theorem V_wr (c : Dev nD) (d : Fin 512) (k : Fin 1024) :
    (V m c main_v19 (ix2 d k) : EReal) = m ((c : Thread nD τ).loc main_arg3) (ix3 (0 : Fin 1) (⟨512 + d, by omega⟩ : Fin 1024) k) := by
  unfold V
  after_reads_at

theorem V_g (c : Dev nD) (k : Fin 1024) :
    (V m c main_v20 (ix2 (0 : Fin 1) k) : EReal) = m ((c : Thread nD τ).loc main_arg4) (ix2 (0 : Fin 1) k) := by
  unfold V
  after_reads_at

theorem move : ∀ t : Fin grid0.N, cc0_transform_0 (grid0.coords t) = ![t.val, 0] ∧ cc0_transform_1 (grid0.coords t) = ![t.val, 0]
    ∧ cc0_transform_2 (grid0.coords t) = ![t.val, 0] ∧ cc0_transform_8 (grid0.coords t) = ![t.val, 0] ∧ cc0_transform_9 (grid0.coords t) = ![t.val, 0] := by decide +kernel

theorem idx_a (t : Fin cfg0.N) : (cfg0.win 0).index t = ![t.val, 0] := (move t).1
theorem idx_r (t : Fin cfg0.N) : (cfg0.win 1).index t = ![t.val, 0] := (move t).2.1
theorem idx_x (t : Fin cfg0.N) : (cfg0.win 2).index t = ![t.val, 0] := (move t).2.2.1
theorem idx_x2 (t : Fin cfg0.N) : (cfg0.win 8).index t = ![t.val, 0] := (move t).2.2.2.1
theorem idx_h2 (t : Fin cfg0.N) : (cfg0.win 9).index t = ![t.val, 0] := (move t).2.2.2.2
theorem idx_wa (t : Fin cfg0.N) : (cfg0.win 3).index t = ![0, 0] := rfl
theorem idx_wr (t : Fin cfg0.N) : (cfg0.win 4).index t = ![0, 0] := rfl
theorem idx_g (t : Fin cfg0.N) : (cfg0.win 5).index t = ![0, 0] := rfl

theorem read_a (t : Fin cfg0.N) (A : Vec Ideal S32768x512 .bf16) (i : Fin 512) (l : Fin 512) :
    (((cfg0.win 0).blk t).view.read (Elt Ideal) A (ix2 i l) : EReal) = A (ix2 (⟨t.val * 512 + i, by have : t.val < 64 := t.isLt; omega⟩ : Fin 32768) l) := by
  blk_ext [idx_a t]

theorem read_r (t : Fin cfg0.N) (A : Vec Ideal S32768x512 .bf16) (i : Fin 512) (l : Fin 512) :
    (((cfg0.win 1).blk t).view.read (Elt Ideal) A (ix2 i l) : EReal) = A (ix2 (⟨t.val * 512 + i, by have : t.val < 64 := t.isLt; omega⟩ : Fin 32768) l) := by
  blk_ext [idx_r t]

theorem read_x (t : Fin cfg0.N) (A : Vec Ideal S32768x1024 .f32) (i : Fin 512) (k : Fin 1024) :
    (((cfg0.win 2).blk t).view.read (Elt Ideal) A (ix2 i k) : EReal) = A (ix2 (⟨t.val * 512 + i, by have : t.val < 64 := t.isLt; omega⟩ : Fin 32768) k) := by
  blk_ext [idx_x t]

theorem read_wa (t : Fin cfg0.N) (A : Vec Ideal S512x1024 .bf16) (d : Fin 512) (k : Fin 1024) :
    (((cfg0.win 3).blk t).view.read (Elt Ideal) A (ix2 d k) : EReal) = A (ix2 d k) := by
  blk_ext [idx_wa t]

theorem read_wr (t : Fin cfg0.N) (A : Vec Ideal S512x1024 .bf16) (d : Fin 512) (k : Fin 1024) :
    (((cfg0.win 4).blk t).view.read (Elt Ideal) A (ix2 d k) : EReal) = A (ix2 d k) := by
  blk_ext [idx_wr t]

theorem read_g (t : Fin cfg0.N) (A : Vec Ideal S1x1024 .f32) (k : Fin 1024) :
    (((cfg0.win 5).blk t).view.read (Elt Ideal) A (ix2 (0 : Fin 1) k) : EReal) = A (ix2 (0 : Fin 1) k) := by
  blk_ext [idx_g t]

theorem read_x2 (t : Fin cfg0.N) (A : Vec Ideal S32768x1024 .f32) (i : Fin 512) (k : Fin 1024) :
    (((cfg0.win 8).blk t).view.read (Elt Ideal) A (ix2 i k) : EReal) = A (ix2 (⟨t.val * 512 + i, by have : t.val < 64 := t.isLt; omega⟩ : Fin 32768) k) := by
  blk_ext [idx_x2 t]

theorem read_h2 (t : Fin cfg0.N) (A : Vec Ideal S262144x128 .f32) (j : Fin 4096) (l : Fin 128) :
    (((cfg0.win 9).blk t).view.read (Elt Ideal) A (ix2 j l) : EReal) = A (ix2 (⟨t.val * 4096 + j, by have : t.val < 64 := t.isLt; omega⟩ : Fin 262144) l) := by
  blk_ext [idx_h2 t]

end Cert.Kernel4Ideal.OutProj

end
-- ==== Proof.OutProj.Value.lean ====
/-
  The out-projection call's first two results, block by block and whole: every residual row, and every normed row over
  its eight rows of lanes.
-/
module

public import proofs.«01_k».proof.Proof.OutProj.Host

@[expose] public section

set_option maxRecDepth 16384

noncomputable section

namespace Cert.Kernel4Ideal.OutProj

open Idealize.ShloMosaic Idealize.ShloMosaic.TcCoe Idealize.SL.Sem Cert.Kernel4Ideal Cert.Kernel4Ideal.Gen Cert.OutProj Cert.InProj
open Idealize.ShloMosaic.Pipeline (Dat)

variable (m : (ℓ : Loc nD τ sig) → Buf (Elt Ideal) ℓ) (c : Dev nD)

/-- Row `r`'s residual row. -/
def xrow (r : Fin 32768) : Fin 1024 → EReal :=
  resid (fun k => m ((c : Thread nD τ).loc main_arg2) (ix3 (⟨r / 4096, by omega⟩ : Fin 8) (⟨r % 4096, by omega⟩ : Fin 4096) k))
    (fun d => m ((c : Thread nD τ).loc main_arg0) (ix3 (⟨r / 4096, by omega⟩ : Fin 8) (⟨r % 4096, by omega⟩ : Fin 4096) d))
    (fun d => m ((c : Thread nD τ).loc main_arg1) (ix3 (⟨r / 4096, by omega⟩ : Fin 8) (⟨r % 4096, by omega⟩ : Fin 4096) d))
    (fun d k => m ((c : Thread nD τ).loc main_arg3) (ix3 (0 : Fin 1) d k))

/-- Row `r`'s normed row. -/
def nrow (r : Fin 32768) : Fin 1024 → EReal := hrow (xrow m c r) fun k => m ((c : Thread nD τ).loc main_arg4) (ix2 (0 : Fin 1) k)

/-- The whole of the two results. -/
def wholeX : Vec Ideal S32768x1024 .f32 := fun i => xrow m c ⟨i 0, (i 0).isLt⟩ ⟨i 1, (i 1).isLt⟩
def wholeH : Vec Ideal S262144x128 .f32 := fun i =>
  nrow m c ⟨(i 0 : ℕ) / 8, by have : (i 0 : ℕ) < 262144 := (i 0).isLt; omega⟩
    ⟨(i 0 : ℕ) % 8 * 128 + i 1, by have : (i 1 : ℕ) < 128 := (i 1).isLt; omega⟩

theorem xT_apply (t : Fin cfg0.N) (i : Fin 512) (k : Fin 1024) :
    (xT (V m) c t (ix2 i k) : EReal) = xrow m c (⟨t.val * 512 + i, by have : t.val < 64 := t.isLt; omega⟩ : Fin 32768) k := by
  unfold xT xrow resid
  refine (xRows_apply _ _ _ _ _ i k).trans ?_
  unfold iblk
  refine congrArg₂ (· + ·) ((read_x t _ i k).trans (V_x m c _ k)) (congrArg₂ (· + ·) (Finset.sum_congr rfl fun d _ => ?_) (Finset.sum_congr rfl fun d _ => ?_))
  · exact congrArg₂ (· * ·) ((read_a t _ i d).trans (V_a m c _ d)) ((read_wa t _ d k).trans (V_wa m c d k))
  · exact congrArg₂ (· * ·) ((read_r t _ i d).trans (V_r m c _ d)) ((read_wr t _ d k).trans (V_wr m c d k))

theorem hT_apply (t : Fin cfg0.N) (i : Fin 512) (k : Fin 1024) :
    (hT (V m) c t (ix2 i k) : EReal) = nrow m c (⟨t.val * 512 + i, by have : t.val < 64 := t.isLt; omega⟩ : Fin 32768) k := by
  unfold hT nrow
  refine (hRows_apply _ _ _ _ _ _ i k).trans ?_
  exact congrArg₂ (fun x g => hrow x g k) (funext fun d => xT_apply m c t i d) (funext fun d => (read_g t _ d).trans (V_g m c d))

theorem flushed_x (t : Fin cfg0.N) : (dats (V m) 0 c).flushed 8 t = ((cfg0.win 8).blk t).view.read (Elt Ideal) (wholeX m c) := by
  show (cfg0.win 8).cut (grid0.coords t) ((dats (V m) 0 c).after 8 t) = _
  rw [after_8]
  have h : ∀ j : S512x1024.Idx, (xT (V m) c t j : EReal) = ((cfg0.win 8).blk t).view.read (Elt Ideal) (wholeX m c) j := fun j => by
    obtain ⟨r, l, rfl⟩ : ∃ (r : Fin 512) (l : Fin 1024), j = ix2 r l := ⟨j 0, j 1, by
      funext a
      match a with
      | ⟨0, _⟩ => rfl
      | ⟨1, _⟩ => rfl⟩
    exact (xT_apply m c t r l).trans (read_x2 t (wholeX m c) r l).symm
  exact funext h

theorem flushed_h (t : Fin cfg0.N) : (dats (V m) 0 c).flushed 9 t = ((cfg0.win 9).blk t).view.read (Elt Ideal) (wholeH m c) := by
  have ht : t.val < 64 := t.isLt
  show (cfg0.win 9).cut (grid0.coords t) ((dats (V m) 0 c).after 9 t) = _
  rw [after_9]
  have h : ∀ j : S4096x128.Idx, (hTile (hT (V m) c t) j : EReal) = ((cfg0.win 9).blk t).view.read (Elt Ideal) (wholeH m c) j := fun j => by
    obtain ⟨r, l, rfl⟩ : ∃ (r : Fin 4096) (l : Fin 128), j = ix2 r l := ⟨j 0, j 1, by
      funext a
      match a with
      | ⟨0, _⟩ => rfl
      | ⟨1, _⟩ => rfl⟩
    refine ((hTile_apply _ _).trans (hT_apply m c t _ _)).trans (Eq.trans ?_ (read_h2 t (wholeH m c) r l).symm)
    refine congrArg₂ (nrow m c) (Fin.ext ?_) (Fin.ext ?_)
    · show t.val * 512 + (r : ℕ) / 8 = (t.val * 4096 + (r : ℕ)) / 8; omega
    · show (r : ℕ) % 8 * 128 + (l : ℕ) = (t.val * 4096 + (r : ℕ)) % 8 * 128 + (l : ℕ); omega
  exact funext h

theorem mem_x (t : Fin cfg0.N) (i : S32768x1024.Idx) (h : (i 0 : ℕ) / 512 = t.val) : i ∈ ((cfg0.win 8).blk t).view.set := by
  have key : ∀ R : Rect S32768x1024, i ∈ R.set → i ∈ ((View.whole main_v21_0).slice R).set := fun R h => by
    rw [View.set_slice_whole]; exact h
  refine key ((cfg0.win 8).rect t) ?_
  refine Rect.mem_set_unit.mpr fun a => ?_
  have h1 : (i 1 : ℕ) < 1024 := (i 1).isLt
  match a with
  | ⟨0, _⟩ =>
    show (cfg0.win 8).index t (0 : Fin 2) * 512 ≤ (i 0 : ℕ) ∧ (i 0 : ℕ) < (cfg0.win 8).index t (0 : Fin 2) * 512 + 512
    rw [show (cfg0.win 8).index t (0 : Fin 2) = t.val from congrFun (idx_x2 t) (0 : Fin 2)]
    omega
  | ⟨1, _⟩ =>
    show (cfg0.win 8).index t (1 : Fin 2) * 1024 ≤ (i 1 : ℕ) ∧ (i 1 : ℕ) < (cfg0.win 8).index t (1 : Fin 2) * 1024 + 1024
    rw [show (cfg0.win 8).index t (1 : Fin 2) = 0 from congrFun (idx_x2 t) (1 : Fin 2)]
    omega

theorem mem_h (t : Fin cfg0.N) (i : S262144x128.Idx) (h : (i 0 : ℕ) / 4096 = t.val) : i ∈ ((cfg0.win 9).blk t).view.set := by
  have key : ∀ R : Rect S262144x128, i ∈ R.set → i ∈ ((View.whole main_v21_1).slice R).set := fun R h => by
    rw [View.set_slice_whole]; exact h
  refine key ((cfg0.win 9).rect t) ?_
  refine Rect.mem_set_unit.mpr fun a => ?_
  have h1 : (i 1 : ℕ) < 128 := (i 1).isLt
  match a with
  | ⟨0, _⟩ =>
    show (cfg0.win 9).index t (0 : Fin 2) * 4096 ≤ (i 0 : ℕ) ∧ (i 0 : ℕ) < (cfg0.win 9).index t (0 : Fin 2) * 4096 + 4096
    rw [show (cfg0.win 9).index t (0 : Fin 2) = t.val from congrFun (idx_h2 t) (0 : Fin 2)]
    omega
  | ⟨1, _⟩ =>
    show (cfg0.win 9).index t (1 : Fin 2) * 128 ≤ (i 1 : ℕ) ∧ (i 1 : ℕ) < (cfg0.win 9).index t (1 : Fin 2) * 128 + 128
    rw [show (cfg0.win 9).index t (1 : Fin 2) = 0 from congrFun (idx_h2 t) (1 : Fin 2)]
    omega

theorem flush_each : ∀ t : Fin grid0.N, Pipeline.Window.flushOf grid0 true cc0_transform_8 t = true ∧ Pipeline.Window.flushOf grid0 true cc0_transform_9 t = true := by decide +kernel

theorem final_x : (dats (V m) 0 c).arrAt 8 cfg0.N = wholeX m c :=
  (dats (V m) 0 c).arrAt_eq_of_cover 8 _ (fun t _ => flushed_x m c t) fun i => by
    have h0 : (i 0 : ℕ) < 32768 := (i 0).isLt
    exact ⟨⟨(i 0 : ℕ) / 512, show _ < 64 by omega⟩, (flush_each _).1, mem_x _ i rfl⟩

theorem final_h : (dats (V m) 0 c).arrAt 9 cfg0.N = wholeH m c :=
  (dats (V m) 0 c).arrAt_eq_of_cover 9 _ (fun t _ => flushed_h m c t) fun i => by
    have h0 : (i 0 : ℕ) < 262144 := (i 0).isLt
    exact ⟨⟨(i 0 : ℕ) / 4096, show _ < 64 by omega⟩, (flush_each _).2, mem_h _ i rfl⟩

end Cert.Kernel4Ideal.OutProj

end
-- ==== Proof.OutProj.Ref.lean ====
/-
  The reference's out-projection at an index: the residual rows of the joint heads and their norm.
-/
module

public import proofs.«01_k».proof.Proof.OutProj.Spec
public import proofs.«01_k».proof.Proof.Gen.Reference4Ideal.Run
public import Idealize.ShloMosaic.Lib.Pipeline.ValueKit.Point
public import Idealize.ShloMosaic.Lib.StableHlo.ReadAt

@[expose] public section

set_option maxRecDepth 16384

noncomputable section

namespace Cert.Reference4Ideal.OutProj

open Idealize.ShloMosaic Idealize.ShloMosaic.TcCoe Idealize.SL.Sem Cert.Reference4Ideal Cert.Reference4Ideal.Gen Cert.InProj Cert.OutProj

/-- The attention heads and the recurrence side by side. -/
def both (a r : FVec Ideal S8x4096x512 .bf16) : FVec Ideal S8x4096x1024 .f32 :=
  concatenate S8x4096x1024 2 [⟨S8x4096x512, extf .f32 a bitsLt_bf16_f32⟩, ⟨S8x4096x512, extf .f32 r bitsLt_bf16_f32⟩] concatenates_S8x4096x512_S8x4096x512_S8x4096x1024_d2

/-- The residual rows. -/
def rows (x : FVec Ideal S8x4096x1024 .f32) (h : FVec Ideal S8x4096x1024 .f32) (w : FVec Ideal S1x1024x1024 .f32) : FVec Ideal S8x4096x1024 .f32 :=
  addf x (Host.dotGeneral (F := Ideal) (φ₁ := .f32) (φ₂ := .f32) dot_S8x4096x1024_S1024x1024_S8x4096x1024_2_0_01_1_n_n none h (shapeCast S1024x1024 w shapeCasts_S1x1024x1024_S1024x1024))

/-- Their norm. -/
def normed (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))

theorem normed_apply (x : FVec Ideal S8x4096x1024 .f32) (g : FVec Ideal S1x1024 .f32) (b : Fin 8) (s : Fin 4096) (d : Fin 1024) :
    (normed x g (ix3 b s d) : EReal) = hrow (fun d => x (ix3 b s d)) (fun d => g (ix2 (0 : Fin 1) d)) d := by
  unfold normed hrow
  pointwise

theorem rows_sum (x : FVec Ideal S8x4096x1024 .f32) (h : FVec Ideal S8x4096x1024 .f32) (w : FVec Ideal S1x1024x1024 .f32) (b : Fin 8) (s : Fin 4096) (k : Fin 1024) :
    (rows x h w (ix3 b s k) : EReal) = x (ix3 b s k) + ∑ d : Fin 1024, (h (ix3 b s d) : EReal) * w (ix3 (0 : Fin 1) d k) := by
  unfold rows
  pointwise

/-- Two rank-3 indices agree off the last axis. -/
theorem off_last (b : Fin 8) (s : Fin 4096) (j : Fin 512) (j' : Fin 1024) (q : Fin 3) (hq : q ≠ 2) :
    ((ix3 b s j : S8x4096x512.Idx) q : ℕ) = ((ix3 b s j' : S8x4096x1024.Idx) q : ℕ) := by
  match q with
  | ⟨0, _⟩ => rfl
  | ⟨1, _⟩ => rfl
  | ⟨2, _⟩ => exact absurd rfl hq

theorem both_apply (a r : FVec Ideal S8x4096x512 .bf16) (b : Fin 8) (s : Fin 4096) (d : Fin 1024) :
    (both a r (ix3 b s d) : EReal) = joint (fun d => a (ix3 b s d)) (fun d => r (ix3 b s d)) d := by
  unfold joint both
  split
  · next h =>
    exact concatenate_apply_piece (t := S8x4096x1024) 2 _ _ _ 0 (by simp) S8x4096x512 (extf .f32 a bitsLt_bf16_f32) rfl rfl 0 rfl _
      (fun q hq => off_last b s (⟨d, h⟩ : Fin 512) d q hq) (by show 0 + (d : ℕ) = d; omega)
  · next h =>
    exact concatenate_apply_piece (t := S8x4096x1024) 2 _ _ _ 1 (by simp) S8x4096x512 (extf .f32 r bitsLt_bf16_f32) rfl rfl 512 rfl _
      (fun q hq => off_last b s (⟨d - 512, by omega⟩ : Fin 512) d q hq) (by show 512 + ((d : ℕ) - 512) = d; omega)

theorem rows_apply (x : FVec Ideal S8x4096x1024 .f32) (a r : FVec Ideal S8x4096x512 .bf16) (w : FVec Ideal S1x1024x1024 .f32) (b : Fin 8) (s : Fin 4096) (k : Fin 1024) :
    (rows x (both a r) w (ix3 b s k) : EReal)
      = resid (fun k => x (ix3 b s k)) (fun d => a (ix3 b s d)) (fun d => r (ix3 b s d)) (fun d k => w (ix3 (0 : Fin 1) d k)) k := by
  rw [rows_sum]
  unfold resid
  refine congrArg (x (ix3 b s k) + ·) (Eq.trans ?_ (sum_joint _ _ fun d => w (ix3 (0 : Fin 1) d k)))
  exact Finset.sum_congr rfl fun d _ => congrArg (· * w (ix3 (0 : Fin 1) d k)) (both_apply a r b s d)

/-- The first result at an index. -/
theorem flat_apply (v : FVec Ideal S8x4096x1024 .f32) (i : Fin 32768) (k : Fin 1024) :
    (shapeCast S32768x1024 v shapeCasts_S8x4096x1024_S32768x1024 (ix2 i k) : EReal) = v (ix3 (⟨i / 4096, by omega⟩ : Fin 8) (⟨i % 4096, by omega⟩ : Fin 4096) k) := by
  pointwise

/-- The second result's place in the rows. -/
theorem lanes_apply (v : FVec Ideal S32768x1024 .f32) (i : Fin 262144) (l : Fin 128) :
    (shapeCast S262144x128 v shapeCasts_S32768x1024_S262144x128 (ix2 i l) : EReal) = v (ix2 (⟨i / 8, by omega⟩ : Fin 32768) (⟨i % 8 * 128 + l, by omega⟩ : Fin 1024)) := by
  pointwise

end Cert.Reference4Ideal.OutProj

end
-- ==== Proof.OutProj.Claims.lean ====
/-
  The out-projection call's claims: the reference's frame, and the two programs' first two results equal.
-/
module

public import proofs.«01_k».proof.Proof.OutProj.Frames
public import proofs.«01_k».proof.Proof.OutProj.Value
public import proofs.«01_k».proof.Proof.OutProj.Ref
public import proofs.«01_k».proof.Proof.Gen.On_rows_only
public import proofs.«01_k».proof.Defs

@[expose] public section

set_option maxRecDepth 16384

noncomputable section

namespace Cert.Reference4Ideal.OutProj

open Idealize.ShloMosaic Idealize.ShloMosaic.TcCoe Idealize.SL.Sem Cert.Reference4Ideal Cert.Reference4Ideal.Gen Cert.InProj Cert.OutProj

variable (x : FVec Ideal S8x4096x1024 .f32) (a r : FVec Ideal S8x4096x512 .bf16) (w : FVec Ideal S1x1024x1024 .f32) (g : FVec Ideal S1x1024 .f32)

/-- The reference's first two results of its arguments. -/
def resX : FVec Ideal S32768x1024 .f32 := shapeCast S32768x1024 (rows x (both a r) w) shapeCasts_S8x4096x1024_S32768x1024
def resH : FVec Ideal S262144x128 .f32 :=
  shapeCast S262144x128 (shapeCast S32768x1024 (normed (rows x (both a r) w) g) shapeCasts_S8x4096x1024_S32768x1024) shapeCasts_S32768x1024_S262144x128

theorem resX_apply (i : Fin 32768) (k : Fin 1024) :
    (resX x a r w (ix2 i k) : EReal) = resid (fun k => x (ix3 (⟨i / 4096, by omega⟩ : Fin 8) (⟨i % 4096, by omega⟩ : Fin 4096) k))
      (fun d => a (ix3 (⟨i / 4096, by omega⟩ : Fin 8) (⟨i % 4096, by omega⟩ : Fin 4096) d)) (fun d => r (ix3 (⟨i / 4096, by omega⟩ : Fin 8) (⟨i % 4096, by omega⟩ : Fin 4096) d))
      (fun d k => w (ix3 (0 : Fin 1) d k)) k :=
  (flat_apply _ i k).trans (rows_apply x a r w _ _ k)

theorem resH_apply (i : Fin 262144) (l : Fin 128) :
    (resH x a r w g (ix2 i l) : EReal) = hrow (fun k => resX x a r w (ix2 (⟨i / 8, by omega⟩ : Fin 32768) k)) (fun k => g (ix2 (0 : Fin 1) k)) (⟨i % 8 * 128 + l, by omega⟩ : Fin 1024) := by
  refine ((lanes_apply _ i l).trans (flat_apply _ _ _)).trans ((normed_apply _ g _ _ _).trans ?_)
  exact congrArg (fun x => hrow x (fun k => g (ix2 (0 : Fin 1) k)) (⟨i % 8 * 128 + l, by omega⟩ : Fin 1024)) (funext fun k => (flat_apply _ _ k).symm)

theorem run_res (m : (ℓ : Loc nD τ sig) → Buf (Elt Ideal) ℓ) (ρ : Dev nD → PrngReg) :
    θ_run defs (onTc (τ := τ) (main (F := Ideal))) ⟨m, fun _ => 0, ρ⟩ fun q => ∀ c : Dev nD,
      (q.2.mem ((c.tc : Thread nD τ).loc main_v69)
          = resX (m ((c.tc : Thread nD τ).loc main_arg2)) (m ((c.tc : Thread nD τ).loc main_arg0)) (m ((c.tc : Thread nD τ).loc main_arg1)) (m ((c.tc : Thread nD τ).loc main_arg3))
        ∧ q.2.mem ((c.tc : Thread nD τ).loc main_v70)
          = resH (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)))
      ∧ q.2.mem ((c.tc : Thread nD τ).loc main_arg0) = m ((c.tc : Thread nD τ).loc main_arg0)
      ∧ q.2.mem ((c.tc : Thread nD τ).loc main_arg1) = m ((c.tc : Thread nD τ).loc main_arg1)
      ∧ q.2.mem ((c.tc : Thread nD τ).loc main_arg2) = m ((c.tc : Thread nD τ).loc main_arg2)
      ∧ q.2.mem ((c.tc : Thread nD τ).loc main_arg3) = m ((c.tc : Thread nD τ).loc main_arg3)
      ∧ q.2.mem ((c.tc : Thread nD τ).loc main_arg4) = m ((c.tc : Thread nD τ).loc main_arg4)
      ∧ q.2.mem ((c.tc : Thread nD τ).loc main_arg5) = m ((c.tc : Thread nD τ).loc main_arg5)
      ∧ q.2.mem ((c.tc : Thread nD τ).loc main_arg6) = m ((c.tc : Thread nD τ).loc main_arg6) :=
  (θ_run defs _ _).mono (fun q h c => ⟨⟨(h c).1.trans (by unfold Value.res_main_v5; rfl), (h c).2.1.trans (by unfold Value.res_main_v20 Value.res_main_v5; rfl)⟩, (h c).2.2.2.2⟩)
    (Cert.Reference4Ideal.Value.run (F := Ideal) m ρ)

end Cert.Reference4Ideal.OutProj

namespace Cert.OutProj

open Idealize.ShloMosaic Idealize.ShloMosaic.TcCoe Idealize.SL.Sem

theorem frame_ref : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.OutProj.run_res m ρ)

theorem algebraic : Cert.algebraic_Kernel4Ideal_Reference4Ideal_on_rows_only (hKernel4Ideal := Cert.Kernel4Ideal.Gen.facts)
    (hReference4Ideal := Cert.Reference4Ideal.Gen.facts) (hOn_rows_only := Cert.On_rows_only.Gen.facts) := by
  intro m g m' g' _ hargs
  have no : ∀ b : BitVec 1, b = 0#1 → b = 1#1 → False := fun b h h' => absurd (h.symm.trans h') (by decide)
  refine ⟨fun c => Cert.Kernel4Ideal.OutProj.wholeX m c, fun c => Cert.Kernel4Ideal.OutProj.wholeH m c, fun c => m ((c.tc : Thread Cert.Kernel4Ideal.nD Cert.Kernel4Ideal.τ).loc Cert.Kernel4Ideal.main_v21_2), fun c => m ((c.tc : Thread Cert.Kernel4Ideal.nD Cert.Kernel4Ideal.τ).loc Cert.Kernel4Ideal.main_v21_3), ?_, ?_⟩
  · refine (θ_run Cert.Kernel4Ideal.defs _ _).mono (fun r h c => ⟨fun i _ => ?_, fun i _ => ?_, fun i hi => ?_, fun i hi => ?_, (h.1 c).2⟩) (Cert.Kernel4Ideal.OutProj.run_main m g)
    · exact congrFun ((h.1 c).1.1.trans (Cert.Kernel4Ideal.OutProj.final_x m c)) i
    · exact congrFun ((h.1 c).1.2.trans (Cert.Kernel4Ideal.OutProj.final_h m c)) i
    · exact (no _ rfl hi).elim
    · exact (no _ rfl hi).elim
  · refine (θ_run Cert.Reference4Ideal.defs _ _).mono (fun r h c => ⟨fun i _ => ?_, fun i _ => ?_, fun i hi => ?_, fun i hi => ?_, (h c).2⟩) (Cert.Reference4Ideal.OutProj.run_res m' g')
    · obtain ⟨a0, a1, a2, a3, a4, a5, a6⟩ := hargs c
      refine (congrFun (h c).1.1 i).trans ?_
      rw [a0, a1, a2, a3]
      have hi : i = ix2 (⟨i 0, (i 0).isLt⟩ : Fin 32768) (⟨i 1, (i 1).isLt⟩ : Fin 1024) := by
        funext a
        match a with
        | ⟨0, _⟩ => rfl
        | ⟨1, _⟩ => rfl
      exact (congrArg _ hi).trans (Cert.Reference4Ideal.OutProj.resX_apply _ _ _ _ _ _)
    · obtain ⟨a0, a1, a2, a3, a4, a5, a6⟩ := hargs c
      refine (congrFun (h c).1.2 i).trans ?_
      rw [a0, a1, a2, a3, a4]
      have hi : i = ix2 (⟨i 0, (i 0).isLt⟩ : Fin 262144) (⟨i 1, (i 1).isLt⟩ : Fin 128) := by
        funext a
        match a with
        | ⟨0, _⟩ => rfl
        | ⟨1, _⟩ => rfl
      refine (congrArg _ hi).trans ((Cert.Reference4Ideal.OutProj.resH_apply _ _ _ _ _ _ _).trans ?_)
      exact congrArg (fun x => Cert.InProj.hrow x _ _) (funext fun k => Cert.Reference4Ideal.OutProj.resX_apply _ _ _ _ _ k)
    · exact (no _ rfl hi).elim
    · exact (no _ rfl hi).elim

end Cert.OutProj

end
-- ==== Proof.OutProj.Top.lean ====
/-
  The first greatest element of a finite family on the extended reals: it exists, the folds of a masked maximum and of
  the least position find it, and a stable descending sort puts it first.
-/
module

public import Idealize.ShloMosaic.Lib.SortFacts
public import Idealize.ShloMosaic.Lib.Routing.BitFacts
public import Idealize.ShloMosaic.PureOps.Ideal
public import Idealize.ShloMosaic.PureOps.Reduce

@[expose] public section

noncomputable section

namespace Cert.OutProj

open Idealize.ShloMosaic

/-- `i` is the first of the greatest among the `P`. -/
def Top {n : ℕ} (P : Fin n → Prop) (f : Fin n → EReal) (i : Fin n) : Prop := P i ∧ ∀ j, P j → f j ≤ f i ∧ (j < i → f j < f i)

theorem Top.exists {n : ℕ} (P : Fin n → Prop) (f : Fin n → EReal) (k : Fin n) (hk : P k) : ∃ i, Top P f i := by
  classical
  obtain ⟨m, hm, hmax⟩ := (Finset.univ.filter P).exists_max_image f ⟨k, by simpa using hk⟩
  have hne : (Finset.univ.filter fun i => P i ∧ f i = f m).Nonempty := ⟨m, by simpa using hm⟩
  refine ⟨(Finset.univ.filter fun i => P i ∧ f i = f m).min' hne, ?_⟩
  have hmem := Finset.min'_mem _ hne
  simp only [Finset.mem_filter, Finset.mem_univ, true_and] at hmem hmax
  refine ⟨hmem.1, fun j hj => ?_⟩
  rw [hmem.2]
  refine ⟨hmax j hj, fun hlt => lt_of_le_of_ne (hmax j hj) fun he => ?_⟩
  exact absurd (Finset.min'_le _ j (by simpa using ⟨hj, he⟩)) (not_le.mpr hlt)

theorem Top.unique {n : ℕ} {P : Fin n → Prop} {f : Fin n → EReal} {i j : Fin n} (hi : Top P f i) (hj : Top P f j) : i = j := by
  rcases lt_trichotomy i j with h | h | h
  · exact absurd (((hj.2 i hi.1).2 h).trans_le (hi.2 j hj.1).1) (lt_irrefl _)
  · exact h
  · exact absurd (((hi.2 j hj.1).2 h).trans_le (hj.2 i hi.1).1) (lt_irrefl _)

/-- The maximum over the `P`. -/
theorem fold_max {n : ℕ} {P : Fin n → Prop} {f : Fin n → EReal} {i : Fin n} (hi : Top P f i) (v : Fin n → EReal)
    (hv : ∀ r, P r → v r = f r) (hn : ∀ r, ¬ P r → v r = ⊥) : Finset.univ.fold max ⊥ v = f i := by
  refine le_antisymm (Finset.fold_max_le _ |>.mpr ⟨bot_le, fun r _ => ?_⟩) (Finset.le_fold_max _ |>.mpr (Or.inr ⟨i, Finset.mem_univ _, (hv i hi.1).ge⟩))
  by_cases h : P r
  · rw [hv r h]; exact (hi.2 r h).1
  · rw [hn r h]; exact bot_le

open IntOp in
theorem minsi_ofNat {a b : ℕ} (ha : a < 2 ^ 31) (hb : b < 2 ^ 31) : IntOp.minsi (BitVec.ofNat 32 a) (BitVec.ofNat 32 b) = BitVec.ofNat 32 (min a b) := by
  have h : ∀ {a : ℕ}, a < 2 ^ 31 → (BitVec.ofNat 32 a).toInt = a := fun {a} ha => by
    rw [BitVec.toInt_eq_toNat_of_lt (by rw [BitVec.toNat_ofNat]; omega), BitVec.toNat_ofNat, Nat.mod_eq_of_lt (by omega)]
  unfold IntOp.minsi
  simp only [BitVec.slt, decide_eq_true_eq, h ha, h hb]
  split
  · next h => rw [min_eq_left (by omega)]
  · next h => rw [min_eq_right (by omega)]

/-- The least of small words is the word of the least. -/
theorem fold_minsi {n : ℕ} (s : Finset (Fin n)) (v : Fin n → ℕ) (hv : ∀ r, v r < 2 ^ 31) :
    s.fold IntOp.minsi 2147483647#32 (fun r => BitVec.ofNat 32 (v r)) = BitVec.ofNat 32 (s.fold min 2147483647 v) ∧ s.fold min 2147483647 v < 2 ^ 31 := by
  classical
  induction s using Finset.induction_on with
  | empty => exact ⟨rfl, by simp⟩
  | insert a s ha ih =>
    rw [Finset.fold_insert ha, Finset.fold_insert ha, ih.1, minsi_ofNat (hv a) ih.2]
    exact ⟨rfl, lt_of_le_of_lt (min_le_left _ _) (hv a)⟩

/-- The first position of the maximum over the `P`. -/
theorem fold_first {n : ℕ} (hn : n ≤ 128) {P : Fin n → Prop} {f : Fin n → EReal} {i : Fin n} (hi : Top P f i) (v : Fin n → BitVec 32)
    (hv : ∀ r, P r → f r = f i → v r = BitVec.ofNat 32 r) (hw : ∀ r, ¬ (P r ∧ f r = f i) → v r = 128#32) :
    Finset.univ.fold IntOp.minsi 2147483647#32 v = BitVec.ofNat 32 i := by
  classical
  have e : v = fun r => BitVec.ofNat 32 (if P r ∧ f r = f i then (r : ℕ) else 128) := funext fun r => by
    by_cases h : P r ∧ f r = f i
    · rw [if_pos h]; exact hv r h.1 h.2
    · rw [if_neg h]; exact hw r h
  rw [e, (fold_minsi Finset.univ _ fun r => by split <;> omega).1]
  congr 1
  refine le_antisymm (Finset.fold_min_le _ |>.mpr (Or.inr ⟨i, Finset.mem_univ _, ?_⟩)) (Finset.le_fold_min _ |>.mpr ⟨by omega, fun r _ => ?_⟩)
  · rw [if_pos ⟨hi.1, rfl⟩]
  · split
    · next h =>
      by_contra hlt
      exact absurd h.2 ((hi.2 r h.1).2 (by rw [Fin.lt_def]; omega)).ne
    · omega

/-! A stable descending sort. -/

/-- Greater first, then position. -/
def Before {n : ℕ} (f : Fin n → EReal) (a b : Fin n) : Prop := f b < f a ∨ (f a = f b ∧ a < b)

theorem Before.trans {n : ℕ} {f : Fin n → EReal} {a b c : Fin n} (h : Before f a b) (h' : Before f b c) : Before f a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

variable {n : ℕ} (f : Fin n → EReal) (R : Fin n → Fin n → Bool) (hR : ∀ a b, R a b = true ↔ f b < f a)

include hR in
theorem pairwise_insert (a : Fin n) (m : List (Fin n)) (hm : m.Pairwise (Before f)) (ha : ∀ b ∈ m, a < b) : (insertBefore R a m).Pairwise (Before f) := by
  induction m with
  | nil => exact List.pairwise_singleton _ _
  | cons b m ih =>
    rw [List.pairwise_cons] at hm
    unfold insertBefore
    split
    · next h =>
      rw [List.pairwise_cons]
      refine ⟨fun c hc => ?_, ih hm.2 fun c hc => ha c (List.mem_cons_of_mem _ hc)⟩
      rcases List.mem_cons.mp ((perm_insertBefore R a m).mem_iff.mp hc) with rfl | hc
      · exact Or.inl ((hR b c).mp h)
      · exact hm.1 c hc
    · next h =>
      have hab : Before f a b := by
        rcases lt_or_eq_of_le (not_lt.mp fun hlt => h ((hR b a).mpr hlt)) with h' | h'
        · exact Or.inl h'
        · exact Or.inr ⟨h'.symm, ha b (List.mem_cons_self ..)⟩
      rw [List.pairwise_cons, List.pairwise_cons]
      refine ⟨fun c hc => ?_, hm⟩
      rcases List.mem_cons.mp hc with rfl | hc
      · exact hab
      · exact hab.trans (hm.1 c hc)

include hR in
theorem pairwise_sort (l : List (Fin n)) (hl : l.Pairwise (· < ·)) : (stableSort R l).Pairwise (Before f) := by
  induction l with
  | nil => exact List.Pairwise.nil
  | cons a l ih =>
    rw [List.pairwise_cons] at hl
    unfold stableSort
    exact pairwise_insert f R hR a _ (ih hl.2) fun b hb => hl.1 b ((perm_stableSort R l).mem_iff.mp hb)

include hR in
theorem sorted_before (i j : Fin n) (h : i < j) : Before f (sortedFrom R i) (sortedFrom R j) :=
  List.pairwise_iff_get.mp (pairwise_sort f R hR (List.finRange n) (List.pairwise_lt_finRange n)) (i.cast (length_sortPositions n R).symm) (j.cast (length_sortPositions n R).symm) h

/-- Nothing comes before the first greatest. -/
theorem Top.not_before {P : Fin n → Prop} {f : Fin n → EReal} {i : Fin n} (hi : Top P f i) (j : Fin n) (hj : P j) : ¬ Before f j i := fun h => by
  rcases h with h | ⟨h, k⟩
  · exact absurd (hi.2 j hj).1 (not_le.mpr h)
  · exact absurd h ((hi.2 j hj).2 k).ne

include hR in
theorem sorted_first {i : Fin n} (hi : Top (fun _ => True) f i) (k : Fin n) (hk : (k : ℕ) = 0) : sortedFrom R k = i := by
  obtain ⟨q, rfl⟩ := sortedFrom_surjective R i
  by_contra hne
  have : k < q := by
    rcases lt_trichotomy k q with h | h | h
    · exact h
    · exact absurd (h ▸ rfl) hne
    · rw [Fin.lt_def] at h; omega
  exact hi.not_before _ trivial (sorted_before f R hR _ _ this)

include hR in
theorem sorted_second {i j : Fin n} (hi : Top (fun _ => True) f i) (hj : Top (fun r => r ≠ i) f j) (k : Fin n) (hk : (k : ℕ) = 1) : sortedFrom R k = j := by
  have h0 : sortedFrom R (⟨0, by omega⟩ : Fin n) = i := sorted_first f R hR hi _ rfl
  obtain ⟨q, rfl⟩ := sortedFrom_surjective R j
  by_contra hne
  have hq : (q : ℕ) ≠ 0 := fun h => hj.1 (by rw [← h0]; exact congrArg _ (Fin.ext h))
  have hqk : q ≠ k := fun h => hne (h ▸ rfl)
  have hlt : k < q := by rw [Fin.lt_def]; have := Fin.val_ne_of_ne hqk; omega
  refine hj.not_before (sortedFrom R k) (fun h => ?_) (sorted_before f R hR _ _ hlt)
  have := sortedFrom_injective R (h.trans h0.symm)
  rw [this] at hk
  simp at hk

end Cert.OutProj

end
-- ==== Proof.OutProj.RefPick.lean ====
/-
  The reference's router operations at an index: the sorted pick of the greatest, the take of a group's experts, and
  the running sum down the rows.
-/
module

public import proofs.«01_k».proof.Proof.OutProj.Ref
public import proofs.«01_k».proof.Proof.OutProj.Top
public import Idealize.ShloMosaic.Lib.Routing.OpsOne

@[expose] public section

set_option maxRecDepth 16384

noncomputable section

namespace Cert.Reference4Ideal.OutProj

open Idealize.ShloMosaic Idealize.ShloMosaic.TcCoe Idealize.SL.Sem Cert.Reference4Ideal Cert.Reference4Ideal.Gen Cert.InProj Cert.OutProj

section Sorting
variable {n : ℕ} {α β : Type} (cmp : α × β → α × β → BitVec 1) (x : (⟨2, ![32768, n]⟩ : Shape).Idx → α) (y : (⟨2, ![32768, n]⟩ : Shape).Idx → β)
  (R : Fin 32768) (k : Fin n)

theorem along_row (p : Fin n) : (ix2 R k : (⟨2, ![32768, n]⟩ : Shape).Idx).along (1 : Fin 2) p = ix2 R p := by
  funext a
  match a with
  | ⟨0, _⟩ => rfl
  | ⟨1, _⟩ => rfl

theorem sort_at :
    (Host.sort2 (⟨2, ![32768, n]⟩ : Shape) 1 cmp x y).1 (ix2 R k) = x (ix2 R (sortedFrom (fun a b => cmp (x (ix2 R a), y (ix2 R a)) (x (ix2 R b), y (ix2 R b)) == 1#1) k))
      ∧ (Host.sort2 (⟨2, ![32768, n]⟩ : Shape) 1 cmp x y).2 (ix2 R k) = y (ix2 R (sortedFrom (fun a b => cmp (x (ix2 R a), y (ix2 R a)) (x (ix2 R b), y (ix2 R b)) == 1#1) k)) := by
  have key : ∀ p : Fin n, (ix2 R k : (⟨2, ![32768, n]⟩ : Shape).Idx).along (1 : Fin 2) p = ix2 R p := along_row R k
  have π : sortedFrom (fun a b => cmp (x ((ix2 R k : (⟨2, ![32768, n]⟩ : Shape).Idx).along (1 : Fin 2) a), y ((ix2 R k : (⟨2, ![32768, n]⟩ : Shape).Idx).along (1 : Fin 2) a))
        (x ((ix2 R k : (⟨2, ![32768, n]⟩ : Shape).Idx).along (1 : Fin 2) b), y ((ix2 R k : (⟨2, ![32768, n]⟩ : Shape).Idx).along (1 : Fin 2) b)) == 1#1) k
      = sortedFrom (fun a b => cmp (x (ix2 R a), y (ix2 R a)) (x (ix2 R b), y (ix2 R b)) == 1#1) k :=
    congrArg (fun r => sortedFrom r k) (funext fun a => funext fun b =>
      congrArg₂ (fun u v => cmp (x u, y u) (x v, y v) == 1#1) (key a) (key b))
  unfold Host.sort2
  rw [dif_pos (show 1 < (⟨2, ![32768, n]⟩ : Shape).rank from Nat.one_lt_two)]
  exact ⟨congrArg x ((congrArg ((ix2 R k : (⟨2, ![32768, n]⟩ : Shape).Idx).along (1 : Fin 2)) π).trans (key _)),
    congrArg y ((congrArg ((ix2 R k : (⟨2, ![32768, n]⟩ : Shape).Idx).along (1 : Fin 2)) π).trans (key _))⟩

end Sorting

theorem gt_iff (a b : EReal) : (FloatOps.cmpfTotal (F := Ideal) (φ := .f32) .gt a b == 1#1) = true ↔ b < a := by
  have : (FloatOps.cmpfTotal (F := Ideal) (φ := .f32) .gt a b) = BitVec.ofBool (decide (b < a)) := rfl
  rw [this]
  by_cases h : b < a <;> simp [h]

/-- The greatest of four, and its number. -/
theorem top1_at (x : FVec Ideal S32768x4 .f32) (R : Fin 32768) {g : Fin 4} (hg : Top (fun _ => True) (fun q => (x (ix2 R q) : EReal)) g) :
    ((Host.topK S32768x1 1 (FloatOps.cmpfTotal .gt) x sliceFits_S32768x4_S32768x1).1 (ix2 R (0 : Fin 1)) : EReal) = x (ix2 R g)
      ∧ (Host.topK S32768x1 1 (FloatOps.cmpfTotal .gt) x sliceFits_S32768x4_S32768x1).2 (ix2 R (0 : Fin 1)) = BitVec.ofNat 32 g := by
  have e := sort_at (n := 4) (fun l r => FloatOps.cmpfTotal (F := Ideal) (φ := .f32) .gt l.1 r.1) x (fun i : S32768x4.Idx => BitVec.ofNat 32 (i 1)) R 0
  rw [sorted_first (fun q => (x (ix2 R q) : EReal)) _ (fun a b => gt_iff _ _) hg 0 rfl] at e
  constructor
  · unfold Host.topK
    pointwise
    exact e.1
  · unfold Host.topK
    pointwise
    exact e.2

/-- The two greatest of eight, and their numbers. -/
theorem top2_at (x : FVec Ideal S32768x8 .f32) (R : Fin 32768) {i j : Fin 8} (hi : Top (fun _ => True) (fun q => (x (ix2 R q) : EReal)) i)
    (hj : Top (fun r => r ≠ i) (fun q => (x (ix2 R q) : EReal)) j) (s : Fin 2) :
    ((Host.topK S32768x2 1 (FloatOps.cmpfTotal .gt) x sliceFits_S32768x8_S32768x2).1 (ix2 R s) : EReal) = x (ix2 R ((![i, j] : Fin 2 → Fin 8) s))
      ∧ (Host.topK S32768x2 1 (FloatOps.cmpfTotal .gt) x sliceFits_S32768x8_S32768x2).2 (ix2 R s) = BitVec.ofNat 32 ((![i, j] : Fin 2 → Fin 8) s) := by
  have e := sort_at (n := 8) (fun l r => FloatOps.cmpfTotal (F := Ideal) (φ := .f32) .gt l.1 r.1) x (fun i : S32768x8.Idx => BitVec.ofNat 32 (i 1)) R (⟨s, by omega⟩ : Fin 8)
  have π : sortedFrom (fun a b => FloatOps.cmpfTotal (F := Ideal) (φ := .f32) .gt (x (ix2 R a)) (x (ix2 R b)) == 1#1) (⟨s, by omega⟩ : Fin 8) = (![i, j] : Fin 2 → Fin 8) s := by
    match s with
    | ⟨0, _⟩ => exact sorted_first (fun q => (x (ix2 R q) : EReal)) _ (fun a b => gt_iff _ _) hi _ rfl
    | ⟨1, _⟩ => exact sorted_second (fun q => (x (ix2 R q) : EReal)) _ (fun a b => gt_iff _ _) hi hj _ rfl
  rw [π] at e
  constructor
  · unfold Host.topK
    pointwise
    exact e.1
  · unfold Host.topK
    pointwise
    exact e.2

/-- The take of a group's experts. -/
theorem take_at (x : FVec Ideal S32768x4x8 .f32) (idx : IVec S32768x1x1 32) (R : Fin 32768) (e : Fin 8) (g : Fin 4)
    (h : idx (ix3 R (0 : Fin 1) (0 : Fin 1)) = BitVec.ofNat 32 g) :
    (Host.gather gather_S32768x4x8_S32768x1x1_S32768x1x8_2_1_0_0_1_2_118 x idx (ix3 R (0 : Fin 1) e) : EReal) = x (ix3 R g e) := by
  unfold Host.gather
  refine congrArg x (funext fun a => Fin.ext ?_)
  show gather_S32768x4x8_S32768x1x1_S32768x1x8_2_1_0_0_1_2_118.start (ix3 R (0 : Fin 1) e) idx a
      + gather_S32768x4x8_S32768x1x1_S32768x1x8_2_1_0_0_1_2_118.batchCoord (ix3 R (0 : Fin 1) e) a
      + gather_S32768x4x8_S32768x1x1_S32768x1x8_2_1_0_0_1_2_118.offCoord (ix3 R (0 : Fin 1) e) a = _
  match a with
  | ⟨0, _⟩ =>
    have h1 : gather_S32768x4x8_S32768x1x1_S32768x1x8_2_1_0_0_1_2_118.start (ix3 R (0 : Fin 1) e) idx (0 : Fin 3) = 0 := rfl
    have h2 : gather_S32768x4x8_S32768x1x1_S32768x1x8_2_1_0_0_1_2_118.batchCoord (ix3 R (0 : Fin 1) e) (0 : Fin 3) = R := rfl
    have h3 : gather_S32768x4x8_S32768x1x1_S32768x1x8_2_1_0_0_1_2_118.offCoord (ix3 R (0 : Fin 1) e) (0 : Fin 3) = 0 := rfl
    exact (congrArg₂ (· + ·) (congrArg₂ (· + ·) h1 h2) h3).trans (by show 0 + (R : ℕ) + 0 = R; omega)
  | ⟨1, _⟩ =>
    have h1 : gather_S32768x4x8_S32768x1x1_S32768x1x8_2_1_0_0_1_2_118.start (ix3 R (0 : Fin 1) e) idx (1 : Fin 3) = g := by
      unfold GatherDims.start
      rw [dif_pos (show (1 : Fin 3) ∈ gather_S32768x4x8_S32768x1x1_S32768x1x8_2_1_0_0_1_2_118.startIndexMap from List.mem_singleton.mpr rfl)]
      have hsi : gather_S32768x4x8_S32768x1x1_S32768x1x8_2_1_0_0_1_2_118.siIdx (ix3 R (0 : Fin 1) e)
          ⟨List.idxOf (1 : Fin 3) gather_S32768x4x8_S32768x1x1_S32768x1x8_2_1_0_0_1_2_118.startIndexMap, List.idxOf_lt_length_iff.2 (List.mem_singleton.mpr rfl)⟩
          = ix3 R (0 : Fin 1) (0 : Fin 1) := by
        funext b; refine Fin.ext ?_
        match b with
        | ⟨0, _⟩ => rfl
        | ⟨1, _⟩ => rfl
        | ⟨2, _⟩ => rfl
      rw [hsi, h]
      match g with
      | ⟨0, _⟩ => rfl
      | ⟨1, _⟩ => rfl
      | ⟨2, _⟩ => rfl
      | ⟨3, _⟩ => rfl
    have h2 : gather_S32768x4x8_S32768x1x1_S32768x1x8_2_1_0_0_1_2_118.batchCoord (ix3 R (0 : Fin 1) e) (1 : Fin 3) = 0 := rfl
    have h3 : gather_S32768x4x8_S32768x1x1_S32768x1x8_2_1_0_0_1_2_118.offCoord (ix3 R (0 : Fin 1) e) (1 : Fin 3) = 0 := rfl
    exact (congrArg₂ (· + ·) (congrArg₂ (· + ·) h1 h2) h3).trans (by show (g : ℕ) + 0 + 0 = g; omega)
  | ⟨2, _⟩ =>
    have h1 : gather_S32768x4x8_S32768x1x1_S32768x1x8_2_1_0_0_1_2_118.start (ix3 R (0 : Fin 1) e) idx (2 : Fin 3) = 0 := rfl
    have h2 : gather_S32768x4x8_S32768x1x1_S32768x1x8_2_1_0_0_1_2_118.batchCoord (ix3 R (0 : Fin 1) e) (2 : Fin 3) = 0 := rfl
    have h3 : gather_S32768x4x8_S32768x1x1_S32768x1x8_2_1_0_0_1_2_118.offCoord (ix3 R (0 : Fin 1) e) (2 : Fin 3) = e := rfl
    exact (congrArg₂ (· + ·) (congrArg₂ (· + ·) h1 h2) h3).trans (by show 0 + 0 + (e : ℕ) = e; omega)

theorem foldl_sum {n : ℕ} (f : Fin n → EReal) : (List.finRange n).foldl (fun r i => r + f i) 0 = ∑ i, f i := by
  have : ∀ (l : List (Fin n)) (a : EReal), l.foldl (fun r i => r + f i) a = a + (l.map f).sum := fun l => by
    induction l with
    | nil => intro a; simp
    | cons b l ih => intro a; rw [List.foldl_cons, ih, List.map_cons, List.sum_cons, add_assoc]
  rw [this, zero_add, ← List.sum_ofFn, List.ofFn_eq_map]

/-- A window as high as the array and padded low by one less sums the rows up to its own. -/
theorem cum_gen {M N C : ℕ} (hM : N + 1 = M) (x : (⟨2, ![M, C]⟩ : Shape).Idx → EReal)
    (h : (⟨2, ![M, C]⟩ : Shape).ReduceWindows (![M, 1] : Fin 2 → ℕ) ![1, 1] ![N, 0] ![0, 0] (⟨2, ![M, C]⟩ : Shape))
    (R : Fin M) (e : Fin C) (f : ℕ → EReal) (hf : ∀ k : Fin M, x (ix2 k e) = f k) :
    Ideal.hostReduceWindowAdd ![M, 1] ![1, 1] ![N, 0] ![0, 0] h x 0 (ix2 R e) = ∑ k ∈ Finset.range (R + 1), f k := by
  subst hM
  have hR := R.isLt
  have he := e.isLt
  unfold Ideal.hostReduceWindowAdd Host.reduceWindow
  dsimp only
  refine (foldl_sum _).trans ?_
  have hN : (⟨2, ![N + 1, 1]⟩ : Shape).numel = N + 1 := Routing.numel_col _
  refine Eq.trans (b := ∑ n : Fin (⟨2, ![N + 1, 1]⟩ : Shape).numel, if N ≤ (R : ℕ) + n then f (R + n - N) else 0) (Finset.sum_congr rfl fun n _ => ?_) ?_
  · have hn : (n : ℕ) < N + 1 := lt_of_lt_of_eq n.isLt hN
    have p0 : ((⟨2, ![N + 1, 1]⟩ : Shape).rowMajor.symm n (0 : Fin 2) : ℕ) = n := by
      rw [show (⟨2, ![N + 1, 1]⟩ : Shape).rowMajor.symm n = _ from Routing.symm_col n]; rfl
    have p1 : ((⟨2, ![N + 1, 1]⟩ : Shape).rowMajor.symm n (1 : Fin 2) : ℕ) = 0 := by
      rw [show (⟨2, ![N + 1, 1]⟩ : Shape).rowMajor.symm n = _ from Routing.symm_col n]; rfl
    by_cases hc : N ≤ (R : ℕ) + n
    · rw [if_pos hc]
      refine (dif_pos fun a => ?_).trans ((congrArg x (funext fun a => Fin.ext ?_)).trans (hf (⟨R + n - N, by omega⟩ : Fin (N + 1))))
      · match a with
        | ⟨0, _⟩ =>
          show N ≤ (R : ℕ) * 1 + ((⟨2, ![N + 1, 1]⟩ : Shape).rowMajor.symm n (0 : Fin 2) : ℕ) ∧ (R : ℕ) * 1 + ((⟨2, ![N + 1, 1]⟩ : Shape).rowMajor.symm n (0 : Fin 2) : ℕ) - N < N + 1
          rw [p0]; omega
        | ⟨1, _⟩ =>
          show 0 ≤ (e : ℕ) * 1 + ((⟨2, ![N + 1, 1]⟩ : Shape).rowMajor.symm n (1 : Fin 2) : ℕ) ∧ (e : ℕ) * 1 + ((⟨2, ![N + 1, 1]⟩ : Shape).rowMajor.symm n (1 : Fin 2) : ℕ) - 0 < C
          rw [p1]; omega
      · match a with
        | ⟨0, _⟩ =>
          show (R : ℕ) * 1 + ((⟨2, ![N + 1, 1]⟩ : Shape).rowMajor.symm n (0 : Fin 2) : ℕ) - N = R + n - N
          rw [p0]; omega
        | ⟨1, _⟩ =>
          show (e : ℕ) * 1 + ((⟨2, ![N + 1, 1]⟩ : Shape).rowMajor.symm n (1 : Fin 2) : ℕ) - 0 = e
          rw [p1]; omega
    · rw [if_neg hc]
      refine dif_neg fun hin => hc ?_
      have h0 : N ≤ (R : ℕ) * 1 + ((⟨2, ![N + 1, 1]⟩ : Shape).rowMajor.symm n (0 : Fin 2) : ℕ) := (hin (0 : Fin 2)).1
      rw [p0] at h0; omega
  · refine ((Fin.castOrderIso hN).toEquiv.sum_comp (fun n : Fin (N + 1) => if N ≤ (R : ℕ) + n then f (R + n - N) else 0)).trans ?_
    rw [← Finset.sum_range fun n => if N ≤ (R : ℕ) + n then f (R + n - N) else 0]
    rw [show Finset.range (N + 1) = Finset.range ((N - R) + (R + 1)) from congrArg Finset.range (by omega)]
    rw [Finset.sum_range_add, Finset.sum_eq_zero fun n hn => if_neg (by have := Finset.mem_range.mp hn; omega), zero_add]
    exact Finset.sum_congr rfl fun k _ => by rw [if_pos (by omega)]; exact congrArg f (by omega)

/-- The running sum: the rows up to `R`. -/
theorem cum_at (x : FVec Ideal S32768x32 .f32) (R : Fin 32768) (e : Fin 32) (f : ℕ → EReal) (hf : ∀ k : Fin 32768, (x (ix2 k e) : EReal) = f k) :
    (Host.reduceWindowAdd ![32768, 1] ![1, 1] ![32767, 0] ![0, 0] x (broadcastInDim S_ ![] bcast_S_S_ (constant S_ .f32 0x00000000#32)) reduceWindows_S32768x32_S32768x32_w32768s1p32767_0_w1s1p0_0 h_S_ (ix2 R e) : EReal)
      = ∑ k ∈ Finset.range (R + 1), f k := by
  have z : (Ideal.ofBits .f32 0x00000000#32 : EReal) = 0 := by simp [Ideal.ofBits, Ideal.ieee]
  have g := cum_gen (M := 32768) (N := 32767) (C := 32) (by norm_num) x reduceWindows_S32768x32_S32768x32_w32768s1p32767_0_w1s1p0_0 R e f hf
  rw [← z] at g
  unfold Host.reduceWindowAdd
  rw [Ideal.hostReduceWindowAdd_def]
  refine Eq.trans ?_ g
  generalize hv : Ideal.ofBits .f32 0x00000000#32 = v at *
  have hw : (broadcastInDim S_ ![] bcast_S_S_ (constant (F := Ideal) S_ .f32 0x00000000#32) (Shape.Idx.first h_S_) : EReal) = v := hv
  generalize (broadcastInDim S_ ![] bcast_S_S_ (constant (F := Ideal) S_ .f32 0x00000000#32) (Shape.Idx.first h_S_) : EReal) = u at *
  subst hw
  rfl

end Cert.Reference4Ideal.OutProj

end
-- ==== Proof.OutProj.Choice.lean ====
/-
  The router's choice at a row, off its four group logits and its thirty-two expert logits: the group, the two experts
  of it, their weights, and how often an expert was chosen before a row.
-/
module

public import proofs.«01_k».proof.Proof.OutProj.Top
public import Idealize.ShloMosaic.PureOps.Ideal.Laws

@[expose] public section

noncomputable section

namespace Cert.OutProj

open Idealize.ShloMosaic

/-- The group: the first of the greatest group logits. -/
def gOf (G : Fin 4 → EReal) : Fin 4 := (Top.exists (fun _ => True) G 0 trivial).choose
theorem gOf_top (G : Fin 4 → EReal) : Top (fun _ => True) G (gOf G) := (Top.exists (fun _ => True) G 0 trivial).choose_spec

/-- The experts of group `g`. -/
def inG (g : Fin 4) (r : Fin 32) : Prop := 8 * (g : ℕ) ≤ r ∧ (r : ℕ) < 8 * g + 8

theorem ex1 (G : Fin 4 → EReal) (E : Fin 32 → EReal) : ∃ i, Top (inG (gOf G)) E i :=
  Top.exists _ E ⟨8 * (gOf G : ℕ), by omega⟩ ⟨le_refl _, by show 8 * (gOf G : ℕ) < _; omega⟩

/-- The first of the group's greatest. -/
def i1Of (G : Fin 4 → EReal) (E : Fin 32 → EReal) : Fin 32 := (ex1 G E).choose
theorem i1Of_top (G : Fin 4 → EReal) (E : Fin 32 → EReal) : Top (inG (gOf G)) E (i1Of G E) := (ex1 G E).choose_spec

theorem ex2 (G : Fin 4 → EReal) (E : Fin 32 → EReal) : ∃ i, Top (fun r => inG (gOf G) r ∧ r ≠ i1Of G E) E i := by
  by_cases h : (i1Of G E : ℕ) = 8 * (gOf G : ℕ)
  · exact Top.exists _ E ⟨8 * (gOf G : ℕ) + 1, by omega⟩ ⟨⟨by show 8 * (gOf G : ℕ) ≤ 8 * (gOf G : ℕ) + 1; omega, by show 8 * (gOf G : ℕ) + 1 < _; omega⟩,
      fun e => by rw [← e] at h; simp at h⟩
  · exact Top.exists _ E ⟨8 * (gOf G : ℕ), by omega⟩ ⟨⟨le_refl _, by show 8 * (gOf G : ℕ) < _; omega⟩, fun e => h (by rw [← e])⟩

/-- The first of the greatest of the rest of the group. -/
def i2Of (G : Fin 4 → EReal) (E : Fin 32 → EReal) : Fin 32 := (ex2 G E).choose
theorem i2Of_top (G : Fin 4 → EReal) (E : Fin 32 → EReal) : Top (fun r => inG (gOf G) r ∧ r ≠ i1Of G E) E (i2Of G E) := (ex2 G E).choose_spec

/-- The group's probability, the two experts' weights. -/
def gProb (G : Fin 4 → EReal) : EReal := Ideal.div 1 (∑ q, Ideal.exp (G q - G (gOf G)))
def tOf (G : Fin 4 → EReal) (E : Fin 32 → EReal) : EReal := Ideal.exp (E (i2Of G E) - E (i1Of G E))
def w1Of (G : Fin 4 → EReal) (E : Fin 32 → EReal) : EReal := Ideal.div (gProb G) (1 + tOf G E)
def w2Of (G : Fin 4 → EReal) (E : Fin 32 → EReal) : EReal := Ideal.div (gProb G * tOf G E) (1 + tOf G E)

/-- Whether an expert is chosen, as a number. -/
def hotOf (G : Fin 4 → EReal) (E : Fin 32 → EReal) (e : Fin 32) : EReal := if e = i1Of G E ∨ e = i2Of G E then 1 else 0

variable (G : Fin 32768 → Fin 4 → EReal) (E : Fin 32768 → Fin 32 → EReal)

/-- How often an expert is chosen by the rows before the `n`-th. -/
def hotAt (k : ℕ) (e : Fin 32) : EReal := if h : k < 32768 then hotOf (G ⟨k, h⟩) (E ⟨k, h⟩) e else 0
def pre (n : ℕ) (e : Fin 32) : EReal := ∑ k ∈ Finset.range n, hotAt G E k e

/-- A row's route. -/
def routeAt (R : Fin 32768) : Fin 8 → EReal :=
  ![FloatOps.sitofp (F := Ideal) .f32 (BitVec.ofNat 32 (i1Of (G R) (E R))), FloatOps.sitofp (F := Ideal) .f32 (BitVec.ofNat 32 (i2Of (G R) (E R))),
    w1Of (G R) (E R), w2Of (G R) (E R), pre G E R (i1Of (G R) (E R)), pre G E R (i2Of (G R) (E R)), 0, 0]

/-! Finite logits: the probabilities are in the logits' order, and the weights are the softmax's. -/

def Fin' {n : ℕ} (f : Fin n → EReal) : Prop := ∀ i, ∃ x : ℝ, f i = (x : EReal)

theorem exp_sub_self {x : EReal} (h : ∃ r : ℝ, x = (r : EReal)) : Ideal.exp (x - x) = 1 := by
  obtain ⟨r, rfl⟩ := h
  rw [← EReal.coe_sub, sub_self]
  show ((Real.exp 0 : ℝ) : EReal) = 1
  simp

theorem exp_real (a b : ℝ) : Ideal.exp ((a : EReal) - (b : EReal)) = ((Real.exp (a - b) : ℝ) : EReal) := by
  rw [← EReal.coe_sub]; rfl

theorem sum_real {n : ℕ} (x : Fin n → ℝ) : (∑ i, (x i : EReal)) = ((∑ i, x i : ℝ) : EReal) := by
  have : ∀ s : Finset (Fin n), (∑ i ∈ s, (x i : EReal)) = ((∑ i ∈ s, x i : ℝ) : EReal) := fun s => by
    classical
    induction s using Finset.induction_on with
    | empty => simp
    | insert a s ha ih => rw [Finset.sum_insert ha, Finset.sum_insert ha, ih, EReal.coe_add]
  exact this _

theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The softmax is in the logits' order. -/
theorem soft_top {G : Fin 4 → EReal} (hG : Fin' G) (g : Fin 4) (hg : Top (fun _ => True) G g) :
    Top (fun _ => True) (fun q => Ideal.div (Ideal.exp (G q - G g)) (∑ q, Ideal.exp (G q - G g))) g := by
  choose x hx using hG
  have hS : 0 < ∑ q, Real.exp (x q - x g) := Finset.sum_pos (fun k _ => Real.exp_pos _) ⟨0, Finset.mem_univ _⟩
  have e : ∀ q, Ideal.div (Ideal.exp (G q - G g)) (∑ q, Ideal.exp (G q - G g)) = ((Real.exp (x q - x g) / ∑ q, Real.exp (x q - x g) : ℝ) : EReal) := fun q => by
    have e1 : ∀ q, Ideal.exp (G q - G g) = ((Real.exp (x q - x g) : ℝ) : EReal) := fun q => by rw [hx q, hx g]; exact exp_real _ _
    simp only [e1]
    rw [sum_real, div_real _ _ hS.ne']
  refine ⟨trivial, fun j _ => ?_⟩
  obtain ⟨h1, h2⟩ := hg.2 j trivial
  rw [hx j, hx g, EReal.coe_le_coe_iff] at h1
  rw [hx j, hx g, EReal.coe_lt_coe_iff] at h2
  dsimp only
  rw [e, e, EReal.coe_le_coe_iff, EReal.coe_lt_coe_iff]
  refine ⟨div_le_div_of_nonneg_right (Real.exp_le_exp.mpr (by linarith)) hS.le, fun hj => div_lt_div_of_pos_right (Real.exp_lt_exp.mpr (by linarith [h2 hj])) hS⟩

theorem t_ne (G : Fin 4 → EReal) {E : Fin 32 → EReal} (hE : Fin' E) : 1 + tOf G E ≠ 0 := by
  obtain ⟨a, ha⟩ := hE (i1Of G E)
  obtain ⟨b, hb⟩ := hE (i2Of G E)
  unfold tOf
  rw [ha, hb, exp_real]
  have : 0 < 1 + Real.exp (b - a) := by positivity
  exact_mod_cast this.ne'

theorem w1_eq (G : Fin 4 → EReal) {E : Fin 32 → EReal} (hE : Fin' E) : Ideal.div 1 (1 + tOf G E) * gProb G = w1Of G E := by
  unfold w1Of Ideal.div
  rw [if_neg (t_ne G hE), if_neg (t_ne G hE), one_mul, mul_comm]

theorem w2_eq (G : Fin 4 → EReal) {E : Fin 32 → EReal} (hE : Fin' E) : Ideal.div (tOf G E) (1 + tOf G E) * gProb G = w2Of G E := by
  unfold w2Of Ideal.div
  rw [if_neg (t_ne G hE), if_neg (t_ne G hE), mul_comm, ← mul_assoc]

/-- The two experts differ, so the two of them count as one each. -/
theorem hot_two (G : Fin 4 → EReal) (E : Fin 32 → EReal) (e : Fin 32) :
    (if i1Of G E = e then 1 else 0 : EReal) + (if i2Of G E = e then 1 else 0) = hotOf G E e := by
  have hne : i2Of G E ≠ i1Of G E := (i2Of_top G E).1.2
  unfold hotOf
  by_cases h1 : e = i1Of G E
  · subst h1; simp [hne]
  · by_cases h2 : e = i2Of G E
    · subst h2; simp [Ne.symm hne]
    · simp [h1, h2, Ne.symm h1, Ne.symm h2]

theorem hotOf_real (G : Fin 4 → EReal) (E : Fin 32 → EReal) (e : Fin 32) : ∃ x : ℝ, hotOf G E e = (x : EReal) := by
  unfold hotOf
  split
  · exact ⟨1, by simp⟩
  · exact ⟨0, by simp⟩

end Cert.OutProj

end
-- ==== Proof.OutProj.RefRoute.lean ====
/-
  The reference's router at a row: its softmax, its group's experts, its two experts' weights and their ranks.
-/
module

public import proofs.«01_k».proof.Proof.OutProj.RefPick
public import proofs.«01_k».proof.Proof.OutProj.Choice

@[expose] public section

set_option maxRecDepth 16384

noncomputable section

namespace Cert.Reference4Ideal.OutProj

open Idealize.ShloMosaic Idealize.ShloMosaic.TcCoe Idealize.SL.Sem Cert.Reference4Ideal Cert.Reference4Ideal.Gen Cert.InProj Cert.OutProj

/-- The group softmax. -/
def exp4 (x : FVec Ideal S32768x4 .f32) : FVec Ideal S32768x4 .f32 :=
  Host.exp (subf x (broadcastInDim S32768x4 ![0, 1] bcast_S32768x1_S32768x4_0_1 (broadcastInDim S32768x1 ![0] bcast_S32768_S32768x1_0 (maximumf (broadcastInDim S32768 ![] bcast_S_S32768 (constant S_ .f32 0xFF800000#32)) (Host.reduce FloatOps.maximumf x (constant S_ .f32 0xFF800000#32) reducesTo_S32768x4_S32768_d1 h_S_)))))
def prob4 (x : FVec Ideal S32768x4 .f32) : FVec Ideal S32768x4 .f32 :=
  Host.divf (exp4 x) (broadcastInDim S32768x4 ![0, 1] bcast_S32768x1_S32768x4_0_1 (broadcastInDim S32768x1 ![0] bcast_S32768_S32768x1_0 (Host.reduceAdd (exp4 x) (constant S_ .f32 0x00000000#32) reducesTo_S32768x4_S32768_d1 h_S_)))

theorem ninf : Ideal.ofBits .f32 0xFF800000#32 = ⊥ := by simp [Ideal.ofBits, Ideal.ieee]

theorem exp4_at (x : FVec Ideal S32768x4 .f32) (R : Fin 32768) (q g : Fin 4) (hg : Top (fun _ => True) (fun q => (x (ix2 R q) : EReal)) g) :
    (exp4 x (ix2 R q) : EReal) = Ideal.exp ((x (ix2 R q) : EReal) - x (ix2 R g)) := by
  have f : (Finset.univ.fold max ⊥ fun q : Fin 4 => (x (ix2 R q) : EReal)) = x (ix2 R g) := fold_max hg _ (fun _ _ => rfl) fun _ h => absurd trivial h
  unfold exp4
  pointwise
  rw [ninf, f, max_eq_right bot_le]

theorem prob4_at (x : FVec Ideal S32768x4 .f32) (R : Fin 32768) (q g : Fin 4) (hg : Top (fun _ => True) (fun q => (x (ix2 R q) : EReal)) g) :
    (prob4 x (ix2 R q) : EReal) = Ideal.div (Ideal.exp ((x (ix2 R q) : EReal) - x (ix2 R g))) (∑ q : Fin 4, Ideal.exp ((x (ix2 R q) : EReal) - x (ix2 R g))) := by
  have e : (prob4 x (ix2 R q) : EReal) = Ideal.div (exp4 x (ix2 R q)) (∑ q : Fin 4, (exp4 x (ix2 R q) : EReal)) := by
    unfold prob4
    pointwise
  rw [e, exp4_at x R q g hg, Finset.sum_congr rfl fun q _ => exp4_at x R q g hg]

/-- The group's number where it is looked up, and its experts' logits. -/
def idx3 (i : IVec S32768x1 32) : IVec S32768x1x1 32 :=
  select (cmpi .slt (broadcastInDim S32768x1x1 ![0, 1] bcast_S32768x1_S32768x1x1_0_1 i) (broadcastInDim S32768x1x1 ![] bcast_S_S32768x1x1 (constantI S_ 32 0#32))) (addi (broadcastInDim S32768x1x1 ![0, 1] bcast_S32768x1_S32768x1x1_0_1 i) (broadcastInDim S32768x1x1 ![] bcast_S_S32768x1x1 (constantI S_ 32 4#32))) (broadcastInDim S32768x1x1 ![0, 1] bcast_S32768x1_S32768x1x1_0_1 i)
def inb (i : IVec S32768x1x1 32) : IVec S32768x1 1 :=
  Host.reduce IntOp.andi (andi (cmpi .sge i (broadcastInDim S32768x1x1 ![] bcast_S_S32768x1x1 (constantI S_ 32 0#32))) (cmpi .sle i (broadcastInDim S32768x1x1 ![0, 1, 2] bcast_S1x1x1_S32768x1x1_0_1_2 (broadcastInDim S1x1x1 ![2] bcast_S1_S1x1x1_2 (constantI S1 32 3#32))))) (constantI S_ 1 1#1) reducesTo_S32768x1x1_S32768x1_d2 h_S_
def own (E : FVec Ideal S32768x32 .f32) (i : IVec S32768x1 32) : FVec Ideal S32768x8 .f32 :=
  shapeCast S32768x8 (select (broadcastInDim S32768x1x8 ![0, 1] bcast_S32768x1_S32768x1x8_0_1 (inb (idx3 i))) (Host.gather gather_S32768x4x8_S32768x1x1_S32768x1x8_2_1_0_0_1_2_118 (shapeCast S32768x4x8 E shapeCasts_S32768x32_S32768x4x8) (idx3 i)) (broadcastInDim S32768x1x8 ![] bcast_S_S32768x1x8 (constant S_ .f32 0x7FC00000#32))) shapeCasts_S32768x1x8_S32768x8

theorem idx3_at (i : IVec S32768x1 32) (R : Fin 32768) (g : Fin 4) (h : i (ix2 R (0 : Fin 1)) = BitVec.ofNat 32 g) : idx3 i (ix3 R (0 : Fin 1) (0 : Fin 1)) = BitVec.ofNat 32 g := by
  have e : idx3 i (ix3 R (0 : Fin 1) (0 : Fin 1)) = Scalar.select (IntOp.cmpi .slt (i (ix2 R (0 : Fin 1))) 0#32) (IntOp.addi (i (ix2 R (0 : Fin 1))) 4#32) (i (ix2 R (0 : Fin 1))) := by
    unfold idx3
    pointwise
  rw [e, h]
  match g with
  | ⟨0, _⟩ => rfl
  | ⟨1, _⟩ => rfl
  | ⟨2, _⟩ => rfl
  | ⟨3, _⟩ => rfl

theorem fold_one (f : Fin 1 → BitVec 1) : Finset.fold IntOp.andi 1#1 f Finset.univ = IntOp.andi (f 0) 1#1 := by
  rw [show (Finset.univ : Finset (Fin 1)) = {0} from rfl, Finset.fold_singleton]

theorem inb_at (i : IVec S32768x1x1 32) (R : Fin 32768) (g : Fin 4) (h : i (ix3 R (0 : Fin 1) (0 : Fin 1)) = BitVec.ofNat 32 g) : inb i (ix2 R (0 : Fin 1)) = 1#1 := by
  have e : inb i (ix2 R (0 : Fin 1)) = IntOp.andi (IntOp.andi (IntOp.cmpi .sge (i (ix3 R (0 : Fin 1) (0 : Fin 1))) 0#32) (IntOp.cmpi .sle (i (ix3 R (0 : Fin 1) (0 : Fin 1))) 3#32)) 1#1 := by
    unfold inb
    pointwise
    exact fold_one fun x => IntOp.andi (IntOp.cmpi .sge (i (ix3 R (0 : Fin 1) x)) 0#32) (IntOp.cmpi .sle (i (ix3 R (0 : Fin 1) x)) 3#32)
  have e1 : IntOp.cmpi .sge (BitVec.ofNat 32 g) 0#32 = BitVec.ofBool (decide (0 ≤ (g : ℕ))) := WordCmp.cmpi_sge_ofNat (by omega) (by omega)
  have e2 : IntOp.cmpi .sle (BitVec.ofNat 32 g) 3#32 = BitVec.ofBool (decide ((g : ℕ) ≤ 3)) := WordCmp.cmpi_sle_ofNat (by omega) (by omega)
  rw [e, h, e1, e2]
  simp [IntOp.andi, show (g : ℕ) ≤ 3 by omega]

theorem own_at (E : FVec Ideal S32768x32 .f32) (i : IVec S32768x1 32) (R : Fin 32768) (e : Fin 8) (g : Fin 4) (h : i (ix2 R (0 : Fin 1)) = BitVec.ofNat 32 g) :
    (own E i (ix2 R e) : EReal) = E (ix2 R (⟨8 * g + e, by omega⟩ : Fin 32)) := by
  have k : (own E i (ix2 R e) : EReal) = Scalar.select (inb (idx3 i) (ix2 R (0 : Fin 1)))
      (Host.gather gather_S32768x4x8_S32768x1x1_S32768x1x8_2_1_0_0_1_2_118 (shapeCast S32768x4x8 E shapeCasts_S32768x32_S32768x4x8) (idx3 i) (ix3 R (0 : Fin 1) e) : EReal) (Ideal.ofBits .f32 0x7FC00000#32) := by
    unfold own
    pointwise
  rw [k, inb_at _ R g (idx3_at i R g h), take_at _ _ R e g (idx3_at i R g h)]
  show (shapeCast S32768x4x8 E shapeCasts_S32768x32_S32768x4x8 (ix3 R g e) : EReal) = _
  pointwise
  exact congrArg (fun c => E (ix2 R c)) (Fin.ext (show (g : ℕ) * 8 + e = 8 * g + e by omega))

/-- The two experts' softmax. -/
def exp2 (v : FVec Ideal S32768x2 .f32) : FVec Ideal S32768x2 .f32 :=
  Host.exp (subf v (broadcastInDim S32768x2 ![0, 1] bcast_S32768x1_S32768x2_0_1 (broadcastInDim S32768x1 ![0] bcast_S32768_S32768x1_0 (maximumf (broadcastInDim S32768 ![] bcast_S_S32768 (constant S_ .f32 0xFF800000#32)) (Host.reduce FloatOps.maximumf v (constant S_ .f32 0xFF800000#32) reducesTo_S32768x2_S32768_d1 h_S_)))))
def wts (v : FVec Ideal S32768x2 .f32) (p : FVec Ideal S32768x1 .f32) : FVec Ideal S32768x2 .f32 :=
  mulf (Host.divf (exp2 v) (broadcastInDim S32768x2 ![0, 1] bcast_S32768x1_S32768x2_0_1 (broadcastInDim S32768x1 ![0] bcast_S32768_S32768x1_0 (Host.reduceAdd (exp2 v) (constant S_ .f32 0x00000000#32) reducesTo_S32768x2_S32768_d1 h_S_)))) (broadcastInDim S32768x2 ![0, 1] bcast_S32768x1_S32768x2_0_1 p)

theorem exp2_at (v : FVec Ideal S32768x2 .f32) (R : Fin 32768) (s : Fin 2) (h : (v (ix2 R (1 : Fin 2)) : EReal) ≤ v (ix2 R (0 : Fin 2))) :
    (exp2 v (ix2 R s) : EReal) = Ideal.exp ((v (ix2 R s) : EReal) - v (ix2 R (0 : Fin 2))) := by
  have hg : Top (fun _ => True) (fun q => (v (ix2 R q) : EReal)) (0 : Fin 2) := ⟨trivial, fun j _ => by
    match j with
    | ⟨0, _⟩ => exact ⟨le_refl _, fun h => absurd h (lt_irrefl _)⟩
    | ⟨1, _⟩ => exact ⟨h, fun h => absurd h (Nat.not_lt_zero 1)⟩⟩
  have f : (Finset.univ.fold max ⊥ fun q : Fin 2 => (v (ix2 R q) : EReal)) = v (ix2 R (0 : Fin 2)) := fold_max hg _ (fun _ _ => rfl) fun _ h => absurd trivial h
  unfold exp2
  pointwise
  rw [ninf, f, max_eq_right bot_le]

theorem wts_at (v : FVec Ideal S32768x2 .f32) (p : FVec Ideal S32768x1 .f32) (R : Fin 32768) (s : Fin 2) (h : (v (ix2 R (1 : Fin 2)) : EReal) ≤ v (ix2 R (0 : Fin 2))) :
    (wts v p (ix2 R s) : EReal) = Ideal.div (Ideal.exp ((v (ix2 R s) : EReal) - v (ix2 R (0 : Fin 2))))
      (Ideal.exp ((v (ix2 R (0 : Fin 2)) : EReal) - v (ix2 R (0 : Fin 2))) + Ideal.exp ((v (ix2 R (1 : Fin 2)) : EReal) - v (ix2 R (0 : Fin 2)))) * p (ix2 R (0 : Fin 1)) := by
  have e : (wts v p (ix2 R s) : EReal) = Ideal.div (exp2 v (ix2 R s)) (∑ q : Fin 2, (exp2 v (ix2 R q) : EReal)) * p (ix2 R (0 : Fin 1)) := by
    unfold wts
    pointwise
  rw [e, Fin.sum_univ_two, exp2_at v R s h, exp2_at v R 0 h, exp2_at v R 1 h]

/-- The experts' numbers, each as a row of thirty-two, the two rows' sum, and the ranks. -/
def ids (i : IVec S32768x1 32) (k : IVec S32768x2 32) : IVec S32768x2 32 :=
  addi (broadcastInDim S32768x2 ![0, 1] bcast_S32768x1_S32768x2_0_1 (muli i (broadcastInDim S32768x1 ![] bcast_S_S32768x1 (constantI S_ 32 8#32)))) k
def hot3 (a : IVec S32768x2 32) : FVec Ideal S32768x2x32 .f32 :=
  uitofp .f32 (cmpi .eq (broadcastInDim S32768x2x32 ![0, 1, 2] bcast_S32768x2x1_S32768x2x32_0_1_2 (broadcastInDim S32768x2x1 ![0, 1] bcast_S32768x2_S32768x2x1_0_1 a)) (broadcastInDim S32768x2x32 ![0, 1, 2] bcast_S1x1x32_S32768x2x32_0_1_2 (iotaInDim S1x1x32 32 2)))
def sent (a : IVec S32768x2 32) : FVec Ideal S32768x32 .f32 :=
  Host.reduceAdd (hot3 a) (constant S_ .f32 0x00000000#32) reducesTo_S32768x2x32_S32768x32_d1 h_S_
def earlier (a : IVec S32768x2 32) : FVec Ideal S32768x32 .f32 :=
  subf (Host.reduceWindowAdd ![32768, 1] ![1, 1] ![32767, 0] ![0, 0] (sent a) (broadcastInDim S_ ![] bcast_S_S_ (constant S_ .f32 0x00000000#32)) reduceWindows_S32768x32_S32768x32_w32768s1p32767_0_w1s1p0_0 h_S_) (sent a)
def ranks (a : IVec S32768x2 32) : FVec Ideal S32768x2 .f32 :=
  Host.reduceAdd (mulf (hot3 a) (broadcastInDim S32768x2x32 ![0, 1, 2] bcast_S32768x1x32_S32768x2x32_0_1_2 (broadcastInDim S32768x1x32 ![0, 2] bcast_S32768x32_S32768x1x32_0_2 (earlier a)))) (constant S_ .f32 0x00000000#32) reducesTo_S32768x2x32_S32768x2_d2 h_S_
def counts (a : IVec S32768x2 32) : FVec Ideal S32x128 .f32 :=
  broadcastInDim S32x128 ![0, 1] bcast_S32x1_S32x128_0_1 (broadcastInDim S32x1 ![0] bcast_S32_S32x1_0 (Host.reduceAdd (sent a) (constant S_ .f32 0x00000000#32) reducesTo_S32768x32_S32_d0 h_S_))

theorem ids_at (i : IVec S32768x1 32) (k : IVec S32768x2 32) (R : Fin 32768) (s : Fin 2) (g : Fin 4) (e : Fin 8) (hi : i (ix2 R (0 : Fin 1)) = BitVec.ofNat 32 g)
    (hk : k (ix2 R s) = BitVec.ofNat 32 e) : ids i k (ix2 R s) = BitVec.ofNat 32 (8 * g + e) := by
  have h : ids i k (ix2 R s) = IntOp.addi (IntOp.muli (i (ix2 R (0 : Fin 1))) 8#32) (k (ix2 R s)) := by
    unfold ids
    pointwise
  have e1 : IntOp.muli (BitVec.ofNat 32 g) 8#32 = BitVec.ofNat 32 (g * 8) := WordCmp.muli_ofNat ..
  have e2 : IntOp.addi (BitVec.ofNat 32 (g * 8)) (BitVec.ofNat 32 e) = BitVec.ofNat 32 (g * 8 + e) := WordCmp.addi_ofNat ..
  rw [h, hi, hk, e1, e2, mul_comm]

variable (a : IVec S32768x2 32) (id : Fin 32768 → Fin 2 → Fin 32) (ha : ∀ R s, a (ix2 R s) = BitVec.ofNat 32 (id R s))
include ha

theorem hot3_at (R : Fin 32768) (s : Fin 2) (e : Fin 32) : (hot3 a (ix3 R s e) : EReal) = if id R s = e then 1 else 0 := by
  have h : (hot3 a (ix3 R s e) : EReal) = FloatOps.uitofp (F := Ideal) .f32 (IntOp.cmpi .eq (a (ix2 R s)) (BitVec.ofNat 32 e)) := by
    unfold hot3
    pointwise
  rw [h, ha, WordCmp.cmpi_eq_ofNat (by omega) (by omega)]
  by_cases hq : id R s = e
  · rw [if_pos hq, hq]
    show ((((BitVec.ofBool (decide ((e : ℕ) = e))).toNat : ℝ)) : EReal) = 1
    simp
  · have : (id R s : ℕ) ≠ e := Fin.val_ne_of_ne hq
    rw [if_neg hq]
    show ((((BitVec.ofBool (decide ((id R s : ℕ) = e))).toNat : ℝ)) : EReal) = 0
    simp [this]

theorem sent_at (R : Fin 32768) (e : Fin 32) : (sent a (ix2 R e) : EReal) = (if id R 0 = e then 1 else 0) + if id R 1 = e then 1 else 0 := by
  have h : (sent a (ix2 R e) : EReal) = ∑ s : Fin 2, (hot3 a (ix3 R s e) : EReal) := by
    unfold sent
    pointwise
  rw [h, Fin.sum_univ_two, hot3_at a id ha, hot3_at a id ha]

omit ha in
/-- How often a row's two experts are `e`. -/
def seen (id : Fin 32768 → Fin 2 → Fin 32) (k : ℕ) (e : Fin 32) : EReal :=
  if h : k < 32768 then (if id ⟨k, h⟩ 0 = e then 1 else 0) + (if id ⟨k, h⟩ 1 = e then 1 else 0) else 0

omit ha in
theorem seen_real (k : ℕ) (e : Fin 32) : ∃ x : ℝ, seen id k e = (x : EReal) := by
  unfold seen
  split
  · exact ⟨(if id ⟨k, by omega⟩ 0 = e then 1 else 0) + (if id ⟨k, by omega⟩ 1 = e then 1 else 0), by split <;> split <;> simp⟩
  · exact ⟨0, by simp⟩

theorem sent_seen (R : Fin 32768) (e : Fin 32) : (sent a (ix2 R e) : EReal) = seen id R e := by
  rw [sent_at a id ha]
  unfold seen
  rw [dif_pos R.isLt]

theorem earlier_at (R : Fin 32768) (e : Fin 32) : (earlier a (ix2 R e) : EReal) = ∑ k ∈ Finset.range R, seen id k e := by
  have h : (earlier a (ix2 R e) : EReal) = (Host.reduceWindowAdd ![32768, 1] ![1, 1] ![32767, 0] ![0, 0] (sent a) (broadcastInDim S_ ![] bcast_S_S_ (constant S_ .f32 0x00000000#32)) reduceWindows_S32768x32_S32768x32_w32768s1p32767_0_w1s1p0_0 h_S_ (ix2 R e) : EReal) - sent a (ix2 R e) := rfl
  rw [h, cum_at (sent a) R e (fun k => seen id k e) fun k => sent_seen a id ha k e, sent_seen a id ha, Finset.sum_range_succ]
  obtain ⟨x, hx⟩ := seen_real id R e
  rw [hx, EReal.add_sub_cancel_right]

theorem ranks_at (R : Fin 32768) (s : Fin 2) : (ranks a (ix2 R s) : EReal) = ∑ k ∈ Finset.range R, seen id k (id R s) := by
  have h : (ranks a (ix2 R s) : EReal) = ∑ e : Fin 32, (hot3 a (ix3 R s e) : EReal) * earlier a (ix2 R e) := by
    unfold ranks
    pointwise
  have t : ∀ e : Fin 32, (hot3 a (ix3 R s e) : EReal) * earlier a (ix2 R e) = if id R s = e then ∑ k ∈ Finset.range R, seen id k e else 0 := fun e => by
    rw [hot3_at a id ha, earlier_at a id ha]
    split
    · exact one_mul _
    · exact zero_mul _
  rw [h, Finset.sum_congr rfl fun e _ => t e, Finset.sum_ite_eq]
  simp

theorem counts_at (e : Fin 32) (l : Fin 128) : (counts a (ix2 e l) : EReal) = ∑ k ∈ Finset.range 32768, seen id k e := by
  have h : (counts a (ix2 e l) : EReal) = ∑ R : Fin 32768, (sent a (ix2 R e) : EReal) := by
    unfold counts
    pointwise
  rw [h, Finset.sum_congr rfl fun R _ => sent_seen a id ha R e, Finset.sum_range]

omit ha in
/-- The eight route rows. -/
def stack (p : IVec S32768x2 32) (w r : FVec Ideal S32768x2 .f32) : FVec Ideal S8x32768 .f32 :=
  transpose S8x32768 [1, 0] (concatenate S32768x8 1 [⟨S32768x2, (sitofp .f32 p : FVec Ideal S32768x2 .f32)⟩, ⟨S32768x2, w⟩, ⟨S32768x2, r⟩, ⟨S32768x2, broadcastInDim S32768x2 ![] bcast_S_S32768x2 (constant (F := Ideal) S_ .f32 0x00000000#32)⟩] concatenates_S32768x2_S32768x2_S32768x2_S32768x2_S32768x8_d1) transposes_S32768x8_S8x32768_1_0

omit ha in
theorem off_col (R : Fin 32768) (s : Fin 2) (k : Fin 8) (q : Fin 2) (hq : q ≠ 1) : ((ix2 R s : S32768x2.Idx) q : ℕ) = ((ix2 R k : S32768x8.Idx) q : ℕ) := by
  match q with
  | ⟨0, _⟩ => rfl
  | ⟨1, _⟩ => exact absurd rfl hq

omit ha in
theorem stack_at (p : IVec S32768x2 32) (w r : FVec Ideal S32768x2 .f32) (k : Fin 8) (R : Fin 32768) :
    (stack p w r (ix2 k R) : EReal)
      = (![FloatOps.sitofp (F := Ideal) .f32 (p (ix2 R (0 : Fin 2))), FloatOps.sitofp (F := Ideal) .f32 (p (ix2 R (1 : Fin 2))),
          w (ix2 R (0 : Fin 2)), w (ix2 R (1 : Fin 2)), r (ix2 R (0 : Fin 2)), r (ix2 R (1 : Fin 2)), 0, 0] : Fin 8 → EReal) k := by
  unfold stack
  obtain ⟨k, hk⟩ := k
  interval_cases k
  all_goals pointwise

end Cert.Reference4Ideal.OutProj

end
-- ==== Proof.OutProj.RefAll.lean ====
/-
  The reference's last two results off its logits: every row's route, and the experts' counts.
-/
module

public import proofs.«01_k».proof.Proof.OutProj.RefRoute

@[expose] public section

set_option maxRecDepth 16384

noncomputable section

namespace Cert.Reference4Ideal.OutProj

open Idealize.ShloMosaic Idealize.ShloMosaic.TcCoe Idealize.SL.Sem Cert.Reference4Ideal Cert.Reference4Ideal.Gen Cert.InProj Cert.OutProj

variable (x : FVec Ideal S32768x4 .f32) (E : FVec Ideal S32768x32 .f32)

/-- The group chosen, its two experts, and the two results. -/
def chosen : IVec S32768x1 32 := (Host.topK S32768x1 1 (FloatOps.cmpfTotal .gt) (prob4 x) sliceFits_S32768x4_S32768x1).2
def chosenP : FVec Ideal S32768x1 .f32 := (Host.topK S32768x1 1 (FloatOps.cmpfTotal .gt) (prob4 x) sliceFits_S32768x4_S32768x1).1
def pairV : FVec Ideal S32768x2 .f32 := (Host.topK S32768x2 1 (FloatOps.cmpfTotal .gt) (own E (chosen x)) sliceFits_S32768x8_S32768x2).1
def pairI : IVec S32768x2 32 := (Host.topK S32768x2 1 (FloatOps.cmpfTotal .gt) (own E (chosen x)) sliceFits_S32768x8_S32768x2).2
def idsOf : IVec S32768x2 32 := ids (chosen x) (pairI x E)
def resR : FVec Ideal S8x32768 .f32 := stack (idsOf x E) (wts (pairV x E) (chosenP x)) (ranks (idsOf x E))
def resC : FVec Ideal S32x128 .f32 := counts (idsOf x E)

/-- A row's logits. -/
def gl (R : Fin 32768) (q : Fin 4) : EReal := x (ix2 R q)
def el (R : Fin 32768) (e : Fin 32) : EReal := E (ix2 R e)

variable (hx : ∀ R, Fin' (gl x R)) (hE : ∀ R, Fin' (el E R)) (R : Fin 32768)

include hx in
theorem prob_top : Top (fun _ => True) (fun q => (prob4 x (ix2 R q) : EReal)) (gOf (gl x R)) := by
  have e : (fun q => (prob4 x (ix2 R q) : EReal)) = fun q => Ideal.div (Ideal.exp (gl x R q - gl x R (gOf (gl x R)))) (∑ q, Ideal.exp (gl x R q - gl x R (gOf (gl x R)))) :=
    funext fun q => prob4_at x R q (gOf (gl x R)) (gOf_top (gl x R))
  rw [e]
  exact soft_top (hx R) _ (gOf_top (gl x R))

include hx in
theorem chosen_at : chosen x (ix2 R (0 : Fin 1)) = BitVec.ofNat 32 (gOf (gl x R)) := (top1_at (prob4 x) R (prob_top x hx R)).2

include hx in
theorem chosenP_at : (chosenP x (ix2 R (0 : Fin 1)) : EReal) = gProb (gl x R) := by
  refine (top1_at (prob4 x) R (prob_top x hx R)).1.trans ((prob4_at x R _ (gOf (gl x R)) (gOf_top (gl x R))).trans ?_)
  refine (congrArg (fun z => Ideal.div z _) (exp_sub_self (hx R (gOf (gl x R))))).trans ?_
  rfl

/-- The first and the second expert, and their places in the group. -/
def one (R : Fin 32768) : Fin 32 := i1Of (gl x R) (el E R)
def two (R : Fin 32768) : Fin 32 := i2Of (gl x R) (el E R)

theorem one_in : inG (gOf (gl x R)) (one x E R) := (i1Of_top (gl x R) (el E R)).1
theorem two_in : inG (gOf (gl x R)) (two x E R) := (i2Of_top (gl x R) (el E R)).1.1

def one8 : Fin 8 := ⟨one x E R - 8 * (gOf (gl x R) : ℕ), by have := one_in x E R; unfold inG at this; omega⟩
def two8 : Fin 8 := ⟨two x E R - 8 * (gOf (gl x R) : ℕ), by have := two_in x E R; unfold inG at this; omega⟩

theorem one_eq : (⟨8 * (gOf (gl x R) : ℕ) + one8 x E R, by omega⟩ : Fin 32) = one x E R :=
  Fin.ext (by have := one_in x E R; unfold inG at this; show 8 * (gOf (gl x R) : ℕ) + (one x E R - 8 * (gOf (gl x R) : ℕ)) = one x E R; omega)
theorem two_eq : (⟨8 * (gOf (gl x R) : ℕ) + two8 x E R, by omega⟩ : Fin 32) = two x E R :=
  Fin.ext (by have := two_in x E R; unfold inG at this; show 8 * (gOf (gl x R) : ℕ) + (two x E R - 8 * (gOf (gl x R) : ℕ)) = two x E R; omega)

/-- A place of the group is one of its experts, in their order. -/
theorem at_in (q : Fin 8) : inG (gOf (gl x R)) (⟨8 * (gOf (gl x R) : ℕ) + q, by omega⟩ : Fin 32) :=
  ⟨show 8 * (gOf (gl x R) : ℕ) ≤ 8 * (gOf (gl x R) : ℕ) + q by omega, show 8 * (gOf (gl x R) : ℕ) + (q : ℕ) < 8 * (gOf (gl x R) : ℕ) + 8 by omega⟩

include hx in
theorem own_row (q : Fin 8) : (own E (chosen x) (ix2 R q) : EReal) = el E R (⟨8 * (gOf (gl x R) : ℕ) + q, by omega⟩ : Fin 32) :=
  own_at E (chosen x) R q (gOf (gl x R)) (chosen_at x hx R)

include hx in
theorem own_one : Top (fun _ => True) (fun q => (own E (chosen x) (ix2 R q) : EReal)) (one8 x E R) := by
  refine ⟨trivial, fun q _ => ?_⟩
  dsimp only
  rw [own_row x E hx R q, own_row x E hx R (one8 x E R), one_eq]
  obtain ⟨h1, h2⟩ := (i1Of_top (gl x R) (el E R)).2 _ (at_in x R q)
  refine ⟨h1, fun hq => h2 ?_⟩
  show (⟨8 * (gOf (gl x R) : ℕ) + q, by omega⟩ : Fin 32) < one x E R
  rw [← one_eq, Fin.lt_def]
  exact Nat.add_lt_add_left hq _

include hx in
theorem own_two : Top (fun r => r ≠ one8 x E R) (fun q => (own E (chosen x) (ix2 R q) : EReal)) (two8 x E R) := by
  have ne : ∀ q : Fin 8, q ≠ one8 x E R → (⟨8 * (gOf (gl x R) : ℕ) + q, by omega⟩ : Fin 32) ≠ one x E R := fun q hq e => hq (Fin.ext (by
    rw [← one_eq] at e
    have := congrArg Fin.val e
    exact Nat.add_left_cancel this))
  refine ⟨fun e => (i2Of_top (gl x R) (el E R)).1.2 ?_, fun q hq => ?_⟩
  · show two x E R = one x E R
    rw [← two_eq, ← one_eq]
    exact Fin.ext (congrArg (fun q : Fin 8 => 8 * (gOf (gl x R) : ℕ) + (q : ℕ)) e)
  dsimp only
  rw [own_row x E hx R q, own_row x E hx R (two8 x E R), two_eq]
  obtain ⟨h1, h2⟩ := (i2Of_top (gl x R) (el E R)).2 _ ⟨at_in x R q, ne q hq⟩
  refine ⟨h1, fun hq => h2 ?_⟩
  show (⟨8 * (gOf (gl x R) : ℕ) + q, by omega⟩ : Fin 32) < two x E R
  rw [← two_eq, Fin.lt_def]
  exact Nat.add_lt_add_left hq _

/-- The two experts by place. -/
def idAt (R : Fin 32768) : Fin 2 → Fin 32 := ![one x E R, two x E R]

include hx in
theorem idsOf_at (R : Fin 32768) (s : Fin 2) : idsOf x E (ix2 R s) = BitVec.ofNat 32 (idAt x E R s) := by
  refine (ids_at (chosen x) (pairI x E) R s (gOf (gl x R)) _ (chosen_at x hx R) (top2_at (own E (chosen x)) R (own_one x E hx R) (own_two x E hx R) s).2).trans ?_
  match s with
  | ⟨0, _⟩ => exact congrArg (fun i : Fin 32 => BitVec.ofNat 32 i) (one_eq x E R)
  | ⟨1, _⟩ => exact congrArg (fun i : Fin 32 => BitVec.ofNat 32 i) (two_eq x E R)

include hx in
theorem pairV_at (s : Fin 2) : (pairV x E (ix2 R s) : EReal) = el E R (idAt x E R s) := by
  refine (top2_at (own E (chosen x)) R (own_one x E hx R) (own_two x E hx R) s).1.trans ((own_row x E hx R _).trans ?_)
  match s with
  | ⟨0, _⟩ => exact congrArg (el E R) (one_eq x E R)
  | ⟨1, _⟩ => exact congrArg (el E R) (two_eq x E R)

include hx hE in
theorem wts_row (s : Fin 2) : (wts (pairV x E) (chosenP x) (ix2 R s) : EReal)
    = (![w1Of (gl x R) (el E R), w2Of (gl x R) (el E R)] : Fin 2 → EReal) s := by
  have v0 : (pairV x E (ix2 R (0 : Fin 2)) : EReal) = el E R (one x E R) := pairV_at x E hx R 0
  have v1 : (pairV x E (ix2 R (1 : Fin 2)) : EReal) = el E R (two x E R) := pairV_at x E hx R 1
  have le : el E R (two x E R) ≤ el E R (one x E R) := ((i1Of_top (gl x R) (el E R)).2 _ (two_in x E R)).1
  have z : Ideal.exp (el E R (one x E R) - el E R (one x E R)) = 1 := exp_sub_self (hE R _)
  rw [wts_at _ _ R s (by rw [v0, v1]; exact le), chosenP_at x hx, v0, v1, z]
  match s with
  | ⟨0, _⟩ =>
    rw [show (pairV x E (ix2 R (⟨0, by omega⟩ : Fin 2)) : EReal) = _ from v0, z]
    exact w1_eq (gl x R) (hE R)
  | ⟨1, _⟩ =>
    rw [show (pairV x E (ix2 R (⟨1, by omega⟩ : Fin 2)) : EReal) = _ from v1]
    exact w2_eq (gl x R) (hE R)

theorem seen_hot (k : ℕ) (e : Fin 32) : seen (idAt x E) k e = hotAt (gl x) (el E) k e := by
  unfold seen hotAt
  split
  · exact hot_two _ _ e
  · rfl

include hx hE in
/-- The route rows. -/
theorem resR_at (k : Fin 8) : (resR x E (ix2 k R) : EReal) = routeAt (gl x) (el E) R k := by
  have r : ∀ s : Fin 2, (ranks (idsOf x E) (ix2 R s) : EReal) = pre (gl x) (el E) R (idAt x E R s) := fun s =>
    (ranks_at (idsOf x E) (idAt x E) (idsOf_at x E hx) R s).trans (Finset.sum_congr rfl fun j _ => seen_hot x E j _)
  refine (stack_at _ _ _ k R).trans ?_
  rw [idsOf_at x E hx, idsOf_at x E hx, wts_row x E hx hE, wts_row x E hx hE, r, r]
  rfl

include hx in
/-- The counts. -/
theorem resC_at (e : Fin 32) (l : Fin 128) : (resC x E (ix2 e l) : EReal) = pre (gl x) (el E) 32768 e :=
  (counts_at (idsOf x E) (idAt x E) (idsOf_at x E hx) e l).trans (Finset.sum_congr rfl fun j _ => seen_hot x E j _)

end Cert.Reference4Ideal.OutProj

end
-- ==== Proof.OutProj.HostR.lean ====
/-
  The out-projection call's host arrays of the router at an index: the table of router weights and the triangle of ones.
-/
module

public import proofs.«01_k».proof.Proof.OutProj.Host
public import Idealize.ShloMosaic.Lib.Routing.OpsPair
public import Idealize.ShloMosaic.Lib.Routing.OpsSet

@[expose] public section

set_option maxRecDepth 16384

noncomputable section

namespace Cert.Kernel4Ideal.OutProj

open Idealize.ShloMosaic Idealize.ShloMosaic.TcCoe Idealize.ShloMosaic.Routing Idealize.SL.Sem Cert.Kernel4Ideal Cert.Kernel4Ideal.Gen Cert.OutProj

variable (m : (ℓ : Loc nD τ sig) → Buf (Elt Ideal) ℓ)

theorem lands_e (ind : IVec S1 32) (hi : ∀ a, ind a = 0#32) (p : Fin 32) (q : Fin 1024) (r : Fin 40) (d : Fin 1024) :
    scatter_S40x1024_S1_S32x1024_01_n_0_0.resultIdx? (ix2 p q) ind = some (ix2 r d) ↔ (p : ℕ) = r ∧ (q : ℕ) = d := by
  have hi' : ind = fun _ => 0#32 := funext hi
  have h0 : scatter_S40x1024_S1_S32x1024_01_n_0_0.start (ix2 p q) ind 0 = 0 := by
    unfold ScatterDims.start; subst hi'; split <;> rfl
  have h1 : scatter_S40x1024_S1_S32x1024_01_n_0_0.start (ix2 p q) ind 1 = 0 := by
    unfold ScatterDims.start; subst hi'; split <;> rfl
  have w0 : scatter_S40x1024_S1_S32x1024_01_n_0_0.window (ix2 p q) 0 = p := rfl
  have w1 : scatter_S40x1024_S1_S32x1024_01_n_0_0.window (ix2 p q) 1 = q := rfl
  refine (resultIdx?_ix2 _ _ _ r d).trans ?_
  rw [h0, h1, w0, w1]
  omega

theorem lands_g (ind : IVec S1 32) (hi : ∀ a, ind a = 32#32) (p : Fin 4) (q : Fin 1024) (r : Fin 40) (d : Fin 1024) :
    scatter_S40x1024_S1_S4x1024_01_n_0_0.resultIdx? (ix2 p q) ind = some (ix2 r d) ↔ 32 + (p : ℕ) = r ∧ (q : ℕ) = d := by
  have hi' : ind = fun _ => 32#32 := funext hi
  have h0 : scatter_S40x1024_S1_S4x1024_01_n_0_0.start (ix2 p q) ind 0 = 32 := by
    unfold ScatterDims.start; subst hi'; rfl
  have h1 : scatter_S40x1024_S1_S4x1024_01_n_0_0.start (ix2 p q) ind 1 = 0 := by
    unfold ScatterDims.start; subst hi'; rfl
  have w0 : scatter_S40x1024_S1_S4x1024_01_n_0_0.window (ix2 p q) 0 = p := rfl
  have w1 : scatter_S40x1024_S1_S4x1024_01_n_0_0.window (ix2 p q) 1 = q := rfl
  refine (resultIdx?_ix2 _ _ _ r d).trans ?_
  rw [h0, h1, w0, w1]
  omega

theorem scatter_e (x : FVec Ideal S40x1024 .f32) (ind : IVec S1 32) (hi : ∀ a, ind a = 0#32) (u : FVec Ideal S32x1024 .f32) (r : Fin 40) (d : Fin 1024) (h : (r : ℕ) < 32) :
    Host.scatter scatter_S40x1024_S1_S32x1024_01_n_0_0 (fun _ b => b) x ind u (ix2 r d) = u (ix2 (⟨r, h⟩ : Fin 32) d) := by
  refine scatter_set_hit _ _ _ _ _ _ (fun k hk => ?_) (ix2 (⟨r, h⟩ : Fin 32) d) ((lands_e ind hi _ _ r d).2 ⟨rfl, rfl⟩)
  idx_vars k
  obtain ⟨e1, e2⟩ := (lands_e ind hi k0 k1 r d).1 hk
  obtain rfl : k0 = (⟨r, h⟩ : Fin 32) := Fin.ext e1
  obtain rfl : k1 = d := Fin.ext e2
  rfl

theorem scatter_g_hit (x : FVec Ideal S40x1024 .f32) (ind : IVec S1 32) (hi : ∀ a, ind a = 32#32) (u : FVec Ideal S4x1024 .f32) (q : Fin 4) (d : Fin 1024) :
    Host.scatter scatter_S40x1024_S1_S4x1024_01_n_0_0 (fun _ b => b) x ind u (ix2 (⟨32 + q, by omega⟩ : Fin 40) d) = u (ix2 q d) := by
  refine scatter_set_hit _ _ _ _ _ _ (fun k hk => ?_) (ix2 q d) ((lands_g ind hi _ _ _ d).2 ⟨rfl, rfl⟩)
  idx_vars k
  obtain ⟨e1, e2⟩ := (lands_g ind hi k0 k1 _ d).1 hk
  obtain rfl : k0 = q := Fin.ext (by simp at e1; omega)
  obtain rfl : k1 = d := Fin.ext e2
  rfl

theorem scatter_g_miss (x : FVec Ideal S40x1024 .f32) (ind : IVec S1 32) (hi : ∀ a, ind a = 32#32) (u : FVec Ideal S4x1024 .f32) (r : Fin 40) (d : Fin 1024) (h : (r : ℕ) < 32) :
    Host.scatter scatter_S40x1024_S1_S4x1024_01_n_0_0 (fun _ b => b) x ind u (ix2 r d) = x (ix2 r d) := by
  refine scatter_set_miss _ _ _ _ _ fun k hk => ?_
  idx_vars k
  obtain ⟨e1, e2⟩ := (lands_g ind hi k0 k1 r d).1 hk
  omega

theorem trunc_apply (x : FVec Ideal S40x1024 .f32) (h) (i : S40x1024.Idx) : (truncf .bf16 x h i : EReal) = x i := rfl

theorem above (k j : Fin 512) :
    Scalar.select (IntOp.cmpi .sge (IntOp.addi (BitVec.ofNat 32 k) 0#32) (BitVec.ofNat 32 j)) (0 : EReal) 1 = if (k : ℕ) < j then 1 else 0 := by
  have : IntOp.addi (BitVec.ofNat 32 k) 0#32 = BitVec.ofNat 32 k := by show BitVec.ofNat 32 k + 0#32 = _; simp
  rw [this, WordCmp.cmpi_sge_ofNat (by omega) (by omega)]
  by_cases h : (k : ℕ) < j
  · simp [Scalar.select, h, Nat.not_le.mpr h]
  · simp [Scalar.select, h, Nat.not_lt.mp h]

theorem V_wg (c : Dev nD) (q : Fin 4) (d : Fin 1024) :
    (V m c main_v15 (ix2 (⟨32 + q, by omega⟩ : Fin 40) d) : EReal) = m ((c : Thread nD τ).loc main_arg5) (ix3 (0 : Fin 1) d q) := by
  unfold V
  after_reads_simp
  refine (trunc_apply _ _ _).trans ((scatter_g_hit _ _ (fun a => ?_) _ q d).trans ?_)
  · idx_vars a
    pointwise
  · pointwise

theorem V_we (c : Dev nD) (e : Fin 32) (d : Fin 1024) :
    (V m c main_v15 (ix2 (⟨e, by omega⟩ : Fin 40) d) : EReal) = m ((c : Thread nD τ).loc main_arg6) (ix3 (0 : Fin 1) d e) := by
  unfold V
  after_reads_simp
  refine (trunc_apply _ _ _).trans ((scatter_g_miss _ _ (fun a => ?_) _ (⟨e, by omega⟩ : Fin 40) d e.isLt).trans
    ((scatter_e _ _ (fun a => ?_) _ (⟨e, by omega⟩ : Fin 40) d e.isLt).trans ?_))
  · idx_vars a
    pointwise
  · idx_vars a
    pointwise
  · pointwise

theorem V_tri (c : Dev nD) (k j : Fin 512) :
    (V m c main_v17 (ix2 k j) : EReal) = (if (k : ℕ) < j then 1 else 0 : EReal) := by
  unfold V
  after_reads_at
  exact above k j

theorem move_r : ∀ t : Fin grid0.N, cc0_transform_10 (grid0.coords t) = ![0, t.val] := by decide +kernel

theorem idx_wrt (t : Fin cfg0.N) : (cfg0.win 6).index t = ![0, 0] := rfl
theorem idx_tri (t : Fin cfg0.N) : (cfg0.win 7).index t = ![0, 0] := rfl
theorem idx_route (t : Fin cfg0.N) : (cfg0.win 10).index t = ![0, t.val] := move_r t
theorem idx_cnt (t : Fin cfg0.N) : (cfg0.win 11).index t = ![0, 0] := rfl

theorem read_wrt (t : Fin cfg0.N) (A : Vec Ideal S40x1024 .bf16) (e : Fin 40) (d : Fin 1024) :
    (((cfg0.win 6).blk t).view.read (Elt Ideal) A (ix2 e d) : EReal) = A (ix2 e d) := by
  blk_ext [idx_wrt t]

theorem read_tri (t : Fin cfg0.N) (A : Vec Ideal S512x512 .bf16) (k j : Fin 512) :
    (((cfg0.win 7).blk t).view.read (Elt Ideal) A (ix2 k j) : EReal) = A (ix2 k j) := by
  blk_ext [idx_tri t]

theorem read_route (t : Fin cfg0.N) (A : Vec Ideal S8x32768 .f32) (k : Fin 8) (j : Fin 512) :
    (((cfg0.win 10).blk t).view.read (Elt Ideal) A (ix2 k j) : EReal) = A (ix2 k (⟨t.val * 512 + j, by have : t.val < 64 := t.isLt; omega⟩ : Fin 32768)) := by
  blk_ext [idx_route t]

theorem read_cnt (t : Fin cfg0.N) (A : Vec Ideal S32x128 .f32) (e : Fin 32) (l : Fin 128) :
    (((cfg0.win 11).blk t).view.read (Elt Ideal) A (ix2 e l) : EReal) = A (ix2 e l) := by
  blk_ext [idx_cnt t]

end Cert.Kernel4Ideal.OutProj

end
-- ==== Proof.OutProj.Pick.lean ====
/-
  The kernel's router at a row of a tile: the group with the first greatest logit, and the two first greatest experts
  of that group.
-/
module

public import proofs.«01_k».proof.Proof.OutProj.Body
public import proofs.«01_k».proof.Proof.OutProj.Top
public import Idealize.ShloMosaic.Lib.Pipeline.ValueKit.Point

@[expose] public section

set_option maxRecDepth 16384

noncomputable section

namespace Cert.Kernel4Ideal.OutProj

open Idealize.ShloMosaic Idealize.ShloMosaic.TcCoe Idealize.SL.Sem Cert.Kernel4Ideal Cert.Kernel4Ideal.Gen Cert.OutProj

theorem ninf : Ideal.ofBits .f32 0xFF800000#32 = ⊥ := by simp [Ideal.ofBits, Ideal.ieee]

theorem max8 (x : FVec Ideal S8x512 .f32) (j : Fin 512) :
    (shapeCast S1x512 (multiReduction .maximumf [0] S512 x 0xFF800000#32 reduces_S8x512_S512 (.inl rfl) rfl) shapeCasts_S512_S1x512 (ix2 (0 : Fin 1) j) : EReal)
      = Finset.univ.fold max ⊥ fun r : Fin 8 => (x (ix2 r j) : EReal) := by
  pointwise
  rw [ninf]

theorem max32 (x : FVec Ideal S32x512 .f32) (j : Fin 512) :
    (shapeCast S1x512 (multiReduction .maximumf [0] S512 x 0xFF800000#32 reduces_S32x512_S512 (.inl rfl) rfl) shapeCasts_S512_S1x512 (ix2 (0 : Fin 1) j) : EReal)
      = Finset.univ.fold max ⊥ fun r : Fin 32 => (x (ix2 r j) : EReal) := by
  pointwise
  rw [ninf]

theorem min8 (x : IVec S8x512 32) (j : Fin 512) :
    shapeCast S1x512 (multiReductionI .minsi [0] S512 x 2147483647#32 reduces_S8x512_S512 rfl) shapeCasts_S512_S1x512 (ix2 (0 : Fin 1) j)
      = Finset.univ.fold IntOp.minsi 2147483647#32 fun r : Fin 8 => x (ix2 r j) := by
  pointwise

theorem min32 (x : IVec S32x512 32) (j : Fin 512) :
    shapeCast S1x512 (multiReductionI .minsi [0] S512 x 2147483647#32 reduces_S32x512_S512 rfl) shapeCasts_S512_S1x512 (ix2 (0 : Fin 1) j)
      = Finset.univ.fold IntOp.minsi 2147483647#32 fun r : Fin 32 => x (ix2 r j) := by
  pointwise

theorem logit (h : FVec Ideal S512x1024 .f32) (w : Vec Ideal S40x1024 .bf16) (e : Fin 40) (j : Fin 512) :
    (k0_pay14 h w (ix2 e j) : EReal) = ∑ d : Fin 1024, (w (ix2 e d) : EReal) * h (ix2 j d) := by
  unfold k0_pay14
  pointwise

theorem grp_at (h : FVec Ideal S512x1024 .f32) (w : Vec Ideal S40x1024 .bf16) (r : Fin 8) (j : Fin 512) :
    (k0_pay17 h w (ix2 r j) : EReal) = if (r : ℕ) < 4 then (k0_pay14 h w (ix2 (⟨32 + r, by omega⟩ : Fin 40) j) : EReal) else ⊥ := by
  unfold k0_pay17 k0_pay16
  pointwise
  rw [ninf, WordCmp.cmpi_slt_ofNat (by omega) (by omega)]
  by_cases hr : (r : ℕ) < 4 <;> simp [hr, Scalar.select]

theorem exp_at (h : FVec Ideal S512x1024 .f32) (w : Vec Ideal S40x1024 .bf16) (r : Fin 32) (j : Fin 512) :
    (k0_pay15 h w (ix2 r j) : EReal) = k0_pay14 h w (ix2 (⟨r, by omega⟩ : Fin 40) j) := by
  unfold k0_pay15
  pointwise

theorem sel_dec {α : Type} (p : Prop) [Decidable p] (x y : α) : Scalar.select (BitVec.ofBool (decide p)) x y = if p then x else y := by
  by_cases h : p <;> simp [h, Scalar.select]

theorem and_dec (p q : Prop) [Decidable p] [Decidable q] :
    IntOp.andi (BitVec.ofBool (decide p)) (BitVec.ofBool (decide q)) = BitVec.ofBool (decide (p ∧ q)) := by
  rw [WordCmp.andi_ofBool, ← Bool.decide_and]

/-- The first position of the maximum among the `p`, as the kernel looks for it. -/
theorem first_at {n : ℕ} (hn : n ≤ 128) {p : Fin n → Prop} [DecidablePred p] {f : Fin n → EReal} {i : Fin n} (hi : Top p f i)
    (c : Fin n → BitVec 1) (x y : Fin n → EReal) (dec : ∀ r, Decidable (x r = y r)) (hc : ∀ r, c r = BitVec.ofBool (decide (p r))) (hx : ∀ r, p r → x r = f r)
    (hy : ∀ r, y r = f i) :
    (Finset.univ.fold IntOp.minsi 2147483647#32 fun r => Scalar.select (IntOp.andi (c r) (BitVec.ofBool (@decide (x r = y r) (dec r)))) (BitVec.ofNat 32 r) 128#32)
      = BitVec.ofNat 32 i := by
  refine fold_first hn hi _ (fun r hr he => ?_) fun r hr => ?_
  · rw [hc, and_dec, sel_dec]
    exact if_pos ⟨hr, (hx r hr).trans (he.trans (hy r).symm)⟩
  · rw [hc, and_dec, sel_dec]
    exact if_neg fun h => hr ⟨h.1, (hx r h.1).symm.trans (h.2.trans (hy r))⟩

variable (h : FVec Ideal S512x1024 .f32) (w : Vec Ideal S40x1024 .bf16) (j : Fin 512)

/-- A row's logit in the router's table, a group's, an expert's. -/
def tbl (e : Fin 40) : EReal := k0_pay14 h w (ix2 e j)
def grpL (r : Fin 8) : EReal := tbl h w j (⟨32 + r, by omega⟩ : Fin 40)
def expL (r : Fin 32) : EReal := tbl h w j (⟨r, by omega⟩ : Fin 40)

/-- The rows that are groups, and the experts of group `g`. -/
def isG (r : Fin 8) : Prop := (r : ℕ) < 4
def isIn (g : Fin 8) (r : Fin 32) : Prop := 8 * (g : ℕ) ≤ r ∧ (r : ℕ) < 8 * g + 8
instance (r : Fin 8) : Decidable (isG r) := inferInstanceAs (Decidable ((r : ℕ) < 4))
instance (g : Fin 8) (r : Fin 32) : Decidable (isIn g r) := inferInstanceAs (Decidable (8 * (g : ℕ) ≤ r ∧ (r : ℕ) < 8 * g + 8))

variable {g : Fin 8} (hg : Top isG (grpL h w j) g)
include hg

theorem gmax_at : (k0_pay18 h w (ix2 (0 : Fin 1) j) : EReal) = grpL h w j g :=
  (max8 _ j).trans (fold_max hg _ (fun r hr => (grp_at h w r j).trans (if_pos hr)) fun r hr => (grp_at h w r j).trans (if_neg hr))

/-- The first group's number, as the kernel computes it. -/
def gidT (h : FVec Ideal S512x1024 .f32) (w : Vec Ideal S40x1024 .bf16) : IVec S1x512 32 :=
  shapeCast S1x512 (multiReductionI .minsi [0] S512 (select (andi k0_pay16 (cmpf .oeq (k0_pay17 h w) (broadcastTo S8x512 (k0_pay18 h w) broadcasts_S1x512_S8x512))) it8 (broadcast S8x512 128#32)) 2147483647#32 reduces_S8x512_S512 rfl) shapeCasts_S512_S1x512

theorem gid_at : gidT h w (ix2 (0 : Fin 1) j) = BitVec.ofNat 32 g := by
  have k16 : ∀ x : Fin 8, k0_pay16 (ix2 x j) = BitVec.ofBool (decide (isG x)) := fun x => by
    unfold k0_pay16
    pointwise
    exact WordCmp.cmpi_slt_ofNat (by omega) (by omega)
  unfold gidT
  rw [min8]
  pointwise
  exact first_at (by omega) hg (fun x => k0_pay16 (ix2 x j)) (fun x => k0_pay17 h w (ix2 x j)) (fun _ => k0_pay18 h w (ix2 (0 : Fin 1) j)) _ k16
    (fun r hr => (grp_at h w r j).trans (if_pos hr)) fun _ => gmax_at h w j hg

omit hg in
theorem in_word (v : IVec S1x512 32) (r : Fin 32) :
    andi (cmpi .sge it32 (broadcastTo S32x512 (muli v (broadcast S1x512 8#32)) broadcasts_S1x512_S32x512))
      (cmpi .slt it32 (broadcastTo S32x512 (addi (muli v (broadcast S1x512 8#32)) (broadcast S1x512 8#32)) broadcasts_S1x512_S32x512)) (ix2 r j)
      = IntOp.andi (IntOp.cmpi .sge (BitVec.ofNat 32 r) (IntOp.muli (v (ix2 (0 : Fin 1) j)) 8#32))
          (IntOp.cmpi .slt (BitVec.ofNat 32 r) (IntOp.addi (IntOp.muli (v (ix2 (0 : Fin 1) j)) 8#32) 8#32)) := by
  pointwise

theorem in_at (r : Fin 32) : k0_pay22 it8 k0_pay16 (k0_pay17 h w) (k0_pay18 h w) (ix2 r j) = BitVec.ofBool (decide (isIn g r)) := by
  refine (in_word j (gidT h w) r).trans ?_
  rw [gid_at h w j hg]
  have e1 : IntOp.muli (BitVec.ofNat 32 g) 8#32 = BitVec.ofNat 32 (g * 8) := WordCmp.muli_ofNat ..
  have e2 : IntOp.addi (BitVec.ofNat 32 (g * 8)) 8#32 = BitVec.ofNat 32 (g * 8 + 8) := WordCmp.addi_ofNat ..
  rw [e1, e2, WordCmp.cmpi_sge_ofNat (by omega) (by omega), WordCmp.cmpi_slt_ofNat (by omega) (by omega), and_dec]
  exact congrArg BitVec.ofBool (decide_eq_decide.mpr (by unfold isIn; omega))

theorem el_at (r : Fin 32) : (k0_pay23 (k0_pay15 h w) it8 k0_pay16 (k0_pay17 h w) (k0_pay18 h w) (ix2 r j) : EReal)
    = if isIn g r then expL h w j r else ⊥ := by
  unfold k0_pay23
  pointwise
  rw [in_at h w j hg, sel_dec, exp_at, ninf]
  rfl

variable {i : Fin 32} (hi : Top (isIn g) (expL h w j) i)
include hi

theorem e1_at : (k0_pay24 (k0_pay15 h w) it8 k0_pay16 (k0_pay17 h w) (k0_pay18 h w) (ix2 (0 : Fin 1) j) : EReal) = expL h w j i :=
  (max32 _ j).trans (fold_max hi _ (fun r hr => (el_at h w j hg r).trans (if_pos hr)) fun r hr => (el_at h w j hg r).trans (if_neg hr))

theorem id1_at : k0_pay25 (k0_pay15 h w) it8 k0_pay16 (k0_pay17 h w) (k0_pay18 h w) (ix2 (0 : Fin 1) j) = BitVec.ofNat 32 i := by
  unfold k0_pay25
  pointwise
  exact first_at (by omega) hi (fun r => k0_pay22 it8 k0_pay16 (k0_pay17 h w) (k0_pay18 h w) (ix2 r j))
    (fun r => k0_pay23 (k0_pay15 h w) it8 k0_pay16 (k0_pay17 h w) (k0_pay18 h w) (ix2 r j))
    (fun _ => k0_pay24 (k0_pay15 h w) it8 k0_pay16 (k0_pay17 h w) (k0_pay18 h w) (ix2 (0 : Fin 1) j)) _ (in_at h w j hg)
    (fun r hr => (el_at h w j hg r).trans (if_pos hr)) fun _ => e1_at h w j hg hi

theorem el2_at (r : Fin 32) : (k0_pay26 (k0_pay15 h w) it8 k0_pay16 (k0_pay17 h w) (k0_pay18 h w) (ix2 r j) : EReal)
    = if isIn g r ∧ r ≠ i then expL h w j r else ⊥ := by
  unfold k0_pay26
  pointwise
  show Scalar.select (IntOp.cmpi .eq (BitVec.ofNat 32 r) (k0_pay25 (k0_pay15 h w) it8 k0_pay16 (k0_pay17 h w) (k0_pay18 h w) (ix2 (0 : Fin 1) j))) (Ideal.ofBits .f32 0xFF800000#32 : EReal) (k0_pay23 (k0_pay15 h w) it8 k0_pay16 (k0_pay17 h w) (k0_pay18 h w) (ix2 r j)) = _
  rw [id1_at h w j hg hi, el_at h w j hg, ninf, WordCmp.cmpi_eq_ofNat (by omega) (by omega), sel_dec]
  by_cases e : r = i
  · subst e; simp
  · have : (r : ℕ) ≠ i := Fin.val_ne_of_ne e
    simp [e, this]

variable {i2 : Fin 32} (hi2 : Top (fun r => isIn g r ∧ r ≠ i) (expL h w j) i2)
include hi2

theorem e2_at : (k0_pay27 (k0_pay15 h w) it8 k0_pay16 (k0_pay17 h w) (k0_pay18 h w) (ix2 (0 : Fin 1) j) : EReal) = expL h w j i2 :=
  (max32 _ j).trans (fold_max hi2 _ (fun r hr => (el2_at h w j hg hi r).trans (if_pos hr)) fun r hr => (el2_at h w j hg hi r).trans (if_neg hr))

theorem id2_at : k0_pay29 (cand h w) (ix2 (0 : Fin 1) j) = BitVec.ofNat 32 i2 := by
  unfold k0_pay29
  pointwise
  unfold cand k0_pay28
  pointwise
  have ne : ∀ r : Fin 32, IntOp.cmpi .ne (BitVec.ofNat 32 r) (BitVec.ofNat 32 i) = BitVec.ofBool (decide (r ≠ i)) := fun r => by
    rw [WordCmp.cmpi_ne_ofNat (by omega) (by omega)]
    exact congrArg BitVec.ofBool (decide_eq_decide.mpr (by rw [ne_eq, ne_eq, Fin.ext_iff]))
  exact first_at (by omega) hi2 (fun r => IntOp.andi (k0_pay22 it8 k0_pay16 (k0_pay17 h w) (k0_pay18 h w) (ix2 r j))
      (IntOp.cmpi .ne (BitVec.ofNat 32 r) (k0_pay25 (k0_pay15 h w) it8 k0_pay16 (k0_pay17 h w) (k0_pay18 h w) (ix2 (0 : Fin 1) j))))
    (fun r => k0_pay26 (k0_pay15 h w) it8 k0_pay16 (k0_pay17 h w) (k0_pay18 h w) (ix2 r j))
    (fun _ => k0_pay27 (k0_pay15 h w) it8 k0_pay16 (k0_pay17 h w) (k0_pay18 h w) (ix2 (0 : Fin 1) j)) _
    (fun r => by rw [in_at h w j hg, id1_at h w j hg hi, ne, and_dec])
    (fun r hr => (el2_at h w j hg hi r).trans (if_pos hr)) fun _ => e2_at h w j hg hi hi2

end Cert.Kernel4Ideal.OutProj

end
-- ==== Proof.OutProj.Route.lean ====
/-
  A tile's route rows and counts, at a column: the choice of the row, its weights, and the ranks off the counts before
  the tile and the ones before the column in it.
-/
module

public import proofs.«01_k».proof.Proof.OutProj.Pick
public import proofs.«01_k».proof.Proof.OutProj.Choice

@[expose] public section

set_option maxRecDepth 16384

noncomputable section

namespace Cert.Kernel4Ideal.OutProj

open Idealize.ShloMosaic Idealize.ShloMosaic.TcCoe Idealize.SL.Sem Cert.Kernel4Ideal Cert.Kernel4Ideal.Gen Cert.OutProj

variable (h : FVec Ideal S512x1024 .f32) (w : Vec Ideal S40x1024 .bf16)

/-- A row's group logits and expert logits. -/
def G4 (j : Fin 512) (q : Fin 4) : EReal := tbl h w j (⟨32 + q, by omega⟩ : Fin 40)
def E32 (j : Fin 512) (r : Fin 32) : EReal := tbl h w j (⟨r, by omega⟩ : Fin 40)

/-- The row's choice. -/
def g8 (j : Fin 512) : Fin 8 := ⟨gOf (G4 h w j), by omega⟩
def i1 (j : Fin 512) : Fin 32 := i1Of (G4 h w j) (E32 h w j)
def i2 (j : Fin 512) : Fin 32 := i2Of (G4 h w j) (E32 h w j)

theorem hg (j : Fin 512) : Top isG (grpL h w j) (g8 h w j) :=
  ⟨show (gOf (G4 h w j) : ℕ) < 4 by omega, fun r hr => (gOf_top (G4 h w j)).2 (⟨r, hr⟩ : Fin 4) trivial⟩
theorem hi (j : Fin 512) : Top (isIn (g8 h w j)) (expL h w j) (i1 h w j) := i1Of_top (G4 h w j) (E32 h w j)
theorem hi2 (j : Fin 512) : Top (fun r => isIn (g8 h w j) r ∧ r ≠ i1 h w j) (expL h w j) (i2 h w j) := i2Of_top (G4 h w j) (E32 h w j)

theorem top_at (j : Fin 512) : (top h w (ix2 (0 : Fin 1) j) : EReal) = gProb (G4 h w j) := by
  have e : (top h w (ix2 (0 : Fin 1) j) : EReal)
      = Ideal.div 1 (∑ x : Fin 8, Scalar.select (k0_pay16 (ix2 x j)) (Ideal.exp ((k0_pay17 h w (ix2 x j) : EReal) - k0_pay18 h w (ix2 (0 : Fin 1) j))) 0) := by
    unfold top k0_pay21 k0_pay19 k0_pay20
    pointwise
  rw [e]
  unfold gProb
  refine congrArg (Ideal.div 1) ?_
  have k16 : ∀ x : Fin 8, k0_pay16 (ix2 x j) = BitVec.ofBool (decide (isG x)) := fun x => by
    unfold k0_pay16
    pointwise
    exact WordCmp.cmpi_slt_ofNat (by omega) (by omega)
  have t : ∀ x : Fin 8, Scalar.select (k0_pay16 (ix2 x j)) (Ideal.exp ((k0_pay17 h w (ix2 x j) : EReal) - k0_pay18 h w (ix2 (0 : Fin 1) j))) (0 : EReal)
      = if isG x then Ideal.exp (grpL h w j x - grpL h w j (g8 h w j)) else 0 := fun x => by
    rw [k16, sel_dec]
    by_cases hx : isG x
    · rw [if_pos hx, if_pos hx, (grp_at h w x j).trans (if_pos hx), gmax_at h w j (hg h w j)]; rfl
    · rw [if_neg hx, if_neg hx]
  rw [Finset.sum_congr rfl fun x _ => t x, Fin.sum_univ_eight, Fin.sum_univ_four]
  have y : ∀ x : Fin 8, isG x → (if isG x then Ideal.exp (grpL h w j x - grpL h w j (g8 h w j)) else (0 : EReal)) = Ideal.exp (grpL h w j x - grpL h w j (g8 h w j)) := fun _ hx => if_pos hx
  have n : ∀ x : Fin 8, ¬ isG x → (if isG x then Ideal.exp (grpL h w j x - grpL h w j (g8 h w j)) else (0 : EReal)) = 0 := fun _ hx => if_neg hx
  rw [y 0 (by decide), y 1 (by decide), y 2 (by decide), y 3 (by decide), n 4 (by decide), n 5 (by decide), n 6 (by decide), n 7 (by decide), add_zero, add_zero, add_zero, add_zero]
  rfl

theorem w1_at (j : Fin 512) : (k0_pay31 (top h w) (best h w) (next h w) (ix2 (0 : Fin 1) j) : EReal) = w1Of (G4 h w j) (E32 h w j) := by
  have e : (k0_pay31 (top h w) (best h w) (next h w) (ix2 (0 : Fin 1) j) : EReal)
      = Ideal.div (top h w (ix2 (0 : Fin 1) j)) (1 + Ideal.exp ((next h w (ix2 (0 : Fin 1) j) : EReal) - best h w (ix2 (0 : Fin 1) j))) := by
    unfold k0_pay31 k0_pay30
    pointwise
  rw [e, top_at]
  unfold next best
  rw [e1_at h w j (hg h w j) (hi h w j), e2_at h w j (hg h w j) (hi h w j) (hi2 h w j)]
  rfl

theorem w2_at (j : Fin 512) : (k0_pay32 (top h w) (best h w) (next h w) (ix2 (0 : Fin 1) j) : EReal) = w2Of (G4 h w j) (E32 h w j) := by
  have e : (k0_pay32 (top h w) (best h w) (next h w) (ix2 (0 : Fin 1) j) : EReal)
      = Ideal.div ((top h w (ix2 (0 : Fin 1) j) : EReal) * Ideal.exp ((next h w (ix2 (0 : Fin 1) j) : EReal) - best h w (ix2 (0 : Fin 1) j)))
          (1 + Ideal.exp ((next h w (ix2 (0 : Fin 1) j) : EReal) - best h w (ix2 (0 : Fin 1) j))) := by
    unfold k0_pay32 k0_pay30
    pointwise
  rw [e, top_at]
  unfold next best
  rw [e1_at h w j (hg h w j) (hi h w j), e2_at h w j (hg h w j) (hi h w j) (hi2 h w j)]
  rfl

/-- Whether an expert is chosen by the tile's row. -/
def hot (j : Fin 512) (e : Fin 32) : EReal := hotOf (G4 h w j) (E32 h w j) e

theorem or_dec (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem id1' (j : Fin 512) : id1 h w (ix2 (0 : Fin 1) j) = BitVec.ofNat 32 (i1 h w j) := id1_at h w j (hg h w j) (hi h w j)
theorem id2' (j : Fin 512) : k0_pay29 (cand h w) (ix2 (0 : Fin 1) j) = BitVec.ofNat 32 (i2 h w j) := id2_at h w j (hg h w j) (hi h w j) (hi2 h w j)

theorem hot_at (e : Fin 32) (j : Fin 512) : (k0_pay35 (F := Ideal) it32 (id1 h w) (cand h w) (ix2 e j) : EReal) = hot h w j e := by
  have s : (k0_pay35 (F := Ideal) it32 (id1 h w) (cand h w) (ix2 e j) : EReal)
      = Scalar.select (IntOp.ori (IntOp.cmpi .eq (BitVec.ofNat 32 e) (id1 h w (ix2 (0 : Fin 1) j))) (IntOp.cmpi .eq (BitVec.ofNat 32 e) (k0_pay29 (cand h w) (ix2 (0 : Fin 1) j)))) 1 0 := by
    unfold k0_pay35 k0_pay33 k0_pay34
    pointwise
  rw [s, id1', id2', WordCmp.cmpi_eq_ofNat (by omega) (by omega), WordCmp.cmpi_eq_ofNat (by omega) (by omega), or_dec, sel_dec]
  unfold hot hotOf
  refine if_congr ?_ rfl rfl
  rw [Fin.ext_iff, Fin.ext_iff]
  rfl

variable (s : FVec Ideal S32x1 .f32) (tri : Vec Ideal S512x512 .bf16) (ht : ∀ k j : Fin 512, (tri (ix2 k j) : EReal) = if (k : ℕ) < j then 1 else 0)
include ht

/-- How often an expert was chosen before the tile's row. -/
theorem before_at (e : Fin 32) (j : Fin 512) : (k0_pay36 it32 (id1 h w) (cand h w) s tri (ix2 e j) : EReal)
    = (∑ x : Fin 512, if (x : ℕ) < j then hot h w x e else 0) + s (ix2 e (0 : Fin 1)) := by
  have k : (k0_pay36 it32 (id1 h w) (cand h w) s tri (ix2 e j) : EReal)
      = (∑ x : Fin 512, (k0_pay35 (F := Ideal) it32 (id1 h w) (cand h w) (ix2 e x) : EReal) * tri (ix2 x j)) + s (ix2 e (0 : Fin 1)) := by
    unfold k0_pay36
    pointwise
  rw [k]
  refine congrArg (· + _) (Finset.sum_congr rfl fun x _ => ?_)
  rw [ht, hot_at]
  split
  · exact mul_one _
  · exact mul_zero _

omit ht in
theorem pick_sum (f : Fin 32 → EReal) (i : Fin 32) (c : Fin 32 → BitVec 1) (hc : ∀ x, c x = IntOp.cmpi .eq (BitVec.ofNat 32 x) (BitVec.ofNat 32 i)) :
    (∑ x : Fin 32, Scalar.select (c x) (f x) 0) = f i := by
  have t : ∀ x : Fin 32, Scalar.select (c x) (f x) 0 = if x = i then f x else 0 := fun x => by
    rw [hc, WordCmp.cmpi_eq_ofNat (by omega) (by omega), sel_dec]
    exact if_congr Fin.ext_iff.symm rfl rfl
  rw [Finset.sum_congr rfl fun x _ => t x, Finset.sum_ite_eq' Finset.univ i f]
  simp

theorem rank1_at (j : Fin 512) : (k0_pay37 it32 (id1 h w) (cand h w) s tri (ix2 (0 : Fin 1) j) : EReal)
    = (∑ x : Fin 512, if (x : ℕ) < j then hot h w x (i1 h w j) else 0) + s (ix2 (i1 h w j) (0 : Fin 1)) := by
  have k : (k0_pay37 it32 (id1 h w) (cand h w) s tri (ix2 (0 : Fin 1) j) : EReal)
      = ∑ x : Fin 32, Scalar.select (IntOp.cmpi .eq (BitVec.ofNat 32 x) (id1 h w (ix2 (0 : Fin 1) j))) (k0_pay36 it32 (id1 h w) (cand h w) s tri (ix2 x j) : EReal) 0 := by
    unfold k0_pay37 k0_pay33
    pointwise
  exact (k.trans (pick_sum _ (i1 h w j) _ fun x => by rw [id1'])).trans (before_at h w s tri ht _ j)

theorem rank2_at (j : Fin 512) : (k0_pay38 it32 (id1 h w) (cand h w) s tri (ix2 (0 : Fin 1) j) : EReal)
    = (∑ x : Fin 512, if (x : ℕ) < j then hot h w x (i2 h w j) else 0) + s (ix2 (i2 h w j) (0 : Fin 1)) := by
  have k : (k0_pay38 it32 (id1 h w) (cand h w) s tri (ix2 (0 : Fin 1) j) : EReal)
      = ∑ x : Fin 32, Scalar.select (IntOp.cmpi .eq (BitVec.ofNat 32 x) (k0_pay29 (cand h w) (ix2 (0 : Fin 1) j))) (k0_pay36 it32 (id1 h w) (cand h w) s tri (ix2 x j) : EReal) 0 := by
    unfold k0_pay38 k0_pay34
    pointwise
  exact (k.trans (pick_sum _ (i2 h w j) _ fun x => by rw [id2'])).trans (before_at h w s tri ht _ j)

omit ht in
/-- The counts after the tile. -/
theorem count_at (s : Vec Ideal S32x128 .f32) (e : Fin 32) (l : Fin 128) :
    (runT h w s (ix2 e l) : EReal) = s (ix2 e l) + ∑ x : Fin 512, hot h w x e := by
  unfold runT
  rw [ld_wC]
  have k : (k0_pay1 (k0_pay39 it32 (id1 h w) (cand h w) s) (ix2 e l) : EReal)
      = (s (ix2 e l) : EReal) + ∑ x : Fin 512, (k0_pay35 (F := Ideal) it32 (id1 h w) (cand h w) (ix2 e x) : EReal) := by
    unfold k0_pay1 k0_pay39
    pointwise
  rw [k]
  exact congrArg (_ + ·) (Finset.sum_congr rfl fun x _ => hot_at h w e x)

omit ht in
/-- The eight route rows. -/
theorem stack_at (a b : IVec S1x512 32) (x y z u : FVec Ideal S1x512 .f32) (k : Fin 8) (j : Fin 512) :
    (k0_pay2 a b x y z u (ix2 k j) : EReal)
      = (![FloatOps.sitofp (F := Ideal) .f32 (a (ix2 (0 : Fin 1) j)), FloatOps.sitofp (F := Ideal) .f32 (b (ix2 (0 : Fin 1) j)),
          x (ix2 (0 : Fin 1) j), y (ix2 (0 : Fin 1) j), z (ix2 (0 : Fin 1) j), u (ix2 (0 : Fin 1) j), 0, 0] : Fin 8 → EReal) k := by
  unfold k0_pay2
  obtain ⟨k, hk⟩ := k
  interval_cases k
  all_goals pointwise

theorem route_at (c : Vec Ideal S32x128 .f32) (k : Fin 8) (j : Fin 512) :
    (routeT h w tri c (ix2 k j) : EReal)
      = (![FloatOps.sitofp (F := Ideal) .f32 (BitVec.ofNat 32 (i1 h w j)), FloatOps.sitofp (F := Ideal) .f32 (BitVec.ofNat 32 (i2 h w j)),
          w1Of (G4 h w j) (E32 h w j), w2Of (G4 h w j) (E32 h w j),
          (∑ x : Fin 512, if (x : ℕ) < j then hot h w x (i1 h w j) else 0) + c (ix2 (i1 h w j) (0 : Fin 128)),
          (∑ x : Fin 512, if (x : ℕ) < j then hot h w x (i2 h w j) else 0) + c (ix2 (i2 h w j) (0 : Fin 128)), 0, 0] : Fin 8 → EReal) k := by
  have lt : View.ld tri wA = tri := View.ld_unit_zero zero2 _ _
  have lc : ∀ e : Fin 32, (View.ld c col0 (ix2 e (0 : Fin 1)) : EReal) = c (ix2 e (0 : Fin 128)) := fun e => by
    refine congrArg c (funext fun a => Fin.ext ?_)
    fin_cases a
    · show 0 + 1 * (e : ℕ) = e; omega
    · rfl
  unfold routeT
  rw [lt, stack_at, id1', id2', w1_at, w2_at, rank1_at h w _ tri ht, rank2_at h w _ tri ht, lc, lc]

end Cert.Kernel4Ideal.OutProj

end
-- ==== Proof.OutProj.RouteValue.lean ====
/-
  The out-projection call's last two results, whole: every row's route, and the experts' counts.
-/
module

public import proofs.«01_k».proof.Proof.OutProj.Value
public import proofs.«01_k».proof.Proof.OutProj.HostR
public import proofs.«01_k».proof.Proof.OutProj.Route

@[expose] public section

set_option maxRecDepth 16384

noncomputable section

namespace Cert.Kernel4Ideal.OutProj

open Idealize.ShloMosaic Idealize.ShloMosaic.TcCoe Idealize.SL.Sem Cert.Kernel4Ideal Cert.Kernel4Ideal.Gen Cert.OutProj Cert.InProj
open Idealize.ShloMosaic.Pipeline (Dat)

variable (m : (ℓ : Loc nD τ sig) → Buf (Elt Ideal) ℓ) (c : Dev nD)

/-- Row `R`'s group logits and expert logits. -/
def gRow (R : Fin 32768) (q : Fin 4) : EReal := ∑ d : Fin 1024, nrow m c R d * m ((c : Thread nD τ).loc main_arg5) (ix3 (0 : Fin 1) d q)
def eRow (R : Fin 32768) (e : Fin 32) : EReal := ∑ d : Fin 1024, nrow m c R d * m ((c : Thread nD τ).loc main_arg6) (ix3 (0 : Fin 1) d e)

/-- The row of a tile's column. -/
def rowOf (t : Fin cfg0.N) (j : Fin 512) : Fin 32768 := ⟨t.val * 512 + j, by have : t.val < 64 := t.isLt; omega⟩

/-- The router's weights at tile `t`. -/
abbrev wT (t : Fin cfg0.N) : Vec Ideal S40x1024 .bf16 := View.ld (iblk (V m) c 6 t) wR

theorem wT_eq (t : Fin cfg0.N) (e : Fin 40) (d : Fin 1024) : (wT m c t (ix2 e d) : EReal) = V m c main_v15 (ix2 e d) := by
  have l : ∀ x : Vec Ideal S40x1024 .bf16, View.ld x wR = x := fun x => View.ld_unit_zero zero2 _ _
  refine (congrFun (l (iblk (V m) c 6 t)) (ix2 e d)).trans ?_
  unfold iblk
  exact read_wrt t _ e d

theorem G4_eq (t : Fin cfg0.N) (j : Fin 512) : G4 (hT (V m) c t) (wT m c t) j = gRow m c (rowOf t j) :=
  funext fun q => (logit _ _ _ j).trans (Finset.sum_congr rfl fun d _ =>
    (congrArg₂ (· * ·) ((wT_eq m c t _ d).trans (V_wg m c q d)) (hT_apply m c t j d)).trans (mul_comm _ _))

theorem E32_eq (t : Fin cfg0.N) (j : Fin 512) : E32 (hT (V m) c t) (wT m c t) j = eRow m c (rowOf t j) :=
  funext fun e => (logit _ _ _ j).trans (Finset.sum_congr rfl fun d _ =>
    (congrArg₂ (· * ·) ((wT_eq m c t _ d).trans (V_we m c e d)) (hT_apply m c t j d)).trans (mul_comm _ _))

theorem hot_eq (t : Fin cfg0.N) (j : Fin 512) (e : Fin 32) :
    hot (hT (V m) c t) (wT m c t) j e = hotAt (gRow m c) (eRow m c) (512 * t.val + j) e := by
  have ht : t.val < 64 := t.isLt
  unfold hot hotAt
  rw [dif_pos (show 512 * t.val + (j : ℕ) < 32768 by omega), G4_eq, E32_eq]
  have : rowOf t j = (⟨512 * t.val + j, by omega⟩ : Fin 32768) := Fin.ext (show t.val * 512 + (j : ℕ) = 512 * t.val + j by omega)
  rw [this]

theorem sum_before (f : ℕ → EReal) (j : ℕ) (hj : j ≤ 512) : (∑ x : Fin 512, if (x : ℕ) < j then f x else 0) = ∑ x ∈ Finset.range j, f x := by
  rw [← Finset.sum_range fun x => if x < j then f x else 0]
  rw [← Finset.sum_subset (Finset.range_subset_range.mpr hj) fun x _ hx => if_neg fun h => hx (Finset.mem_range.mpr h)]
  exact Finset.sum_congr rfl fun x hx => if_pos (Finset.mem_range.mp hx)

theorem pre_add (G : Fin 32768 → Fin 4 → EReal) (E : Fin 32768 → Fin 32 → EReal) (n k : ℕ) (e : Fin 32) :
    pre G E (n + k) e = pre G E n e + ∑ x ∈ Finset.range k, hotAt G E (n + x) e := Finset.sum_range_add _ n k

theorem cnt_eq (e : Fin 32) (l : Fin 128) : ∀ n ≤ 64, (cnt (V m) c n (ix2 e l) : EReal) = pre (gRow m c) (eRow m c) (512 * n) e
  | 0, _ => by
    have z : (k0_pay3 (F := Ideal) (ix2 e l) : EReal) = 0 := by unfold k0_pay3; pointwise
    exact z.trans (by simp [pre])
  | n + 1, hn => by
    refine (congrFun (cnt_succ (V m) c ⟨n, show n < 64 by omega⟩) (ix2 e l)).trans ((count_at _ _ _ e l).trans ?_)
    rw [cnt_eq e l n (by omega), show 512 * (n + 1) = 512 * n + 512 by ring, pre_add, Finset.sum_range]
    exact congrArg (_ + ·) (Finset.sum_congr rfl fun x _ => hot_eq m c ⟨n, show n < 64 by omega⟩ x e)

theorem rank_eq (t : Fin cfg0.N) (j : Fin 512) (e : Fin 32) :
    (∑ x : Fin 512, if (x : ℕ) < j then hot (hT (V m) c t) (wT m c t) x e else 0) + (cnt (V m) c t.val (ix2 e (0 : Fin 128)) : EReal)
      = pre (gRow m c) (eRow m c) (rowOf t j) e := by
  have ht : t.val < 64 := t.isLt
  have hr : (rowOf t j : ℕ) = 512 * t.val + j := by show t.val * 512 + (j : ℕ) = _; omega
  rw [cnt_eq m c e 0 t.val (by omega), hr, pre_add, add_comm]
  refine congrArg (_ + ·) ?_
  refine Eq.trans ?_ (sum_before (fun x => hotAt (gRow m c) (eRow m c) (512 * t.val + x) e) j (by omega))
  exact Finset.sum_congr rfl fun x _ => by rw [hot_eq]

/-- The whole of the two results. -/
def wholeR : Vec Ideal S8x32768 .f32 := fun i => routeAt (gRow m c) (eRow m c) ⟨i 1, (i 1).isLt⟩ ⟨i 0, (i 0).isLt⟩
def wholeC : Vec Ideal S32x128 .f32 := fun i => pre (gRow m c) (eRow m c) 32768 ⟨i 0, (i 0).isLt⟩

theorem rT_apply (t : Fin cfg0.N) (k : Fin 8) (j : Fin 512) : (rT (V m) c t (ix2 k j) : EReal) = routeAt (gRow m c) (eRow m c) (rowOf t j) k := by
  unfold rT
  refine (route_at (hT (V m) c t) (wT m c t) _ (fun a b => (read_tri t _ a b).trans (V_tri m c a b)) _ k j).trans ?_
  rw [rank_eq, rank_eq]
  unfold i1 i2 routeAt
  rw [G4_eq, E32_eq]

theorem flushed_r (t : Fin cfg0.N) : (dats (V m) 0 c).flushed 10 t = ((cfg0.win 10).blk t).view.read (Elt Ideal) (wholeR m c) := by
  show (cfg0.win 10).cut (grid0.coords t) ((dats (V m) 0 c).after 10 t) = _
  rw [after_10]
  have h : ∀ j : S8x512.Idx, (rT (V m) c t j : EReal) = ((cfg0.win 10).blk t).view.read (Elt Ideal) (wholeR m c) j := fun j => by
    obtain ⟨r, l, rfl⟩ : ∃ (r : Fin 8) (l : Fin 512), j = ix2 r l := ⟨j 0, j 1, by
      funext a
      match a with
      | ⟨0, _⟩ => rfl
      | ⟨1, _⟩ => rfl⟩
    exact (rT_apply m c t r l).trans (read_route t (wholeR m c) r l).symm
  exact funext h

theorem last_only : ∀ t : Fin grid0.N, Pipeline.Window.flushOf grid0 true cc0_transform_11 t = true → t.val = 63 := by decide +kernel
theorem flush_r : ∀ t : Fin grid0.N, Pipeline.Window.flushOf grid0 true cc0_transform_10 t = true := by decide +kernel

theorem flushed_c (t : Fin cfg0.N) (ht : t.val = 63) : (dats (V m) 0 c).flushed 11 t = ((cfg0.win 11).blk t).view.read (Elt Ideal) (wholeC m c) := by
  show (cfg0.win 11).cut (grid0.coords t) ((dats (V m) 0 c).after 11 t) = _
  rw [after_11, ht]
  have h : ∀ j : S32x128.Idx, (cnt (V m) c 64 j : EReal) = ((cfg0.win 11).blk t).view.read (Elt Ideal) (wholeC m c) j := fun j => by
    obtain ⟨r, l, rfl⟩ : ∃ (r : Fin 32) (l : Fin 128), j = ix2 r l := ⟨j 0, j 1, by
      funext a
      match a with
      | ⟨0, _⟩ => rfl
      | ⟨1, _⟩ => rfl⟩
    exact (cnt_eq m c r l 64 le_rfl).trans (read_cnt t (wholeC m c) r l).symm
  exact funext h

theorem mem_r (t : Fin cfg0.N) (i : S8x32768.Idx) (h : (i 1 : ℕ) / 512 = t.val) : i ∈ ((cfg0.win 10).blk t).view.set := by
  have key : ∀ R : Rect S8x32768, i ∈ R.set → i ∈ ((View.whole main_v21_2).slice R).set := fun R h => by
    rw [View.set_slice_whole]; exact h
  refine key ((cfg0.win 10).rect t) (Rect.mem_set_unit.mpr fun a => ?_)
  have h0 : (i 0 : ℕ) < 8 := (i 0).isLt
  match a with
  | ⟨0, _⟩ =>
    show (cfg0.win 10).index t (0 : Fin 2) * 8 ≤ (i 0 : ℕ) ∧ (i 0 : ℕ) < (cfg0.win 10).index t (0 : Fin 2) * 8 + 8
    rw [show (cfg0.win 10).index t (0 : Fin 2) = 0 from congrFun (idx_route t) (0 : Fin 2)]
    omega
  | ⟨1, _⟩ =>
    show (cfg0.win 10).index t (1 : Fin 2) * 512 ≤ (i 1 : ℕ) ∧ (i 1 : ℕ) < (cfg0.win 10).index t (1 : Fin 2) * 512 + 512
    rw [show (cfg0.win 10).index t (1 : Fin 2) = t.val from congrFun (idx_route t) (1 : Fin 2)]
    omega

theorem mem_c (t : Fin cfg0.N) (i : S32x128.Idx) : i ∈ ((cfg0.win 11).blk t).view.set := by
  have key : ∀ R : Rect S32x128, i ∈ R.set → i ∈ ((View.whole main_v21_3).slice R).set := fun R h => by
    rw [View.set_slice_whole]; exact h
  refine key ((cfg0.win 11).rect t) (Rect.mem_set_unit.mpr fun a => ?_)
  have h0 : (i 0 : ℕ) < 32 := (i 0).isLt
  have h1 : (i 1 : ℕ) < 128 := (i 1).isLt
  match a with
  | ⟨0, _⟩ =>
    show 0 * 32 ≤ (i 0 : ℕ) ∧ (i 0 : ℕ) < 0 * 32 + 32
    omega
  | ⟨1, _⟩ =>
    show 0 * 128 ≤ (i 1 : ℕ) ∧ (i 1 : ℕ) < 0 * 128 + 128
    omega

theorem final_r : (dats (V m) 0 c).arrAt 10 cfg0.N = wholeR m c :=
  (dats (V m) 0 c).arrAt_eq_of_cover 10 _ (fun t _ => flushed_r m c t) fun i => by
    have h1 : (i 1 : ℕ) < 32768 := (i 1).isLt
    exact ⟨⟨(i 1 : ℕ) / 512, show _ < 64 by omega⟩, flush_r _, mem_r _ i rfl⟩

theorem flush_last : Pipeline.Window.flushOf grid0 true cc0_transform_11 (⟨63, by decide⟩ : Fin grid0.N) = true := by decide +kernel

theorem final_c : (dats (V m) 0 c).arrAt 11 cfg0.N = wholeC m c :=
  (dats (V m) 0 c).arrAt_eq_of_cover 11 _ (fun t ht => flushed_c m c t (last_only t ht)) fun i =>
    ⟨⟨63, show 63 < 64 by omega⟩, flush_last, mem_c _ i⟩

/-- The run: all four results at the pipeline's data. -/
theorem run_all (ρ : Dev nD → PrngReg) : θ_run defs (onTc (τ := τ) (main (F := Ideal))) ⟨m, fun _ => 0, ρ⟩ (fun r => (∀ c : Dev nD,
      r.2.mem ((c.tc : Thread nD τ).loc main_v21_2) = wholeR m c ∧ r.2.mem ((c.tc : Thread nD τ).loc main_v21_3) = wholeC m c)) :=
  (θ_run defs _ _).mono (fun _ h c => ⟨((h.1 c).1 10).trans (final_r m c), ((h.1 c).1 11).trans (final_c m c)⟩) (run_frame m ρ)

end Cert.Kernel4Ideal.OutProj

end
-- ==== Proof.OutProj.Finite.lean ====
/-
  The finite precondition of the out-projection call: its side conditions, and the logits' reality under it.
-/
module

public import proofs.«01_k».proof.Pre_finite4
public import proofs.«01_k».proof.Proof.Attn.Claims
public import proofs.«01_k».proof.Proof.OutProj.Spec
public import proofs.«01_k».proof.Proof.OutProj.Choice

@[expose] public section

set_option maxRecDepth 16384

noncomputable section

namespace Cert.OutProj

open Idealize.ShloMosaic Cert.InProj

instance finite4_facts : Cert.Pre_finite4.Facts where
  bcast_S_S8x4096x512 := by decide
  bcast_S_S8x4096x1024 := by decide
  bcast_S_S1x1024x1024 := by decide
  bcast_S_S1x1024 := by decide
  bcast_S_S1x1024x4 := by decide
  bcast_S_S1x1024x32 := by decide

/-- A value is a real. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {n : ℕ} {f : Fin n → EReal} (h : ∀ i, IsReal (f i)) : IsReal (∑ i, f i) := by
  choose r hr using h
  exact ⟨∑ i, r i, (Finset.sum_congr rfl fun i _ => hr i).trans (sum_real r)⟩

theorem len_bits : Ideal.ofBits .f32 0x44800000#32 = ((1024 : ℝ) : EReal) := by
  simp [Ideal.ofBits, Ideal.ieee, -EReal.coe_mul]; norm_num

theorem eps_bits : ∃ r : ℝ, 0 < r ∧ Ideal.ofBits .f32 0x358637BD#32 = (r : EReal) := by
  refine ⟨_, ?_, by simp [Ideal.ofBits, Ideal.ieee]; rfl⟩
  norm_num

theorem resid_real (x : Fin 1024 → EReal) (a r : Fin 512 → EReal) (w : Fin 1024 → Fin 1024 → EReal) (hx : ∀ k, IsReal (x k))
    (ha : ∀ d, IsReal (a d)) (hr : ∀ d, IsReal (r d)) (hw : ∀ d k, IsReal (w d k)) (k : Fin 1024) : IsReal (resid x a r w k) :=
  (hx k).add ((IsReal.sum fun d => (ha d).mul (hw _ k)).add (IsReal.sum fun d => (hr d).mul (hw _ k)))

theorem hrow_real (x g : Fin 1024 → EReal) (hx : ∀ k, IsReal (x k)) (hg : ∀ k, IsReal (g k)) (d : Fin 1024) : IsReal (hrow x g d) := by
  refine (IsReal.mul (hx d) ?_).mul (hg d)
  choose r hr using hx
  obtain ⟨e, he, h⟩ := eps_bits
  have s : (∑ k, x k * x k) = ((∑ k, r k * r k : ℝ) : EReal) :=
    (Finset.sum_congr rfl fun k _ => by rw [hr k, ← EReal.coe_mul]).trans (sum_real fun k => r k * r k)
  have p : 0 < (∑ k, r k * r k) / 1024 + e := add_pos_of_nonneg_of_pos (div_nonneg (Finset.sum_nonneg fun k _ => mul_self_nonneg (r k)) (by norm_num)) he
  rw [s, len_bits, div_real _ _ (by norm_num), h, ← EReal.coe_add]
  refine ⟨(Real.sqrt ((∑ k, r k * r k) / 1024 + e))⁻¹, ?_⟩
  show (if (∑ k, r k * r k) / 1024 + e < 0 then (⊥ : EReal) else if (∑ k, r k * r k) / 1024 + e = 0 then ⊤ else _) = _
  rw [if_neg (not_lt.mpr p.le), if_neg p.ne']

theorem ofBits_pinf16 : Ideal.ofBits .bf16 0x7F80#16 = ⊤ := by simp [Ideal.ofBits, Ideal.ieee]

/-- An extended real of magnitude below infinity is a real. -/
theorem below_inf {x : EReal} (h : Ideal.cmp .olt (max x (-x)) ⊤ = 1#1) : IsReal x := by
  induction x using EReal.rec with
  | bot => simp [Ideal.cmp] at h
  | top => simp [Ideal.cmp] at h
  | coe r => exact ⟨r, rfl⟩

theorem real16 {s : Shape} (x : FVec Ideal s .bf16)
    (h : cmpf (F := Ideal) .olt (Host.absf x) (fun _ => Ideal.ofBits .bf16 0x7F80#16) = fun _ => 1#1) (i : s.Idx) : IsReal (x i : EReal) :=
  below_inf (ofBits_pinf16 ▸ (congrFun h i : Ideal.cmp .olt (max (x i : EReal) (-(x i : EReal))) (Ideal.ofBits .bf16 0x7F80#16) = 1#1))

theorem real32 {s : Shape} (x : FVec Ideal s .f32)
    (h : cmpf (F := Ideal) .olt (Host.absf x) (fun _ => Ideal.ofBits .f32 0x7F800000#32) = fun _ => 1#1) (i : s.Idx) : IsReal (x i : EReal) :=
  ⟨_, Cert.Proof.AttnClaims.real_of x h i⟩

end Cert.OutProj

end
-- ==== Proof.OutProj.RouteClaims.lean ====
/-
  The out-projection call's value claim of all four results, of finite arguments.
-/
module

public import proofs.«01_k».proof.Proof.OutProj.Claims
public import proofs.«01_k».proof.Proof.OutProj.RefAll
public import proofs.«01_k».proof.Proof.OutProj.RouteValue
public import proofs.«01_k».proof.Proof.OutProj.Finite

@[expose] public section

set_option maxRecDepth 16384

noncomputable section

namespace Cert.Reference4Ideal.OutProj

open Idealize.ShloMosaic Idealize.ShloMosaic.TcCoe Idealize.SL.Sem Cert.Reference4Ideal Cert.Reference4Ideal.Gen Cert.InProj Cert.OutProj

variable (x : FVec Ideal S8x4096x1024 .f32) (a r : FVec Ideal S8x4096x512 .bf16) (w : FVec Ideal S1x1024x1024 .f32) (g : FVec Ideal S1x1024 .f32)
  (wg : FVec Ideal S1x1024x4 .f32) (we : FVec Ideal S1x1024x32 .f32)

/-- The normed rows, and the two logits. -/
def flatN : FVec Ideal S32768x1024 .f32 := shapeCast S32768x1024 (normed (rows x (both a r) w) g) shapeCasts_S8x4096x1024_S32768x1024
def logG (t : FVec Ideal S32768x1024 .f32) : FVec Ideal S32768x4 .f32 :=
  Host.dotGeneral dot_S32768x1024_S1024x4_S32768x4_1_0_0_1_n_n none t (shapeCast S1024x4 wg shapeCasts_S1x1024x4_S1024x4)
def logE (t : FVec Ideal S32768x1024 .f32) : FVec Ideal S32768x32 .f32 :=
  Host.dotGeneral dot_S32768x1024_S1024x32_S32768x32_1_0_0_1_n_n none t (shapeCast S1024x32 we shapeCasts_S1x1024x32_S1024x32)

theorem wg_at (d : Fin 1024) (q : Fin 4) : (shapeCast S1024x4 wg shapeCasts_S1x1024x4_S1024x4 (ix2 d q) : EReal) = wg (ix3 (0 : Fin 1) d q) := by
  pointwise
theorem we_at (d : Fin 1024) (q : Fin 32) : (shapeCast S1024x32 we shapeCasts_S1x1024x32_S1024x32 (ix2 d q) : EReal) = we (ix3 (0 : Fin 1) d q) := by
  pointwise

theorem dotG_at (t : FVec Ideal S32768x1024 .f32) (v : FVec Ideal S1024x4 .f32) (R : Fin 32768) (q : Fin 4) :
    (Host.dotGeneral dot_S32768x1024_S1024x4_S32768x4_1_0_0_1_n_n none t v (ix2 R q) : EReal) = ∑ d : Fin 1024, t (ix2 R d) * v (ix2 d q) := by
  pointwise
theorem dotE_at (t : FVec Ideal S32768x1024 .f32) (v : FVec Ideal S1024x32 .f32) (R : Fin 32768) (q : Fin 32) :
    (Host.dotGeneral dot_S32768x1024_S1024x32_S32768x32_1_0_0_1_n_n none t v (ix2 R q) : EReal) = ∑ d : Fin 1024, t (ix2 R d) * v (ix2 d q) := by
  pointwise

theorem flatN_at (i : Fin 32768) (k : Fin 1024) :
    (flatN x a r w g (ix2 i k) : EReal) = hrow (fun k => resid (fun k => x (ix3 (⟨i / 4096, by omega⟩ : Fin 8) (⟨i % 4096, by omega⟩ : Fin 4096) k))
      (fun d => a (ix3 (⟨i / 4096, by omega⟩ : Fin 8) (⟨i % 4096, by omega⟩ : Fin 4096) d)) (fun d => r (ix3 (⟨i / 4096, by omega⟩ : Fin 8) (⟨i % 4096, by omega⟩ : Fin 4096) d))
      (fun d k => w (ix3 (0 : Fin 1) d k)) k) (fun k => g (ix2 (0 : Fin 1) k)) k :=
  (flat_apply _ i k).trans ((normed_apply _ g _ _ _).trans
    (congrArg (fun x => hrow x (fun k => g (ix2 (0 : Fin 1) k)) k) (funext fun k => rows_apply x a r w _ _ k)))

theorem run_route (m : (ℓ : Loc nD τ sig) → Buf (Elt Ideal) ℓ) (ρ : Dev nD → PrngReg) :
    θ_run defs (onTc (τ := τ) (main (F := Ideal))) ⟨m, fun _ => 0, ρ⟩ fun q => ∀ c : Dev nD,
      q.2.mem ((c.tc : Thread nD τ).loc main_v71)
          = resR (logG (m ((c.tc : Thread nD τ).loc main_arg5)) (flatN (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4))))
              (logE (m ((c.tc : Thread nD τ).loc main_arg6)) (flatN (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4))))
      ∧ q.2.mem ((c.tc : Thread nD τ).loc main_v73)
          = resC (logG (m ((c.tc : Thread nD τ).loc main_arg5)) (flatN (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4))))
              (logE (m ((c.tc : Thread nD τ).loc main_arg6)) (flatN (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)))) := by
  refine (θ_run defs _ _).mono (fun q h c => ⟨(h c).2.2.1.trans ?_, (h c).2.2.2.1.trans ?_⟩) (Cert.Reference4Ideal.Value.run (F := Ideal) m ρ)
  · unfold Value.res_main_v58 Value.res_main_v57 Value.res_main_v56 Value.res_main_v46 Value.res_main_values_5 Value.res_main_v39 Value.res_main_call0_v4 Value.res_main_v37 Value.res_main_indices Value.res_main_v33 Value.res_main_v29 Value.res_main_v22 Value.res_main_v20 Value.res_main_v5
    rfl
  · unfold Value.res_main_v58 Value.res_main_v57 Value.res_main_v56 Value.res_main_v39 Value.res_main_call0_v4 Value.res_main_v37 Value.res_main_indices Value.res_main_v33 Value.res_main_v29 Value.res_main_v22 Value.res_main_v20 Value.res_main_v5
    rfl

end Cert.Reference4Ideal.OutProj

namespace Cert.OutProj

open Idealize.ShloMosaic Idealize.ShloMosaic.TcCoe Idealize.SL.Sem Cert.InProj

section

variable (m : (ℓ : Loc Cert.Kernel4Ideal.nD Cert.Kernel4Ideal.τ Cert.Kernel4Ideal.sig) → Buf (Elt Ideal) ℓ) (c : Dev Cert.Kernel4Ideal.nD)

/-- The reference's logits of the kernel's arguments. -/
abbrev kN : FVec Ideal Cert.Reference4Ideal.S32768x1024 .f32 :=
  Cert.Reference4Ideal.OutProj.flatN (m ((c : Thread Cert.Kernel4Ideal.nD Cert.Kernel4Ideal.τ).loc Cert.Kernel4Ideal.main_arg2))
    (m ((c : Thread Cert.Kernel4Ideal.nD Cert.Kernel4Ideal.τ).loc Cert.Kernel4Ideal.main_arg0))
    (m ((c : Thread Cert.Kernel4Ideal.nD Cert.Kernel4Ideal.τ).loc Cert.Kernel4Ideal.main_arg1))
    (m ((c : Thread Cert.Kernel4Ideal.nD Cert.Kernel4Ideal.τ).loc Cert.Kernel4Ideal.main_arg3))
    (m ((c : Thread Cert.Kernel4Ideal.nD Cert.Kernel4Ideal.τ).loc Cert.Kernel4Ideal.main_arg4))
abbrev kG : FVec Ideal Cert.Reference4Ideal.S32768x4 .f32 :=
  Cert.Reference4Ideal.OutProj.logG (m ((c : Thread Cert.Kernel4Ideal.nD Cert.Kernel4Ideal.τ).loc Cert.Kernel4Ideal.main_arg5)) (kN m c)
abbrev kE : FVec Ideal Cert.Reference4Ideal.S32768x32 .f32 :=
  Cert.Reference4Ideal.OutProj.logE (m ((c : Thread Cert.Kernel4Ideal.nD Cert.Kernel4Ideal.τ).loc Cert.Kernel4Ideal.main_arg6)) (kN m c)

theorem gl_eq : Cert.Reference4Ideal.OutProj.gl (kG m c) = Cert.Kernel4Ideal.OutProj.gRow m c :=
  funext fun R => funext fun q => (Cert.Reference4Ideal.OutProj.dotG_at _ _ R q).trans (Finset.sum_congr rfl fun d _ =>
    congrArg₂ (· * ·) (Cert.Reference4Ideal.OutProj.flatN_at _ _ _ _ _ R d) (Cert.Reference4Ideal.OutProj.wg_at _ d q))

theorem el_eq : Cert.Reference4Ideal.OutProj.el (kE m c) = Cert.Kernel4Ideal.OutProj.eRow m c :=
  funext fun R => funext fun q => (Cert.Reference4Ideal.OutProj.dotE_at _ _ R q).trans (Finset.sum_congr rfl fun d _ =>
    congrArg₂ (· * ·) (Cert.Reference4Ideal.OutProj.flatN_at _ _ _ _ _ R d) (Cert.Reference4Ideal.OutProj.we_at _ d q))

/-- Finite arguments' logits are reals. -/
theorem logits_real (hpre : Cert.Pre_Kernel4Ideal_finite4 m) :
    (∀ R, Fin' (Cert.Kernel4Ideal.OutProj.gRow m c R)) ∧ ∀ R, Fin' (Cert.Kernel4Ideal.OutProj.eRow m c R) := by
  obtain ⟨h0, h1, h2, h3, h4, h5, h6⟩ := hpre c
  have n : ∀ R d, IsReal (Cert.Kernel4Ideal.OutProj.nrow m c R d) := fun R d =>
    hrow_real _ _ (fun k => resid_real _ _ _ _ (fun k => real32 (s := Cert.Pre_finite4.S8x4096x1024) _ h2 _)
        (fun d => real16 (s := Cert.Pre_finite4.S8x4096x512) _ h0 _) (fun d => real16 (s := Cert.Pre_finite4.S8x4096x512) _ h1 _)
        (fun d k => real32 (s := Cert.Pre_finite4.S1x1024x1024) _ h3 _) k)
      (fun k => real32 (s := Cert.Pre_finite4.S1x1024) _ h4 _) d
  exact ⟨fun R q => IsReal.sum fun d => (n R d).mul (real32 (s := Cert.Pre_finite4.S1x1024x4) _ h5 _),
    fun R e => IsReal.sum fun d => (n R d).mul (real32 (s := Cert.Pre_finite4.S1x1024x32) _ h6 _)⟩

end

theorem algebraic_all : Cert.algebraic_Kernel4Ideal_Reference4Ideal_pre_finite4 (hKernel4Ideal := Cert.Kernel4Ideal.Gen.facts)
    (hReference4Ideal := Cert.Reference4Ideal.Gen.facts) (hPre_finite4 := finite4_facts) := by
  intro m g m' g' hpre hargs
  have H := fun c => logits_real m c hpre
  refine ⟨fun c => Cert.Kernel4Ideal.OutProj.wholeX m c, fun c => Cert.Kernel4Ideal.OutProj.wholeH m c, fun c => Cert.Kernel4Ideal.OutProj.wholeR m c, fun c => Cert.Kernel4Ideal.OutProj.wholeC m c, ?_, ?_⟩
  · exact (θ_run Cert.Kernel4Ideal.defs _ _).mono (fun r h c => ⟨(h.1.1 c).1.1.trans (Cert.Kernel4Ideal.OutProj.final_x m c),
        (h.1.1 c).1.2.trans (Cert.Kernel4Ideal.OutProj.final_h m c), (h.2 c).1, (h.2 c).2, (h.1.1 c).2⟩)
      (θ_run_and (Cert.Kernel4Ideal.OutProj.run_main m g) (Cert.Kernel4Ideal.OutProj.run_all m g))
  · refine (θ_run Cert.Reference4Ideal.defs _ _).mono (fun r h c => ⟨?_, ?_, ?_, ?_, (h.1 c).2⟩)
      (θ_run_and (Cert.Reference4Ideal.OutProj.run_res m' g') (Cert.Reference4Ideal.OutProj.run_route m' g'))
    · obtain ⟨a0, a1, a2, a3, a4, a5, a6⟩ := hargs c
      refine (h.1 c).1.1.trans ?_
      rw [a0, a1, a2, a3]
      funext i
      have hi : i = ix2 (⟨i 0, (i 0).isLt⟩ : Fin 32768) (⟨i 1, (i 1).isLt⟩ : Fin 1024) := by
        funext a
        match a with
        | ⟨0, _⟩ => rfl
        | ⟨1, _⟩ => rfl
      exact (congrArg _ hi).trans (Cert.Reference4Ideal.OutProj.resX_apply _ _ _ _ _ _)
    · obtain ⟨a0, a1, a2, a3, a4, a5, a6⟩ := hargs c
      refine (h.1 c).1.2.trans ?_
      rw [a0, a1, a2, a3, a4]
      funext i
      have hi : i = ix2 (⟨i 0, (i 0).isLt⟩ : Fin 262144) (⟨i 1, (i 1).isLt⟩ : Fin 128) := by
        funext a
        match a with
        | ⟨0, _⟩ => rfl
        | ⟨1, _⟩ => rfl
      refine (congrArg _ hi).trans ((Cert.Reference4Ideal.OutProj.resH_apply _ _ _ _ _ _ _).trans ?_)
      exact congrArg (fun x => Cert.InProj.hrow x _ _) (funext fun k => Cert.Reference4Ideal.OutProj.resX_apply _ _ _ _ _ k)
    · obtain ⟨a0, a1, a2, a3, a4, a5, a6⟩ := hargs c
      refine (h.2 c).1.trans ?_
      rw [a0, a1, a2, a3, a4, a5, a6]
      funext i
      have hi : i = ix2 (⟨i 0, (i 0).isLt⟩ : Fin 8) (⟨i 1, (i 1).isLt⟩ : Fin 32768) := by
        funext a
        match a with
        | ⟨0, _⟩ => rfl
        | ⟨1, _⟩ => rfl
      have e := Cert.Reference4Ideal.OutProj.resR_at (kG m c) (kE m c) (by rw [gl_eq]; exact (H c).1) (by rw [el_eq]; exact (H c).2) (⟨i 1, (i 1).isLt⟩ : Fin 32768) (⟨i 0, (i 0).isLt⟩ : Fin 8)
      rw [gl_eq, el_eq] at e
      exact (congrArg _ hi).trans e
    · obtain ⟨a0, a1, a2, a3, a4, a5, a6⟩ := hargs c
      refine (h.2 c).2.trans ?_
      rw [a0, a1, a2, a3, a4, a5, a6]
      funext i
      have hi : i = ix2 (⟨i 0, (i 0).isLt⟩ : Fin 32) (⟨i 1, (i 1).isLt⟩ : Fin 128) := by
        funext a
        match a with
        | ⟨0, _⟩ => rfl
        | ⟨1, _⟩ => rfl
      have e := Cert.Reference4Ideal.OutProj.resC_at (kG m c) (kE m c) (by rw [gl_eq]; exact (H c).1) (⟨i 0, (i 0).isLt⟩ : Fin 32) (⟨i 1, (i 1).isLt⟩ : Fin 128)
      rw [gl_eq, el_eq] at e
      exact (congrArg _ hi).trans e

end Cert.OutProj

end
-- ==== Proof.lean ====
/-
  The proof of `Cert.Claim`: for the attention, the experts, the in-projection and the out-projection calls, the frames of the kernel's two readings and
  of the reference, the idealization kept, and the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.On_rows_only
public import proofs.«01_k».proof.Proof.Gen.Pre_experts_in_range
public import proofs.«01_k».proof.Proof.Attn.Claims
public import proofs.«01_k».proof.Proof.Experts.Claims
public import proofs.«01_k».proof.Proof.InProj.Claims
public import proofs.«01_k».proof.Proof.OutProj.Claims
public import proofs.«01_k».proof.Proof.OutProj.RouteClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_experts_in_range.Gen.facts, Cert.OutProj.finite4_facts, Cert.On_rows_only.Gen.facts, by
  exact ⟨fun m ρ _ => Cert.Kernel.Gen.frame m ρ, fun m ρ _ => Cert.KernelIdeal.Gen.frame m ρ,
    fun m ρ _ => Cert.KernelIdeal.Gen.frame m ρ, AttnClaims.frame_ref, fun m ρ _ => AttnClaims.frame_ref m ρ trivial,
    Cert.Experts.frame_bits, Cert.Experts.frame_ideal, Cert.Experts.frame_ref, fun m ρ _ => Cert.Experts.frame_ref m ρ trivial,
    fun m ρ _ => Cert.Kernel3.Gen.frame m ρ, fun m ρ _ => Cert.Kernel3Ideal.Gen.frame m ρ, Cert.InProj.frame_ref,
    Cert.OutProj.frame_bits, Cert.OutProj.frame_ideal, fun m ρ _ => Cert.OutProj.frame_ideal m ρ trivial,
    Cert.OutProj.frame_ref, fun m ρ _ => Cert.OutProj.frame_ref m ρ trivial,
    AttnClaims.preserves, AttnClaims.algebraic, trivial, Cert.Experts.algebraic, Cert.InProj.preserves, Cert.InProj.algebraic,
    trivial, Cert.OutProj.algebraic, Cert.OutProj.algebraic_all⟩⟩

end Cert.Proof

end
